-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_words_in_order [hPre_words_in_order : Cert.Pre_words_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_in_order [hPre_words_in_order : Cert.Pre_words_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_words_in_order [hKernelIdeal : Cert.KernelIdeal.Facts] [hPre_words_in_order : Cert.Pre_words_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_words_in_order m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_words_in_order [hReferenceIdeal : Cert.ReferenceIdeal.Facts] [hPre_words_in_order : Cert.Pre_words_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_words_in_order [hKernelIdeal : Cert.KernelIdeal.Facts] [hReferenceIdeal : Cert.ReferenceIdeal.Facts] [hPre_words_in_order : Cert.Pre_words_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_words_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_words_in_order : Cert.Pre_words_in_order.Facts),
    quiescent_Kernel (hKernel := hKernel)
    ∧ quiescent_KernelIdeal (hKernelIdeal := hKernelIdeal)
    ∧ quiescent_KernelIdeal_pre_words_in_order (hKernelIdeal := hKernelIdeal) (hPre_words_in_order := hPre_words_in_order)
    ∧ quiescent_ReferenceIdeal (hReferenceIdeal := hReferenceIdeal)
    ∧ quiescent_ReferenceIdeal_pre_words_in_order (hReferenceIdeal := hReferenceIdeal) (hPre_words_in_order := hPre_words_in_order)
    ∧ preserves_Kernel_KernelIdeal
    ∧ algebraic_KernelIdeal_ReferenceIdeal_pre_words_in_order (hKernelIdeal := hKernelIdeal) (hReferenceIdeal := hReferenceIdeal) (hPre_words_in_order := hPre_words_in_order)
-- ==== Pre_words_in_order.lean ====
abbrev S128x8192x32 : Shape := ⟨3, ![128, 8192, 32]⟩
abbrev S32x1 : Shape := ⟨2, ![32, 1]⟩
abbrev S1 : Shape := ⟨1, ![1]⟩
abbrev S128x8192 : Shape := ⟨2, ![128, 8192]⟩
abbrev S128x8192x1 : Shape := ⟨3, ![128, 8192, 1]⟩
abbrev S1x1x1 : Shape := ⟨3, ![1, 1, 1]⟩
abbrev S_ : Shape := ⟨0, ![]⟩
abbrev S128 : Shape := ⟨1, ![128]⟩
abbrev S128x1 : Shape := ⟨2, ![128, 1]⟩
abbrev S2 : Shape := ⟨1, ![2]⟩
abbrev S1x1 : Shape := ⟨2, ![1, 1]⟩
abbrev S128x1x8192 : Shape := ⟨3, ![128, 1, 8192]⟩
abbrev S128x8192x8192 : Shape := ⟨3, ![128, 8192, 8192]⟩

class Facts : Prop where
  bcast_S1_S1x1x1_2 : S1.BroadcastsInDim S1x1x1 (![2] : Fin 1 → Fin S1x1x1.rank)
  bcast_S1x1x1_S128x8192x1_0_1_2 : S1x1x1.BroadcastsInDim S128x8192x1 (![0, 1, 2] : Fin 3 → Fin S128x8192x1.rank)
  shapeCasts_S128x8192x1_S128x8192 : S128x8192x1.ShapeCasts S128x8192
  reducesTo_S128x8192_S128_d1 : S128x8192.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x8192_0_1 : S128x1.BroadcastsInDim S128x8192 (![0, 1] : Fin 2 → Fin S128x8192.rank)
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S128x8192 : S_.BroadcastsInDim S128x8192 (![] : Fin 0 → Fin S128x8192.rank)
  natLt_32_64 : 32 < 64
  bcast_S1x1_S128x8192_0_1 : S1x1.BroadcastsInDim S128x8192 (![0, 1] : Fin 2 → Fin S128x8192.rank)
  bcast_S128x8192_S128x8192x1_0_1 : S128x8192.BroadcastsInDim S128x8192x1 (![0, 1] : Fin 2 → Fin S128x8192x1.rank)
  bcast_S128x8192_S128x1x8192_0_2 : S128x8192.BroadcastsInDim S128x1x8192 (![0, 2] : Fin 2 → Fin S128x1x8192.rank)
  bcast_S128x8192x1_S128x8192x8192_0_1_2 : S128x8192x1.BroadcastsInDim S128x8192x8192 (![0, 1, 2] : Fin 3 → Fin S128x8192x8192.rank)
  bcast_S128x1x8192_S128x8192x8192_0_1_2 : S128x1x8192.BroadcastsInDim S128x8192x8192 (![0, 1, 2] : Fin 3 → Fin S128x8192x8192.rank)
  reducesTo_S128x8192x8192_S_d0_1_2 : S128x8192x8192.ReducesTo [0, 1, 2] S_
  reducesTo_S128x8192_S_d0_1 : S128x8192.ReducesTo [0, 1] S_
  dot_S128x8192x32_S32x1_S128x8192x1_2_0_01_1_n_n_wf : DotDims.WF S128x8192x32 S32x1 S128x8192x1 [2] [0] [0, 1] [1] [] []

variable [Facts]

def dot_S128x8192x32_S32x1_S128x8192x1_2_0_01_1_n_n : DotDims S128x8192x32 S32x1 S128x8192x1 where
  lhsContracting := [2]
  rhsContracting := [0]
  lhsNonContracting := [0, 1]
  rhsNonContracting := [1]
  lhsBatch := []
  rhsBatch := []
  wf := dot_S128x8192x32_S32x1_S128x8192x1_2_0_01_1_n_n_wf
def fn_threefry2x32_part9 {F : FTy → Type} [FloatOps F] (arg0 : IVec S_ 32) (v163 : IVec S128x8192 32) (v169 : IVec S128x8192 32) (v170 : IVec S128x8192 32) : IVec S128x8192 32 × IVec S128x8192 32 :=
  let v171 : IVec S128x8192 32 := addi v163 v170
  let v172 : IVec S128x8192 32 := broadcastInDim S128x8192 ![] bcast_S_S128x8192 arg0
  let v173 : IVec S128x8192 32 := addi v169 v172
  let c_44 : IVec S_ 32 := constantI S_ 32 5#32
  let v174 : IVec S128x8192 32 := broadcastInDim S128x8192 ![] bcast_S_S128x8192 c_44
  let v175 : IVec S128x8192 32 := addi v173 v174
  (v171, v175)

def fn_threefry2x32_part8 {F : FTy → Type} [FloatOps F] (arg0 : IVec S_ 32) (v1 : IVec S_ 32) (v148 : IVec S128x8192 32) (v149 : IVec S128x8192 32) (v151 : IVec S128x8192 32) : IVec S128x8192 32 × IVec S128x8192 32 :=
  let c_39 : IVec S_ 32 := constantI S_ 32 17#32
  let v152 : IVec S128x8192 32 := broadcastInDim S128x8192 ![] bcast_S_S128x8192 c_39
  let v153 : IVec S128x8192 32 := Host.shrui v148 v152
  let v154 : IVec S128x8192 32 := ori v151 v153
  let v155 : IVec S128x8192 32 := xori v149 v154
  let v156 : IVec S128x8192 32 := addi v149 v155
  let c_40 : IVec S_ 32 := constantI S_ 32 26#32
  let v157 : IVec S128x8192 32 := broadcastInDim S128x8192 ![] bcast_S_S128x8192 c_40
  let v158 : IVec S128x8192 32 := Host.shli v155 v157
  let c_41 : IVec S_ 32 := constantI S_ 32 6#32
  let v159 : IVec S128x8192 32 := broadcastInDim S128x8192 ![] bcast_S_S128x8192 c_41
  let v160 : IVec S128x8192 32 := Host.shrui v155 v159
  let v161 : IVec S128x8192 32 := ori v158 v160
  let v162 : IVec S128x8192 32 := xori v156 v161
  let v163 : IVec S128x8192 32 := addi v156 v162
  let c_42 : IVec S_ 32 := constantI S_ 32 6#32
  let v164 : IVec S128x8192 32 := broadcastInDim S128x8192 ![] bcast_S_S128x8192 c_42
  let v165 : IVec S128x8192 32 := Host.shli v162 v164
  let c_43 : IVec S_ 32 := constantI S_ 32 26#32
  let v166 : IVec S128x8192 32 := broadcastInDim S128x8192 ![] bcast_S_S128x8192 c_43
  let v167 : IVec S128x8192 32 := Host.shrui v162 v166
  let v168 : IVec S128x8192 32 := ori v165 v167
  let v169 : IVec S128x8192 32 := xori v163 v168
  let v170 : IVec S128x8192 32 := broadcastInDim S128x8192 ![] bcast_S_S128x8192 v1
  fn_threefry2x32_part9 (F := F) arg0 v163 v169 v170

def fn_threefry2x32_part7 {F : FTy → Type} [FloatOps F] (arg0 : IVec S_ 32) (arg1 : IVec S_ 32) (v1 : IVec S_ 32) (v128 : IVec S128x8192 32) (v129 : IVec S128x8192 32) (v131 : IVec S128x8192 32) (c_34 : IVec S_ 32) : IVec S128x8192 32 × IVec S128x8192 32 :=
  let v132 : IVec S128x8192 32 := broadcastInDim S128x8192 ![] bcast_S_S128x8192 c_34
  let v133 : IVec S128x8192 32 := Host.shrui v128 v132
  let v134 : IVec S128x8192 32 := ori v131 v133
  let v135 : IVec S128x8192 32 := xori v129 v134
  let v136 : IVec S128x8192 32 := broadcastInDim S128x8192 ![] bcast_S_S128x8192 arg1
  let v137 : IVec S128x8192 32 := addi v129 v136
  let v138 : IVec S128x8192 32 := broadcastInDim S128x8192 ![] bcast_S_S128x8192 v1
  let v139 : IVec S128x8192 32 := addi v135 v138
  let c_35 : IVec S_ 32 := constantI S_ 32 4#32
  let v140 : IVec S128x8192 32 := broadcastInDim S128x8192 ![] bcast_S_S128x8192 c_35
  let v141 : IVec S128x8192 32 := addi v139 v140
  let v142 : IVec S128x8192 32 := addi v137 v141
  let c_36 : IVec S_ 32 := constantI S_ 32 13#32
  let v143 : IVec S128x8192 32 := broadcastInDim S128x8192 ![] bcast_S_S128x8192 c_36
  let v144 : IVec S128x8192 32 := Host.shli v141 v143
  let c_37 : IVec S_ 32 := constantI S_ 32 19#32
  let v145 : IVec S128x8192 32 := broadcastInDim S128x8192 ![] bcast_S_S128x8192 c_37
  let v146 : IVec S128x8192 32 := Host.shrui v141 v145
  let v147 : IVec S128x8192 32 := ori v144 v146
  let v148 : IVec S128x8192 32 := xori v142 v147
  let v149 : IVec S128x8192 32 := addi v142 v148
  let c_38 : IVec S_ 32 := constantI S_ 32 15#32
  let v150 : IVec S128x8192 32 := broadcastInDim S128x8192 ![] bcast_S_S128x8192 c_38
  let v151 : IVec S128x8192 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S128x8192 32) (v113 : IVec S128x8192 32) : IVec S128x8192 32 × IVec S128x8192 32 :=
  let v114 : IVec S128x8192 32 := xori v108 v113
  let v115 : IVec S128x8192 32 := addi v108 v114
  let c_29 : IVec S_ 32 := constantI S_ 32 29#32
  let v116 : IVec S128x8192 32 := broadcastInDim S128x8192 ![] bcast_S_S128x8192 c_29
  let v117 : IVec S128x8192 32 := Host.shli v114 v116
  let c_30 : IVec S_ 32 := constantI S_ 32 3#32
  let v118 : IVec S128x8192 32 := broadcastInDim S128x8192 ![] bcast_S_S128x8192 c_30
  let v119 : IVec S128x8192 32 := Host.shrui v114 v118
  let v120 : IVec S128x8192 32 := ori v117 v119
  let v121 : IVec S128x8192 32 := xori v115 v120
  let v122 : IVec S128x8192 32 := addi v115 v121
  let c_31 : IVec S_ 32 := constantI S_ 32 16#32
  let v123 : IVec S128x8192 32 := broadcastInDim S128x8192 ![] bcast_S_S128x8192 c_31
  let v124 : IVec S128x8192 32 := Host.shli v121 v123
  let c_32 : IVec S_ 32 := constantI S_ 32 16#32
  let v125 : IVec S128x8192 32 := broadcastInDim S128x8192 ![] bcast_S_S128x8192 c_32
  let v126 : IVec S128x8192 32 := Host.shrui v121 v125
  let v127 : IVec S128x8192 32 := ori v124 v126
  let v128 : IVec S128x8192 32 := xori v122 v127
  let v129 : IVec S128x8192 32 := addi v122 v128
  let c_33 : IVec S_ 32 := constantI S_ 32 24#32
  let v130 : IVec S128x8192 32 := broadcastInDim S128x8192 ![] bcast_S_S128x8192 c_33
  let v131 : IVec S128x8192 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S128x8192 32) (v94 : IVec S128x8192 32) : IVec S128x8192 32 × IVec S128x8192 32 :=
  let v95 : IVec S128x8192 32 := addi v88 v94
  let c_24 : IVec S_ 32 := constantI S_ 32 6#32
  let v96 : IVec S128x8192 32 := broadcastInDim S128x8192 ![] bcast_S_S128x8192 c_24
  let v97 : IVec S128x8192 32 := Host.shli v94 v96
  let c_25 : IVec S_ 32 := constantI S_ 32 26#32
  let v98 : IVec S128x8192 32 := broadcastInDim S128x8192 ![] bcast_S_S128x8192 c_25
  let v99 : IVec S128x8192 32 := Host.shrui v94 v98
  let v100 : IVec S128x8192 32 := ori v97 v99
  let v101 : IVec S128x8192 32 := xori v95 v100
  let v102 : IVec S128x8192 32 := broadcastInDim S128x8192 ![] bcast_S_S128x8192 arg0
  let v103 : IVec S128x8192 32 := addi v95 v102
  let v104 : IVec S128x8192 32 := broadcastInDim S128x8192 ![] bcast_S_S128x8192 arg1
  let v105 : IVec S128x8192 32 := addi v101 v104
  let c_26 : IVec S_ 32 := constantI S_ 32 3#32
  let v106 : IVec S128x8192 32 := broadcastInDim S128x8192 ![] bcast_S_S128x8192 c_26
  let v107 : IVec S128x8192 32 := addi v105 v106
  let v108 : IVec S128x8192 32 := addi v103 v107
  let c_27 : IVec S_ 32 := constantI S_ 32 17#32
  let v109 : IVec S128x8192 32 := broadcastInDim S128x8192 ![] bcast_S_S128x8192 c_27
  let v110 : IVec S128x8192 32 := Host.shli v107 v109
  let c_28 : IVec S_ 32 := constantI S_ 32 15#32
  let v111 : IVec S128x8192 32 := broadcastInDim S128x8192 ![] bcast_S_S128x8192 c_28
  let v112 : IVec S128x8192 32 := Host.shrui v107 v111
  let v113 : IVec S128x8192 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S128x8192 32) (v74 : IVec S128x8192 32) (v75 : IVec S128x8192 32) : IVec S128x8192 32 × IVec S128x8192 32 :=
  let v76 : IVec S128x8192 32 := Host.shli v73 v75
  let c_19 : IVec S_ 32 := constantI S_ 32 19#32
  let v77 : IVec S128x8192 32 := broadcastInDim S128x8192 ![] bcast_S_S128x8192 c_19
  let v78 : IVec S128x8192 32 := Host.shrui v73 v77
  let v79 : IVec S128x8192 32 := ori v76 v78
  let v80 : IVec S128x8192 32 := xori v74 v79
  let v81 : IVec S128x8192 32 := addi v74 v80
  let c_20 : IVec S_ 32 := constantI S_ 32 15#32
  let v82 : IVec S128x8192 32 := broadcastInDim S128x8192 ![] bcast_S_S128x8192 c_20
  let v83 : IVec S128x8192 32 := Host.shli v80 v82
  let c_21 : IVec S_ 32 := constantI S_ 32 17#32
  let v84 : IVec S128x8192 32 := broadcastInDim S128x8192 ![] bcast_S_S128x8192 c_21
  let v85 : IVec S128x8192 32 := Host.shrui v80 v84
  let v86 : IVec S128x8192 32 := ori v83 v85
  let v87 : IVec S128x8192 32 := xori v81 v86
  let v88 : IVec S128x8192 32 := addi v81 v87
  let c_22 : IVec S_ 32 := constantI S_ 32 26#32
  let v89 : IVec S128x8192 32 := broadcastInDim S128x8192 ![] bcast_S_S128x8192 c_22
  let v90 : IVec S128x8192 32 := Host.shli v87 v89
  let c_23 : IVec S_ 32 := constantI S_ 32 6#32
  let v91 : IVec S128x8192 32 := broadcastInDim S128x8192 ![] bcast_S_S128x8192 c_23
  let v92 : IVec S128x8192 32 := Host.shrui v87 v91
  let v93 : IVec S128x8192 32 := ori v90 v92
  let v94 : IVec S128x8192 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S128x8192 32) (v54 : IVec S128x8192 32) (v56 : IVec S128x8192 32) : IVec S128x8192 32 × IVec S128x8192 32 :=
  let c_14 : IVec S_ 32 := constantI S_ 32 16#32
  let v57 : IVec S128x8192 32 := broadcastInDim S128x8192 ![] bcast_S_S128x8192 c_14
  let v58 : IVec S128x8192 32 := Host.shrui v53 v57
  let v59 : IVec S128x8192 32 := ori v56 v58
  let v60 : IVec S128x8192 32 := xori v54 v59
  let v61 : IVec S128x8192 32 := addi v54 v60
  let c_15 : IVec S_ 32 := constantI S_ 32 24#32
  let v62 : IVec S128x8192 32 := broadcastInDim S128x8192 ![] bcast_S_S128x8192 c_15
  let v63 : IVec S128x8192 32 := Host.shli v60 v62
  let c_16 : IVec S_ 32 := constantI S_ 32 8#32
  let v64 : IVec S128x8192 32 := broadcastInDim S128x8192 ![] bcast_S_S128x8192 c_16
  let v65 : IVec S128x8192 32 := Host.shrui v60 v64
  let v66 : IVec S128x8192 32 := ori v63 v65
  let v67 : IVec S128x8192 32 := xori v61 v66
  let v68 : IVec S128x8192 32 := broadcastInDim S128x8192 ![] bcast_S_S128x8192 v1
  let v69 : IVec S128x8192 32 := addi v61 v68
  let v70 : IVec S128x8192 32 := broadcastInDim S128x8192 ![] bcast_S_S128x8192 arg0
  let v71 : IVec S128x8192 32 := addi v67 v70
  let c_17 : IVec S_ 32 := constantI S_ 32 2#32
  let v72 : IVec S128x8192 32 := broadcastInDim S128x8192 ![] bcast_S_S128x8192 c_17
  let v73 : IVec S128x8192 32 := addi v71 v72
  let v74 : IVec S128x8192 32 := addi v69 v73
  let c_18 : IVec S_ 32 := constantI S_ 32 13#32
  let v75 : IVec S128x8192 32 := broadcastInDim S128x8192 ![] bcast_S_S128x8192 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S128x8192 32) (v37 : IVec S128x8192 32) (c_8 : IVec S_ 32) : IVec S128x8192 32 × IVec S128x8192 32 :=
  let v38 : IVec S128x8192 32 := broadcastInDim S128x8192 ![] bcast_S_S128x8192 c_8
  let v39 : IVec S128x8192 32 := addi v37 v38
  let v40 : IVec S128x8192 32 := addi v35 v39
  let c_9 : IVec S_ 32 := constantI S_ 32 17#32
  let v41 : IVec S128x8192 32 := broadcastInDim S128x8192 ![] bcast_S_S128x8192 c_9
  let v42 : IVec S128x8192 32 := Host.shli v39 v41
  let c_10 : IVec S_ 32 := constantI S_ 32 15#32
  let v43 : IVec S128x8192 32 := broadcastInDim S128x8192 ![] bcast_S_S128x8192 c_10
  let v44 : IVec S128x8192 32 := Host.shrui v39 v43
  let v45 : IVec S128x8192 32 := ori v42 v44
  let v46 : IVec S128x8192 32 := xori v40 v45
  let v47 : IVec S128x8192 32 := addi v40 v46
  let c_11 : IVec S_ 32 := constantI S_ 32 29#32
  let v48 : IVec S128x8192 32 := broadcastInDim S128x8192 ![] bcast_S_S128x8192 c_11
  let v49 : IVec S128x8192 32 := Host.shli v46 v48
  let c_12 : IVec S_ 32 := constantI S_ 32 3#32
  let v50 : IVec S128x8192 32 := broadcastInDim S128x8192 ![] bcast_S_S128x8192 c_12
  let v51 : IVec S128x8192 32 := Host.shrui v46 v50
  let v52 : IVec S128x8192 32 := ori v49 v51
  let v53 : IVec S128x8192 32 := xori v47 v52
  let v54 : IVec S128x8192 32 := addi v47 v53
  let c_13 : IVec S_ 32 := constantI S_ 32 16#32
  let v55 : IVec S128x8192 32 := broadcastInDim S128x8192 ![] bcast_S_S128x8192 c_13
  let v56 : IVec S128x8192 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S128x8192 32) (v18 : IVec S128x8192 32) : IVec S128x8192 32 × IVec S128x8192 32 :=
  let v19 : IVec S128x8192 32 := xori v13 v18
  let v20 : IVec S128x8192 32 := addi v13 v19
  let c_4 : IVec S_ 32 := constantI S_ 32 26#32
  let v21 : IVec S128x8192 32 := broadcastInDim S128x8192 ![] bcast_S_S128x8192 c_4
  let v22 : IVec S128x8192 32 := Host.shli v19 v21
  let c_5 : IVec S_ 32 := constantI S_ 32 6#32
  let v23 : IVec S128x8192 32 := broadcastInDim S128x8192 ![] bcast_S_S128x8192 c_5
  let v24 : IVec S128x8192 32 := Host.shrui v19 v23
  let v25 : IVec S128x8192 32 := ori v22 v24
  let v26 : IVec S128x8192 32 := xori v20 v25
  let v27 : IVec S128x8192 32 := addi v20 v26
  let c_6 : IVec S_ 32 := constantI S_ 32 6#32
  let v28 : IVec S128x8192 32 := broadcastInDim S128x8192 ![] bcast_S_S128x8192 c_6
  let v29 : IVec S128x8192 32 := Host.shli v26 v28
  let c_7 : IVec S_ 32 := constantI S_ 32 26#32
  let v30 : IVec S128x8192 32 := broadcastInDim S128x8192 ![] bcast_S_S128x8192 c_7
  let v31 : IVec S128x8192 32 := Host.shrui v26 v30
  let v32 : IVec S128x8192 32 := ori v29 v31
  let v33 : IVec S128x8192 32 := xori v27 v32
  let v34 : IVec S128x8192 32 := broadcastInDim S128x8192 ![] bcast_S_S128x8192 arg1
  let v35 : IVec S128x8192 32 := addi v27 v34
  let v36 : IVec S128x8192 32 := broadcastInDim S128x8192 ![] bcast_S_S128x8192 v1
  let v37 : IVec S128x8192 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S128x8192 32) (arg3 : IVec S128x8192 32) : IVec S128x8192 32 × IVec S128x8192 32 :=
  let v0 : IVec S_ 32 := xori arg0 arg1
  let c : IVec S_ 32 := constantI S_ 32 466688986#32
  let v1 : IVec S_ 32 := xori v0 c
  let v2 : IVec S128x8192 32 := broadcastInDim S128x8192 ![] bcast_S_S128x8192 arg0
  let v3 : IVec S128x8192 32 := addi arg2 v2
  let v4 : IVec S128x8192 32 := broadcastInDim S128x8192 ![] bcast_S_S128x8192 arg1
  let v5 : IVec S128x8192 32 := addi arg3 v4
  let v6 : IVec S128x8192 32 := addi v3 v5
  let c_0 : IVec S_ 32 := constantI S_ 32 13#32
  let v7 : IVec S128x8192 32 := broadcastInDim S128x8192 ![] bcast_S_S128x8192 c_0
  let v8 : IVec S128x8192 32 := Host.shli v5 v7
  let c_1 : IVec S_ 32 := constantI S_ 32 19#32
  let v9 : IVec S128x8192 32 := broadcastInDim S128x8192 ![] bcast_S_S128x8192 c_1
  let v10 : IVec S128x8192 32 := Host.shrui v5 v9
  let v11 : IVec S128x8192 32 := ori v8 v10
  let v12 : IVec S128x8192 32 := xori v6 v11
  let v13 : IVec S128x8192 32 := addi v6 v12
  let c_2 : IVec S_ 32 := constantI S_ 32 15#32
  let v14 : IVec S128x8192 32 := broadcastInDim S128x8192 ![] bcast_S_S128x8192 c_2
  let v15 : IVec S128x8192 32 := Host.shli v12 v14
  let c_3 : IVec S_ 32 := constantI S_ 32 17#32
  let v16 : IVec S128x8192 32 := broadcastInDim S128x8192 ![] bcast_S_S128x8192 c_3
  let v17 : IVec S128x8192 32 := Host.shrui v12 v16
  let v18 : IVec S128x8192 32 := ori v15 v17
  fn_threefry2x32_part1 (F := F) arg0 arg1 v1 v13 v18

def fn_uniform_part1 {F : FTy → Type} [FloatOps F] (v1 : FVec F S1x1 .f32) (v2 : FVec F S1x1 .f32) (v19 : IVec S128x8192 32) : FVec F S128x8192 .f32 :=
  let c_2 : IVec S_ 32 := constantI S_ 32 9#32
  let v20 : IVec S128x8192 32 := broadcastInDim S128x8192 ![] bcast_S_S128x8192 c_2
  let v21 : IVec S128x8192 32 := Host.shrui v19 v20
  let c_3 : IVec S_ 32 := constantI S_ 32 1065353216#32
  let v22 : IVec S128x8192 32 := broadcastInDim S128x8192 ![] bcast_S_S128x8192 c_3
  let v23 : IVec S128x8192 32 := ori v21 v22
  let v24 : FVec F S128x8192 .f32 := bitcastToFloat .f32 v23
  let cst : FVec F S_ .f32 := constant S_ .f32 0x3F800000#32
  let v25 : FVec F S128x8192 .f32 := broadcastInDim S128x8192 ![] bcast_S_S128x8192 cst
  let v26 : FVec F S128x8192 .f32 := subf v24 v25
  let v27 : FVec F S1x1 .f32 := subf v2 v1
  let v28 : FVec F S128x8192 .f32 := broadcastInDim S128x8192 ![0, 1] bcast_S1x1_S128x8192_0_1 v27
  let v29 : FVec F S128x8192 .f32 := mulf v26 v28
  let v30 : FVec F S128x8192 .f32 := broadcastInDim S128x8192 ![0, 1] bcast_S1x1_S128x8192_0_1 v1
  let v31 : FVec F S128x8192 .f32 := addf v29 v30
  let v32 : FVec F S128x8192 .f32 := broadcastInDim S128x8192 ![0, 1] bcast_S1x1_S128x8192_0_1 v1
  let v33 : FVec F S128x8192 .f32 := maximumf v32 v31
  v33

def fn_uniform {F : FTy → Type} [FloatOps F] (arg0 : IVec S2 32) (arg1 : FVec F S_ .f32) (arg2 : FVec F S_ .f32) : FVec F S128x8192 .f32 :=
  let v0 : FVec F S_ .f32 := id arg1
  let v1 : FVec F S1x1 .f32 := broadcastInDim S1x1 ![] bcast_S_S1x1 arg2
  let v2 : FVec F S1x1 .f32 := broadcastInDim S1x1 ![] bcast_S_S1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S128x8192 64 := iotaInDim S128x8192 64 0
  let v8 : IVec S128x8192 64 := iotaInDim S128x8192 64 1
  let c : IVec S_ 64 := constantI S_ 64 8192#64
  let v9 : IVec S128x8192 64 := broadcastInDim S128x8192 ![] bcast_S_S128x8192 c
  let v10 : IVec S128x8192 64 := muli v9 v7
  let c_0 : IVec S_ 64 := constantI S_ 64 1#64
  let v11 : IVec S128x8192 64 := broadcastInDim S128x8192 ![] bcast_S_S128x8192 c_0
  let v12 : IVec S128x8192 64 := muli v11 v8
  let v13 : IVec S128x8192 64 := addi v10 v12
  let c_1 : IVec S_ 64 := constantI S_ 64 32#64
  let v14 : IVec S128x8192 64 := broadcastInDim S128x8192 ![] bcast_S_S128x8192 c_1
  let v15 : IVec S128x8192 64 := Host.shrui v13 v14
  let v16 : IVec S128x8192 32 := (trunci 32 · natLt_32_64) v13
  let v17 : IVec S128x8192 32 := (trunci 32 · natLt_32_64) v15
  let v18_0 : IVec S128x8192 32 := (fn_threefry2x32 (F := F) v4 v6 v17 v16).1
  let v18_1 : IVec S128x8192 32 := (fn_threefry2x32 (F := F) v4 v6 v17 v16).2
  let v19 : IVec S128x8192 32 := xori v18_0 v18_1
  fn_uniform_part1 (F := F) v1 v2 v19

def fn_gumbel {F : FTy → Type} [FloatOps F] (arg0 : IVec S2 32) : FVec F S128x8192 .f32 :=
  let cst : FVec F S_ .f32 := constant S_ .f32 0x3F800000#32
  let cst_0 : FVec F S_ .f32 := constant S_ .f32 0x00800000#32
  let v0 : FVec F S128x8192 .f32 := fn_uniform (F := F) arg0 cst cst_0
  let v1 : FVec F S128x8192 .f32 := Host.log v0
  let v2 : FVec F S128x8192 .f32 := Host.negf v1
  let v3 : FVec F S128x8192 .f32 := Host.log v2
  let v4 : FVec F S128x8192 .f32 := Host.negf v3
  v4

def fn_where {F : FTy → Type} [FloatOps F] (arg0 : IVec S128x8192 1) (arg1 : IVec S128x8192 32) (arg2 : IVec S128x8192 32) : IVec S128x8192 32 :=
  let v0 : IVec S128x8192 32 := select arg0 arg1 arg2
  v0

def fn_part2 {F : FTy → Type} [FloatOps F] (main_v10 : FVec F S128x8192 .f32) (main_v38 : IVec S_ 1) : IVec S_ 1 :=
  let main_cst_7 : FVec F S_ .f32 := constant S_ .f32 0x7F800000#32
  let main_v39 : FVec F S128x8192 .f32 := broadcastInDim S128x8192 ![] bcast_S_S128x8192 main_cst_7
  let main_v40 : IVec S128x8192 1 := cmpf .olt main_v10 main_v39
  let main_c_8 : IVec S_ 1 := constantI S_ 1 1#1
  let main_v41 : IVec S_ 1 := (fun x v => Host.reduce IntOp.andi x v reducesTo_S128x8192_S_d0_1 h_S_) main_v40 main_c_8
  let main_v42 : IVec S_ 1 := andi main_v38 main_v41
  main_v42

def fn_part1 {F : FTy → Type} [FloatOps F] (main_arg3 : IVec S128x8192 32) (main_v10 : FVec F S128x8192 .f32) (main_v18 : FVec F S128x8192 .f32) : IVec S_ 1 :=
  let main_v19 : FVec F S128x8192 .f32 := addf main_v10 main_v18
  let main_c_3 : IVec S_ 32 := constantI S_ 32 0#32
  let main_v20 : IVec S128x8192 32 := broadcastInDim S128x8192 ![] bcast_S_S128x8192 main_c_3
  let main_v21 : IVec S128x8192 1 := cmpi .slt main_arg3 main_v20
  let main_c_4 : IVec S_ 32 := constantI S_ 32 2147483647#32
  let main_v22 : IVec S128x8192 32 := broadcastInDim S128x8192 ![] bcast_S_S128x8192 main_c_4
  let main_v23 : IVec S128x8192 32 := andi main_arg3 main_v22
  let main_c_5 : IVec S_ 32 := constantI S_ 32 4294967295#32
  let main_v24 : IVec S128x8192 32 := broadcastInDim S128x8192 ![] bcast_S_S128x8192 main_c_5
  let main_v25 : IVec S128x8192 32 := subi main_v24 main_v23
  let main_v26 : IVec S128x8192 32 := fn_where (F := F) main_v21 main_v25 main_arg3
  let main_v27 : IVec S128x8192x1 32 := broadcastInDim S128x8192x1 ![0, 1] bcast_S128x8192_S128x8192x1_0_1 main_v26
  let main_v28 : IVec S128x1x8192 32 := broadcastInDim S128x1x8192 ![0, 2] bcast_S128x8192_S128x1x8192_0_2 main_v26
  let main_v29 : IVec S128x8192x8192 32 := broadcastInDim S128x8192x8192 ![0, 1, 2] bcast_S128x8192x1_S128x8192x8192_0_1_2 main_v27
  let main_v30 : IVec S128x8192x8192 32 := broadcastInDim S128x8192x8192 ![0, 1, 2] bcast_S128x1x8192_S128x8192x8192_0_1_2 main_v28
  let main_v31 : IVec S128x8192x8192 1 := cmpi .slt main_v29 main_v30
  let main_v32 : FVec F S128x8192x1 .f32 := broadcastInDim S128x8192x1 ![0, 1] bcast_S128x8192_S128x8192x1_0_1 main_v19
  let main_v33 : FVec F S128x1x8192 .f32 := broadcastInDim S128x1x8192 ![0, 2] bcast_S128x8192_S128x1x8192_0_2 main_v19
  let main_v34 : FVec F S128x8192x8192 .f32 := broadcastInDim S128x8192x8192 ![0, 1, 2] bcast_S128x8192x1_S128x8192x8192_0_1_2 main_v32
  let main_v35 : FVec F S128x8192x8192 .f32 := broadcastInDim S128x8192x8192 ![0, 1, 2] bcast_S128x1x8192_S128x8192x8192_0_1_2 main_v33
  let main_v36 : IVec S128x8192x8192 1 := cmpf .olt main_v34 main_v35
  let main_v37 : IVec S128x8192x8192 1 := cmpi .eq main_v31 main_v36
  let main_c_6 : IVec S_ 1 := constantI S_ 1 1#1
  let main_v38 : IVec S_ 1 := (fun x v => Host.reduce IntOp.andi x v reducesTo_S128x8192x8192_S_d0_1_2 h_S_) main_v37 main_c_6
  fn_part2 (F := F) main_v10 main_v38

def fn {F : FTy → Type} [FloatOps F] (main_arg0 : FVec F S128x8192x32 .f32) (main_arg1 : FVec F S32x1 .f32) (main_arg2 : FVec F S1 .f32) (main_arg3 : IVec S128x8192 32) : IVec S_ 1 :=
  let main_v0 : FVec F S128x8192x1 .f32 := (fun l r => Host.dotGeneral dot_S128x8192x32_S32x1_S128x8192x1_2_0_01_1_n_n none l r) main_arg0 main_arg1
  let main_v1 : FVec F S1x1x1 .f32 := broadcastInDim S1x1x1 ![2] bcast_S1_S1x1x1_2 main_arg2
  let main_v2 : FVec F S128x8192x1 .f32 := broadcastInDim S128x8192x1 ![0, 1, 2] bcast_S1x1x1_S128x8192x1_0_1_2 main_v1
  let main_v3 : FVec F S128x8192x1 .f32 := addf main_v0 main_v2
  let main_v4 : FVec F S128x8192 .f32 := shapeCast S128x8192 main_v3 shapeCasts_S128x8192x1_S128x8192
  let main_cst : FVec F S_ .f32 := constant S_ .f32 0x00000000#32
  let main_v5 : FVec F S128 .f32 := (fun x v => Host.reduceAdd x v reducesTo_S128x8192_S128_d1 h_S_) main_v4 main_cst
  let main_v6 : FVec F S128x1 .f32 := broadcastInDim S128x1 ![0] bcast_S128_S128x1_0 main_v5
  let main_cst_0 : FVec F S_ .f32 := constant S_ .f32 0x46000000#32
  let main_v7 : FVec F S128x1 .f32 := broadcastInDim S128x1 ![] bcast_S_S128x1 main_cst_0
  let main_v8 : FVec F S128x1 .f32 := Host.divf main_v6 main_v7
  let main_v9 : FVec F S128x8192 .f32 := broadcastInDim S128x8192 ![0, 1] bcast_S128x1_S128x8192_0_1 main_v8
  let main_v10 : FVec F S128x8192 .f32 := subf main_v4 main_v9
  let main_c : IVec S_ 32 := constantI S_ 32 42#32
  let main_c_1 : IVec S_ 32 := constantI S_ 32 32#32
  let main_v11 : IVec S_ 32 := Host.shrui main_c main_c_1
  let main_v12 : IVec S_ 32 := id main_v11
  let main_v13 : IVec S1 32 := broadcastInDim S1 ![] bcast_S_S1 main_v12
  let main_c_2 : IVec S_ 32 := constantI S_ 32 4294967295#32
  let main_v14 : IVec S_ 32 := andi main_c main_c_2
  let main_v15 : IVec S_ 32 := id main_v14
  let main_v16 : IVec S1 32 := broadcastInDim S1 ![] bcast_S_S1 main_v15
  let main_v17 : IVec S2 32 := (fun a b => concatenate S2 0 [⟨S1, a⟩, ⟨S1, b⟩] concatenates_S1_S1_S2_d0) main_v13 main_v16
  let main_v18 : FVec F S128x8192 .f32 := fn_gumbel (F := F) main_v17
  fn_part1 (F := F) main_arg3 main_v10 main_v18
-- ==== Kernel.lean ====
abbrev S128x8192x32 : Shape := ⟨3, ![128, 8192, 32]⟩
abbrev S32x1 : Shape := ⟨2, ![32, 1]⟩
abbrev S1 : Shape := ⟨1, ![1]⟩
abbrev S128x8192 : Shape := ⟨2, ![128, 8192]⟩
abbrev S_ : Shape := ⟨0, ![]⟩
abbrev S2 : Shape := ⟨1, ![2]⟩
abbrev S1x1 : Shape := ⟨2, ![1, 1]⟩
abbrev S1x32 : Shape := ⟨2, ![1, 32]⟩
abbrev S8x1024x32 : Shape := ⟨3, ![8, 1024, 32]⟩
abbrev S8x8192 : Shape := ⟨2, ![8, 8192]⟩
abbrev S1x1024x32 : Shape := ⟨3, ![1, 1024, 32]⟩
abbrev S1024x32 : Shape := ⟨2, ![1024, 32]⟩
abbrev S32x1024 : Shape := ⟨2, ![32, 1024]⟩
abbrev S1x1024 : Shape := ⟨2, ![1, 1024]⟩
abbrev S8x1024 : Shape := ⟨2, ![8, 1024]⟩
abbrev S8 : Shape := ⟨1, ![8]⟩
abbrev S8x1 : Shape := ⟨2, ![8, 1]⟩
abbrev S8192 : Shape := ⟨1, ![8192]⟩
abbrev S256 : Shape := ⟨1, ![256]⟩
abbrev S16 : Shape := ⟨1, ![16]⟩
abbrev S1x8192 : Shape := ⟨2, ![1, 8192]⟩
abbrev S128x1 : Shape := ⟨2, ![128, 1]⟩
abbrev S16x8192 : Shape := ⟨2, ![16, 8192]⟩
abbrev S16x1 : Shape := ⟨2, ![16, 1]⟩
abbrev S128 : Shape := ⟨1, ![128]⟩

abbrev nBuf : Table → Nat
  | .hbm => 290
  | .local .tc .vmem => 17
  | .local .scVector .vmem => 14
  | _ => 0

abbrev hbmTy0_0 (i : Nat) : BufTy := match i % 128 with
  | 0 => ⟨S128x8192x32, .f32⟩
  | 1 => ⟨S32x1, .f32⟩
  | 2 => ⟨S1, .f32⟩
  | 3 => ⟨S128x8192, .i32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S128x8192, .i64⟩
  | 24 => ⟨S128x8192, .i64⟩
  | 25 => ⟨S_, .i64⟩
  | 26 => ⟨S128x8192, .i64⟩
  | 27 => ⟨S128x8192, .i64⟩
  | 28 => ⟨S_, .i64⟩
  | 29 => ⟨S128x8192, .i64⟩
  | 30 => ⟨S128x8192, .i64⟩
  | 31 => ⟨S128x8192, .i64⟩
  | 32 => ⟨S_, .i64⟩
  | 33 => ⟨S128x8192, .i64⟩
  | 34 => ⟨S128x8192, .i64⟩
  | 35 => ⟨S128x8192, .i32⟩
  | 36 => ⟨S128x8192, .i32⟩
  | 37 => ⟨S_, .i32⟩
  | 38 => ⟨S_, .i32⟩
  | 39 => ⟨S_, .i32⟩
  | 40 => ⟨S128x8192, .i32⟩
  | 41 => ⟨S128x8192, .i32⟩
  | 42 => ⟨S128x8192, .i32⟩
  | 43 => ⟨S128x8192, .i32⟩
  | 44 => ⟨S128x8192, .i32⟩
  | 45 => ⟨S_, .i32⟩
  | 46 => ⟨S128x8192, .i32⟩
  | 47 => ⟨S128x8192, .i32⟩
  | 48 => ⟨S_, .i32⟩
  | 49 => ⟨S128x8192, .i32⟩
  | 50 => ⟨S128x8192, .i32⟩
  | 51 => ⟨S128x8192, .i32⟩
  | 52 => ⟨S128x8192, .i32⟩
  | 53 => ⟨S128x8192, .i32⟩
  | 54 => ⟨S_, .i32⟩
  | 55 => ⟨S128x8192, .i32⟩
  | 56 => ⟨S128x8192, .i32⟩
  | 57 => ⟨S_, .i32⟩
  | 58 => ⟨S128x8192, .i32⟩
  | 59 => ⟨S128x8192, .i32⟩
  | 60 => ⟨S128x8192, .i32⟩
  | 61 => ⟨S128x8192, .i32⟩
  | 62 => ⟨S128x8192, .i32⟩
  | 63 => ⟨S_, .i32⟩
  | 64 => ⟨S128x8192, .i32⟩
  | 65 => ⟨S128x8192, .i32⟩
  | 66 => ⟨S_, .i32⟩
  | 67 => ⟨S128x8192, .i32⟩
  | 68 => ⟨S128x8192, .i32⟩
  | 69 => ⟨S128x8192, .i32⟩
  | 70 => ⟨S128x8192, .i32⟩
  | 71 => ⟨S128x8192, .i32⟩
  | 72 => ⟨S_, .i32⟩
  | 73 => ⟨S128x8192, .i32⟩
  | 74 => ⟨S128x8192, .i32⟩
  | 75 => ⟨S_, .i32⟩
  | 76 => ⟨S128x8192, .i32⟩
  | 77 => ⟨S128x8192, .i32⟩
  | 78 => ⟨S128x8192, .i32⟩
  | 79 => ⟨S128x8192, .i32⟩
  | 80 => ⟨S128x8192, .i32⟩
  | 81 => ⟨S128x8192, .i32⟩
  | 82 => ⟨S128x8192, .i32⟩
  | 83 => ⟨S128x8192, .i32⟩
  | 84 => ⟨S_, .i32⟩
  | 85 => ⟨S128x8192, .i32⟩
  | 86 => ⟨S128x8192, .i32⟩
  | 87 => ⟨S128x8192, .i32⟩
  | 88 => ⟨S_, .i32⟩
  | 89 => ⟨S128x8192, .i32⟩
  | 90 => ⟨S128x8192, .i32⟩
  | 91 => ⟨S_, .i32⟩
  | 92 => ⟨S128x8192, .i32⟩
  | 93 => ⟨S128x8192, .i32⟩
  | 94 => ⟨S128x8192, .i32⟩
  | 95 => ⟨S128x8192, .i32⟩
  | 96 => ⟨S128x8192, .i32⟩
  | 97 => ⟨S_, .i32⟩
  | 98 => ⟨S128x8192, .i32⟩
  | 99 => ⟨S128x8192, .i32⟩
  | 100 => ⟨S_, .i32⟩
  | 101 => ⟨S128x8192, .i32⟩
  | 102 => ⟨S128x8192, .i32⟩
  | 103 => ⟨S128x8192, .i32⟩
  | 104 => ⟨S128x8192, .i32⟩
  | 105 => ⟨S128x8192, .i32⟩
  | 106 => ⟨S_, .i32⟩
  | 107 => ⟨S128x8192, .i32⟩
  | 108 => ⟨S128x8192, .i32⟩
  | 109 => ⟨S_, .i32⟩
  | 110 => ⟨S128x8192, .i32⟩
  | 111 => ⟨S128x8192, .i32⟩
  | 112 => ⟨S128x8192, .i32⟩
  | 113 => ⟨S128x8192, .i32⟩
  | 114 => ⟨S128x8192, .i32⟩
  | 115 => ⟨S_, .i32⟩
  | 116 => ⟨S128x8192, .i32⟩
  | 117 => ⟨S128x8192, .i32⟩
  | 118 => ⟨S_, .i32⟩
  | 119 => ⟨S128x8192, .i32⟩
  | 120 => ⟨S128x8192, .i32⟩
  | 121 => ⟨S128x8192, .i32⟩
  | 122 => ⟨S128x8192, .i32⟩
  | 123 => ⟨S128x8192, .i32⟩
  | 124 => ⟨S128x8192, .i32⟩
  | 125 => ⟨S128x8192, .i32⟩
  | 126 => ⟨S128x8192, .i32⟩
  | 127 => ⟨S_, .i32⟩
  | _ => ⟨S128x8192x32, .f32⟩

abbrev hbmTy0_1 (i : Nat) : BufTy := match i % 128 with
  | 0 => ⟨S128x8192, .i32⟩
  | 1 => ⟨S128x8192, .i32⟩
  | 2 => ⟨S128x8192, .i32⟩
  | 3 => ⟨S_, .i32⟩
  | 4 => ⟨S128x8192, .i32⟩
  | 5 => ⟨S128x8192, .i32⟩
  | 6 => ⟨S_, .i32⟩
  | 7 => ⟨S128x8192, .i32⟩
  | 8 => ⟨S128x8192, .i32⟩
  | 9 => ⟨S128x8192, .i32⟩
  | 10 => ⟨S128x8192, .i32⟩
  | 11 => ⟨S128x8192, .i32⟩
  | 12 => ⟨S_, .i32⟩
  | 13 => ⟨S128x8192, .i32⟩
  | 14 => ⟨S128x8192, .i32⟩
  | 15 => ⟨S_, .i32⟩
  | 16 => ⟨S128x8192, .i32⟩
  | 17 => ⟨S128x8192, .i32⟩
  | 18 => ⟨S128x8192, .i32⟩
  | 19 => ⟨S128x8192, .i32⟩
  | 20 => ⟨S128x8192, .i32⟩
  | 21 => ⟨S_, .i32⟩
  | 22 => ⟨S128x8192, .i32⟩
  | 23 => ⟨S128x8192, .i32⟩
  | 24 => ⟨S_, .i32⟩
  | 25 => ⟨S128x8192, .i32⟩
  | 26 => ⟨S128x8192, .i32⟩
  | 27 => ⟨S128x8192, .i32⟩
  | 28 => ⟨S128x8192, .i32⟩
  | 29 => ⟨S128x8192, .i32⟩
  | 30 => ⟨S_, .i32⟩
  | 31 => ⟨S128x8192, .i32⟩
  | 32 => ⟨S128x8192, .i32⟩
  | 33 => ⟨S_, .i32⟩
  | 34 => ⟨S128x8192, .i32⟩
  | 35 => ⟨S128x8192, .i32⟩
  | 36 => ⟨S128x8192, .i32⟩
  | 37 => ⟨S128x8192, .i32⟩
  | 38 => ⟨S128x8192, .i32⟩
  | 39 => ⟨S128x8192, .i32⟩
  | 40 => ⟨S128x8192, .i32⟩
  | 41 => ⟨S128x8192, .i32⟩
  | 42 => ⟨S_, .i32⟩
  | 43 => ⟨S128x8192, .i32⟩
  | 44 => ⟨S128x8192, .i32⟩
  | 45 => ⟨S128x8192, .i32⟩
  | 46 => ⟨S_, .i32⟩
  | 47 => ⟨S128x8192, .i32⟩
  | 48 => ⟨S128x8192, .i32⟩
  | 49 => ⟨S_, .i32⟩
  | 50 => ⟨S128x8192, .i32⟩
  | 51 => ⟨S128x8192, .i32⟩
  | 52 => ⟨S128x8192, .i32⟩
  | 53 => ⟨S128x8192, .i32⟩
  | 54 => ⟨S128x8192, .i32⟩
  | 55 => ⟨S_, .i32⟩
  | 56 => ⟨S128x8192, .i32⟩
  | 57 => ⟨S128x8192, .i32⟩
  | 58 => ⟨S_, .i32⟩
  | 59 => ⟨S128x8192, .i32⟩
  | 60 => ⟨S128x8192, .i32⟩
  | 61 => ⟨S128x8192, .i32⟩
  | 62 => ⟨S128x8192, .i32⟩
  | 63 => ⟨S128x8192, .i32⟩
  | 64 => ⟨S_, .i32⟩
  | 65 => ⟨S128x8192, .i32⟩
  | 66 => ⟨S128x8192, .i32⟩
  | 67 => ⟨S_, .i32⟩
  | 68 => ⟨S128x8192, .i32⟩
  | 69 => ⟨S128x8192, .i32⟩
  | 70 => ⟨S128x8192, .i32⟩
  | 71 => ⟨S128x8192, .i32⟩
  | 72 => ⟨S128x8192, .i32⟩
  | 73 => ⟨S_, .i32⟩
  | 74 => ⟨S128x8192, .i32⟩
  | 75 => ⟨S128x8192, .i32⟩
  | 76 => ⟨S_, .i32⟩
  | 77 => ⟨S128x8192, .i32⟩
  | 78 => ⟨S128x8192, .i32⟩
  | 79 => ⟨S128x8192, .i32⟩
  | 80 => ⟨S128x8192, .i32⟩
  | 81 => ⟨S128x8192, .i32⟩
  | 82 => ⟨S128x8192, .i32⟩
  | 83 => ⟨S128x8192, .i32⟩
  | 84 => ⟨S128x8192, .i32⟩
  | 85 => ⟨S_, .i32⟩
  | 86 => ⟨S128x8192, .i32⟩
  | 87 => ⟨S128x8192, .i32⟩
  | 88 => ⟨S128x8192, .i32⟩
  | 89 => ⟨S_, .i32⟩
  | 90 => ⟨S128x8192, .i32⟩
  | 91 => ⟨S128x8192, .i32⟩
  | 92 => ⟨S_, .i32⟩
  | 93 => ⟨S128x8192, .i32⟩
  | 94 => ⟨S128x8192, .i32⟩
  | 95 => ⟨S128x8192, .i32⟩
  | 96 => ⟨S128x8192, .i32⟩
  | 97 => ⟨S128x8192, .i32⟩
  | 98 => ⟨S_, .i32⟩
  | 99 => ⟨S128x8192, .i32⟩
  | 100 => ⟨S128x8192, .i32⟩
  | 101 => ⟨S_, .i32⟩
  | 102 => ⟨S128x8192, .i32⟩
  | 103 => ⟨S128x8192, .i32⟩
  | 104 => ⟨S128x8192, .i32⟩
  | 105 => ⟨S128x8192, .i32⟩
  | 106 => ⟨S128x8192, .i32⟩
  | 107 => ⟨S_, .i32⟩
  | 108 => ⟨S128x8192, .i32⟩
  | 109 => ⟨S128x8192, .i32⟩
  | 110 => ⟨S_, .i32⟩
  | 111 => ⟨S128x8192, .i32⟩
  | 112 => ⟨S128x8192, .i32⟩
  | 113 => ⟨S128x8192, .i32⟩
  | 114 => ⟨S128x8192, .i32⟩
  | 115 => ⟨S128x8192, .i32⟩
  | 116 => ⟨S_, .i32⟩
  | 117 => ⟨S128x8192, .i32⟩
  | 118 => ⟨S128x8192, .i32⟩
  | 119 => ⟨S_, .i32⟩
  | 120 => ⟨S128x8192, .i32⟩
  | 121 => ⟨S128x8192, .i32⟩
  | 122 => ⟨S128x8192, .i32⟩
  | 123 => ⟨S128x8192, .i32⟩
  | 124 => ⟨S128x8192, .i32⟩
  | 125 => ⟨S128x8192, .i32⟩
  | 126 => ⟨S128x8192, .i32⟩
  | 127 => ⟨S128x8192, .i32⟩
  | _ => ⟨S128x8192x32, .f32⟩

abbrev hbmTy0_2 (i : Nat) : BufTy := match i % 128 with
  | 0 => ⟨S_, .i32⟩
  | 1 => ⟨S128x8192, .i32⟩
  | 2 => ⟨S128x8192, .i32⟩
  | 3 => ⟨S128x8192, .i32⟩
  | 4 => ⟨S_, .i32⟩
  | 5 => ⟨S128x8192, .i32⟩
  | 6 => ⟨S128x8192, .i32⟩
  | 7 => ⟨S_, .i32⟩
  | 8 => ⟨S128x8192, .i32⟩
  | 9 => ⟨S128x8192, .i32⟩
  | 10 => ⟨S128x8192, .f32⟩
  | 11 => ⟨S_, .f32⟩
  | 12 => ⟨S128x8192, .f32⟩
  | 13 => ⟨S128x8192, .f32⟩
  | 14 => ⟨S1x1, .f32⟩
  | 15 => ⟨S128x8192, .f32⟩
  | 16 => ⟨S128x8192, .f32⟩
  | 17 => ⟨S128x8192, .f32⟩
  | 18 => ⟨S128x8192, .f32⟩
  | 19 => ⟨S128x8192, .f32⟩
  | 20 => ⟨S128x8192, .f32⟩
  | 21 => ⟨S128x8192, .f32⟩
  | 22 => ⟨S128x8192, .f32⟩
  | 23 => ⟨S128x8192, .f32⟩
  | 24 => ⟨S128x8192, .f32⟩
  | 25 => ⟨S1x1, .f32⟩
  | 26 => ⟨S1x32, .f32⟩
  | 27 => ⟨S128x8192, .f32⟩
  | 28 => ⟨S128x8192, .i32⟩
  | 29 => ⟨S8192, .i32⟩
  | 30 => ⟨S128x8192, .i32⟩
  | 31 => ⟨S128x8192, .f32⟩
  | 32 => ⟨S128x1, .f32⟩
  | 33 => ⟨S128, .f32⟩
  | _ => ⟨S128x8192x32, .f32⟩

abbrev hbmTy (i : Nat) : BufTy := match i / 128 with
  | 0 => hbmTy0_0 i
  | 1 => hbmTy0_1 i
  | 2 => hbmTy0_2 i
  | _ => ⟨S128x8192x32, .f32⟩

abbrev bufTy : (tb : Table) → Fin (nBuf tb) → BufTy
  | .hbm, ⟨i, _⟩ => hbmTy i
  | .local .tc .vmem, ⟨0, _⟩ => ⟨S8x1024x32, .f32⟩
  | .local .tc .vmem, ⟨1, _⟩ => ⟨S8x1024x32, .f32⟩
  | .local .tc .vmem, ⟨2, _⟩ => ⟨S1x32, .f32⟩
  | .local .tc .vmem, ⟨3, _⟩ => ⟨S1x1, .f32⟩
  | .local .tc .vmem, ⟨4, _⟩ => ⟨S8x8192, .f32⟩
  | .local .tc .vmem, ⟨5, _⟩ => ⟨S8x8192, .f32⟩
  | .local .tc .vmem, ⟨6, _⟩ => ⟨S8x8192, .i32⟩
  | .local .tc .vmem, ⟨7, _⟩ => ⟨S8x8192, .i32⟩
  | .local .tc .vmem, ⟨8, _⟩ => ⟨S8x8192, .f32⟩
  | .local .tc .vmem, ⟨9, _⟩ => ⟨S8x8192, .f32⟩
  | .local .tc .vmem, ⟨10, _⟩ => ⟨S8x8192, .i32⟩
  | .local .tc .vmem, ⟨11, _⟩ => ⟨S8x8192, .i32⟩
  | .local .tc .vmem, ⟨12, _⟩ => ⟨S8x8192, .f32⟩
  | .local .tc .vmem, ⟨13, _⟩ => ⟨S16x8192, .f32⟩
  | .local .tc .vmem, ⟨14, _⟩ => ⟨S16x8192, .f32⟩
  | .local .tc .vmem, ⟨15, _⟩ => ⟨S16x1, .f32⟩
  | .local .tc .vmem, ⟨16, _⟩ => ⟨S16x1, .f32⟩
  | .local .scVector .vmem, ⟨0, _⟩ => ⟨S8192, .i32⟩
  | .local .scVector .vmem, ⟨1, _⟩ => ⟨S8192, .i32⟩
  | .local .scVector .vmem, ⟨2, _⟩ => ⟨S8192, .i32⟩
  | .local .scVector .vmem, ⟨3, _⟩ => ⟨S8192, .i32⟩
  | .local .scVector .vmem, ⟨4, _⟩ => ⟨S8192, .f32⟩
  | .local .scVector .vmem, ⟨5, _⟩ => ⟨S8192, .f32⟩
  | .local .scVector .vmem, ⟨6, _⟩ => ⟨S256, .i32⟩
  | .local .scVector .vmem, ⟨7, _⟩ => ⟨S8192, .i32⟩
  | .local .scVector .vmem, ⟨8, _⟩ => ⟨S8192, .i32⟩
  | .local .scVector .vmem, ⟨9, _⟩ => ⟨S8192, .i32⟩
  | .local .scVector .vmem, ⟨10, _⟩ => ⟨S8192, .i32⟩
  | .local .scVector .vmem, ⟨11, _⟩ => ⟨S8192, .f32⟩
  | .local .scVector .vmem, ⟨12, _⟩ => ⟨S8192, .f32⟩
  | .local .scVector .vmem, ⟨13, _⟩ => ⟨S256, .i32⟩
  | _, _ => ⟨S128x8192x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_cst_0 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_c : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_c_0 : Ref sig .tc := ⟨.hbm, 28, rfl⟩
abbrev main_call0_call0_v11 : Ref sig .tc := ⟨.hbm, 29, rfl⟩
abbrev main_call0_call0_v12 : Ref sig .tc := ⟨.hbm, 30, rfl⟩
abbrev main_call0_call0_v13 : Ref sig .tc := ⟨.hbm, 31, rfl⟩
abbrev main_call0_call0_c_1 : Ref sig .tc := ⟨.hbm, 32, rfl⟩
abbrev main_call0_call0_v14 : Ref sig .tc := ⟨.hbm, 33, rfl⟩
abbrev main_call0_call0_v15 : Ref sig .tc := ⟨.hbm, 34, rfl⟩
abbrev main_call0_call0_v16 : Ref sig .tc := ⟨.hbm, 35, rfl⟩
abbrev main_call0_call0_v17 : Ref sig .tc := ⟨.hbm, 36, rfl⟩
abbrev main_call0_call0_call0_v0 : Ref sig .tc := ⟨.hbm, 37, rfl⟩
abbrev main_call0_call0_call0_c : Ref sig .tc := ⟨.hbm, 38, rfl⟩
abbrev main_call0_call0_call0_v1 : Ref sig .tc := ⟨.hbm, 39, rfl⟩
abbrev main_call0_call0_call0_v2 : Ref sig .tc := ⟨.hbm, 40, rfl⟩
abbrev main_call0_call0_call0_v3 : Ref sig .tc := ⟨.hbm, 41, rfl⟩
abbrev main_call0_call0_call0_v4 : Ref sig .tc := ⟨.hbm, 42, rfl⟩
abbrev main_call0_call0_call0_v5 : Ref sig .tc := ⟨.hbm, 43, rfl⟩
abbrev main_call0_call0_call0_v6 : Ref sig .tc := ⟨.hbm, 44, rfl⟩
abbrev main_call0_call0_call0_c_0 : Ref sig .tc := ⟨.hbm, 45, rfl⟩
abbrev main_call0_call0_call0_v7 : Ref sig .tc := ⟨.hbm, 46, rfl⟩
abbrev main_call0_call0_call0_v8 : Ref sig .tc := ⟨.hbm, 47, rfl⟩
abbrev main_call0_call0_call0_c_1 : Ref sig .tc := ⟨.hbm, 48, rfl⟩
abbrev main_call0_call0_call0_v9 : Ref sig .tc := ⟨.hbm, 49, rfl⟩
abbrev main_call0_call0_call0_v10 : Ref sig .tc := ⟨.hbm, 50, rfl⟩
abbrev main_call0_call0_call0_v11 : Ref sig .tc := ⟨.hbm, 51, rfl⟩
abbrev main_call0_call0_call0_v12 : Ref sig .tc := ⟨.hbm, 52, rfl⟩
abbrev main_call0_call0_call0_v13 : Ref sig .tc := ⟨.hbm, 53, rfl⟩
abbrev main_call0_call0_call0_c_2 : Ref sig .tc := ⟨.hbm, 54, rfl⟩
abbrev main_call0_call0_call0_v14 : Ref sig .tc := ⟨.hbm, 55, rfl⟩
abbrev main_call0_call0_call0_v15 : Ref sig .tc := ⟨.hbm, 56, rfl⟩
abbrev main_call0_call0_call0_c_3 : Ref sig .tc := ⟨.hbm, 57, rfl⟩
abbrev main_call0_call0_call0_v16 : Ref sig .tc := ⟨.hbm, 58, rfl⟩
abbrev main_call0_call0_call0_v17 : Ref sig .tc := ⟨.hbm, 59, rfl⟩
abbrev main_call0_call0_call0_v18 : Ref sig .tc := ⟨.hbm, 60, rfl⟩
abbrev main_call0_call0_call0_v19 : Ref sig .tc := ⟨.hbm, 61, rfl⟩
abbrev main_call0_call0_call0_v20 : Ref sig .tc := ⟨.hbm, 62, rfl⟩
abbrev main_call0_call0_call0_c_4 : Ref sig .tc := ⟨.hbm, 63, rfl⟩
abbrev main_call0_call0_call0_v21 : Ref sig .tc := ⟨.hbm, 64, rfl⟩
abbrev main_call0_call0_call0_v22 : Ref sig .tc := ⟨.hbm, 65, rfl⟩
abbrev main_call0_call0_call0_c_5 : Ref sig .tc := ⟨.hbm, 66, rfl⟩
abbrev main_call0_call0_call0_v23 : Ref sig .tc := ⟨.hbm, 67, rfl⟩
abbrev main_call0_call0_call0_v24 : Ref sig .tc := ⟨.hbm, 68, rfl⟩
abbrev main_call0_call0_call0_v25 : Ref sig .tc := ⟨.hbm, 69, rfl⟩
abbrev main_call0_call0_call0_v26 : Ref sig .tc := ⟨.hbm, 70, rfl⟩
abbrev main_call0_call0_call0_v27 : Ref sig .tc := ⟨.hbm, 71, rfl⟩
abbrev main_call0_call0_call0_c_6 : Ref sig .tc := ⟨.hbm, 72, rfl⟩
abbrev main_call0_call0_call0_v28 : Ref sig .tc := ⟨.hbm, 73, rfl⟩
abbrev main_call0_call0_call0_v29 : Ref sig .tc := ⟨.hbm, 74, rfl⟩
abbrev main_call0_call0_call0_c_7 : Ref sig .tc := ⟨.hbm, 75, rfl⟩
abbrev main_call0_call0_call0_v30 : Ref sig .tc := ⟨.hbm, 76, rfl⟩
abbrev main_call0_call0_call0_v31 : Ref sig .tc := ⟨.hbm, 77, rfl⟩
abbrev main_call0_call0_call0_v32 : Ref sig .tc := ⟨.hbm, 78, rfl⟩
abbrev main_call0_call0_call0_v33 : Ref sig .tc := ⟨.hbm, 79, rfl⟩
abbrev main_call0_call0_call0_v34 : Ref sig .tc := ⟨.hbm, 80, rfl⟩
abbrev main_call0_call0_call0_v35 : Ref sig .tc := ⟨.hbm, 81, rfl⟩
abbrev main_call0_call0_call0_v36 : Ref sig .tc := ⟨.hbm, 82, rfl⟩
abbrev main_call0_call0_call0_v37 : Ref sig .tc := ⟨.hbm, 83, rfl⟩
abbrev main_call0_call0_call0_c_8 : Ref sig .tc := ⟨.hbm, 84, rfl⟩
abbrev main_call0_call0_call0_v38 : Ref sig .tc := ⟨.hbm, 85, rfl⟩
abbrev main_call0_call0_call0_v39 : Ref sig .tc := ⟨.hbm, 86, rfl⟩
abbrev main_call0_call0_call0_v40 : Ref sig .tc := ⟨.hbm, 87, rfl⟩
abbrev main_call0_call0_call0_c_9 : Ref sig .tc := ⟨.hbm, 88, rfl⟩
abbrev main_call0_call0_call0_v41 : Ref sig .tc := ⟨.hbm, 89, rfl⟩
abbrev main_call0_call0_call0_v42 : Ref sig .tc := ⟨.hbm, 90, rfl⟩
abbrev main_call0_call0_call0_c_10 : Ref sig .tc := ⟨.hbm, 91, rfl⟩
abbrev main_call0_call0_call0_v43 : Ref sig .tc := ⟨.hbm, 92, rfl⟩
abbrev main_call0_call0_call0_v44 : Ref sig .tc := ⟨.hbm, 93, rfl⟩
abbrev main_call0_call0_call0_v45 : Ref sig .tc := ⟨.hbm, 94, rfl⟩
abbrev main_call0_call0_call0_v46 : Ref sig .tc := ⟨.hbm, 95, rfl⟩
abbrev main_call0_call0_call0_v47 : Ref sig .tc := ⟨.hbm, 96, rfl⟩
abbrev main_call0_call0_call0_c_11 : Ref sig .tc := ⟨.hbm, 97, rfl⟩
abbrev main_call0_call0_call0_v48 : Ref sig .tc := ⟨.hbm, 98, rfl⟩
abbrev main_call0_call0_call0_v49 : Ref sig .tc := ⟨.hbm, 99, rfl⟩
abbrev main_call0_call0_call0_c_12 : Ref sig .tc := ⟨.hbm, 100, rfl⟩
abbrev main_call0_call0_call0_v50 : Ref sig .tc := ⟨.hbm, 101, rfl⟩
abbrev main_call0_call0_call0_v51 : Ref sig .tc := ⟨.hbm, 102, rfl⟩
abbrev main_call0_call0_call0_v52 : Ref sig .tc := ⟨.hbm, 103, rfl⟩
abbrev main_call0_call0_call0_v53 : Ref sig .tc := ⟨.hbm, 104, rfl⟩
abbrev main_call0_call0_call0_v54 : Ref sig .tc := ⟨.hbm, 105, rfl⟩
abbrev main_call0_call0_call0_c_13 : Ref sig .tc := ⟨.hbm, 106, rfl⟩
abbrev main_call0_call0_call0_v55 : Ref sig .tc := ⟨.hbm, 107, rfl⟩
abbrev main_call0_call0_call0_v56 : Ref sig .tc := ⟨.hbm, 108, rfl⟩
abbrev main_call0_call0_call0_c_14 : Ref sig .tc := ⟨.hbm, 109, rfl⟩
abbrev main_call0_call0_call0_v57 : Ref sig .tc := ⟨.hbm, 110, rfl⟩
abbrev main_call0_call0_call0_v58 : Ref sig .tc := ⟨.hbm, 111, rfl⟩
abbrev main_call0_call0_call0_v59 : Ref sig .tc := ⟨.hbm, 112, rfl⟩
abbrev main_call0_call0_call0_v60 : Ref sig .tc := ⟨.hbm, 113, rfl⟩
abbrev main_call0_call0_call0_v61 : Ref sig .tc := ⟨.hbm, 114, rfl⟩
abbrev main_call0_call0_call0_c_15 : Ref sig .tc := ⟨.hbm, 115, rfl⟩
abbrev main_call0_call0_call0_v62 : Ref sig .tc := ⟨.hbm, 116, rfl⟩
abbrev main_call0_call0_call0_v63 : Ref sig .tc := ⟨.hbm, 117, rfl⟩
abbrev main_call0_call0_call0_c_16 : Ref sig .tc := ⟨.hbm, 118, rfl⟩
abbrev main_call0_call0_call0_v64 : Ref sig .tc := ⟨.hbm, 119, rfl⟩
abbrev main_call0_call0_call0_v65 : Ref sig .tc := ⟨.hbm, 120, rfl⟩
abbrev main_call0_call0_call0_v66 : Ref sig .tc := ⟨.hbm, 121, rfl⟩
abbrev main_call0_call0_call0_v67 : Ref sig .tc := ⟨.hbm, 122, rfl⟩
abbrev main_call0_call0_call0_v68 : Ref sig .tc := ⟨.hbm, 123, rfl⟩
abbrev main_call0_call0_call0_v69 : Ref sig .tc := ⟨.hbm, 124, rfl⟩
abbrev main_call0_call0_call0_v70 : Ref sig .tc := ⟨.hbm, 125, rfl⟩
abbrev main_call0_call0_call0_v71 : Ref sig .tc := ⟨.hbm, 126, rfl⟩
abbrev main_call0_call0_call0_c_17 : Ref sig .tc := ⟨.hbm, 127, rfl⟩
abbrev main_call0_call0_call0_v72 : Ref sig .tc := ⟨.hbm, 128, rfl⟩
abbrev main_call0_call0_call0_v73 : Ref sig .tc := ⟨.hbm, 129, rfl⟩
abbrev main_call0_call0_call0_v74 : Ref sig .tc := ⟨.hbm, 130, rfl⟩
abbrev main_call0_call0_call0_c_18 : Ref sig .tc := ⟨.hbm, 131, rfl⟩
abbrev main_call0_call0_call0_v75 : Ref sig .tc := ⟨.hbm, 132, rfl⟩
abbrev main_call0_call0_call0_v76 : Ref sig .tc := ⟨.hbm, 133, rfl⟩
abbrev main_call0_call0_call0_c_19 : Ref sig .tc := ⟨.hbm, 134, rfl⟩
abbrev main_call0_call0_call0_v77 : Ref sig .tc := ⟨.hbm, 135, rfl⟩
abbrev main_call0_call0_call0_v78 : Ref sig .tc := ⟨.hbm, 136, rfl⟩
abbrev main_call0_call0_call0_v79 : Ref sig .tc := ⟨.hbm, 137, rfl⟩
abbrev main_call0_call0_call0_v80 : Ref sig .tc := ⟨.hbm, 138, rfl⟩
abbrev main_call0_call0_call0_v81 : Ref sig .tc := ⟨.hbm, 139, rfl⟩
abbrev main_call0_call0_call0_c_20 : Ref sig .tc := ⟨.hbm, 140, rfl⟩
abbrev main_call0_call0_call0_v82 : Ref sig .tc := ⟨.hbm, 141, rfl⟩
abbrev main_call0_call0_call0_v83 : Ref sig .tc := ⟨.hbm, 142, rfl⟩
abbrev main_call0_call0_call0_c_21 : Ref sig .tc := ⟨.hbm, 143, rfl⟩
abbrev main_call0_call0_call0_v84 : Ref sig .tc := ⟨.hbm, 144, rfl⟩
abbrev main_call0_call0_call0_v85 : Ref sig .tc := ⟨.hbm, 145, rfl⟩
abbrev main_call0_call0_call0_v86 : Ref sig .tc := ⟨.hbm, 146, rfl⟩
abbrev main_call0_call0_call0_v87 : Ref sig .tc := ⟨.hbm, 147, rfl⟩
abbrev main_call0_call0_call0_v88 : Ref sig .tc := ⟨.hbm, 148, rfl⟩
abbrev main_call0_call0_call0_c_22 : Ref sig .tc := ⟨.hbm, 149, rfl⟩
abbrev main_call0_call0_call0_v89 : Ref sig .tc := ⟨.hbm, 150, rfl⟩
abbrev main_call0_call0_call0_v90 : Ref sig .tc := ⟨.hbm, 151, rfl⟩
abbrev main_call0_call0_call0_c_23 : Ref sig .tc := ⟨.hbm, 152, rfl⟩
abbrev main_call0_call0_call0_v91 : Ref sig .tc := ⟨.hbm, 153, rfl⟩
abbrev main_call0_call0_call0_v92 : Ref sig .tc := ⟨.hbm, 154, rfl⟩
abbrev main_call0_call0_call0_v93 : Ref sig .tc := ⟨.hbm, 155, rfl⟩
abbrev main_call0_call0_call0_v94 : Ref sig .tc := ⟨.hbm, 156, rfl⟩
abbrev main_call0_call0_call0_v95 : Ref sig .tc := ⟨.hbm, 157, rfl⟩
abbrev main_call0_call0_call0_c_24 : Ref sig .tc := ⟨.hbm, 158, rfl⟩
abbrev main_call0_call0_call0_v96 : Ref sig .tc := ⟨.hbm, 159, rfl⟩
abbrev main_call0_call0_call0_v97 : Ref sig .tc := ⟨.hbm, 160, rfl⟩
abbrev main_call0_call0_call0_c_25 : Ref sig .tc := ⟨.hbm, 161, rfl⟩
abbrev main_call0_call0_call0_v98 : Ref sig .tc := ⟨.hbm, 162, rfl⟩
abbrev main_call0_call0_call0_v99 : Ref sig .tc := ⟨.hbm, 163, rfl⟩
abbrev main_call0_call0_call0_v100 : Ref sig .tc := ⟨.hbm, 164, rfl⟩
abbrev main_call0_call0_call0_v101 : Ref sig .tc := ⟨.hbm, 165, rfl⟩
abbrev main_call0_call0_call0_v102 : Ref sig .tc := ⟨.hbm, 166, rfl⟩
abbrev main_call0_call0_call0_v103 : Ref sig .tc := ⟨.hbm, 167, rfl⟩
abbrev main_call0_call0_call0_v104 : Ref sig .tc := ⟨.hbm, 168, rfl⟩
abbrev main_call0_call0_call0_v105 : Ref sig .tc := ⟨.hbm, 169, rfl⟩
abbrev main_call0_call0_call0_c_26 : Ref sig .tc := ⟨.hbm, 170, rfl⟩
abbrev main_call0_call0_call0_v106 : Ref sig .tc := ⟨.hbm, 171, rfl⟩
abbrev main_call0_call0_call0_v107 : Ref sig .tc := ⟨.hbm, 172, rfl⟩
abbrev main_call0_call0_call0_v108 : Ref sig .tc := ⟨.hbm, 173, rfl⟩
abbrev main_call0_call0_call0_c_27 : Ref sig .tc := ⟨.hbm, 174, rfl⟩
abbrev main_call0_call0_call0_v109 : Ref sig .tc := ⟨.hbm, 175, rfl⟩
abbrev main_call0_call0_call0_v110 : Ref sig .tc := ⟨.hbm, 176, rfl⟩
abbrev main_call0_call0_call0_c_28 : Ref sig .tc := ⟨.hbm, 177, rfl⟩
abbrev main_call0_call0_call0_v111 : Ref sig .tc := ⟨.hbm, 178, rfl⟩
abbrev main_call0_call0_call0_v112 : Ref sig .tc := ⟨.hbm, 179, rfl⟩
abbrev main_call0_call0_call0_v113 : Ref sig .tc := ⟨.hbm, 180, rfl⟩
abbrev main_call0_call0_call0_v114 : Ref sig .tc := ⟨.hbm, 181, rfl⟩
abbrev main_call0_call0_call0_v115 : Ref sig .tc := ⟨.hbm, 182, rfl⟩
abbrev main_call0_call0_call0_c_29 : Ref sig .tc := ⟨.hbm, 183, rfl⟩
abbrev main_call0_call0_call0_v116 : Ref sig .tc := ⟨.hbm, 184, rfl⟩
abbrev main_call0_call0_call0_v117 : Ref sig .tc := ⟨.hbm, 185, rfl⟩
abbrev main_call0_call0_call0_c_30 : Ref sig .tc := ⟨.hbm, 186, rfl⟩
abbrev main_call0_call0_call0_v118 : Ref sig .tc := ⟨.hbm, 187, rfl⟩
abbrev main_call0_call0_call0_v119 : Ref sig .tc := ⟨.hbm, 188, rfl⟩
abbrev main_call0_call0_call0_v120 : Ref sig .tc := ⟨.hbm, 189, rfl⟩
abbrev main_call0_call0_call0_v121 : Ref sig .tc := ⟨.hbm, 190, rfl⟩
abbrev main_call0_call0_call0_v122 : Ref sig .tc := ⟨.hbm, 191, rfl⟩
abbrev main_call0_call0_call0_c_31 : Ref sig .tc := ⟨.hbm, 192, rfl⟩
abbrev main_call0_call0_call0_v123 : Ref sig .tc := ⟨.hbm, 193, rfl⟩
abbrev main_call0_call0_call0_v124 : Ref sig .tc := ⟨.hbm, 194, rfl⟩
abbrev main_call0_call0_call0_c_32 : Ref sig .tc := ⟨.hbm, 195, rfl⟩
abbrev main_call0_call0_call0_v125 : Ref sig .tc := ⟨.hbm, 196, rfl⟩
abbrev main_call0_call0_call0_v126 : Ref sig .tc := ⟨.hbm, 197, rfl⟩
abbrev main_call0_call0_call0_v127 : Ref sig .tc := ⟨.hbm, 198, rfl⟩
abbrev main_call0_call0_call0_v128 : Ref sig .tc := ⟨.hbm, 199, rfl⟩
abbrev main_call0_call0_call0_v129 : Ref sig .tc := ⟨.hbm, 200, rfl⟩
abbrev main_call0_call0_call0_c_33 : Ref sig .tc := ⟨.hbm, 201, rfl⟩
abbrev main_call0_call0_call0_v130 : Ref sig .tc := ⟨.hbm, 202, rfl⟩
abbrev main_call0_call0_call0_v131 : Ref sig .tc := ⟨.hbm, 203, rfl⟩
abbrev main_call0_call0_call0_c_34 : Ref sig .tc := ⟨.hbm, 204, rfl⟩
abbrev main_call0_call0_call0_v132 : Ref sig .tc := ⟨.hbm, 205, rfl⟩
abbrev main_call0_call0_call0_v133 : Ref sig .tc := ⟨.hbm, 206, rfl⟩
abbrev main_call0_call0_call0_v134 : Ref sig .tc := ⟨.hbm, 207, rfl⟩
abbrev main_call0_call0_call0_v135 : Ref sig .tc := ⟨.hbm, 208, rfl⟩
abbrev main_call0_call0_call0_v136 : Ref sig .tc := ⟨.hbm, 209, rfl⟩
abbrev main_call0_call0_call0_v137 : Ref sig .tc := ⟨.hbm, 210, rfl⟩
abbrev main_call0_call0_call0_v138 : Ref sig .tc := ⟨.hbm, 211, rfl⟩
abbrev main_call0_call0_call0_v139 : Ref sig .tc := ⟨.hbm, 212, rfl⟩
abbrev main_call0_call0_call0_c_35 : Ref sig .tc := ⟨.hbm, 213, rfl⟩
abbrev main_call0_call0_call0_v140 : Ref sig .tc := ⟨.hbm, 214, rfl⟩
abbrev main_call0_call0_call0_v141 : Ref sig .tc := ⟨.hbm, 215, rfl⟩
abbrev main_call0_call0_call0_v142 : Ref sig .tc := ⟨.hbm, 216, rfl⟩
abbrev main_call0_call0_call0_c_36 : Ref sig .tc := ⟨.hbm, 217, rfl⟩
abbrev main_call0_call0_call0_v143 : Ref sig .tc := ⟨.hbm, 218, rfl⟩
abbrev main_call0_call0_call0_v144 : Ref sig .tc := ⟨.hbm, 219, rfl⟩
abbrev main_call0_call0_call0_c_37 : Ref sig .tc := ⟨.hbm, 220, rfl⟩
abbrev main_call0_call0_call0_v145 : Ref sig .tc := ⟨.hbm, 221, rfl⟩
abbrev main_call0_call0_call0_v146 : Ref sig .tc := ⟨.hbm, 222, rfl⟩
abbrev main_call0_call0_call0_v147 : Ref sig .tc := ⟨.hbm, 223, rfl⟩
abbrev main_call0_call0_call0_v148 : Ref sig .tc := ⟨.hbm, 224, rfl⟩
abbrev main_call0_call0_call0_v149 : Ref sig .tc := ⟨.hbm, 225, rfl⟩
abbrev main_call0_call0_call0_c_38 : Ref sig .tc := ⟨.hbm, 226, rfl⟩
abbrev main_call0_call0_call0_v150 : Ref sig .tc := ⟨.hbm, 227, rfl⟩
abbrev main_call0_call0_call0_v151 : Ref sig .tc := ⟨.hbm, 228, rfl⟩
abbrev main_call0_call0_call0_c_39 : Ref sig .tc := ⟨.hbm, 229, rfl⟩
abbrev main_call0_call0_call0_v152 : Ref sig .tc := ⟨.hbm, 230, rfl⟩
abbrev main_call0_call0_call0_v153 : Ref sig .tc := ⟨.hbm, 231, rfl⟩
abbrev main_call0_call0_call0_v154 : Ref sig .tc := ⟨.hbm, 232, rfl⟩
abbrev main_call0_call0_call0_v155 : Ref sig .tc := ⟨.hbm, 233, rfl⟩
abbrev main_call0_call0_call0_v156 : Ref sig .tc := ⟨.hbm, 234, rfl⟩
abbrev main_call0_call0_call0_c_40 : Ref sig .tc := ⟨.hbm, 235, rfl⟩
abbrev main_call0_call0_call0_v157 : Ref sig .tc := ⟨.hbm, 236, rfl⟩
abbrev main_call0_call0_call0_v158 : Ref sig .tc := ⟨.hbm, 237, rfl⟩
abbrev main_call0_call0_call0_c_41 : Ref sig .tc := ⟨.hbm, 238, rfl⟩
abbrev main_call0_call0_call0_v159 : Ref sig .tc := ⟨.hbm, 239, rfl⟩
abbrev main_call0_call0_call0_v160 : Ref sig .tc := ⟨.hbm, 240, rfl⟩
abbrev main_call0_call0_call0_v161 : Ref sig .tc := ⟨.hbm, 241, rfl⟩
abbrev main_call0_call0_call0_v162 : Ref sig .tc := ⟨.hbm, 242, rfl⟩
abbrev main_call0_call0_call0_v163 : Ref sig .tc := ⟨.hbm, 243, rfl⟩
abbrev main_call0_call0_call0_c_42 : Ref sig .tc := ⟨.hbm, 244, rfl⟩
abbrev main_call0_call0_call0_v164 : Ref sig .tc := ⟨.hbm, 245, rfl⟩
abbrev main_call0_call0_call0_v165 : Ref sig .tc := ⟨.hbm, 246, rfl⟩
abbrev main_call0_call0_call0_c_43 : Ref sig .tc := ⟨.hbm, 247, rfl⟩
abbrev main_call0_call0_call0_v166 : Ref sig .tc := ⟨.hbm, 248, rfl⟩
abbrev main_call0_call0_call0_v167 : Ref sig .tc := ⟨.hbm, 249, rfl⟩
abbrev main_call0_call0_call0_v168 : Ref sig .tc := ⟨.hbm, 250, rfl⟩
abbrev main_call0_call0_call0_v169 : Ref sig .tc := ⟨.hbm, 251, rfl⟩
abbrev main_call0_call0_call0_v170 : Ref sig .tc := ⟨.hbm, 252, rfl⟩
abbrev main_call0_call0_v18_0 : Ref sig .tc := ⟨.hbm, 253, rfl⟩
abbrev main_call0_call0_call0_v172 : Ref sig .tc := ⟨.hbm, 254, rfl⟩
abbrev main_call0_call0_call0_v173 : Ref sig .tc := ⟨.hbm, 255, rfl⟩
abbrev main_call0_call0_call0_c_44 : Ref sig .tc := ⟨.hbm, 256, rfl⟩
abbrev main_call0_call0_call0_v174 : Ref sig .tc := ⟨.hbm, 257, rfl⟩
abbrev main_call0_call0_v18_1 : Ref sig .tc := ⟨.hbm, 258, rfl⟩
abbrev main_call0_call0_v19 : Ref sig .tc := ⟨.hbm, 259, rfl⟩
abbrev main_call0_call0_c_2 : Ref sig .tc := ⟨.hbm, 260, rfl⟩
abbrev main_call0_call0_v20 : Ref sig .tc := ⟨.hbm, 261, rfl⟩
abbrev main_call0_call0_v21 : Ref sig .tc := ⟨.hbm, 262, rfl⟩
abbrev main_call0_call0_c_3 : Ref sig .tc := ⟨.hbm, 263, rfl⟩
abbrev main_call0_call0_v22 : Ref sig .tc := ⟨.hbm, 264, rfl⟩
abbrev main_call0_call0_v23 : Ref sig .tc := ⟨.hbm, 265, rfl⟩
abbrev main_call0_call0_v24 : Ref sig .tc := ⟨.hbm, 266, rfl⟩
abbrev main_call0_call0_cst : Ref sig .tc := ⟨.hbm, 267, rfl⟩
abbrev main_call0_call0_v25 : Ref sig .tc := ⟨.hbm, 268, rfl⟩
abbrev main_call0_call0_v26 : Ref sig .tc := ⟨.hbm, 269, rfl⟩
abbrev main_call0_call0_v27 : Ref sig .tc := ⟨.hbm, 270, rfl⟩
abbrev main_call0_call0_v28 : Ref sig .tc := ⟨.hbm, 271, rfl⟩
abbrev main_call0_call0_v29 : Ref sig .tc := ⟨.hbm, 272, rfl⟩
abbrev main_call0_call0_v30 : Ref sig .tc := ⟨.hbm, 273, rfl⟩
abbrev main_call0_call0_v31 : Ref sig .tc := ⟨.hbm, 274, rfl⟩
abbrev main_call0_call0_v32 : Ref sig .tc := ⟨.hbm, 275, rfl⟩
abbrev main_call0_v0 : Ref sig .tc := ⟨.hbm, 276, rfl⟩
abbrev main_call0_v1 : Ref sig .tc := ⟨.hbm, 277, rfl⟩
abbrev main_call0_v2 : Ref sig .tc := ⟨.hbm, 278, rfl⟩
abbrev main_call0_v3 : Ref sig .tc := ⟨.hbm, 279, rfl⟩
abbrev main_v7 : Ref sig .tc := ⟨.hbm, 280, rfl⟩
abbrev main_v8 : Ref sig .tc := ⟨.hbm, 281, rfl⟩
abbrev main_v9 : Ref sig .tc := ⟨.hbm, 282, rfl⟩
abbrev main_v10_0 : Ref sig .tc := ⟨.hbm, 283, rfl⟩
abbrev main_v10_1 : Ref sig .tc := ⟨.hbm, 284, rfl⟩
abbrev main_v11 : Ref sig .tc := ⟨.hbm, 285, rfl⟩
abbrev main_v12_0 : Ref sig .tc := ⟨.hbm, 286, rfl⟩
abbrev main_v12_1 : Ref sig .tc := ⟨.hbm, 287, rfl⟩
abbrev main_v13 : Ref sig .tc := ⟨.hbm, 288, rfl⟩
abbrev main_v14 : Ref sig .tc := ⟨.hbm, 289, rfl⟩
abbrev main_v10_1_scv : Ref sig .scVector := ⟨.hbm, 284, rfl⟩
abbrev main_v10_0_scv : Ref sig .scVector := ⟨.hbm, 283, rfl⟩
abbrev main_v11_scv : Ref sig .scVector := ⟨.hbm, 285, rfl⟩
abbrev main_v12_0_scv : Ref sig .scVector := ⟨.hbm, 286, rfl⟩
abbrev main_v12_1_scv : Ref sig .scVector := ⟨.hbm, 287, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc1_scratch12 : Ref sig .scVector := ⟨.vmem, 12, rfl⟩
abbrev cc1_scratch13 : Ref sig .scVector := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc2_sem0_0 : DmaSem sig := 22
abbrev cc2_sem0_1 : DmaSem sig := 23
abbrev cc2_sem1_0 : DmaSem sig := 24
abbrev cc2_sem1_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![16, 8], ![false, false]⟩

def k0_off1 (i : grid0.Coords) : Fin 2 → Nat :=
  let c0_25 : Index := 0#32
  let arg1 : BitVec 32 := BitVec.ofNat 32 (i 1).val
  let c1024_i32 : BitVec 32 := 1024#32
  let v35 : BitVec 32 := Scalar.muli arg1 c1024_i32
  let v36 : Index := Scalar.indexCast v35
  ![0, v36.toNat]
def k0_cond1 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32 : BitVec 32 := 0#32
  let v42 : BitVec 1 := Scalar.cmpi .ne v41 c0_i32
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x8192 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x8192 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 16], ![false, false]⟩

@[reducible] def k1_t1_loop : Scf.Loop 32 :=
  let c0_i32_0 : BitVec 32 := 0#32
  let c2_i32_1 : BitVec 32 := 2#32
  let v3 : BitVec 32 := Scalar.addi c0_i32_0 c2_i32_1
  let c1_i32_2 : BitVec 32 := 1#32
  ⟨c0_i32_0, v3, c1_i32_2⟩
def k1_off1 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.muli v1 c4_i32
  let c2_i32_4 : BitVec 32 := 2#32
  let c0_i32_0 : BitVec 32 := 0#32
  let c1_i32_2 : BitVec 32 := 1#32
  let arg21 : BitVec 32 := Scf.iv c0_i32_0 c1_i32_2 k1_t1
  let v6 : BitVec 32 := Scalar.muli c2_i32_4 arg21
  let v7 : BitVec 32 := Scalar.addi v5 v6
  let c0_i32_754_r0 : BitVec 32 := 0#32
  ![v7.toNat, 0]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.muli v1 c4_i32
  let c2_i32_4 : BitVec 32 := 2#32
  let c0_i32_0 : BitVec 32 := 0#32
  let c1_i32_2 : BitVec 32 := 1#32
  let arg21 : BitVec 32 := Scf.iv c0_i32_0 c1_i32_2 k1_t1
  let v6 : BitVec 32 := Scalar.muli c2_i32_4 arg21
  let v7 : BitVec 32 := Scalar.addi v5 v6
  let c1_i32_5 : BitVec 32 := 1#32
  let v8 : BitVec 32 := Scalar.addi v7 c1_i32_5
  let c0_i32_754_r1 : BitVec 32 := 0#32
  ![v8.toNat, 0]
@[reducible] def k1_t2_loop : Scf.Loop 32 :=
  let c0_i32_39 : BitVec 32 := 0#32
  let c512_i32 : BitVec 32 := 512#32
  let v57 : BitVec 32 := Scalar.addi c0_i32_39 c512_i32
  let c1_i32_40 : BitVec 32 := 1#32
  ⟨c0_i32_39, v57, c1_i32_40⟩
def k1_off3 (k1_t2 : Fin k1_t2_loop.trips) : Fin 1 → Nat :=
  let c0_i32_39 : BitVec 32 := 0#32
  let c1_i32_40 : BitVec 32 := 1#32
  let arg23 : BitVec 32 := Scf.iv c0_i32_39 c1_i32_40 k1_t2
  let c16_i32 : BitVec 32 := 16#32
  let v1627 : BitVec 32 := Scalar.muli arg23 c16_i32
  let v1628 : Index := Scalar.indexCast v1627
  ![v1628.toNat]

def k1_chk1 (v1636 : IVec S16 32) : Prop :=
  (∀ a x, ((![v1636] : Fin 1 → IVec S16 32) a x).toNat < S256.size a)
theorem k1_idx1_inb : ∀ (v1636 : IVec S16 32) (k1_hw1 : k1_chk1 v1636), ∀ a x, ((![v1636] : Fin 1 → IVec S16 32) a x).toNat < S256.size a := fun v1636 k1_hw1 => k1_hw1

def k1_chk2 (v1640 : IVec S16 32) : Prop :=
  (∀ a x, ((![v1640] : Fin 1 → IVec S16 32) a x).toNat < S256.size a)
theorem k1_idx2_inb : ∀ (v1640 : IVec S16 32) (k1_hw2 : k1_chk2 v1640), ∀ a x, ((![v1640] : Fin 1 → IVec S16 32) a x).toNat < S256.size a := fun v1640 k1_hw2 => k1_hw2
@[reducible] def k1_t3_loop : Scf.Loop 32 :=
  let c0_i32_174 : BitVec 32 := 0#32
  let c512_i32_175 : BitVec 32 := 512#32
  let v411 : BitVec 32 := Scalar.addi c0_i32_174 c512_i32_175
  let c1_i32_176 : BitVec 32 := 1#32
  ⟨c0_i32_174, v411, c1_i32_176⟩
def k1_off4 (k1_t3 : Fin k1_t3_loop.trips) : Fin 1 → Nat :=
  let c0_i32_174 : BitVec 32 := 0#32
  let c1_i32_176 : BitVec 32 := 1#32
  let arg23 : BitVec 32 := Scf.iv c0_i32_174 c1_i32_176 k1_t3
  let c16_i32 : BitVec 32 := 16#32
  let v1627 : BitVec 32 := Scalar.muli arg23 c16_i32
  let v1628 : Index := Scalar.indexCast v1627
  ![v1628.toNat]

def k1_chk5 (v1653 : IVec S16 32) : Prop :=
  (∀ a x, ((![v1653] : Fin 1 → IVec S16 32) a x).toNat < S8192.size a) ∧
  (∀ a x, ((![v1653] : Fin 1 → IVec S16 32) a x).toNat < S8192.size a)
theorem k1_idx5_inb : ∀ (v1653 : IVec S16 32) (k1_hw5 : k1_chk5 v1653), ∀ a x, ((![v1653] : Fin 1 → IVec S16 32) a x).toNat < S8192.size a := fun v1653 k1_hw5 => k1_hw5.1
theorem k1_idx6_inb : ∀ (v1653 : IVec S16 32) (k1_hw5 : k1_chk5 v1653), ∀ a x, ((![v1653] : Fin 1 → IVec S16 32) a x).toNat < S8192.size a := fun v1653 k1_hw5 => k1_hw5.2

def k1_chk6 (v1656 : IVec S16 32) : Prop :=
  (∀ a x, ((![v1656] : Fin 1 → IVec S16 32) a x).toNat < S8192.size a) ∧
  (∀ a x, ((![v1656] : Fin 1 → IVec S16 32) a x).toNat < S8192.size a)
theorem k1_idx7_inb : ∀ (v1656 : IVec S16 32) (k1_hw6 : k1_chk6 v1656), ∀ a x, ((![v1656] : Fin 1 → IVec S16 32) a x).toNat < S8192.size a := fun v1656 k1_hw6 => k1_hw6.1
theorem k1_idx8_inb : ∀ (v1656 : IVec S16 32) (k1_hw6 : k1_chk6 v1656), ∀ a x, ((![v1656] : Fin 1 → IVec S16 32) a x).toNat < S8192.size a := fun v1656 k1_hw6 => k1_hw6.2

def k1_chk3 (v1642 : IVec S16 32) : Prop :=
  (∀ a x, ((![v1642] : Fin 1 → IVec S16 32) a x).toNat < S256.size a) ∧
  (∀ a x, ((![v1642] : Fin 1 → IVec S16 32) a x).toNat < S256.size a)
theorem k1_idx3_inb : ∀ (v1642 : IVec S16 32) (k1_hw3 : k1_chk3 v1642), ∀ a x, ((![v1642] : Fin 1 → IVec S16 32) a x).toNat < S256.size a := fun v1642 k1_hw3 => k1_hw3.1
theorem k1_idx9_inb : ∀ (v1642 : IVec S16 32) (k1_hw3 : k1_chk3 v1642), ∀ a x, ((![v1642] : Fin 1 → IVec S16 32) a x).toNat < S256.size a := fun v1642 k1_hw3 => k1_hw3.2

def k1_chk4 (v1646 : IVec S16 32) : Prop :=
  (∀ a x, ((![v1646] : Fin 1 → IVec S16 32) a x).toNat < S256.size a) ∧
  (∀ a x, ((![v1646] : Fin 1 → IVec S16 32) a x).toNat < S256.size a)
theorem k1_idx4_inb : ∀ (v1646 : IVec S16 32) (k1_hw4 : k1_chk4 v1646), ∀ a x, ((![v1646] : Fin 1 → IVec S16 32) a x).toNat < S256.size a := fun v1646 k1_hw4 => k1_hw4.1
theorem k1_idx10_inb : ∀ (v1646 : IVec S16 32) (k1_hw4 : k1_chk4 v1646), ∀ a x, ((![v1646] : Fin 1 → IVec S16 32) a x).toNat < S256.size a := fun v1646 k1_hw4 => k1_hw4.2
@[reducible] def k1_t4_loop : Scf.Loop 32 :=
  let c0_i32_227 : BitVec 32 := 0#32
  let c512_i32_228 : BitVec 32 := 512#32
  let v461 : BitVec 32 := Scalar.addi c0_i32_227 c512_i32_228
  let c1_i32_229 : BitVec 32 := 1#32
  ⟨c0_i32_227, v461, c1_i32_229⟩
def k1_off5 (k1_t4 : Fin k1_t4_loop.trips) : Fin 1 → Nat :=
  let c0_i32_227 : BitVec 32 := 0#32
  let c1_i32_229 : BitVec 32 := 1#32
  let arg23 : BitVec 32 := Scf.iv c0_i32_227 c1_i32_229 k1_t4
  let c16_i32 : BitVec 32 := 16#32
  let v1627 : BitVec 32 := Scalar.muli arg23 c16_i32
  let v1628 : Index := Scalar.indexCast v1627
  ![v1628.toNat]

def k1_chk7 (v1636 : IVec S16 32) : Prop :=
  (∀ a x, ((![v1636] : Fin 1 → IVec S16 32) a x).toNat < S256.size a)
theorem k1_idx11_inb : ∀ (v1636 : IVec S16 32) (k1_hw7 : k1_chk7 v1636), ∀ a x, ((![v1636] : Fin 1 → IVec S16 32) a x).toNat < S256.size a := fun v1636 k1_hw7 => k1_hw7

def k1_chk8 (v1640 : IVec S16 32) : Prop :=
  (∀ a x, ((![v1640] : Fin 1 → IVec S16 32) a x).toNat < S256.size a)
theorem k1_idx12_inb : ∀ (v1640 : IVec S16 32) (k1_hw8 : k1_chk8 v1640), ∀ a x, ((![v1640] : Fin 1 → IVec S16 32) a x).toNat < S256.size a := fun v1640 k1_hw8 => k1_hw8
@[reducible] def k1_t5_loop : Scf.Loop 32 :=
  let c0_i32_364 : BitVec 32 := 0#32
  let c512_i32_365 : BitVec 32 := 512#32
  let v815 : BitVec 32 := Scalar.addi c0_i32_364 c512_i32_365
  let c1_i32_366 : BitVec 32 := 1#32
  ⟨c0_i32_364, v815, c1_i32_366⟩
def k1_off6 (k1_t5 : Fin k1_t5_loop.trips) : Fin 1 → Nat :=
  let c0_i32_364 : BitVec 32 := 0#32
  let c1_i32_366 : BitVec 32 := 1#32
  let arg23 : BitVec 32 := Scf.iv c0_i32_364 c1_i32_366 k1_t5
  let c16_i32 : BitVec 32 := 16#32
  let v1627 : BitVec 32 := Scalar.muli arg23 c16_i32
  let v1628 : Index := Scalar.indexCast v1627
  ![v1628.toNat]

def k1_chk11 (v1653 : IVec S16 32) : Prop :=
  (∀ a x, ((![v1653] : Fin 1 → IVec S16 32) a x).toNat < S8192.size a) ∧
  (∀ a x, ((![v1653] : Fin 1 → IVec S16 32) a x).toNat < S8192.size a)
theorem k1_idx15_inb : ∀ (v1653 : IVec S16 32) (k1_hw11 : k1_chk11 v1653), ∀ a x, ((![v1653] : Fin 1 → IVec S16 32) a x).toNat < S8192.size a := fun v1653 k1_hw11 => k1_hw11.1
theorem k1_idx16_inb : ∀ (v1653 : IVec S16 32) (k1_hw11 : k1_chk11 v1653), ∀ a x, ((![v1653] : Fin 1 → IVec S16 32) a x).toNat < S8192.size a := fun v1653 k1_hw11 => k1_hw11.2

def k1_chk12 (v1656 : IVec S16 32) : Prop :=
  (∀ a x, ((![v1656] : Fin 1 → IVec S16 32) a x).toNat < S8192.size a) ∧
  (∀ a x, ((![v1656] : Fin 1 → IVec S16 32) a x).toNat < S8192.size a)
theorem k1_idx17_inb : ∀ (v1656 : IVec S16 32) (k1_hw12 : k1_chk12 v1656), ∀ a x, ((![v1656] : Fin 1 → IVec S16 32) a x).toNat < S8192.size a := fun v1656 k1_hw12 => k1_hw12.1
theorem k1_idx18_inb : ∀ (v1656 : IVec S16 32) (k1_hw12 : k1_chk12 v1656), ∀ a x, ((![v1656] : Fin 1 → IVec S16 32) a x).toNat < S8192.size a := fun v1656 k1_hw12 => k1_hw12.2

def k1_chk9 (v1642 : IVec S16 32) : Prop :=
  (∀ a x, ((![v1642] : Fin 1 → IVec S16 32) a x).toNat < S256.size a) ∧
  (∀ a x, ((![v1642] : Fin 1 → IVec S16 32) a x).toNat < S256.size a)
theorem k1_idx13_inb : ∀ (v1642 : IVec S16 32) (k1_hw9 : k1_chk9 v1642), ∀ a x, ((![v1642] : Fin 1 → IVec S16 32) a x).toNat < S256.size a := fun v1642 k1_hw9 => k1_hw9.1
theorem k1_idx19_inb : ∀ (v1642 : IVec S16 32) (k1_hw9 : k1_chk9 v1642), ∀ a x, ((![v1642] : Fin 1 → IVec S16 32) a x).toNat < S256.size a := fun v1642 k1_hw9 => k1_hw9.2

def k1_chk10 (v1646 : IVec S16 32) : Prop :=
  (∀ a x, ((![v1646] : Fin 1 → IVec S16 32) a x).toNat < S256.size a) ∧
  (∀ a x, ((![v1646] : Fin 1 → IVec S16 32) a x).toNat < S256.size a)
theorem k1_idx14_inb : ∀ (v1646 : IVec S16 32) (k1_hw10 : k1_chk10 v1646), ∀ a x, ((![v1646] : Fin 1 → IVec S16 32) a x).toNat < S256.size a := fun v1646 k1_hw10 => k1_hw10.1
theorem k1_idx20_inb : ∀ (v1646 : IVec S16 32) (k1_hw10 : k1_chk10 v1646), ∀ a x, ((![v1646] : Fin 1 → IVec S16 32) a x).toNat < S256.size a := fun v1646 k1_hw10 => k1_hw10.2
@[reducible] def k1_t6_loop : Scf.Loop 32 :=
  let c0_i32_417 : BitVec 32 := 0#32
  let c512_i32_418 : BitVec 32 := 512#32
  let v865 : BitVec 32 := Scalar.addi c0_i32_417 c512_i32_418
  let c1_i32_419 : BitVec 32 := 1#32
  ⟨c0_i32_417, v865, c1_i32_419⟩
def k1_off7 (k1_t6 : Fin k1_t6_loop.trips) : Fin 1 → Nat :=
  let c0_i32_417 : BitVec 32 := 0#32
  let c1_i32_419 : BitVec 32 := 1#32
  let arg23 : BitVec 32 := Scf.iv c0_i32_417 c1_i32_419 k1_t6
  let c16_i32 : BitVec 32 := 16#32
  let v1627 : BitVec 32 := Scalar.muli arg23 c16_i32
  let v1628 : Index := Scalar.indexCast v1627
  ![v1628.toNat]

def k1_chk13 (v1636 : IVec S16 32) : Prop :=
  (∀ a x, ((![v1636] : Fin 1 → IVec S16 32) a x).toNat < S256.size a)
theorem k1_idx21_inb : ∀ (v1636 : IVec S16 32) (k1_hw13 : k1_chk13 v1636), ∀ a x, ((![v1636] : Fin 1 → IVec S16 32) a x).toNat < S256.size a := fun v1636 k1_hw13 => k1_hw13

def k1_chk14 (v1640 : IVec S16 32) : Prop :=
  (∀ a x, ((![v1640] : Fin 1 → IVec S16 32) a x).toNat < S256.size a)
theorem k1_idx22_inb : ∀ (v1640 : IVec S16 32) (k1_hw14 : k1_chk14 v1640), ∀ a x, ((![v1640] : Fin 1 → IVec S16 32) a x).toNat < S256.size a := fun v1640 k1_hw14 => k1_hw14
@[reducible] def k1_t7_loop : Scf.Loop 32 :=
  let c0_i32_554 : BitVec 32 := 0#32
  let c512_i32_555 : BitVec 32 := 512#32
  let v1219 : BitVec 32 := Scalar.addi c0_i32_554 c512_i32_555
  let c1_i32_556 : BitVec 32 := 1#32
  ⟨c0_i32_554, v1219, c1_i32_556⟩
def k1_off8 (k1_t7 : Fin k1_t7_loop.trips) : Fin 1 → Nat :=
  let c0_i32_554 : BitVec 32 := 0#32
  let c1_i32_556 : BitVec 32 := 1#32
  let arg23 : BitVec 32 := Scf.iv c0_i32_554 c1_i32_556 k1_t7
  let c16_i32 : BitVec 32 := 16#32
  let v1627 : BitVec 32 := Scalar.muli arg23 c16_i32
  let v1628 : Index := Scalar.indexCast v1627
  ![v1628.toNat]

def k1_chk17 (v1653 : IVec S16 32) : Prop :=
  (∀ a x, ((![v1653] : Fin 1 → IVec S16 32) a x).toNat < S8192.size a) ∧
  (∀ a x, ((![v1653] : Fin 1 → IVec S16 32) a x).toNat < S8192.size a)
theorem k1_idx25_inb : ∀ (v1653 : IVec S16 32) (k1_hw17 : k1_chk17 v1653), ∀ a x, ((![v1653] : Fin 1 → IVec S16 32) a x).toNat < S8192.size a := fun v1653 k1_hw17 => k1_hw17.1
theorem k1_idx26_inb : ∀ (v1653 : IVec S16 32) (k1_hw17 : k1_chk17 v1653), ∀ a x, ((![v1653] : Fin 1 → IVec S16 32) a x).toNat < S8192.size a := fun v1653 k1_hw17 => k1_hw17.2

def k1_chk18 (v1656 : IVec S16 32) : Prop :=
  (∀ a x, ((![v1656] : Fin 1 → IVec S16 32) a x).toNat < S8192.size a) ∧
  (∀ a x, ((![v1656] : Fin 1 → IVec S16 32) a x).toNat < S8192.size a)
theorem k1_idx27_inb : ∀ (v1656 : IVec S16 32) (k1_hw18 : k1_chk18 v1656), ∀ a x, ((![v1656] : Fin 1 → IVec S16 32) a x).toNat < S8192.size a := fun v1656 k1_hw18 => k1_hw18.1
theorem k1_idx28_inb : ∀ (v1656 : IVec S16 32) (k1_hw18 : k1_chk18 v1656), ∀ a x, ((![v1656] : Fin 1 → IVec S16 32) a x).toNat < S8192.size a := fun v1656 k1_hw18 => k1_hw18.2

def k1_chk15 (v1642 : IVec S16 32) : Prop :=
  (∀ a x, ((![v1642] : Fin 1 → IVec S16 32) a x).toNat < S256.size a) ∧
  (∀ a x, ((![v1642] : Fin 1 → IVec S16 32) a x).toNat < S256.size a)
theorem k1_idx23_inb : ∀ (v1642 : IVec S16 32) (k1_hw15 : k1_chk15 v1642), ∀ a x, ((![v1642] : Fin 1 → IVec S16 32) a x).toNat < S256.size a := fun v1642 k1_hw15 => k1_hw15.1
theorem k1_idx29_inb : ∀ (v1642 : IVec S16 32) (k1_hw15 : k1_chk15 v1642), ∀ a x, ((![v1642] : Fin 1 → IVec S16 32) a x).toNat < S256.size a := fun v1642 k1_hw15 => k1_hw15.2

def k1_chk16 (v1646 : IVec S16 32) : Prop :=
  (∀ a x, ((![v1646] : Fin 1 → IVec S16 32) a x).toNat < S256.size a) ∧
  (∀ a x, ((![v1646] : Fin 1 → IVec S16 32) a x).toNat < S256.size a)
theorem k1_idx24_inb : ∀ (v1646 : IVec S16 32) (k1_hw16 : k1_chk16 v1646), ∀ a x, ((![v1646] : Fin 1 → IVec S16 32) a x).toNat < S256.size a := fun v1646 k1_hw16 => k1_hw16.1
theorem k1_idx30_inb : ∀ (v1646 : IVec S16 32) (k1_hw16 : k1_chk16 v1646), ∀ a x, ((![v1646] : Fin 1 → IVec S16 32) a x).toNat < S256.size a := fun v1646 k1_hw16 => k1_hw16.2
@[reducible] def k1_t8_loop : Scf.Loop 32 :=
  let c0_i32_607 : BitVec 32 := 0#32
  let c512_i32_608 : BitVec 32 := 512#32
  let v1269 : BitVec 32 := Scalar.addi c0_i32_607 c512_i32_608
  let c1_i32_609 : BitVec 32 := 1#32
  ⟨c0_i32_607, v1269, c1_i32_609⟩
def k1_off9 (k1_t8 : Fin k1_t8_loop.trips) : Fin 1 → Nat :=
  let c0_i32_607 : BitVec 32 := 0#32
  let c1_i32_609 : BitVec 32 := 1#32
  let arg23 : BitVec 32 := Scf.iv c0_i32_607 c1_i32_609 k1_t8
  let c16_i32 : BitVec 32 := 16#32
  let v1627 : BitVec 32 := Scalar.muli arg23 c16_i32
  let v1628 : Index := Scalar.indexCast v1627
  ![v1628.toNat]

def k1_chk19 (v1636 : IVec S16 32) : Prop :=
  (∀ a x, ((![v1636] : Fin 1 → IVec S16 32) a x).toNat < S256.size a)
theorem k1_idx31_inb : ∀ (v1636 : IVec S16 32) (k1_hw19 : k1_chk19 v1636), ∀ a x, ((![v1636] : Fin 1 → IVec S16 32) a x).toNat < S256.size a := fun v1636 k1_hw19 => k1_hw19

def k1_chk20 (v1640 : IVec S16 32) : Prop :=
  (∀ a x, ((![v1640] : Fin 1 → IVec S16 32) a x).toNat < S256.size a)
theorem k1_idx32_inb : ∀ (v1640 : IVec S16 32) (k1_hw20 : k1_chk20 v1640), ∀ a x, ((![v1640] : Fin 1 → IVec S16 32) a x).toNat < S256.size a := fun v1640 k1_hw20 => k1_hw20
@[reducible] def k1_t9_loop : Scf.Loop 32 :=
  let c0_i32_744 : BitVec 32 := 0#32
  let c512_i32_745 : BitVec 32 := 512#32
  let v1623 : BitVec 32 := Scalar.addi c0_i32_744 c512_i32_745
  let c1_i32_746 : BitVec 32 := 1#32
  ⟨c0_i32_744, v1623, c1_i32_746⟩
def k1_off10 (k1_t9 : Fin k1_t9_loop.trips) : Fin 1 → Nat :=
  let c0_i32_744 : BitVec 32 := 0#32
  let c1_i32_746 : BitVec 32 := 1#32
  let arg23 : BitVec 32 := Scf.iv c0_i32_744 c1_i32_746 k1_t9
  let c16_i32 : BitVec 32 := 16#32
  let v1627 : BitVec 32 := Scalar.muli arg23 c16_i32
  let v1628 : Index := Scalar.indexCast v1627
  ![v1628.toNat]

def k1_chk23 (v1653 : IVec S16 32) : Prop :=
  (∀ a x, ((![v1653] : Fin 1 → IVec S16 32) a x).toNat < S8192.size a) ∧
  (∀ a x, ((![v1653] : Fin 1 → IVec S16 32) a x).toNat < S8192.size a)
theorem k1_idx35_inb : ∀ (v1653 : IVec S16 32) (k1_hw23 : k1_chk23 v1653), ∀ a x, ((![v1653] : Fin 1 → IVec S16 32) a x).toNat < S8192.size a := fun v1653 k1_hw23 => k1_hw23.1
theorem k1_idx36_inb : ∀ (v1653 : IVec S16 32) (k1_hw23 : k1_chk23 v1653), ∀ a x, ((![v1653] : Fin 1 → IVec S16 32) a x).toNat < S8192.size a := fun v1653 k1_hw23 => k1_hw23.2

def k1_chk24 (v1656 : IVec S16 32) : Prop :=
  (∀ a x, ((![v1656] : Fin 1 → IVec S16 32) a x).toNat < S8192.size a) ∧
  (∀ a x, ((![v1656] : Fin 1 → IVec S16 32) a x).toNat < S8192.size a)
theorem k1_idx37_inb : ∀ (v1656 : IVec S16 32) (k1_hw24 : k1_chk24 v1656), ∀ a x, ((![v1656] : Fin 1 → IVec S16 32) a x).toNat < S8192.size a := fun v1656 k1_hw24 => k1_hw24.1
theorem k1_idx38_inb : ∀ (v1656 : IVec S16 32) (k1_hw24 : k1_chk24 v1656), ∀ a x, ((![v1656] : Fin 1 → IVec S16 32) a x).toNat < S8192.size a := fun v1656 k1_hw24 => k1_hw24.2

def k1_chk21 (v1642 : IVec S16 32) : Prop :=
  (∀ a x, ((![v1642] : Fin 1 → IVec S16 32) a x).toNat < S256.size a) ∧
  (∀ a x, ((![v1642] : Fin 1 → IVec S16 32) a x).toNat < S256.size a)
theorem k1_idx33_inb : ∀ (v1642 : IVec S16 32) (k1_hw21 : k1_chk21 v1642), ∀ a x, ((![v1642] : Fin 1 → IVec S16 32) a x).toNat < S256.size a := fun v1642 k1_hw21 => k1_hw21.1
theorem k1_idx39_inb : ∀ (v1642 : IVec S16 32) (k1_hw21 : k1_chk21 v1642), ∀ a x, ((![v1642] : Fin 1 → IVec S16 32) a x).toNat < S256.size a := fun v1642 k1_hw21 => k1_hw21.2

def k1_chk22 (v1646 : IVec S16 32) : Prop :=
  (∀ a x, ((![v1646] : Fin 1 → IVec S16 32) a x).toNat < S256.size a) ∧
  (∀ a x, ((![v1646] : Fin 1 → IVec S16 32) a x).toNat < S256.size a)
theorem k1_idx34_inb : ∀ (v1646 : IVec S16 32) (k1_hw22 : k1_chk22 v1646), ∀ a x, ((![v1646] : Fin 1 → IVec S16 32) a x).toNat < S256.size a := fun v1646 k1_hw22 => k1_hw22.1
theorem k1_idx40_inb : ∀ (v1646 : IVec S16 32) (k1_hw22 : k1_chk22 v1646), ∀ a x, ((![v1646] : Fin 1 → IVec S16 32) a x).toNat < S256.size a := fun v1646 k1_hw22 => k1_hw22.2
@[reducible] def k1_t10_loop : Scf.Loop 32 :=
  let c0_i32_749 : BitVec 32 := 0#32
  let c512_i32_750 : BitVec 32 := 512#32
  let v1625 : BitVec 32 := Scalar.addi c0_i32_749 c512_i32_750
  let c1_i32_751 : BitVec 32 := 1#32
  ⟨c0_i32_749, v1625, c1_i32_751⟩
def k1_off11 (k1_t10 : Fin k1_t10_loop.trips) : Fin 1 → Nat :=
  let c0_i32_749 : BitVec 32 := 0#32
  let c1_i32_751 : BitVec 32 := 1#32
  let arg23 : BitVec 32 := Scf.iv c0_i32_749 c1_i32_751 k1_t10
  let c16_i32 : BitVec 32 := 16#32
  let v1627 : BitVec 32 := Scalar.muli arg23 c16_i32
  let v1628 : Index := Scalar.indexCast v1627
  ![v1628.toNat]

def k1_chk25 (v1629 : IVec S16 32) : Prop :=
  (∀ a x, ((![v1629] : Fin 1 → IVec S16 32) a x).toNat < S8192.size a)
theorem k1_idx41_inb : ∀ (v1629 : IVec S16 32) (k1_hw25 : k1_chk25 v1629), ∀ a x, ((![v1629] : Fin 1 → IVec S16 32) a x).toNat < S8192.size a := fun v1629 k1_hw25 => k1_hw25
def k1_off12 (k1_t10 : Fin k1_t10_loop.trips) : Fin 1 → Nat :=
  let c0_i32_749 : BitVec 32 := 0#32
  let c1_i32_751 : BitVec 32 := 1#32
  let arg23 : BitVec 32 := Scf.iv c0_i32_749 c1_i32_751 k1_t10
  let c16_i32_755 : BitVec 32 := 16#32
  let v1634 : BitVec 32 := Scalar.muli arg23 c16_i32_755
  let v1635 : Index := Scalar.indexCast v1634
  ![v1635.toNat]

def k1_chk26 (v1632 : IVec S16 32) : Prop :=
  (∀ a x, ((![v1632] : Fin 1 → IVec S16 32) a x).toNat < S8192.size a)
theorem k1_idx42_inb : ∀ (v1632 : IVec S16 32) (k1_hw26 : k1_chk26 v1632), ∀ a x, ((![v1632] : Fin 1 → IVec S16 32) a x).toNat < S8192.size a := fun v1632 k1_hw26 => k1_hw26
def k1_off13 (k1_t10 : Fin k1_t10_loop.trips) : Fin 1 → Nat :=
  let c0_i32_749 : BitVec 32 := 0#32
  let c1_i32_751 : BitVec 32 := 1#32
  let arg23 : BitVec 32 := Scf.iv c0_i32_749 c1_i32_751 k1_t10
  let c16_i32_756 : BitVec 32 := 16#32
  let v1638 : BitVec 32 := Scalar.muli arg23 c16_i32_756
  let v1639 : Index := Scalar.indexCast v1638
  ![v1639.toNat]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x8192x32 : Shape := ⟨3, ![128, 8192, 32]⟩
abbrev S32x1 : Shape := ⟨2, ![32, 1]⟩
abbrev S1 : Shape := ⟨1, ![1]⟩
abbrev S128x8192 : Shape := ⟨2, ![128, 8192]⟩
abbrev S128x8192x1 : Shape := ⟨3, ![128, 8192, 1]⟩
abbrev S1x1x1 : Shape := ⟨3, ![1, 1, 1]⟩
abbrev S_ : Shape := ⟨0, ![]⟩
abbrev S128 : Shape := ⟨1, ![128]⟩
abbrev S128x1 : Shape := ⟨2, ![128, 1]⟩
abbrev S2 : Shape := ⟨1, ![2]⟩
abbrev S1x1 : Shape := ⟨2, ![1, 1]⟩

abbrev nBuf : Space → Nat
  | .hbm => 334
  | .vmem => 0
  | .smem => 0
  | _ => 0

abbrev hbmTy0_0 (i : Nat) : BufTy := match i % 128 with
  | 0 => ⟨S128x8192x32, .f32⟩
  | 1 => ⟨S32x1, .f32⟩
  | 2 => ⟨S1, .f32⟩
  | 3 => ⟨S128x8192, .i32⟩
  | 4 => ⟨S128x8192x1, .f32⟩
  | 5 => ⟨S1x1x1, .f32⟩
  | 6 => ⟨S128x8192x1, .f32⟩
  | 7 => ⟨S128x8192x1, .f32⟩
  | 8 => ⟨S128x8192, .f32⟩
  | 9 => ⟨S_, .f32⟩
  | 10 => ⟨S128, .f32⟩
  | 11 => ⟨S128x1, .f32⟩
  | 12 => ⟨S_, .f32⟩
  | 13 => ⟨S128x1, .f32⟩
  | 14 => ⟨S128x1, .f32⟩
  | 15 => ⟨S128x8192, .f32⟩
  | 16 => ⟨S128x8192, .f32⟩
  | 17 => ⟨S_, .i32⟩
  | 18 => ⟨S_, .i32⟩
  | 19 => ⟨S_, .i32⟩
  | 20 => ⟨S_, .i32⟩
  | 21 => ⟨S1, .i32⟩
  | 22 => ⟨S_, .i32⟩
  | 23 => ⟨S_, .i32⟩
  | 24 => ⟨S_, .i32⟩
  | 25 => ⟨S1, .i32⟩
  | 26 => ⟨S2, .i32⟩
  | 27 => ⟨S_, .f32⟩
  | 28 => ⟨S_, .f32⟩
  | 29 => ⟨S_, .f32⟩
  | 30 => ⟨S1x1, .f32⟩
  | 31 => ⟨S1x1, .f32⟩
  | 32 => ⟨S1, .i32⟩
  | 33 => ⟨S_, .i32⟩
  | 34 => ⟨S1, .i32⟩
  | 35 => ⟨S_, .i32⟩
  | 36 => ⟨S128x8192, .i64⟩
  | 37 => ⟨S128x8192, .i64⟩
  | 38 => ⟨S_, .i64⟩
  | 39 => ⟨S128x8192, .i64⟩
  | 40 => ⟨S128x8192, .i64⟩
  | 41 => ⟨S_, .i64⟩
  | 42 => ⟨S128x8192, .i64⟩
  | 43 => ⟨S128x8192, .i64⟩
  | 44 => ⟨S128x8192, .i64⟩
  | 45 => ⟨S_, .i64⟩
  | 46 => ⟨S128x8192, .i64⟩
  | 47 => ⟨S128x8192, .i64⟩
  | 48 => ⟨S128x8192, .i32⟩
  | 49 => ⟨S128x8192, .i32⟩
  | 50 => ⟨S_, .i32⟩
  | 51 => ⟨S_, .i32⟩
  | 52 => ⟨S_, .i32⟩
  | 53 => ⟨S128x8192, .i32⟩
  | 54 => ⟨S128x8192, .i32⟩
  | 55 => ⟨S128x8192, .i32⟩
  | 56 => ⟨S128x8192, .i32⟩
  | 57 => ⟨S128x8192, .i32⟩
  | 58 => ⟨S_, .i32⟩
  | 59 => ⟨S128x8192, .i32⟩
  | 60 => ⟨S128x8192, .i32⟩
  | 61 => ⟨S_, .i32⟩
  | 62 => ⟨S128x8192, .i32⟩
  | 63 => ⟨S128x8192, .i32⟩
  | 64 => ⟨S128x8192, .i32⟩
  | 65 => ⟨S128x8192, .i32⟩
  | 66 => ⟨S128x8192, .i32⟩
  | 67 => ⟨S_, .i32⟩
  | 68 => ⟨S128x8192, .i32⟩
  | 69 => ⟨S128x8192, .i32⟩
  | 70 => ⟨S_, .i32⟩
  | 71 => ⟨S128x8192, .i32⟩
  | 72 => ⟨S128x8192, .i32⟩
  | 73 => ⟨S128x8192, .i32⟩
  | 74 => ⟨S128x8192, .i32⟩
  | 75 => ⟨S128x8192, .i32⟩
  | 76 => ⟨S_, .i32⟩
  | 77 => ⟨S128x8192, .i32⟩
  | 78 => ⟨S128x8192, .i32⟩
  | 79 => ⟨S_, .i32⟩
  | 80 => ⟨S128x8192, .i32⟩
  | 81 => ⟨S128x8192, .i32⟩
  | 82 => ⟨S128x8192, .i32⟩
  | 83 => ⟨S128x8192, .i32⟩
  | 84 => ⟨S128x8192, .i32⟩
  | 85 => ⟨S_, .i32⟩
  | 86 => ⟨S128x8192, .i32⟩
  | 87 => ⟨S128x8192, .i32⟩
  | 88 => ⟨S_, .i32⟩
  | 89 => ⟨S128x8192, .i32⟩
  | 90 => ⟨S128x8192, .i32⟩
  | 91 => ⟨S128x8192, .i32⟩
  | 92 => ⟨S128x8192, .i32⟩
  | 93 => ⟨S128x8192, .i32⟩
  | 94 => ⟨S128x8192, .i32⟩
  | 95 => ⟨S128x8192, .i32⟩
  | 96 => ⟨S128x8192, .i32⟩
  | 97 => ⟨S_, .i32⟩
  | 98 => ⟨S128x8192, .i32⟩
  | 99 => ⟨S128x8192, .i32⟩
  | 100 => ⟨S128x8192, .i32⟩
  | 101 => ⟨S_, .i32⟩
  | 102 => ⟨S128x8192, .i32⟩
  | 103 => ⟨S128x8192, .i32⟩
  | 104 => ⟨S_, .i32⟩
  | 105 => ⟨S128x8192, .i32⟩
  | 106 => ⟨S128x8192, .i32⟩
  | 107 => ⟨S128x8192, .i32⟩
  | 108 => ⟨S128x8192, .i32⟩
  | 109 => ⟨S128x8192, .i32⟩
  | 110 => ⟨S_, .i32⟩
  | 111 => ⟨S128x8192, .i32⟩
  | 112 => ⟨S128x8192, .i32⟩
  | 113 => ⟨S_, .i32⟩
  | 114 => ⟨S128x8192, .i32⟩
  | 115 => ⟨S128x8192, .i32⟩
  | 116 => ⟨S128x8192, .i32⟩
  | 117 => ⟨S128x8192, .i32⟩
  | 118 => ⟨S128x8192, .i32⟩
  | 119 => ⟨S_, .i32⟩
  | 120 => ⟨S128x8192, .i32⟩
  | 121 => ⟨S128x8192, .i32⟩
  | 122 => ⟨S_, .i32⟩
  | 123 => ⟨S128x8192, .i32⟩
  | 124 => ⟨S128x8192, .i32⟩
  | 125 => ⟨S128x8192, .i32⟩
  | 126 => ⟨S128x8192, .i32⟩
  | 127 => ⟨S128x8192, .i32⟩
  | _ => ⟨S128x8192x32, .f32⟩

abbrev hbmTy0_1 (i : Nat) : BufTy := match i % 128 with
  | 0 => ⟨S_, .i32⟩
  | 1 => ⟨S128x8192, .i32⟩
  | 2 => ⟨S128x8192, .i32⟩
  | 3 => ⟨S_, .i32⟩
  | 4 => ⟨S128x8192, .i32⟩
  | 5 => ⟨S128x8192, .i32⟩
  | 6 => ⟨S128x8192, .i32⟩
  | 7 => ⟨S128x8192, .i32⟩
  | 8 => ⟨S128x8192, .i32⟩
  | 9 => ⟨S128x8192, .i32⟩
  | 10 => ⟨S128x8192, .i32⟩
  | 11 => ⟨S128x8192, .i32⟩
  | 12 => ⟨S_, .i32⟩
  | 13 => ⟨S128x8192, .i32⟩
  | 14 => ⟨S128x8192, .i32⟩
  | 15 => ⟨S128x8192, .i32⟩
  | 16 => ⟨S_, .i32⟩
  | 17 => ⟨S128x8192, .i32⟩
  | 18 => ⟨S128x8192, .i32⟩
  | 19 => ⟨S_, .i32⟩
  | 20 => ⟨S128x8192, .i32⟩
  | 21 => ⟨S128x8192, .i32⟩
  | 22 => ⟨S128x8192, .i32⟩
  | 23 => ⟨S128x8192, .i32⟩
  | 24 => ⟨S128x8192, .i32⟩
  | 25 => ⟨S_, .i32⟩
  | 26 => ⟨S128x8192, .i32⟩
  | 27 => ⟨S128x8192, .i32⟩
  | 28 => ⟨S_, .i32⟩
  | 29 => ⟨S128x8192, .i32⟩
  | 30 => ⟨S128x8192, .i32⟩
  | 31 => ⟨S128x8192, .i32⟩
  | 32 => ⟨S128x8192, .i32⟩
  | 33 => ⟨S128x8192, .i32⟩
  | 34 => ⟨S_, .i32⟩
  | 35 => ⟨S128x8192, .i32⟩
  | 36 => ⟨S128x8192, .i32⟩
  | 37 => ⟨S_, .i32⟩
  | 38 => ⟨S128x8192, .i32⟩
  | 39 => ⟨S128x8192, .i32⟩
  | 40 => ⟨S128x8192, .i32⟩
  | 41 => ⟨S128x8192, .i32⟩
  | 42 => ⟨S128x8192, .i32⟩
  | 43 => ⟨S_, .i32⟩
  | 44 => ⟨S128x8192, .i32⟩
  | 45 => ⟨S128x8192, .i32⟩
  | 46 => ⟨S_, .i32⟩
  | 47 => ⟨S128x8192, .i32⟩
  | 48 => ⟨S128x8192, .i32⟩
  | 49 => ⟨S128x8192, .i32⟩
  | 50 => ⟨S128x8192, .i32⟩
  | 51 => ⟨S128x8192, .i32⟩
  | 52 => ⟨S128x8192, .i32⟩
  | 53 => ⟨S128x8192, .i32⟩
  | 54 => ⟨S128x8192, .i32⟩
  | 55 => ⟨S_, .i32⟩
  | 56 => ⟨S128x8192, .i32⟩
  | 57 => ⟨S128x8192, .i32⟩
  | 58 => ⟨S128x8192, .i32⟩
  | 59 => ⟨S_, .i32⟩
  | 60 => ⟨S128x8192, .i32⟩
  | 61 => ⟨S128x8192, .i32⟩
  | 62 => ⟨S_, .i32⟩
  | 63 => ⟨S128x8192, .i32⟩
  | 64 => ⟨S128x8192, .i32⟩
  | 65 => ⟨S128x8192, .i32⟩
  | 66 => ⟨S128x8192, .i32⟩
  | 67 => ⟨S128x8192, .i32⟩
  | 68 => ⟨S_, .i32⟩
  | 69 => ⟨S128x8192, .i32⟩
  | 70 => ⟨S128x8192, .i32⟩
  | 71 => ⟨S_, .i32⟩
  | 72 => ⟨S128x8192, .i32⟩
  | 73 => ⟨S128x8192, .i32⟩
  | 74 => ⟨S128x8192, .i32⟩
  | 75 => ⟨S128x8192, .i32⟩
  | 76 => ⟨S128x8192, .i32⟩
  | 77 => ⟨S_, .i32⟩
  | 78 => ⟨S128x8192, .i32⟩
  | 79 => ⟨S128x8192, .i32⟩
  | 80 => ⟨S_, .i32⟩
  | 81 => ⟨S128x8192, .i32⟩
  | 82 => ⟨S128x8192, .i32⟩
  | 83 => ⟨S128x8192, .i32⟩
  | 84 => ⟨S128x8192, .i32⟩
  | 85 => ⟨S128x8192, .i32⟩
  | 86 => ⟨S_, .i32⟩
  | 87 => ⟨S128x8192, .i32⟩
  | 88 => ⟨S128x8192, .i32⟩
  | 89 => ⟨S_, .i32⟩
  | 90 => ⟨S128x8192, .i32⟩
  | 91 => ⟨S128x8192, .i32⟩
  | 92 => ⟨S128x8192, .i32⟩
  | 93 => ⟨S128x8192, .i32⟩
  | 94 => ⟨S128x8192, .i32⟩
  | 95 => ⟨S128x8192, .i32⟩
  | 96 => ⟨S128x8192, .i32⟩
  | 97 => ⟨S128x8192, .i32⟩
  | 98 => ⟨S_, .i32⟩
  | 99 => ⟨S128x8192, .i32⟩
  | 100 => ⟨S128x8192, .i32⟩
  | 101 => ⟨S128x8192, .i32⟩
  | 102 => ⟨S_, .i32⟩
  | 103 => ⟨S128x8192, .i32⟩
  | 104 => ⟨S128x8192, .i32⟩
  | 105 => ⟨S_, .i32⟩
  | 106 => ⟨S128x8192, .i32⟩
  | 107 => ⟨S128x8192, .i32⟩
  | 108 => ⟨S128x8192, .i32⟩
  | 109 => ⟨S128x8192, .i32⟩
  | 110 => ⟨S128x8192, .i32⟩
  | 111 => ⟨S_, .i32⟩
  | 112 => ⟨S128x8192, .i32⟩
  | 113 => ⟨S128x8192, .i32⟩
  | 114 => ⟨S_, .i32⟩
  | 115 => ⟨S128x8192, .i32⟩
  | 116 => ⟨S128x8192, .i32⟩
  | 117 => ⟨S128x8192, .i32⟩
  | 118 => ⟨S128x8192, .i32⟩
  | 119 => ⟨S128x8192, .i32⟩
  | 120 => ⟨S_, .i32⟩
  | 121 => ⟨S128x8192, .i32⟩
  | 122 => ⟨S128x8192, .i32⟩
  | 123 => ⟨S_, .i32⟩
  | 124 => ⟨S128x8192, .i32⟩
  | 125 => ⟨S128x8192, .i32⟩
  | 126 => ⟨S128x8192, .i32⟩
  | 127 => ⟨S128x8192, .i32⟩
  | _ => ⟨S128x8192x32, .f32⟩

abbrev hbmTy0_2 (i : Nat) : BufTy := match i % 128 with
  | 0 => ⟨S128x8192, .i32⟩
  | 1 => ⟨S_, .i32⟩
  | 2 => ⟨S128x8192, .i32⟩
  | 3 => ⟨S128x8192, .i32⟩
  | 4 => ⟨S_, .i32⟩
  | 5 => ⟨S128x8192, .i32⟩
  | 6 => ⟨S128x8192, .i32⟩
  | 7 => ⟨S128x8192, .i32⟩
  | 8 => ⟨S128x8192, .i32⟩
  | 9 => ⟨S128x8192, .i32⟩
  | 10 => ⟨S128x8192, .i32⟩
  | 11 => ⟨S128x8192, .i32⟩
  | 12 => ⟨S128x8192, .i32⟩
  | 13 => ⟨S_, .i32⟩
  | 14 => ⟨S128x8192, .i32⟩
  | 15 => ⟨S128x8192, .i32⟩
  | 16 => ⟨S128x8192, .i32⟩
  | 17 => ⟨S_, .i32⟩
  | 18 => ⟨S128x8192, .i32⟩
  | 19 => ⟨S128x8192, .i32⟩
  | 20 => ⟨S_, .i32⟩
  | 21 => ⟨S128x8192, .i32⟩
  | 22 => ⟨S128x8192, .i32⟩
  | 23 => ⟨S128x8192, .f32⟩
  | 24 => ⟨S_, .f32⟩
  | 25 => ⟨S128x8192, .f32⟩
  | 26 => ⟨S128x8192, .f32⟩
  | 27 => ⟨S1x1, .f32⟩
  | 28 => ⟨S128x8192, .f32⟩
  | 29 => ⟨S128x8192, .f32⟩
  | 30 => ⟨S128x8192, .f32⟩
  | 31 => ⟨S128x8192, .f32⟩
  | 32 => ⟨S128x8192, .f32⟩
  | 33 => ⟨S128x8192, .f32⟩
  | 34 => ⟨S128x8192, .f32⟩
  | 35 => ⟨S128x8192, .f32⟩
  | 36 => ⟨S128x8192, .f32⟩
  | 37 => ⟨S128x8192, .f32⟩
  | 38 => ⟨S_, .f32⟩
  | 39 => ⟨S128x8192, .f32⟩
  | 40 => ⟨S128x8192, .f32⟩
  | 41 => ⟨S128x8192, .f32⟩
  | 42 => ⟨S128x8192, .f32⟩
  | 43 => ⟨S128x8192, .i32⟩
  | 44 => ⟨S128x8192, .f32⟩
  | 45 => ⟨S128x8192, .i32⟩
  | 46 => ⟨S_, .i32⟩
  | 47 => ⟨S128x8192, .i32⟩
  | 48 => ⟨S128x8192, .i1⟩
  | 49 => ⟨S_, .i32⟩
  | 50 => ⟨S128x8192, .i32⟩
  | 51 => ⟨S128x8192, .i32⟩
  | 52 => ⟨S128x8192, .i32⟩
  | 53 => ⟨S128x8192x1, .i32⟩
  | 54 => ⟨S1, .i32⟩
  | 55 => ⟨S_, .i32⟩
  | 56 => ⟨S128x8192x1, .i32⟩
  | 57 => ⟨S128x8192x1, .i1⟩
  | 58 => ⟨S1x1x1, .i32⟩
  | 59 => ⟨S128x8192x1, .i32⟩
  | 60 => ⟨S128x8192x1, .i1⟩
  | 61 => ⟨S128x8192x1, .i1⟩
  | 62 => ⟨S_, .i1⟩
  | 63 => ⟨S128x8192, .i1⟩
  | 64 => ⟨S128x8192, .f32⟩
  | 65 => ⟨S_, .f32⟩
  | 66 => ⟨S128x8192, .f32⟩
  | 67 => ⟨S128x8192, .f32⟩
  | 68 => ⟨S128x8192, .f32⟩
  | 69 => ⟨S128x8192, .f32⟩
  | 70 => ⟨S_, .f32⟩
  | 71 => ⟨S_, .f32⟩
  | 72 => ⟨S128x8192, .f32⟩
  | 73 => ⟨S128x8192, .f32⟩
  | 74 => ⟨S128x8192, .f32⟩
  | 75 => ⟨S128x8192, .f32⟩
  | 76 => ⟨S_, .f32⟩
  | 77 => ⟨S128, .f32⟩
  | _ => ⟨S128x8192x32, .f32⟩

abbrev hbmTy (i : Nat) : BufTy := match i / 128 with
  | 0 => hbmTy0_0 i
  | 1 => hbmTy0_1 i
  | 2 => hbmTy0_2 i
  | _ => ⟨S128x8192x32, .f32⟩

abbrev bufTy : (tb : Table) → Fin (tcTables nBuf tb) → BufTy
  | .hbm, ⟨i, _⟩ => hbmTy i
  | _, _ => ⟨S128x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_cst_0 : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_c : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_c_0 : Ref sig .tc := ⟨.hbm, 41, rfl⟩
abbrev main_call0_call0_v11 : Ref sig .tc := ⟨.hbm, 42, rfl⟩
abbrev main_call0_call0_v12 : Ref sig .tc := ⟨.hbm, 43, rfl⟩
abbrev main_call0_call0_v13 : Ref sig .tc := ⟨.hbm, 44, rfl⟩
abbrev main_call0_call0_c_1 : Ref sig .tc := ⟨.hbm, 45, rfl⟩
abbrev main_call0_call0_v14 : Ref sig .tc := ⟨.hbm, 46, rfl⟩
abbrev main_call0_call0_v15 : Ref sig .tc := ⟨.hbm, 47, rfl⟩
abbrev main_call0_call0_v16 : Ref sig .tc := ⟨.hbm, 48, rfl⟩
abbrev main_call0_call0_v17 : Ref sig .tc := ⟨.hbm, 49, rfl⟩
abbrev main_call0_call0_call0_v0 : Ref sig .tc := ⟨.hbm, 50, rfl⟩
abbrev main_call0_call0_call0_c : Ref sig .tc := ⟨.hbm, 51, rfl⟩
abbrev main_call0_call0_call0_v1 : Ref sig .tc := ⟨.hbm, 52, rfl⟩
abbrev main_call0_call0_call0_v2 : Ref sig .tc := ⟨.hbm, 53, rfl⟩
abbrev main_call0_call0_call0_v3 : Ref sig .tc := ⟨.hbm, 54, rfl⟩
abbrev main_call0_call0_call0_v4 : Ref sig .tc := ⟨.hbm, 55, rfl⟩
abbrev main_call0_call0_call0_v5 : Ref sig .tc := ⟨.hbm, 56, rfl⟩
abbrev main_call0_call0_call0_v6 : Ref sig .tc := ⟨.hbm, 57, rfl⟩
abbrev main_call0_call0_call0_c_0 : Ref sig .tc := ⟨.hbm, 58, rfl⟩
abbrev main_call0_call0_call0_v7 : Ref sig .tc := ⟨.hbm, 59, rfl⟩
abbrev main_call0_call0_call0_v8 : Ref sig .tc := ⟨.hbm, 60, rfl⟩
abbrev main_call0_call0_call0_c_1 : Ref sig .tc := ⟨.hbm, 61, rfl⟩
abbrev main_call0_call0_call0_v9 : Ref sig .tc := ⟨.hbm, 62, rfl⟩
abbrev main_call0_call0_call0_v10 : Ref sig .tc := ⟨.hbm, 63, rfl⟩
abbrev main_call0_call0_call0_v11 : Ref sig .tc := ⟨.hbm, 64, rfl⟩
abbrev main_call0_call0_call0_v12 : Ref sig .tc := ⟨.hbm, 65, rfl⟩
abbrev main_call0_call0_call0_v13 : Ref sig .tc := ⟨.hbm, 66, rfl⟩
abbrev main_call0_call0_call0_c_2 : Ref sig .tc := ⟨.hbm, 67, rfl⟩
abbrev main_call0_call0_call0_v14 : Ref sig .tc := ⟨.hbm, 68, rfl⟩
abbrev main_call0_call0_call0_v15 : Ref sig .tc := ⟨.hbm, 69, rfl⟩
abbrev main_call0_call0_call0_c_3 : Ref sig .tc := ⟨.hbm, 70, rfl⟩
abbrev main_call0_call0_call0_v16 : Ref sig .tc := ⟨.hbm, 71, rfl⟩
abbrev main_call0_call0_call0_v17 : Ref sig .tc := ⟨.hbm, 72, rfl⟩
abbrev main_call0_call0_call0_v18 : Ref sig .tc := ⟨.hbm, 73, rfl⟩
abbrev main_call0_call0_call0_v19 : Ref sig .tc := ⟨.hbm, 74, rfl⟩
abbrev main_call0_call0_call0_v20 : Ref sig .tc := ⟨.hbm, 75, rfl⟩
abbrev main_call0_call0_call0_c_4 : Ref sig .tc := ⟨.hbm, 76, rfl⟩
abbrev main_call0_call0_call0_v21 : Ref sig .tc := ⟨.hbm, 77, rfl⟩
abbrev main_call0_call0_call0_v22 : Ref sig .tc := ⟨.hbm, 78, rfl⟩
abbrev main_call0_call0_call0_c_5 : Ref sig .tc := ⟨.hbm, 79, rfl⟩
abbrev main_call0_call0_call0_v23 : Ref sig .tc := ⟨.hbm, 80, rfl⟩
abbrev main_call0_call0_call0_v24 : Ref sig .tc := ⟨.hbm, 81, rfl⟩
abbrev main_call0_call0_call0_v25 : Ref sig .tc := ⟨.hbm, 82, rfl⟩
abbrev main_call0_call0_call0_v26 : Ref sig .tc := ⟨.hbm, 83, rfl⟩
abbrev main_call0_call0_call0_v27 : Ref sig .tc := ⟨.hbm, 84, rfl⟩
abbrev main_call0_call0_call0_c_6 : Ref sig .tc := ⟨.hbm, 85, rfl⟩
abbrev main_call0_call0_call0_v28 : Ref sig .tc := ⟨.hbm, 86, rfl⟩
abbrev main_call0_call0_call0_v29 : Ref sig .tc := ⟨.hbm, 87, rfl⟩
abbrev main_call0_call0_call0_c_7 : Ref sig .tc := ⟨.hbm, 88, rfl⟩
abbrev main_call0_call0_call0_v30 : Ref sig .tc := ⟨.hbm, 89, rfl⟩
abbrev main_call0_call0_call0_v31 : Ref sig .tc := ⟨.hbm, 90, rfl⟩
abbrev main_call0_call0_call0_v32 : Ref sig .tc := ⟨.hbm, 91, rfl⟩
abbrev main_call0_call0_call0_v33 : Ref sig .tc := ⟨.hbm, 92, rfl⟩
abbrev main_call0_call0_call0_v34 : Ref sig .tc := ⟨.hbm, 93, rfl⟩
abbrev main_call0_call0_call0_v35 : Ref sig .tc := ⟨.hbm, 94, rfl⟩
abbrev main_call0_call0_call0_v36 : Ref sig .tc := ⟨.hbm, 95, rfl⟩
abbrev main_call0_call0_call0_v37 : Ref sig .tc := ⟨.hbm, 96, rfl⟩
abbrev main_call0_call0_call0_c_8 : Ref sig .tc := ⟨.hbm, 97, rfl⟩
abbrev main_call0_call0_call0_v38 : Ref sig .tc := ⟨.hbm, 98, rfl⟩
abbrev main_call0_call0_call0_v39 : Ref sig .tc := ⟨.hbm, 99, rfl⟩
abbrev main_call0_call0_call0_v40 : Ref sig .tc := ⟨.hbm, 100, rfl⟩
abbrev main_call0_call0_call0_c_9 : Ref sig .tc := ⟨.hbm, 101, rfl⟩
abbrev main_call0_call0_call0_v41 : Ref sig .tc := ⟨.hbm, 102, rfl⟩
abbrev main_call0_call0_call0_v42 : Ref sig .tc := ⟨.hbm, 103, rfl⟩
abbrev main_call0_call0_call0_c_10 : Ref sig .tc := ⟨.hbm, 104, rfl⟩
abbrev main_call0_call0_call0_v43 : Ref sig .tc := ⟨.hbm, 105, rfl⟩
abbrev main_call0_call0_call0_v44 : Ref sig .tc := ⟨.hbm, 106, rfl⟩
abbrev main_call0_call0_call0_v45 : Ref sig .tc := ⟨.hbm, 107, rfl⟩
abbrev main_call0_call0_call0_v46 : Ref sig .tc := ⟨.hbm, 108, rfl⟩
abbrev main_call0_call0_call0_v47 : Ref sig .tc := ⟨.hbm, 109, rfl⟩
abbrev main_call0_call0_call0_c_11 : Ref sig .tc := ⟨.hbm, 110, rfl⟩
abbrev main_call0_call0_call0_v48 : Ref sig .tc := ⟨.hbm, 111, rfl⟩
abbrev main_call0_call0_call0_v49 : Ref sig .tc := ⟨.hbm, 112, rfl⟩
abbrev main_call0_call0_call0_c_12 : Ref sig .tc := ⟨.hbm, 113, rfl⟩
abbrev main_call0_call0_call0_v50 : Ref sig .tc := ⟨.hbm, 114, rfl⟩
abbrev main_call0_call0_call0_v51 : Ref sig .tc := ⟨.hbm, 115, rfl⟩
abbrev main_call0_call0_call0_v52 : Ref sig .tc := ⟨.hbm, 116, rfl⟩
abbrev main_call0_call0_call0_v53 : Ref sig .tc := ⟨.hbm, 117, rfl⟩
abbrev main_call0_call0_call0_v54 : Ref sig .tc := ⟨.hbm, 118, rfl⟩
abbrev main_call0_call0_call0_c_13 : Ref sig .tc := ⟨.hbm, 119, rfl⟩
abbrev main_call0_call0_call0_v55 : Ref sig .tc := ⟨.hbm, 120, rfl⟩
abbrev main_call0_call0_call0_v56 : Ref sig .tc := ⟨.hbm, 121, rfl⟩
abbrev main_call0_call0_call0_c_14 : Ref sig .tc := ⟨.hbm, 122, rfl⟩
abbrev main_call0_call0_call0_v57 : Ref sig .tc := ⟨.hbm, 123, rfl⟩
abbrev main_call0_call0_call0_v58 : Ref sig .tc := ⟨.hbm, 124, rfl⟩
abbrev main_call0_call0_call0_v59 : Ref sig .tc := ⟨.hbm, 125, rfl⟩
abbrev main_call0_call0_call0_v60 : Ref sig .tc := ⟨.hbm, 126, rfl⟩
abbrev main_call0_call0_call0_v61 : Ref sig .tc := ⟨.hbm, 127, rfl⟩
abbrev main_call0_call0_call0_c_15 : Ref sig .tc := ⟨.hbm, 128, rfl⟩
abbrev main_call0_call0_call0_v62 : Ref sig .tc := ⟨.hbm, 129, rfl⟩
abbrev main_call0_call0_call0_v63 : Ref sig .tc := ⟨.hbm, 130, rfl⟩
abbrev main_call0_call0_call0_c_16 : Ref sig .tc := ⟨.hbm, 131, rfl⟩
abbrev main_call0_call0_call0_v64 : Ref sig .tc := ⟨.hbm, 132, rfl⟩
abbrev main_call0_call0_call0_v65 : Ref sig .tc := ⟨.hbm, 133, rfl⟩
abbrev main_call0_call0_call0_v66 : Ref sig .tc := ⟨.hbm, 134, rfl⟩
abbrev main_call0_call0_call0_v67 : Ref sig .tc := ⟨.hbm, 135, rfl⟩
abbrev main_call0_call0_call0_v68 : Ref sig .tc := ⟨.hbm, 136, rfl⟩
abbrev main_call0_call0_call0_v69 : Ref sig .tc := ⟨.hbm, 137, rfl⟩
abbrev main_call0_call0_call0_v70 : Ref sig .tc := ⟨.hbm, 138, rfl⟩
abbrev main_call0_call0_call0_v71 : Ref sig .tc := ⟨.hbm, 139, rfl⟩
abbrev main_call0_call0_call0_c_17 : Ref sig .tc := ⟨.hbm, 140, rfl⟩
abbrev main_call0_call0_call0_v72 : Ref sig .tc := ⟨.hbm, 141, rfl⟩
abbrev main_call0_call0_call0_v73 : Ref sig .tc := ⟨.hbm, 142, rfl⟩
abbrev main_call0_call0_call0_v74 : Ref sig .tc := ⟨.hbm, 143, rfl⟩
abbrev main_call0_call0_call0_c_18 : Ref sig .tc := ⟨.hbm, 144, rfl⟩
abbrev main_call0_call0_call0_v75 : Ref sig .tc := ⟨.hbm, 145, rfl⟩
abbrev main_call0_call0_call0_v76 : Ref sig .tc := ⟨.hbm, 146, rfl⟩
abbrev main_call0_call0_call0_c_19 : Ref sig .tc := ⟨.hbm, 147, rfl⟩
abbrev main_call0_call0_call0_v77 : Ref sig .tc := ⟨.hbm, 148, rfl⟩
abbrev main_call0_call0_call0_v78 : Ref sig .tc := ⟨.hbm, 149, rfl⟩
abbrev main_call0_call0_call0_v79 : Ref sig .tc := ⟨.hbm, 150, rfl⟩
abbrev main_call0_call0_call0_v80 : Ref sig .tc := ⟨.hbm, 151, rfl⟩
abbrev main_call0_call0_call0_v81 : Ref sig .tc := ⟨.hbm, 152, rfl⟩
abbrev main_call0_call0_call0_c_20 : Ref sig .tc := ⟨.hbm, 153, rfl⟩
abbrev main_call0_call0_call0_v82 : Ref sig .tc := ⟨.hbm, 154, rfl⟩
abbrev main_call0_call0_call0_v83 : Ref sig .tc := ⟨.hbm, 155, rfl⟩
abbrev main_call0_call0_call0_c_21 : Ref sig .tc := ⟨.hbm, 156, rfl⟩
abbrev main_call0_call0_call0_v84 : Ref sig .tc := ⟨.hbm, 157, rfl⟩
abbrev main_call0_call0_call0_v85 : Ref sig .tc := ⟨.hbm, 158, rfl⟩
abbrev main_call0_call0_call0_v86 : Ref sig .tc := ⟨.hbm, 159, rfl⟩
abbrev main_call0_call0_call0_v87 : Ref sig .tc := ⟨.hbm, 160, rfl⟩
abbrev main_call0_call0_call0_v88 : Ref sig .tc := ⟨.hbm, 161, rfl⟩
abbrev main_call0_call0_call0_c_22 : Ref sig .tc := ⟨.hbm, 162, rfl⟩
abbrev main_call0_call0_call0_v89 : Ref sig .tc := ⟨.hbm, 163, rfl⟩
abbrev main_call0_call0_call0_v90 : Ref sig .tc := ⟨.hbm, 164, rfl⟩
abbrev main_call0_call0_call0_c_23 : Ref sig .tc := ⟨.hbm, 165, rfl⟩
abbrev main_call0_call0_call0_v91 : Ref sig .tc := ⟨.hbm, 166, rfl⟩
abbrev main_call0_call0_call0_v92 : Ref sig .tc := ⟨.hbm, 167, rfl⟩
abbrev main_call0_call0_call0_v93 : Ref sig .tc := ⟨.hbm, 168, rfl⟩
abbrev main_call0_call0_call0_v94 : Ref sig .tc := ⟨.hbm, 169, rfl⟩
abbrev main_call0_call0_call0_v95 : Ref sig .tc := ⟨.hbm, 170, rfl⟩
abbrev main_call0_call0_call0_c_24 : Ref sig .tc := ⟨.hbm, 171, rfl⟩
abbrev main_call0_call0_call0_v96 : Ref sig .tc := ⟨.hbm, 172, rfl⟩
abbrev main_call0_call0_call0_v97 : Ref sig .tc := ⟨.hbm, 173, rfl⟩
abbrev main_call0_call0_call0_c_25 : Ref sig .tc := ⟨.hbm, 174, rfl⟩
abbrev main_call0_call0_call0_v98 : Ref sig .tc := ⟨.hbm, 175, rfl⟩
abbrev main_call0_call0_call0_v99 : Ref sig .tc := ⟨.hbm, 176, rfl⟩
abbrev main_call0_call0_call0_v100 : Ref sig .tc := ⟨.hbm, 177, rfl⟩
abbrev main_call0_call0_call0_v101 : Ref sig .tc := ⟨.hbm, 178, rfl⟩
abbrev main_call0_call0_call0_v102 : Ref sig .tc := ⟨.hbm, 179, rfl⟩
abbrev main_call0_call0_call0_v103 : Ref sig .tc := ⟨.hbm, 180, rfl⟩
abbrev main_call0_call0_call0_v104 : Ref sig .tc := ⟨.hbm, 181, rfl⟩
abbrev main_call0_call0_call0_v105 : Ref sig .tc := ⟨.hbm, 182, rfl⟩
abbrev main_call0_call0_call0_c_26 : Ref sig .tc := ⟨.hbm, 183, rfl⟩
abbrev main_call0_call0_call0_v106 : Ref sig .tc := ⟨.hbm, 184, rfl⟩
abbrev main_call0_call0_call0_v107 : Ref sig .tc := ⟨.hbm, 185, rfl⟩
abbrev main_call0_call0_call0_v108 : Ref sig .tc := ⟨.hbm, 186, rfl⟩
abbrev main_call0_call0_call0_c_27 : Ref sig .tc := ⟨.hbm, 187, rfl⟩
abbrev main_call0_call0_call0_v109 : Ref sig .tc := ⟨.hbm, 188, rfl⟩
abbrev main_call0_call0_call0_v110 : Ref sig .tc := ⟨.hbm, 189, rfl⟩
abbrev main_call0_call0_call0_c_28 : Ref sig .tc := ⟨.hbm, 190, rfl⟩
abbrev main_call0_call0_call0_v111 : Ref sig .tc := ⟨.hbm, 191, rfl⟩
abbrev main_call0_call0_call0_v112 : Ref sig .tc := ⟨.hbm, 192, rfl⟩
abbrev main_call0_call0_call0_v113 : Ref sig .tc := ⟨.hbm, 193, rfl⟩
abbrev main_call0_call0_call0_v114 : Ref sig .tc := ⟨.hbm, 194, rfl⟩
abbrev main_call0_call0_call0_v115 : Ref sig .tc := ⟨.hbm, 195, rfl⟩
abbrev main_call0_call0_call0_c_29 : Ref sig .tc := ⟨.hbm, 196, rfl⟩
abbrev main_call0_call0_call0_v116 : Ref sig .tc := ⟨.hbm, 197, rfl⟩
abbrev main_call0_call0_call0_v117 : Ref sig .tc := ⟨.hbm, 198, rfl⟩
abbrev main_call0_call0_call0_c_30 : Ref sig .tc := ⟨.hbm, 199, rfl⟩
abbrev main_call0_call0_call0_v118 : Ref sig .tc := ⟨.hbm, 200, rfl⟩
abbrev main_call0_call0_call0_v119 : Ref sig .tc := ⟨.hbm, 201, rfl⟩
abbrev main_call0_call0_call0_v120 : Ref sig .tc := ⟨.hbm, 202, rfl⟩
abbrev main_call0_call0_call0_v121 : Ref sig .tc := ⟨.hbm, 203, rfl⟩
abbrev main_call0_call0_call0_v122 : Ref sig .tc := ⟨.hbm, 204, rfl⟩
abbrev main_call0_call0_call0_c_31 : Ref sig .tc := ⟨.hbm, 205, rfl⟩
abbrev main_call0_call0_call0_v123 : Ref sig .tc := ⟨.hbm, 206, rfl⟩
abbrev main_call0_call0_call0_v124 : Ref sig .tc := ⟨.hbm, 207, rfl⟩
abbrev main_call0_call0_call0_c_32 : Ref sig .tc := ⟨.hbm, 208, rfl⟩
abbrev main_call0_call0_call0_v125 : Ref sig .tc := ⟨.hbm, 209, rfl⟩
abbrev main_call0_call0_call0_v126 : Ref sig .tc := ⟨.hbm, 210, rfl⟩
abbrev main_call0_call0_call0_v127 : Ref sig .tc := ⟨.hbm, 211, rfl⟩
abbrev main_call0_call0_call0_v128 : Ref sig .tc := ⟨.hbm, 212, rfl⟩
abbrev main_call0_call0_call0_v129 : Ref sig .tc := ⟨.hbm, 213, rfl⟩
abbrev main_call0_call0_call0_c_33 : Ref sig .tc := ⟨.hbm, 214, rfl⟩
abbrev main_call0_call0_call0_v130 : Ref sig .tc := ⟨.hbm, 215, rfl⟩
abbrev main_call0_call0_call0_v131 : Ref sig .tc := ⟨.hbm, 216, rfl⟩
abbrev main_call0_call0_call0_c_34 : Ref sig .tc := ⟨.hbm, 217, rfl⟩
abbrev main_call0_call0_call0_v132 : Ref sig .tc := ⟨.hbm, 218, rfl⟩
abbrev main_call0_call0_call0_v133 : Ref sig .tc := ⟨.hbm, 219, rfl⟩
abbrev main_call0_call0_call0_v134 : Ref sig .tc := ⟨.hbm, 220, rfl⟩
abbrev main_call0_call0_call0_v135 : Ref sig .tc := ⟨.hbm, 221, rfl⟩
abbrev main_call0_call0_call0_v136 : Ref sig .tc := ⟨.hbm, 222, rfl⟩
abbrev main_call0_call0_call0_v137 : Ref sig .tc := ⟨.hbm, 223, rfl⟩
abbrev main_call0_call0_call0_v138 : Ref sig .tc := ⟨.hbm, 224, rfl⟩
abbrev main_call0_call0_call0_v139 : Ref sig .tc := ⟨.hbm, 225, rfl⟩
abbrev main_call0_call0_call0_c_35 : Ref sig .tc := ⟨.hbm, 226, rfl⟩
abbrev main_call0_call0_call0_v140 : Ref sig .tc := ⟨.hbm, 227, rfl⟩
abbrev main_call0_call0_call0_v141 : Ref sig .tc := ⟨.hbm, 228, rfl⟩
abbrev main_call0_call0_call0_v142 : Ref sig .tc := ⟨.hbm, 229, rfl⟩
abbrev main_call0_call0_call0_c_36 : Ref sig .tc := ⟨.hbm, 230, rfl⟩
abbrev main_call0_call0_call0_v143 : Ref sig .tc := ⟨.hbm, 231, rfl⟩
abbrev main_call0_call0_call0_v144 : Ref sig .tc := ⟨.hbm, 232, rfl⟩
abbrev main_call0_call0_call0_c_37 : Ref sig .tc := ⟨.hbm, 233, rfl⟩
abbrev main_call0_call0_call0_v145 : Ref sig .tc := ⟨.hbm, 234, rfl⟩
abbrev main_call0_call0_call0_v146 : Ref sig .tc := ⟨.hbm, 235, rfl⟩
abbrev main_call0_call0_call0_v147 : Ref sig .tc := ⟨.hbm, 236, rfl⟩
abbrev main_call0_call0_call0_v148 : Ref sig .tc := ⟨.hbm, 237, rfl⟩
abbrev main_call0_call0_call0_v149 : Ref sig .tc := ⟨.hbm, 238, rfl⟩
abbrev main_call0_call0_call0_c_38 : Ref sig .tc := ⟨.hbm, 239, rfl⟩
abbrev main_call0_call0_call0_v150 : Ref sig .tc := ⟨.hbm, 240, rfl⟩
abbrev main_call0_call0_call0_v151 : Ref sig .tc := ⟨.hbm, 241, rfl⟩
abbrev main_call0_call0_call0_c_39 : Ref sig .tc := ⟨.hbm, 242, rfl⟩
abbrev main_call0_call0_call0_v152 : Ref sig .tc := ⟨.hbm, 243, rfl⟩
abbrev main_call0_call0_call0_v153 : Ref sig .tc := ⟨.hbm, 244, rfl⟩
abbrev main_call0_call0_call0_v154 : Ref sig .tc := ⟨.hbm, 245, rfl⟩
abbrev main_call0_call0_call0_v155 : Ref sig .tc := ⟨.hbm, 246, rfl⟩
abbrev main_call0_call0_call0_v156 : Ref sig .tc := ⟨.hbm, 247, rfl⟩
abbrev main_call0_call0_call0_c_40 : Ref sig .tc := ⟨.hbm, 248, rfl⟩
abbrev main_call0_call0_call0_v157 : Ref sig .tc := ⟨.hbm, 249, rfl⟩
abbrev main_call0_call0_call0_v158 : Ref sig .tc := ⟨.hbm, 250, rfl⟩
abbrev main_call0_call0_call0_c_41 : Ref sig .tc := ⟨.hbm, 251, rfl⟩
abbrev main_call0_call0_call0_v159 : Ref sig .tc := ⟨.hbm, 252, rfl⟩
abbrev main_call0_call0_call0_v160 : Ref sig .tc := ⟨.hbm, 253, rfl⟩
abbrev main_call0_call0_call0_v161 : Ref sig .tc := ⟨.hbm, 254, rfl⟩
abbrev main_call0_call0_call0_v162 : Ref sig .tc := ⟨.hbm, 255, rfl⟩
abbrev main_call0_call0_call0_v163 : Ref sig .tc := ⟨.hbm, 256, rfl⟩
abbrev main_call0_call0_call0_c_42 : Ref sig .tc := ⟨.hbm, 257, rfl⟩
abbrev main_call0_call0_call0_v164 : Ref sig .tc := ⟨.hbm, 258, rfl⟩
abbrev main_call0_call0_call0_v165 : Ref sig .tc := ⟨.hbm, 259, rfl⟩
abbrev main_call0_call0_call0_c_43 : Ref sig .tc := ⟨.hbm, 260, rfl⟩
abbrev main_call0_call0_call0_v166 : Ref sig .tc := ⟨.hbm, 261, rfl⟩
abbrev main_call0_call0_call0_v167 : Ref sig .tc := ⟨.hbm, 262, rfl⟩
abbrev main_call0_call0_call0_v168 : Ref sig .tc := ⟨.hbm, 263, rfl⟩
abbrev main_call0_call0_call0_v169 : Ref sig .tc := ⟨.hbm, 264, rfl⟩
abbrev main_call0_call0_call0_v170 : Ref sig .tc := ⟨.hbm, 265, rfl⟩
abbrev main_call0_call0_v18_0 : Ref sig .tc := ⟨.hbm, 266, rfl⟩
abbrev main_call0_call0_call0_v172 : Ref sig .tc := ⟨.hbm, 267, rfl⟩
abbrev main_call0_call0_call0_v173 : Ref sig .tc := ⟨.hbm, 268, rfl⟩
abbrev main_call0_call0_call0_c_44 : Ref sig .tc := ⟨.hbm, 269, rfl⟩
abbrev main_call0_call0_call0_v174 : Ref sig .tc := ⟨.hbm, 270, rfl⟩
abbrev main_call0_call0_v18_1 : Ref sig .tc := ⟨.hbm, 271, rfl⟩
abbrev main_call0_call0_v19 : Ref sig .tc := ⟨.hbm, 272, rfl⟩
abbrev main_call0_call0_c_2 : Ref sig .tc := ⟨.hbm, 273, rfl⟩
abbrev main_call0_call0_v20 : Ref sig .tc := ⟨.hbm, 274, rfl⟩
abbrev main_call0_call0_v21 : Ref sig .tc := ⟨.hbm, 275, rfl⟩
abbrev main_call0_call0_c_3 : Ref sig .tc := ⟨.hbm, 276, rfl⟩
abbrev main_call0_call0_v22 : Ref sig .tc := ⟨.hbm, 277, rfl⟩
abbrev main_call0_call0_v23 : Ref sig .tc := ⟨.hbm, 278, rfl⟩
abbrev main_call0_call0_v24 : Ref sig .tc := ⟨.hbm, 279, rfl⟩
abbrev main_call0_call0_cst : Ref sig .tc := ⟨.hbm, 280, rfl⟩
abbrev main_call0_call0_v25 : Ref sig .tc := ⟨.hbm, 281, rfl⟩
abbrev main_call0_call0_v26 : Ref sig .tc := ⟨.hbm, 282, rfl⟩
abbrev main_call0_call0_v27 : Ref sig .tc := ⟨.hbm, 283, rfl⟩
abbrev main_call0_call0_v28 : Ref sig .tc := ⟨.hbm, 284, rfl⟩
abbrev main_call0_call0_v29 : Ref sig .tc := ⟨.hbm, 285, rfl⟩
abbrev main_call0_call0_v30 : Ref sig .tc := ⟨.hbm, 286, rfl⟩
abbrev main_call0_call0_v31 : Ref sig .tc := ⟨.hbm, 287, rfl⟩
abbrev main_call0_call0_v32 : Ref sig .tc := ⟨.hbm, 288, rfl⟩
abbrev main_call0_v0 : Ref sig .tc := ⟨.hbm, 289, rfl⟩
abbrev main_call0_v1 : Ref sig .tc := ⟨.hbm, 290, rfl⟩
abbrev main_call0_v2 : Ref sig .tc := ⟨.hbm, 291, rfl⟩
abbrev main_call0_v3 : Ref sig .tc := ⟨.hbm, 292, rfl⟩
abbrev main_v18 : Ref sig .tc := ⟨.hbm, 293, rfl⟩
abbrev main_cst_3 : Ref sig .tc := ⟨.hbm, 294, rfl⟩
abbrev main_v19 : Ref sig .tc := ⟨.hbm, 295, rfl⟩
abbrev main_v20 : Ref sig .tc := ⟨.hbm, 296, rfl⟩
abbrev main_v21 : Ref sig .tc := ⟨.hbm, 297, rfl⟩
abbrev main_v22 : Ref sig .tc := ⟨.hbm, 298, rfl⟩
abbrev main_call1_v0 : Ref sig .tc := ⟨.hbm, 299, rfl⟩
abbrev main_call1_v1_0 : Ref sig .tc := ⟨.hbm, 300, rfl⟩
abbrev main_v23 : Ref sig .tc := ⟨.hbm, 301, rfl⟩
abbrev main_call2_c : Ref sig .tc := ⟨.hbm, 302, rfl⟩
abbrev main_call2_v0 : Ref sig .tc := ⟨.hbm, 303, rfl⟩
abbrev main_call2_v1 : Ref sig .tc := ⟨.hbm, 304, rfl⟩
abbrev main_call2_c_0 : Ref sig .tc := ⟨.hbm, 305, rfl⟩
abbrev main_call2_v2 : Ref sig .tc := ⟨.hbm, 306, rfl⟩
abbrev main_call2_v3 : Ref sig .tc := ⟨.hbm, 307, rfl⟩
abbrev main_call2_v4 : Ref sig .tc := ⟨.hbm, 308, rfl⟩
abbrev main_call2_v5 : Ref sig .tc := ⟨.hbm, 309, rfl⟩
abbrev main_call2_c_1 : Ref sig .tc := ⟨.hbm, 310, rfl⟩
abbrev main_call2_c_2 : Ref sig .tc := ⟨.hbm, 311, rfl⟩
abbrev main_call2_v6 : Ref sig .tc := ⟨.hbm, 312, rfl⟩
abbrev main_call2_v7 : Ref sig .tc := ⟨.hbm, 313, rfl⟩
abbrev main_call2_v8 : Ref sig .tc := ⟨.hbm, 314, rfl⟩
abbrev main_call2_v9 : Ref sig .tc := ⟨.hbm, 315, rfl⟩
abbrev main_call2_v10 : Ref sig .tc := ⟨.hbm, 316, rfl⟩
abbrev main_call2_v11 : Ref sig .tc := ⟨.hbm, 317, rfl⟩
abbrev main_call2_c_3 : Ref sig .tc := ⟨.hbm, 318, rfl⟩
abbrev main_call2_v12 : Ref sig .tc := ⟨.hbm, 319, rfl⟩
abbrev main_call2_v13 : Ref sig .tc := ⟨.hbm, 320, rfl⟩
abbrev main_call2_cst : Ref sig .tc := ⟨.hbm, 321, rfl⟩
abbrev main_call2_v14 : Ref sig .tc := ⟨.hbm, 322, rfl⟩
abbrev main_v24 : Ref sig .tc := ⟨.hbm, 323, rfl⟩
abbrev main_v25 : Ref sig .tc := ⟨.hbm, 324, rfl⟩
abbrev main_v26 : Ref sig .tc := ⟨.hbm, 325, rfl⟩
abbrev main_call4_call0_cst : Ref sig .tc := ⟨.hbm, 326, rfl⟩
abbrev main_call4_call0_v0 : Ref sig .tc := ⟨.hbm, 327, rfl⟩
abbrev main_v27 : Ref sig .tc := ⟨.hbm, 328, rfl⟩
abbrev main_v28 : Ref sig .tc := ⟨.hbm, 329, rfl⟩
abbrev main_v29 : Ref sig .tc := ⟨.hbm, 330, rfl⟩
abbrev main_v30 : Ref sig .tc := ⟨.hbm, 331, rfl⟩
abbrev main_cst_4 : Ref sig .tc := ⟨.hbm, 332, rfl⟩
abbrev main_v31 : Ref sig .tc := ⟨.hbm, 333, rfl⟩

abbrev nD : Nat := 1
abbrev τ : Topo := Topo.v7x

variable {F : FTy → Type} [FloatOps F]
-- ==== Proof.Shape.lean ====
/-
  The kernel's region in the shape of the algorithm: two rows are fetched, sorted by four passes of a counting sort
  (one per byte of the key), the scores gathered along the sorted positions, and the rows written back. The printed
  region is cut into windows of sixty statements that do not follow the algorithm; here it is written as the
  algorithm's own steps, each a function of the program that comes after it, and `cc1_k_shape` proves that
  the two are the same program.
-/
module

public import proofs.«01_k».proof.Proof.Gen.KernelIdeal

@[expose] public section

noncomputable section

namespace Cert.KernelIdeal.Body

open Idealize.ShloMosaic Idealize.SL.Sem
open Cert.KernelIdeal Facts₀ Facts

variable {F : FTy → Type} [FloatOps F] [Facts]

/-- A tile's program. -/
abbrev PT (F : FTy → Type) [FloatOps F] (i : grid1.Coords) (α : Type) :=
  Prog (TpuEff nD τ sig (Elt F) Λ₀ (.scVector ((i 0).castLE hcore1) ((i 1).castLE hsub1))) α

/-- A scratch row of words, -/
abbrev RowI := Memref sig .scVector .vmem S8192 .i32
/-- of floats, -/
abbrev RowF := Memref sig .scVector .vmem S8192 .f32
/-- and a scratch table of 256 counts. -/
abbrev Tab := Memref sig .scVector .vmem S256 .i32

/-- Sixteen counts at offset `o` of a table. -/
abbrev chunk (o : ℕ) (h : o + 16 ≤ 256) : Rect S256 :=
  Rect.unit (s := S256) ![o] S16.size (Fin.forall_fin_one.mpr h)

section
variable (i : grid1.Coords) {α : Type}

/-- Both tables cleared from offset `o` on, `n` chunks, then `k`. -/
def zeroC (m0 m1 : Tab) (k : PT F i α) : (n o : ℕ) → o + 16 * n ≤ 256 → PT F i α
  | 0, _, _ => k
  | n + 1, o, h =>
    .op (.load m0 (chunk o (by omega)).toLoadRect (View.loadsAt_vmem h_S16)) fun _ =>
    .op (.store m0 (chunk o (by omega)) (broadcast S16 (0#32 : BitVec 32)) Finset.univ (View.stores_vmem_bits_univ h_S16 rfl) (.inl rfl)) fun _ =>
    .op (.load m1 (chunk o (by omega)).toLoadRect (View.loadsAt_vmem h_S16)) fun _ =>
    .op (.store m1 (chunk o (by omega)) (broadcast S16 (0#32 : BitVec 32)) Finset.univ (View.stores_vmem_bits_univ h_S16 rfl) (.inl rfl)) fun _ =>
    zeroC m0 m1 k n (o + 16) (by omega)

/-- The exclusive prefix of sixteen counts, `c` being the sum of those before them. -/
def prefixOf (h : IVec S16 32) (c : BitVec 32) : IVec S16 32 := addi (subi (scan .sum h) h) (broadcast S16 c)

/-- The sum with sixteen more counts. -/
def carryOf (h : IVec S16 32) (c : BitVec 32) : BitVec 32 := Scalar.addi c (extractAt ![15] (scan .sum h) inpos_S16_p15)

/-- Both tables replaced by their exclusive prefix sums from offset `o` on, `n` chunks, from the carries `c0`, `c1`; then `k`. -/
def prefixC (m0 m1 : Tab) (k : PT F i α) : (n o : ℕ) → o + 16 * n ≤ 256 → (c0 c1 : BitVec 32) → PT F i α
  | 0, _, _, _, _ => k
  | n + 1, o, h, c0, c1 =>
    .op (.load m0 (chunk o (by omega)).toLoadRect (View.loadsAt_vmem h_S16)) fun (h0 : Vec F S16 .i32) =>
    .op (.load m1 (chunk o (by omega)).toLoadRect (View.loadsAt_vmem h_S16)) fun (h1 : Vec F S16 .i32) =>
    .op (.load m0 (chunk o (by omega)).toLoadRect (View.loadsAt_vmem h_S16)) fun _ =>
    .op (.store m0 (chunk o (by omega)) (prefixOf h0 c0) Finset.univ (View.stores_vmem_bits_univ h_S16 rfl) (.inl rfl)) fun _ =>
    .op (.load m1 (chunk o (by omega)).toLoadRect (View.loadsAt_vmem h_S16)) fun _ =>
    .op (.store m1 (chunk o (by omega)) (prefixOf h1 c1) Finset.univ (View.stores_vmem_bits_univ h_S16 rfl) (.inl rfl)) fun _ =>
    prefixC m0 m1 k n (o + 16) (by omega) (carryOf h0 c0) (carryOf h1 c1)

/-- The digits of sixteen keys at bit `sh`. -/
def digits (sh : BitVec 32) (v : IVec S16 32) : IVec S16 32 := andi (shrui v (broadcast S16 sh)) (broadcast S16 (255#32 : BitVec 32))

/-- One trip of the counting loop: the digits of sixteen keys of either row counted in that row's table. -/
def histTrip (sh : BitVec 32) (k0 k1 : RowI) (m0 m1 : Tab) (t : Fin k1_t2_loop.trips) : PT F i (BitVec 32) :=
  .op (.load k0 (Rect.unit (s := S8192) (k1_off3 t) S16.size (k1_off3_inb t)).toLoadRect (View.loadsAt_vmem h_S16)) fun (v0 : Vec F S16 .i32) =>
  .op (.load k1 (Rect.unit (s := S8192) (k1_off3 t) S16.size (k1_off3_inb t)).toLoadRect (View.loadsAt_vmem h_S16)) fun (v1 : Vec F S16 .i32) =>
  .op (TpuEff.assume (k1_chk1 (digits sh v0)) (k1_chk1.dec (digits sh v0))) fun w1 =>
  .op (TpuEff.assume (k1_chk2 (digits sh v1)) (k1_chk2.dec (digits sh v1))) fun w2 =>
  SparseCore.vectorStoreIdx m0 ![digits sh v0] (broadcast S16 (1#32 : BitVec 32)) (fun _ => 1#1) true (k1_idx1_inb _ w1.down) (View.stores_vmem_bits_univ h_S256 rfl) >>= fun _ =>
  SparseCore.vectorStoreIdx m1 ![digits sh v1] (broadcast S16 (1#32 : BitVec 32)) (fun _ => 1#1) true (k1_idx2_inb _ w2.down) (View.stores_vmem_bits_univ h_S256 rfl) >>= fun _ =>
  .ret 0#32

/-- The places of sixteen keys: the tables' entry at each digit, and how many of the sixteen so far have that digit. -/
def places (sh : BitVec 32) (v b : IVec S16 32) : IVec S16 32 :=
  subi (addi b (scanCount (broadcast S16 (1#1 : BitVec 1)) (digits sh v)).2) (broadcast S16 (1#32 : BitVec 32))

/-- One trip of the placing loop: sixteen keys and their origins of either row stored at their places, and the tables advanced. -/
def rankTrip (sh : BitVec 32) (k0 v0 k1 v1 k0' v0' k1' v1' : RowI) (m0 m1 : Tab) (t : Fin k1_t3_loop.trips) : PT F i (BitVec 32) :=
  .op (.load k0 (Rect.unit (s := S8192) (k1_off4 t) S16.size (k1_off4_inb t)).toLoadRect (View.loadsAt_vmem h_S16)) fun (x0 : Vec F S16 .i32) =>
  .op (.load v0 (Rect.unit (s := S8192) (k1_off4 t) S16.size (k1_off4_inb t)).toLoadRect (View.loadsAt_vmem h_S16)) fun (y0 : Vec F S16 .i32) =>
  .op (.load k1 (Rect.unit (s := S8192) (k1_off4 t) S16.size (k1_off4_inb t)).toLoadRect (View.loadsAt_vmem h_S16)) fun (x1 : Vec F S16 .i32) =>
  .op (.load v1 (Rect.unit (s := S8192) (k1_off4 t) S16.size (k1_off4_inb t)).toLoadRect (View.loadsAt_vmem h_S16)) fun (y1 : Vec F S16 .i32) =>
  .op (TpuEff.assume (k1_chk3 (digits sh x0)) (k1_chk3.dec (digits sh x0))) fun w3 =>
  .op (TpuEff.assume (k1_chk4 (digits sh x1)) (k1_chk4.dec (digits sh x1))) fun w4 =>
  SparseCore.vectorLoadIdx m0 ![digits sh x0] (k1_idx3_inb _ w3.down) (View.loads_vmem h_S256) >>= fun (b0 : Vec F S16 .i32) =>
  SparseCore.vectorLoadIdx m1 ![digits sh x1] (k1_idx4_inb _ w4.down) (View.loads_vmem h_S256) >>= fun (b1 : Vec F S16 .i32) =>
  .op (TpuEff.assume (k1_chk5 (places sh x0 b0)) (k1_chk5.dec (places sh x0 b0))) fun w5 =>
  .op (TpuEff.assume (k1_chk6 (places sh x1 b1)) (k1_chk6.dec (places sh x1 b1))) fun w6 =>
  SparseCore.vectorStoreIdx k0' ![places sh x0 b0] x0 (fun _ => 1#1) false (k1_idx5_inb _ w5.down) (View.stores_vmem_bits_univ h_S8192 rfl) >>= fun _ =>
  SparseCore.vectorStoreIdx v0' ![places sh x0 b0] y0 (fun _ => 1#1) false (k1_idx6_inb _ w5.down) (View.stores_vmem_bits_univ h_S8192 rfl) >>= fun _ =>
  SparseCore.vectorStoreIdx k1' ![places sh x1 b1] x1 (fun _ => 1#1) false (k1_idx7_inb _ w6.down) (View.stores_vmem_bits_univ h_S8192 rfl) >>= fun _ =>
  SparseCore.vectorStoreIdx v1' ![places sh x1 b1] y1 (fun _ => 1#1) false (k1_idx8_inb _ w6.down) (View.stores_vmem_bits_univ h_S8192 rfl) >>= fun _ =>
  SparseCore.vectorStoreIdx m0 ![digits sh x0] (scanCount (broadcast S16 (1#1 : BitVec 1)) (digits sh x0)).2 (scanCount (broadcast S16 (1#1 : BitVec 1)) (digits sh x0)).1 true
    (k1_idx9_inb _ w3.down) (View.stores_vmem_bits_univ h_S256 rfl) >>= fun _ =>
  SparseCore.vectorStoreIdx m1 ![digits sh x1] (scanCount (broadcast S16 (1#1 : BitVec 1)) (digits sh x1)).2 (scanCount (broadcast S16 (1#1 : BitVec 1)) (digits sh x1)).1 true
    (k1_idx10_inb _ w4.down) (View.stores_vmem_bits_univ h_S256 rfl) >>= fun _ =>
  .ret 0#32

/-- The two loops of a pass, -/
def histLoop (sh : BitVec 32) (k0 k1 : RowI) (m0 m1 : Tab) : PT F i (BitVec 32) :=
  Scf.Loop.for k1_t2_loop k1_t2_ok 0#32 fun t _ => histTrip i sh k0 k1 m0 m1 t
def rankLoop (sh : BitVec 32) (k0 v0 k1 v1 k0' v0' k1' v1' : RowI) (m0 m1 : Tab) : PT F i (BitVec 32) :=
  Scf.Loop.for k1_t3_loop k1_t3_ok 0#32 fun t _ => rankTrip i sh k0 v0 k1 v1 k0' v0' k1' v1' m0 m1 t

/-- and the pass: the tables cleared, the digits counted, the counts summed up, the keys placed; then `k`. -/
def passC (sh : BitVec 32) (k0 v0 k1 v1 k0' v0' k1' v1' : RowI) (m0 m1 : Tab) (k : PT F i α) : PT F i α :=
  zeroC i m0 m1 (histLoop i sh k0 k1 m0 m1 >>= fun _ =>
    prefixC i m0 m1 (rankLoop i sh k0 v0 k1 v1 k0' v0' k1' v1' m0 m1 >>= fun _ => k) 16 0 (by omega) 0#32 0#32) 16 0 (by omega)

/-- One trip of the gathering loop: sixteen scores of either row read at the sorted positions. -/
def gatherTrip (v0 v1 : RowI) (s0 p0 s1 p1 : RowF) (t : Fin k1_t10_loop.trips) : PT F i (BitVec 32) :=
  .op (.load v0 (Rect.unit (s := S8192) (k1_off11 t) S16.size (k1_off11_inb t)).toLoadRect (View.loadsAt_vmem h_S16)) fun (x0 : Vec F S16 .i32) =>
  .op (TpuEff.assume (k1_chk25 x0) (k1_chk25.dec x0)) fun w0 =>
  .op (.load v1 (Rect.unit (s := S8192) (k1_off11 t) S16.size (k1_off11_inb t)).toLoadRect (View.loadsAt_vmem h_S16)) fun (x1 : Vec F S16 .i32) =>
  .op (TpuEff.assume (k1_chk26 x1) (k1_chk26.dec x1)) fun w1 =>
  SparseCore.vectorLoadIdx s0 ![x0] (k1_idx41_inb x0 w0.down) (View.loads_vmem h_S8192) >>= fun (y0 : Vec F S16 .f32) =>
  .op (.load p0 (Rect.unit (s := S8192) (k1_off12 t) S16.size (k1_off12_inb t)).toLoadRect (View.loadsAt_vmem h_S16)) fun (_ : Vec F S16 .f32) =>
  .op (.store p0 (Rect.unit (s := S8192) (k1_off12 t) S16.size (k1_off12_inb t)) y0 Finset.univ (View.stores_vmem_bits_univ h_S16 rfl) (.inl rfl)) fun _ =>
  SparseCore.vectorLoadIdx s1 ![x1] (k1_idx42_inb x1 w1.down) (View.loads_vmem h_S8192) >>= fun (y1 : Vec F S16 .f32) =>
  .op (.load p1 (Rect.unit (s := S8192) (k1_off13 t) S16.size (k1_off13_inb t)).toLoadRect (View.loadsAt_vmem h_S16)) fun (_ : Vec F S16 .f32) =>
  .op (.store p1 (Rect.unit (s := S8192) (k1_off13 t) S16.size (k1_off13_inb t)) y1 Finset.univ (View.stores_vmem_bits_univ h_S16 rfl) (.inl rfl)) fun _ =>
  .ret 0#32

def gatherLoop (v0 v1 : RowI) (s0 p0 s1 p1 : RowF) : PT F i (BitVec 32) :=
  Scf.Loop.for k1_t10_loop k1_t10_ok 0#32 fun t _ => gatherTrip i v0 v1 s0 p0 s1 p1 t

/-- Row `off` of an array in HBM. -/
abbrev rowOf {e : EltTy} (a : Memref sig .scVector .hbm S128x8192 e) (off : Fin 2 → ℕ) (h : ∀ x, off x + S1x8192.size x ≤ S128x8192.size x) :
    Memref sig .scVector .hbm S8192 e :=
  (a.slice (Rect.unit (s := S128x8192) off S1x8192.size h) (fun _ => rfl)).squeeze S8192 squeezes_S1x8192_S8192

variable (a2 : Memref sig .scVector .hbm S128x8192 .i32) (harg2 : a2.IsWhole) (a3 : Memref sig .scVector .hbm S128x8192 .f32) (harg3 : a3.IsWhole)
  (a4 : Memref sig .scVector .hbm S8192 .i32) (harg4 : a4.IsWhole) (a5 : Memref sig .scVector .hbm S128x8192 .i32) (harg5 : a5.IsWhole)
  (a6 : Memref sig .scVector .hbm S128x8192 .f32) (harg6 : a6.IsWhole)
  (a7 : RowI) (harg7 : a7.IsWhole) (a8 : RowI) (harg8 : a8.IsWhole) (a9 : RowI) (harg9 : a9.IsWhole) (a10 : RowI) (harg10 : a10.IsWhole)
  (a11 : RowF) (harg11 : a11.IsWhole) (a12 : RowF) (harg12 : a12.IsWhole) (a13 : Tab) (harg13 : a13.IsWhole)
  (a14 : RowI) (harg14 : a14.IsWhole) (a15 : RowI) (harg15 : a15.IsWhole) (a16 : RowI) (harg16 : a16.IsWhole) (a17 : RowI) (harg17 : a17.IsWhole)
  (a18 : RowF) (harg18 : a18.IsWhole) (a19 : RowF) (harg19 : a19.IsWhole) (a20 : Tab) (harg20 : a20.IsWhole)
  (r0 r1 r2 r3 r4 r5 r6 r7 r8 r9 : DmaSems sig S_)

/-- The six copies in, each waited for at once; then `k`. -/
def fetchC (t : Fin k1_t1_loop.trips) (k : PT F i α) : PT F i α :=
  .op (.enqueueDma (rowOf a2 (k1_off1 i t) (k1_off1_inb i t)) (.here a7) (.dma r0.sem) ((View.wordExact_bits rfl).reshape _ _) harg7.wordExact ⟨Or.inl rfl, trivial⟩) fun _ =>
  .op (.waitDma2 r0.sem (rowOf a2 (k1_off1 i t) (k1_off1_inb i t)) a7 ((View.wordExact_bits rfl).reshape _ _) harg7.wordExact) fun _ =>
  .op (.enqueueDma (rowOf a2 (k1_off2 i t) (k1_off2_inb i t)) (.here a14) (.dma r1.sem) ((View.wordExact_bits rfl).reshape _ _) harg14.wordExact ⟨Or.inl rfl, trivial⟩) fun _ =>
  .op (.waitDma2 r1.sem (rowOf a2 (k1_off2 i t) (k1_off2_inb i t)) a14 ((View.wordExact_bits rfl).reshape _ _) harg14.wordExact) fun _ =>
  .op (.enqueueDma a4 (.here a9) (.dma r2.sem) harg4.wordExact harg9.wordExact ⟨Or.inl rfl, trivial⟩) fun _ =>
  .op (.waitDma2 r2.sem a4 a9 harg4.wordExact harg9.wordExact) fun _ =>
  .op (.enqueueDma a4 (.here a16) (.dma r3.sem) harg4.wordExact harg16.wordExact ⟨Or.inl rfl, trivial⟩) fun _ =>
  .op (.waitDma2 r3.sem a4 a16 harg4.wordExact harg16.wordExact) fun _ =>
  .op (.enqueueDma (rowOf a3 (k1_off1 i t) (k1_off1_inb i t)) (.here a11) (.dma r4.sem) ((View.wordExact_bits rfl).reshape _ _) harg11.wordExact ⟨Or.inl rfl, trivial⟩) fun _ =>
  .op (.waitDma2 r4.sem (rowOf a3 (k1_off1 i t) (k1_off1_inb i t)) a11 ((View.wordExact_bits rfl).reshape _ _) harg11.wordExact) fun _ =>
  .op (.enqueueDma (rowOf a3 (k1_off2 i t) (k1_off2_inb i t)) (.here a18) (.dma r5.sem) ((View.wordExact_bits rfl).reshape _ _) harg18.wordExact ⟨Or.inl rfl, trivial⟩) fun _ =>
  .op (.waitDma2 r5.sem (rowOf a3 (k1_off2 i t) (k1_off2_inb i t)) a18 ((View.wordExact_bits rfl).reshape _ _) harg18.wordExact) fun _ => k

/-- The four copies out, each waited for at once. -/
def flushC (t : Fin k1_t1_loop.trips) : PT F i (BitVec 32) :=
  .op (.enqueueDma a9 (.here (rowOf a5 (k1_off1 i t) (k1_off1_inb i t))) (.dma r6.sem) harg9.wordExact ((View.wordExact_bits rfl).reshape _ _) ⟨Or.inl rfl, trivial⟩) fun _ =>
  .op (.waitDma2 r6.sem a9 (rowOf a5 (k1_off1 i t) (k1_off1_inb i t)) harg9.wordExact ((View.wordExact_bits rfl).reshape _ _)) fun _ =>
  .op (.enqueueDma a16 (.here (rowOf a5 (k1_off2 i t) (k1_off2_inb i t))) (.dma r7.sem) harg16.wordExact ((View.wordExact_bits rfl).reshape _ _) ⟨Or.inl rfl, trivial⟩) fun _ =>
  .op (.waitDma2 r7.sem a16 (rowOf a5 (k1_off2 i t) (k1_off2_inb i t)) harg16.wordExact ((View.wordExact_bits rfl).reshape _ _)) fun _ =>
  .op (.enqueueDma a12 (.here (rowOf a6 (k1_off1 i t) (k1_off1_inb i t))) (.dma r8.sem) harg12.wordExact ((View.wordExact_bits rfl).reshape _ _) ⟨Or.inl rfl, trivial⟩) fun _ =>
  .op (.waitDma2 r8.sem a12 (rowOf a6 (k1_off1 i t) (k1_off1_inb i t)) harg12.wordExact ((View.wordExact_bits rfl).reshape _ _)) fun _ =>
  .op (.enqueueDma a19 (.here (rowOf a6 (k1_off2 i t) (k1_off2_inb i t))) (.dma r9.sem) harg19.wordExact ((View.wordExact_bits rfl).reshape _ _) ⟨Or.inl rfl, trivial⟩) fun _ =>
  .op (.waitDma2 r9.sem a19 (rowOf a6 (k1_off2 i t) (k1_off2_inb i t)) harg19.wordExact ((View.wordExact_bits rfl).reshape _ _)) fun _ => .ret 0#32

/-- One trip of the kernel's loop over its rows. -/
def tripC (t : Fin k1_t1_loop.trips) : PT F i (BitVec 32) :=
  fetchC i a2 a3 a4 harg4 a7 harg7 a9 harg9 a11 harg11 a14 harg14 a16 harg16 a18 harg18 r0 r1 r2 r3 r4 r5 t
    (passC i 0#32 a7 a9 a14 a16 a8 a10 a15 a17 a13 a20
    (passC i 8#32 a8 a10 a15 a17 a7 a9 a14 a16 a13 a20
    (passC i 16#32 a7 a9 a14 a16 a8 a10 a15 a17 a13 a20
    (passC i 24#32 a8 a10 a15 a17 a7 a9 a14 a16 a13 a20
    (gatherLoop i a9 a16 a11 a12 a18 a19 >>= fun _ =>
    flushC i a5 a6 a9 harg9 a12 harg12 a16 harg16 a19 harg19 r6 r7 r8 r9 t)))))

/-- The kernel. -/
def kernelC : PT F i PUnit :=
  (Scf.Loop.for k1_t1_loop k1_t1_ok (0#32 : BitVec 32) fun t _ =>
    tripC i a2 a3 a4 harg4 a5 a6 a7 harg7 a8 a9 harg9 a10 a11 harg11 a12 harg12 a13 a14 harg14 a15 a16 harg16 a17 a18 harg18 a19 harg19 a20
      r0 r1 r2 r3 r4 r5 r6 r7 r8 r9 t) >>= fun _ => pure ⟨⟩

set_option maxRecDepth 100000 in
set_option maxHeartbeats 4000000 in
/-- The printed kernel is the kernel in the algorithm's shape. -/
theorem cc1_k_shape :
    cc1_k (F := F) i a2 harg2 a3 harg3 a4 harg4 a5 harg5 a6 harg6 a7 harg7 a8 harg8 a9 harg9 a10 harg10 a11 harg11 a12 harg12 a13 harg13 a14 harg14 a15 harg15 a16 harg16 a17 harg17 a18 harg18 a19 harg19 a20 harg20 r0 r1 r2 r3 r4 r5 r6 r7 r8 r9
      = kernelC (F := F) i a2 a3 a4 harg4 a5 a6 a7 harg7 a8 a9 harg9 a10 a11 harg11 a12 harg12 a13 a14 harg14 a15 a16 harg16 a17 a18 harg18 a19 harg19 a20
          r0 r1 r2 r3 r4 r5 r6 r7 r8 r9 := by
  unfold cc1_k kernelC
  refine congrArg (fun b => (Scf.Loop.for k1_t1_loop k1_t1_ok (0#32 : BitVec 32) b >>= fun _ => pure ⟨⟩ : PT F i PUnit)) (funext fun t => funext fun _ => ?_)
  simp only [k1_part4, k1_part13, k1_part15, k1_part24, k1_part26, k1_part35, k1_part37, k1_part45, k1_part46, bind_assoc, pure_bind]
  rfl

end

end Cert.KernelIdeal.Body
-- ==== Proof.Radix.lean ====
/-
  Counting sort and least-significant-digit radix sort, over plain natural numbers: where one pass puts each
  element (`pos`), that these places are all different and fill the array, and that four passes over the four
  bytes of a 32-bit key leave the elements in the order "by key, equal keys by the place they came from".
-/
module

public import Mathlib.Data.Nat.Count
public import Mathlib.Data.Fintype.EquivFin
public import Mathlib.Data.Finset.Card
public import Idealize.ShloMosaic.Lib.Routing.SortLink

@[expose] public section

namespace Cert.Radix

open Idealize.ShloMosaic

/-! ## One pass: the place of each element -/

/-- How many of the `n` elements have a digit below `b`: where the elements of digit `b` begin. -/
def base (n : ℕ) (d : ℕ → ℕ) (b : ℕ) : ℕ := Nat.count (fun j => d j < b) n

/-- How many of the first `i` elements have digit `b`. -/
def cnt (d : ℕ → ℕ) (b i : ℕ) : ℕ := Nat.count (fun j => d j = b) i

/-- Where a counting sort by `d` puts element `j`. -/
def pos (n : ℕ) (d : ℕ → ℕ) (j : ℕ) : ℕ := base n d (d j) + cnt d (d j) j

theorem base_zero (n : ℕ) (d : ℕ → ℕ) : base n d 0 = 0 := by
  unfold base
  rw [Nat.count_eq_card_filter_range]
  simp

theorem base_le (n : ℕ) (d : ℕ → ℕ) (b : ℕ) : base n d b ≤ n := Nat.count_le _

theorem cnt_le (d : ℕ → ℕ) (b i : ℕ) : cnt d b i ≤ i := Nat.count_le _

theorem cnt_zero (d : ℕ → ℕ) (b : ℕ) : cnt d b 0 = 0 := Nat.count_zero _

theorem base_succ (n : ℕ) (d : ℕ → ℕ) (b : ℕ) : base n d (b + 1) = base n d b + cnt d b n := by
  unfold base cnt
  induction n with
  | zero => simp
  | succ n ih =>
    simp only [Nat.count_succ, ih]
    split_ifs <;> omega

theorem base_mono (n : ℕ) (d : ℕ → ℕ) {b c : ℕ} (h : b ≤ c) : base n d b ≤ base n d c := by
  obtain ⟨k, rfl⟩ := Nat.le.dest h
  induction k with
  | zero => exact Nat.le_refl _
  | succ k ih =>
    have := base_succ n d (b + k)
    have := ih (Nat.le_add_right _ _)
    rw [← Nat.add_assoc]
    omega

theorem cnt_add (d : ℕ → ℕ) (b i m : ℕ) : cnt d b (i + m) = cnt d b i + Nat.count (fun l => d (i + l) = b) m :=
  Nat.count_add _ _ _

theorem cnt_lt (d : ℕ → ℕ) {j m : ℕ} (h : j < m) : cnt d (d j) j < cnt d (d j) m :=
  Nat.count_strict_mono (p := fun k => d k = d j) rfl h

theorem pos_lt_next (n : ℕ) (d : ℕ → ℕ) {j : ℕ} (hj : j < n) : pos n d j < base n d (d j + 1) := by
  rw [base_succ]
  exact Nat.add_lt_add_left (cnt_lt d hj) _

theorem pos_lt (n : ℕ) (d : ℕ → ℕ) {j : ℕ} (hj : j < n) : pos n d j < n :=
  (pos_lt_next n d hj).trans_le (base_le _ _ _)

/-- A smaller digit goes to an earlier place, and so does an earlier element of the same digit. -/
theorem pos_lt_pos (n : ℕ) (d : ℕ → ℕ) {j k : ℕ} (hj : j < n) (h : d j < d k ∨ d j = d k ∧ j < k) : pos n d j < pos n d k := by
  rcases h with h | ⟨h, hjk⟩
  · exact (pos_lt_next n d hj).trans_le ((base_mono n d h).trans (Nat.le_add_right _ _))
  · unfold pos
    rw [← h]
    exact Nat.add_lt_add_left (cnt_lt d hjk) _

theorem order_of_pos_lt (n : ℕ) (d : ℕ → ℕ) {j k : ℕ} (hk : k < n) (h : pos n d j < pos n d k) :
    d j < d k ∨ d j = d k ∧ j < k := by
  by_contra hn
  have hc : d k < d j ∨ d k = d j ∧ k < j ∨ j = k := by omega
  rcases hc with hc | hc | rfl
  · exact absurd (pos_lt_pos n d hk (Or.inl hc)) (by omega)
  · exact absurd (pos_lt_pos n d hk (Or.inr hc)) (by omega)
  · omega

theorem pos_inj (n : ℕ) (d : ℕ → ℕ) {j k : ℕ} (hj : j < n) (hk : k < n) (h : pos n d j = pos n d k) : j = k := by
  by_contra hne
  have hc : (d j < d k ∨ d j = d k ∧ j < k) ∨ (d k < d j ∨ d k = d j ∧ k < j) := by omega
  rcases hc with hc | hc
  · exact absurd (pos_lt_pos n d hj hc) (by omega)
  · exact absurd (pos_lt_pos n d hk hc) (by omega)

/-- Every place is some element's. -/
theorem exists_pos (n : ℕ) (d : ℕ → ℕ) {p : ℕ} (hp : p < n) : ∃ j, j < n ∧ pos n d j = p := by
  let f : Fin n → Fin n := fun j => ⟨pos n d j, pos_lt n d j.isLt⟩
  have hf : Function.Injective f := fun a b h => Fin.ext (pos_inj n d a.isLt b.isLt (congrArg Fin.val h))
  obtain ⟨j, hj⟩ := Finite.injective_iff_surjective.mp hf ⟨p, hp⟩
  exact ⟨j, j.isLt, congrArg Fin.val hj⟩

/-! ## Pass after pass -/

/-- The digit of `k` that starts at bit `8·t`. -/
def dig (t : ℕ) (k : BitVec 32) : ℕ := k.toNat / 256 ^ t % 256

theorem dig_lt (t : ℕ) (k : BitVec 32) : dig t k < 256 := Nat.mod_lt _ (by decide)

/-- After `t` passes from the keys `K₀`: the array holds the keys along a rearrangement `s`, beside each its origin,
    in the order "by the lowest `t` bytes, equal ones by origin". -/
def Stage (n t : ℕ) (K₀ K V : ℕ → BitVec 32) : Prop :=
  ∃ s : ℕ → ℕ, (∀ p, p < n → s p < n ∧ K p = K₀ (s p) ∧ V p = BitVec.ofNat 32 (s p)) ∧
    ∀ p q, p < q → q < n → (K₀ (s p)).toNat % 256 ^ t < (K₀ (s q)).toNat % 256 ^ t ∨
      (K₀ (s p)).toNat % 256 ^ t = (K₀ (s q)).toNat % 256 ^ t ∧ s p < s q

/-- Before any pass. -/
theorem stage_zero (n : ℕ) (K V : ℕ → BitVec 32) (hV : ∀ p, p < n → V p = BitVec.ofNat 32 p) : Stage n 0 K K V :=
  ⟨id, fun p hp => ⟨hp, rfl, hV p hp⟩, fun p q hpq _ => Or.inr ⟨by simp [Nat.mod_one], hpq⟩⟩

/-- One more pass: every element moved to its place by digit `t`. -/
theorem Stage.succ {n t : ℕ} {K₀ K V K' V' : ℕ → BitVec 32} (h : Stage n t K₀ K V)
    (hm : ∀ j, j < n → K' (pos n (fun i => dig t (K i)) j) = K j ∧ V' (pos n (fun i => dig t (K i)) j) = V j) :
    Stage n (t + 1) K₀ K' V' := by
  obtain ⟨s, hs, ho⟩ := h
  have hex : ∀ p, ∃ j, p < n → j < n ∧ pos n (fun i => dig t (K i)) j = p := fun p => by
    by_cases hp : p < n
    · obtain ⟨j, h⟩ := exists_pos n (fun i => dig t (K i)) hp
      exact ⟨j, fun _ => h⟩
    · exact ⟨0, fun h => absurd h hp⟩
  choose inv hinv using hex
  refine ⟨fun p => s (inv p), fun p hp => ?_, fun p q hpq hq => ?_⟩
  · obtain ⟨hj, hpj⟩ := hinv p hp
    have := hm _ hj
    rw [hpj] at this
    exact ⟨(hs _ hj).1, this.1.trans (hs _ hj).2.1, this.2.trans (hs _ hj).2.2⟩
  · obtain ⟨hj, hpj⟩ := hinv p (hpq.trans hq)
    obtain ⟨hk, hpk⟩ := hinv q hq
    have hlt := order_of_pos_lt n (fun i => dig t (K i)) hk (by rw [hpj, hpk]; exact hpq)
    simp only [(hs _ hj).2.1, (hs _ hk).2.1, dig] at hlt
    have hpow : 0 < 256 ^ t := Nat.pow_pos (by decide)
    have e (a : ℕ) : a % 256 ^ (t + 1) = a % 256 ^ t + 256 ^ t * (a / 256 ^ t % 256) := by
      rw [pow_succ, Nat.mod_mul]
    have hb := Nat.mod_lt (K₀ (s (inv p))).toNat hpow
    have hb' := Nat.mod_lt (K₀ (s (inv q))).toNat hpow
    dsimp only
    rw [e, e]
    rcases hlt with hlt | ⟨heq, hjk⟩
    · left
      have := Nat.mul_le_mul_left (256 ^ t) (Nat.succ_le_of_lt hlt)
      rw [Nat.mul_succ] at this
      omega
    · rw [heq]
      rcases ho _ _ hjk hk with h | ⟨h, h'⟩
      · left; omega
      · right; exact ⟨by omega, h'⟩

/-! ## The order is the stable sort's -/

/-- On an ascending list the stable sort by a key is the sort by (key, element). -/
theorem stableSort_tie {n : ℕ} (K : Fin n → ℕ) (l : List (Fin n)) (hl : l.Pairwise (· < ·)) :
    stableSort (fun a b => decide (K a < K b)) l = stableSort (fun a b => decide (K a * n + a.val < K b * n + b.val)) l := by
  induction l with
  | nil => rfl
  | cons a l ih =>
    rw [List.pairwise_cons] at hl
    unfold stableSort
    rw [ih hl.2]
    refine insertBefore_congr _ _ a _ fun b hb => ?_
    have hab : a.val < b.val := hl.1 b ((perm_stableSort _ l).mem_iff.mp hb)
    refine decide_eq_decide.mpr ⟨fun h => ?_, fun h => ?_⟩
    · have := Nat.mul_le_mul_right n (Nat.succ_le_of_lt h)
      rw [Nat.succ_mul] at this
      have := b.isLt
      omega
    · by_contra hn
      have := Nat.mul_le_mul_right n (Nat.le_of_not_lt hn)
      omega

/-- After the four passes, place `p` holds the element the stable sort of the keys puts there. -/
theorem Stage.sorted {n : ℕ} {K₀ K V : ℕ → BitVec 32} (h : Stage n 4 K₀ K V) (p : Fin n) :
    V p.val = BitVec.ofNat 32 (sortedFrom (fun a b : Fin n => decide ((K₀ a.val).toNat < (K₀ b.val).toNat)) p).val := by
  obtain ⟨s, hs, ho⟩ := h
  let f : Fin n → Fin n := fun p => ⟨s p.val, (hs p.val p.isLt).1⟩
  let Z : Fin n → ℕ := fun a => (K₀ a.val).toNat * n + a.val
  have hZ : ∀ a b : Fin n, a < b → Z (f a) < Z (f b) := fun a b hab => by
    have h4 (k : BitVec 32) : k.toNat % 256 ^ 4 = k.toNat := Nat.mod_eq_of_lt (k.isLt.trans_eq (by norm_num))
    have := ho a.val b.val hab b.isLt
    rw [h4, h4] at this
    show (K₀ (s a.val)).toNat * n + s a.val < (K₀ (s b.val)).toNat * n + s b.val
    rcases this with h | ⟨h, h'⟩
    · have := Nat.mul_le_mul_right n (Nat.succ_le_of_lt h)
      rw [Nat.succ_mul] at this
      have := (hs a.val a.isLt).1
      omega
    · rw [h]; omega
  have hinj : Function.Injective f := fun a b hab => by
    by_contra hne
    rcases lt_or_gt_of_ne hne with h | h
    · exact absurd (hZ a b h) (by rw [hab]; exact lt_irrefl _)
    · exact absurd (hZ b a h) (by rw [hab]; exact lt_irrefl _)
  have hZi : Function.Injective Z := fun a b hab => by
    obtain ⟨a', rfl⟩ := Finite.injective_iff_surjective.mp hinj a
    obtain ⟨b', rfl⟩ := Finite.injective_iff_surjective.mp hinj b
    by_contra hne
    have hne' : a' ≠ b' := fun e => hne (by rw [e])
    rcases lt_or_gt_of_ne hne' with h | h
    · have := hZ _ _ h; omega
    · have := hZ _ _ h; omega
  have hperm : (List.ofFn f).Perm (List.finRange n) := by
    rw [List.perm_ext_iff_of_nodup (List.nodup_ofFn.mpr hinj) (List.nodup_finRange n)]
    intro a
    simp only [List.mem_finRange, iff_true, List.mem_ofFn]
    exact Finite.injective_iff_surjective.mp hinj a
  have hsorted : (List.ofFn f).Pairwise fun a b => Z a < Z b := by
    rw [List.pairwise_ofFn]
    exact fun a b hab => hZ a b hab
  have h1 : sortedFrom (fun a b : Fin n => decide ((K₀ a.val).toNat < (K₀ b.val).toNat)) p = sortedFrom (fun a b => decide (Z a < Z b)) p := by
    unfold sortedFrom
    rw [List.get_of_eq (show sortPositions n _ = sortPositions n _ from stableSort_tie (fun a : Fin n => (K₀ a.val).toNat) (List.finRange n) (List.pairwise_lt_finRange n))]
    rfl
  rw [h1, Routing.sortedFrom_eq Z hZi (List.ofFn f) hperm hsorted p (by simp), (hs p.val p.isLt).2.2]
  simp [f]

end Cert.Radix
-- ==== Proof.Lanes.lean ====
/-
  What sixteen lanes do at once, in the counting sort's terms: a scatter that adds ones counts the lanes with each
  digit; a running count of equal digits, and the scatter of the last of each, add that same count; a scatter to
  different places is a write at each; a running sum is a prefix sum. A vector over a rank-one shape is a function
  of the lane's number (`row`).
-/
module

public import Idealize.ShloMosaic.PureOps.ShapeOps
public import Mathlib.Algebra.BigOperators.Fin
public import proofs.«01_k».proof.Proof.Radix

@[expose] public section

namespace Cert.Lanes

open Idealize.ShloMosaic

variable {F : FTy → Type} [FloatOps F]

/-- The vector whose element at lane `l` is `W l`. -/
def row {α : Type} {d : Fin 1 → ℕ} (W : ℕ → α) : (⟨1, d⟩ : Shape).Idx → α := fun x => W (x 0).val

/-- Sixteen lanes. -/
abbrev S16 : Shape := ⟨1, ![16]⟩

omit [FloatOps F] in
/-- The lanes' number as an index, -/
theorem row_ofLane {α : Type} {d : Fin 1 → ℕ} (W : ℕ → α) (k : Fin (d 0)) : row (d := d) W (Shape.ofLane k) = W k.val := rfl

/-- and every vector is a row. -/
theorem exists_row {α : Type} [Inhabited α] {n : ℕ} (w : (⟨1, ![n]⟩ : Shape).Idx → α) : ∃ W, w = row W := by
  refine ⟨fun k => if h : k < n then w (fun a => ⟨k, by rw [Fin.eq_zero a]; exact h⟩) else default, ?_⟩
  funext x
  have hx : (x 0).val < n := (x 0).isLt
  simp only [row, hx, dite_true]
  congr 1
  funext a
  rw [Fin.eq_zero a]

/-- Two rows that agree on the array's elements are one. -/
theorem row_congr {α : Type} {n : ℕ} {X Y : ℕ → α} (h : ∀ j, j < n → X j = Y j) : row (d := ![n]) X = row Y :=
  funext fun x => h _ (x 0).isLt

theorem foldl_finRange {α : Type} (n : ℕ) (g : α → ℕ → α) (a : α) :
    (List.finRange n).foldl (fun a k => g a k.val) a = (List.range n).foldl g a := by
  rw [← List.map_coe_finRange_eq_range, List.foldl_map]

/-- A scatter of sixteen lanes, at one element of the array: the lanes that name it, taken in order. -/
theorem storeIdx_row {n : ℕ} {e : EltTy} (X : ℕ → Elt F e) (I : ℕ → BitVec 32) (v : ℕ → Elt F e) (mk : ℕ → BitVec 1) (add : Bool)
    (h : ∀ a x, ((![row (d := ![16]) I] : Fin 1 → IVec S16 32) a x).toNat < (⟨1, ![n]⟩ : Shape).size a) (j : (⟨1, ![n]⟩ : Shape).Idx) :
    storeIdx (F := F) (e := e) (row X) ![row I] (row v) (row mk) add h j
      = (List.range 16).foldl (fun a l => if mk l = 1 ∧ (I l).toNat = (j 0).val then (if add then Elt.idxAdd e a (v l) else v l) else a) (X (j 0).val) := by
  rw [← foldl_finRange 16]
  unfold storeIdx
  have key : ∀ (Ls : List (Fin 16)) (f : Vec F (⟨1, ![n]⟩ : Shape) e),
      Ls.foldl (fun (g : Vec F (⟨1, ![n]⟩ : Shape) e) (k : Fin 16) =>
          let x := Shape.ofLane (d := ![16]) k
          if row (d := ![16]) mk x = 1 then
            let i := idxAt ![row I] h x
            let y := if add then Elt.idxAdd e (g i) (row v x) else row v x
            fun j => if (∀ a, (j a).val = (i a).val) then y else g j
          else g) f j
        = Ls.foldl (fun a k => if mk k.val = 1 ∧ (I k.val).toNat = (j 0).val then (if add then Elt.idxAdd e a (v k.val) else v k.val) else a) (f j) := by
    intro Ls
    induction Ls with
    | nil => intro f; rfl
    | cons k Ls ih =>
      intro f
      rw [List.foldl_cons, List.foldl_cons, ih]
      congr 1
      dsimp only [row_ofLane]
      by_cases hm : mk k.val = 1
      · have hrow : row (d := ![16]) mk (Shape.ofLane (d := ![16]) k) = 1 := hm
        simp only [hrow, hm, if_true, true_and]
        by_cases hj : (I k.val).toNat = (j 0).val
        · have hij : j = idxAt ![row I] h (Shape.ofLane (d := ![16]) k) := by
            funext a
            apply Fin.ext
            rw [Fin.eq_zero a]
            exact hj.symm
          have hall : ∀ a, (j a).val = ((idxAt ![row I] h (Shape.ofLane (d := ![16]) k)) a).val := fun a => by rw [← hij]
          rw [if_pos hall, if_pos hj, ← hij]
          rfl
        · have hall : ¬ ∀ a, (j a).val = ((idxAt ![row I] h (Shape.ofLane (d := ![16]) k)) a).val := fun hc => hj (hc 0).symm
          rw [if_neg hall, if_neg hj]
      · have hrow : ¬ row (d := ![16]) mk (Shape.ofLane (d := ![16]) k) = 1 := hm
        rw [if_neg hrow, if_neg (fun hc => hm hc.1)]
  exact key (List.finRange 16) (row X)

/-! ## The counts -/

/-- Adding ones counts the lanes. -/
theorem fold_ones (D : ℕ → ℕ) (b : ℕ) (a : BitVec 32) (m : ℕ) :
    (List.range m).foldl (fun a l => if (1#1 : BitVec 1) = 1 ∧ D l = b then a + 1#32 else a) a = a + BitVec.ofNat 32 (Nat.count (fun l => D l = b) m) := by
  induction m with
  | zero => simp
  | succ m ih =>
    rw [List.range_succ, List.foldl_append, ih, Nat.count_succ]
    by_cases hb : D m = b
    · simp only [List.foldl_cons, List.foldl_nil, hb, and_true, if_true, BitVec.ofNat_add, BitVec.add_assoc]
      rfl
    · simp [hb]

/-- Is lane `l` the last of the sixteen with its digit? -/
def isLast (D : ℕ → ℕ) (l : ℕ) : Prop := ∀ k, l < k → k < 16 → D k ≠ D l

open Classical in
/-- Adding, at the last lane of each digit, that lane's running count adds the whole count. -/
theorem fold_last (D : ℕ → ℕ) (mk : ℕ → BitVec 1) (hmk : ∀ l < 16, mk l = 1 ↔ isLast D l) (v : ℕ → BitVec 32)
    (hv : ∀ l < 16, v l = BitVec.ofNat 32 (Nat.count (fun k => D k = D l) (l + 1))) (b : ℕ) (a : BitVec 32) :
    (List.range 16).foldl (fun a l => if mk l = 1 ∧ D l = b then a + v l else a) a = a + BitVec.ofNat 32 (Nat.count (fun l => D l = b) 16) := by
  have key : ∀ m ≤ 16, (List.range m).foldl (fun a l => if mk l = 1 ∧ D l = b then a + v l else a) a
      = if (∃ l, m ≤ l ∧ l < 16 ∧ D l = b) then a else a + BitVec.ofNat 32 (Nat.count (fun l => D l = b) m) := by
    intro m
    induction m with
    | zero =>
      intro _
      simp
    | succ m ih =>
      intro hm
      rw [List.range_succ, List.foldl_append, ih (by omega)]
      simp only [List.foldl_cons, List.foldl_nil]
      by_cases hb : D m = b
      · have h1 : ∃ l, m ≤ l ∧ l < 16 ∧ D l = b := ⟨m, le_rfl, by omega, hb⟩
        rw [if_pos h1]
        by_cases hl : isLast D m
        · have h2 : ¬ ∃ l, m + 1 ≤ l ∧ l < 16 ∧ D l = b := fun ⟨l, h, h', h''⟩ => hl l (by omega) h' (h''.trans hb.symm)
          rw [if_neg h2, if_pos ⟨(hmk m (by omega)).2 hl, hb⟩, hv m (by omega), hb]
        · have h2 : ∃ l, m + 1 ≤ l ∧ l < 16 ∧ D l = b := by
            unfold isLast at hl
            push Not at hl
            obtain ⟨k, h, h', h''⟩ := hl
            exact ⟨k, h, h', h''.trans hb⟩
          rw [if_pos h2, if_neg (fun hc => hl ((hmk m (by omega)).1 hc.1))]
      · rw [if_neg (fun hc => hb hc.2), Nat.count_succ, if_neg hb, Nat.add_zero]
        congr 1
        refine propext ⟨fun ⟨l, h, h', h''⟩ => ⟨l, ?_, h', h''⟩, fun ⟨l, h, h', h''⟩ => ⟨l, by omega, h', h''⟩⟩
        rcases Nat.lt_or_ge m l with hc | hc
        · exact hc
        · exact absurd ((show l = m by omega) ▸ h'') hb
  rw [key 16 le_rfl, if_neg (by rintro ⟨l, h, h', _⟩; omega)]

/-- Writing lanes to different places: a place named by a lane holds that lane's value, -/
theorem fold_put {α : Type} (P : ℕ → ℕ) (v : ℕ → α) (hP : ∀ k < 16, ∀ l < 16, P k = P l → k = l) (l : ℕ) (hl : l < 16) (a : α) :
    (List.range 16).foldl (fun a k => if (1#1 : BitVec 1) = 1 ∧ P k = P l then v k else a) a = v l := by
  have key : ∀ m ≤ 16, (List.range m).foldl (fun a k => if (1#1 : BitVec 1) = 1 ∧ P k = P l then v k else a) a = if l < m then v l else a := by
    intro m
    induction m with
    | zero => intro _; simp
    | succ m ih =>
      intro hm
      rw [List.range_succ, List.foldl_append, ih (by omega)]
      simp only [List.foldl_cons, List.foldl_nil]
      by_cases hb : P m = P l
      · have := hP m (by omega) l hl hb
        subst this
        simp
      · have hne : m ≠ l := fun h => hb (by rw [h])
        rw [if_neg (fun hc => hb hc.2)]
        exact if_congr (by omega) rfl rfl
  rw [key 16 le_rfl, if_pos hl]

/-- and a place named by none keeps its value. -/
theorem fold_keep {α : Type} (P : ℕ → ℕ) (v : ℕ → α) (j : ℕ) (m : ℕ) (hj : ∀ k < m, P k ≠ j) (a : α) :
    (List.range m).foldl (fun a k => if (1#1 : BitVec 1) = 1 ∧ P k = j then v k else a) a = a := by
  induction m with
  | zero => rfl
  | succ m ih =>
    rw [List.range_succ, List.foldl_append, ih fun k hk => hj k (by omega)]
    simp [hj m (by omega)]

/-! ## The running count of equal digits -/

omit [FloatOps F] in
/-- The running count at lane `l`: how many of the lanes up to it have its digit, -/
theorem scanCount_count (I : ℕ → BitVec 32) :
    (scanCount (broadcast S16 (1#1 : BitVec 1)) (row (d := ![16]) I)).2
      = row fun l => BitVec.ofNat 32 (Nat.count (fun k => (I k).toNat = (I l).toNat) (l + 1)) := by
  funext x
  have hx : (x 0).val < 16 := (x 0).isLt
  have h1 : ((1#1 : BitVec 1) = 1) = True := eq_true rfl
  simp only [scanCount, broadcast, row, h1, if_true, Shape.rowMajor_val_one, true_and]
  congr 1
  rw [Nat.count_eq_card_filter_range]
  refine Finset.card_bij (fun (j : S16.Idx) _ => (j 0).val) ?_ ?_ ?_
  · intro j hj
    simp only [Finset.mem_filter, Finset.mem_univ, true_and] at hj
    simp only [Finset.mem_filter, Finset.mem_range]
    exact ⟨by omega, by rw [hj.2]⟩
  · intro j _ j' _ h
    funext a
    rw [Fin.eq_zero a]
    exact Fin.ext h
  · intro k hk
    simp only [Finset.mem_filter, Finset.mem_range] at hk
    refine ⟨Shape.ofLane (d := ![16]) ⟨k, show k < 16 by omega⟩, ?_, rfl⟩
    simp only [Finset.mem_filter, Finset.mem_univ, true_and]
    exact ⟨show k ≤ (x 0).val by omega, BitVec.eq_of_toNat_eq hk.2⟩

open Classical in
/-- and its mask: the last lane with its digit. -/
theorem scanCount_mask (I : ℕ → BitVec 32) :
    (scanCount (broadcast S16 (1#1 : BitVec 1)) (row (d := ![16]) I)).1
      = row fun l => if isLast (fun k => (I k).toNat) l then 1#1 else 0#1 := by
  funext x
  have hx : (x 0).val < 16 := (x 0).isLt
  have h1 : ((1#1 : BitVec 1) = 1) = True := eq_true rfl
  simp only [scanCount, broadcast, row, h1, Shape.rowMajor_val_one, true_and]
  refine if_congr ?_ rfl rfl
  constructor
  · intro h k hk hk' he
    exact h (Shape.ofLane (d := ![16]) ⟨k, hk'⟩) hk (BitVec.eq_of_toNat_eq he)
  · intro h j hj he
    exact h (j 0).val hj (j 0).isLt (congrArg BitVec.toNat he)

/-! ## The running sum -/

omit [FloatOps F] in
/-- The running sum of words that are numbers. -/
theorem scan_sum (H : ℕ → ℕ) :
    scan .sum (row (d := ![16]) fun l => BitVec.ofNat 32 (H l)) = row fun l => BitVec.ofNat 32 (∑ k ∈ Finset.range (l + 1), H k) := by
  funext x
  have hx : (x 0).val < 16 := (x 0).isLt
  have key : ∀ m, m < 16 → ((List.range 16).filter fun k => decide (0 < k ∧ k ≤ m)).foldl (fun r k => r + BitVec.ofNat 32 (H k)) (BitVec.ofNat 32 (H 0))
      = BitVec.ofNat 32 (∑ k ∈ Finset.range (m + 1), H k) := by
    intro m hm
    have hf : ((List.range 16).filter fun k => decide (0 < k ∧ k ≤ m)) = List.range' 1 m := by
      revert hm; revert m; decide
    rw [hf]
    clear hf hm hx
    induction m with
    | zero => simp
    | succ m ih =>
      rw [← List.range'_append_1 (s := 1) (m := m) (n := 1), List.foldl_append, ih, Finset.sum_range_succ _ (m + 1)]
      simp only [List.range'_one, List.foldl_cons, List.foldl_nil, BitVec.ofNat_add, Nat.add_comm 1 m]
  show _ = BitVec.ofNat 32 (∑ k ∈ Finset.range ((x 0).val + 1), H k)
  rw [← key (x 0).val hx, ← List.map_coe_finRange_eq_range, List.filter_map, List.foldl_map]
  rfl

end Cert.Lanes
-- ==== Proof.Words.lean ====
/-
  The vector expressions of the kernel's steps as rows of numbers: the digits of sixteen keys, the prefix sums of
  sixteen counts and the carry, and the places of sixteen keys.
-/
module

public import proofs.«01_k».proof.Proof.Shape
public import proofs.«01_k».proof.Proof.Lanes

@[expose] public section

noncomputable section

namespace Cert.KernelIdeal.Body

open Idealize.ShloMosaic Cert.Lanes Cert.Radix
open Cert.KernelIdeal Facts₀ Facts

variable [Facts]

/-- A key's digit at bit `sh`, as the kernel computes it. -/
def dg (sh x : BitVec 32) : BitVec 32 := IntOp.andi (IntOp.shrui .vector x sh) 255#32

/-- Shift `sh` selects byte `t`. -/
def Selects (sh : BitVec 32) (t : ℕ) : Prop := ∀ x, (dg sh x).toNat = dig t x

omit [Facts] in
theorem and255 (x : BitVec 32) : (x &&& 255#32).toNat = x.toNat % 256 := by
  rw [BitVec.toNat_and, show (255#32 : BitVec 32).toNat = 2 ^ 8 - 1 from rfl, Nat.and_two_pow_sub_one_eq_mod]

omit [Facts] in
theorem selects_of {sh : BitVec 32} {t : ℕ} (h : sh.toNat = 8 * t) (ht : t < 4) : Selects sh t := fun x => by
  have hlt : sh.toNat < 32 := by omega
  have hx : dg sh x = (x >>> sh.toNat) &&& 255#32 := by
    show IntOp.andi (if sh.toNat < 32 then x >>> sh else _) 255#32 = _
    rw [if_pos hlt]; rfl
  rw [hx, and255, BitVec.toNat_ushiftRight, h, Nat.shiftRight_eq_div_pow, Nat.pow_mul]
  rfl

omit [Facts] in
theorem digits_row (sh : BitVec 32) (K : ℕ → BitVec 32) : digits sh (row K) = row fun l => dg sh (K l) := rfl

/-- The digits of an array's keys at byte `t`. -/
abbrev dk (t : ℕ) (K : ℕ → BitVec 32) : ℕ → ℕ := fun j => dig t (K j)

/-! ## The prefix sums -/

/-- Counts `H`, those before `o` replaced by the sums of the counts before them. -/
def pre (H : ℕ → ℕ) (o : ℕ) : ℕ → BitVec 32 :=
  fun j => if j < o then BitVec.ofNat 32 (∑ k ∈ Finset.range j, H k) else BitVec.ofNat 32 (H j)

omit [Facts] in
theorem pre_row (H : ℕ → ℕ) (o : ℕ) : (row (d := ![16]) fun l => pre H o (o + l)) = row fun l => BitVec.ofNat 32 (H (o + l)) := by
  funext x
  show pre H o (o + (x 0).val) = BitVec.ofNat 32 (H (o + (x 0).val))
  unfold pre
  rw [if_neg (by omega)]

theorem prefixOf_row (H : ℕ → ℕ) (o : ℕ) :
    prefixOf (row fun l => BitVec.ofNat 32 (H (o + l))) (BitVec.ofNat 32 (∑ k ∈ Finset.range o, H k))
      = row fun l => BitVec.ofNat 32 (∑ k ∈ Finset.range (o + l), H k) := by
  unfold prefixOf
  rw [scan_sum (fun l => H (o + l))]
  funext x
  show BitVec.ofNat 32 (∑ k ∈ Finset.range ((x 0).val + 1), H (o + k)) - BitVec.ofNat 32 (H (o + (x 0).val)) + BitVec.ofNat 32 (∑ k ∈ Finset.range o, H k)
    = BitVec.ofNat 32 (∑ k ∈ Finset.range (o + (x 0).val), H k)
  rw [Finset.sum_range_succ, BitVec.ofNat_add, BitVec.add_sub_cancel, ← BitVec.ofNat_add, Finset.sum_range_add, Nat.add_comm]

theorem carryOf_row (H : ℕ → ℕ) (o : ℕ) :
    carryOf (row fun l => BitVec.ofNat 32 (H (o + l))) (BitVec.ofNat 32 (∑ k ∈ Finset.range o, H k))
      = BitVec.ofNat 32 (∑ k ∈ Finset.range (o + 16), H k) := by
  unfold carryOf
  rw [scan_sum (fun l => H (o + l))]
  show BitVec.ofNat 32 (∑ k ∈ Finset.range o, H k) + BitVec.ofNat 32 (∑ k ∈ Finset.range (15 + 1), H (o + k)) = _
  rw [← BitVec.ofNat_add, Finset.sum_range_add _ o 16]

/-- The sums of the counts are where the digits begin. -/
theorem sum_cnt (n : ℕ) (d : ℕ → ℕ) (b : ℕ) : ∑ k ∈ Finset.range b, cnt d k n = base n d b := by
  induction b with
  | zero => rw [base_zero]; rfl
  | succ b ih => rw [Finset.sum_range_succ, ih, base_succ]

/-! ## The places -/

/-- Where the next key of digit `b` goes, `i` keys having been placed. -/
def next (n : ℕ) (d : ℕ → ℕ) (i b : ℕ) : BitVec 32 := BitVec.ofNat 32 (base n d b + cnt d b i)

variable {sh : BitVec 32} {t : ℕ}

/-- The count of equal digits up to lane `l`, -/
theorem counts_row (hs : Selects sh t) (K : ℕ → BitVec 32) (o : ℕ) :
    (scanCount (broadcast S16 (1#1 : BitVec 1)) (digits sh (row fun l => K (o + l)))).2
      = row fun l => BitVec.ofNat 32 (Nat.count (fun k => dk t K (o + k) = dk t K (o + l)) (l + 1)) := by
  rw [digits_row]
  refine (scanCount_count _).trans ?_
  simp only [hs _]

/-- and the places: the number of keys that belong before. -/
theorem places_row (hs : Selects sh t) (n : ℕ) (K : ℕ → BitVec 32) (o : ℕ) :
    places sh (row fun l => K (o + l)) (row fun l => next n (dk t K) o (dg sh (K (o + l))).toNat)
      = row fun l => BitVec.ofNat 32 (pos n (dk t K) (o + l)) := by
  unfold places
  rw [counts_row hs]
  funext x
  show next n (dk t K) o (dg sh (K (o + (x 0).val))).toNat
      + BitVec.ofNat 32 (Nat.count (fun k => dk t K (o + k) = dk t K (o + (x 0).val)) ((x 0).val + 1)) - 1#32
    = BitVec.ofNat 32 (pos n (dk t K) (o + (x 0).val))
  rw [hs, Nat.count_succ, if_pos rfl, BitVec.ofNat_add, ← BitVec.add_assoc, BitVec.add_sub_cancel]
  unfold next pos
  rw [← BitVec.ofNat_add, cnt_add, Nat.add_assoc]

/-- What the tables hold after sixteen more keys. -/
theorem next_add (n : ℕ) (d : ℕ → ℕ) (i b : ℕ) :
    next n d i b + BitVec.ofNat 32 (Nat.count (fun l => d (i + l) = b) 16) = next n d (i + 16) b := by
  unfold next
  rw [← BitVec.ofNat_add, cnt_add, Nat.add_assoc]

open Classical in
/-- The tables after the scatter of the last of each digit. -/
theorem fold_next (hs : Selects sh t) (n : ℕ) (K : ℕ → BitVec 32) (o b : ℕ) :
    (List.range 16).foldl (fun a l => if (if isLast (fun k => (dg sh (K (o + k))).toNat) l then 1#1 else 0#1 : BitVec 1) = 1 ∧ (dg sh (K (o + l))).toNat = b
        then a + BitVec.ofNat 32 (Nat.count (fun k => dk t K (o + k) = dk t K (o + l)) (l + 1)) else a) (next n (dk t K) o b)
      = next n (dk t K) (o + 16) b := by
  rw [← next_add]
  simp only [hs _]
  refine fold_last (fun k => dig t (K (o + k))) _ (fun l _ => ?_) _ (fun l _ => rfl) b _
  by_cases h : isLast (fun k => dig t (K (o + k))) l <;> simp [h]

/-- The placed array after sixteen more elements. -/
theorem fold_place (n : ℕ) (hn : n ≤ 2 ^ 32) (d : ℕ → ℕ) (o : ℕ) (ho : o + 16 ≤ n) {α : Type} (V X : ℕ → α) (hX : ∀ j < o, X (pos n d j) = V j) (j : ℕ) (hj : j < o + 16) :
    (List.range 16).foldl (fun a l => if (1#1 : BitVec 1) = 1 ∧ (BitVec.ofNat 32 (pos n d (o + l))).toNat = pos n d j then V (o + l) else a) (X (pos n d j)) = V j := by
  have hP : ∀ l < 16, (BitVec.ofNat 32 (pos n d (o + l))).toNat = pos n d (o + l) := fun l hl => by
    rw [BitVec.toNat_ofNat]
    exact Nat.mod_eq_of_lt (lt_of_lt_of_le (pos_lt n d (by omega)) hn)
  rcases Nat.lt_or_ge j o with hc | hc
  · rw [fold_keep (fun l => (BitVec.ofNat 32 (pos n d (o + l))).toNat) _ _ 16 ?_]
    · exact hX j hc
    · intro k hk h
      rw [hP k hk] at h
      have := pos_inj n d (by omega) (by omega) h
      omega
  · obtain ⟨l, rfl⟩ := Nat.exists_eq_add_of_le hc
    rw [← hP l (by omega)]
    refine fold_put (fun l => (BitVec.ofNat 32 (pos n d (o + l))).toNat) (fun l => V (o + l)) (fun k hk m hm h => ?_) l (by omega) _
    rw [hP k hk, hP m hm] at h
    have := pos_inj n d (by omega) (by omega) h
    omega

end Cert.KernelIdeal.Body
-- ==== Proof.Arr.lean ====
/-
  A scratch array owned with its contents given as a function of the element's number (`arr`), and the rules of the
  kernel's operations on it: load and store of sixteen elements, and the indexed load and store.
-/
module

public import Idealize.ShloMosaic.Lib.SparseCore.Ops
public import Idealize.ShloMosaic.Lib.Memref
public import Idealize.ShloMosaic.Lib.Scf
public import proofs.«01_k».proof.Proof.Lanes

@[expose] public section

noncomputable section

namespace Cert.Arr

open Idealize.ShloMosaic Cert.Lanes
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}

local notation "𝕄" => MT nD τ sig Ix (Elt F) Name U Lvl

/-- Thread `c` owns the array `m`, whose element number `j` is `X j`. -/
def arr (c : Thread nD τ) {sp : Space} {n : ℕ} {e : EltTy} (m : Memref sig c.2.kind sp ⟨1, ![n]⟩ e) (X : ℕ → Elt F e) : sProp 𝕄 :=
  owns c m fullShare (row X)

omit [FloatOps F] [Preorder Lvl] in
theorem arr_congr (c : Thread nD τ) {sp : Space} {n : ℕ} {e : EltTy} (m : Memref sig c.2.kind sp ⟨1, ![n]⟩ e) {X Y : ℕ → Elt F e}
    (h : ∀ j, j < n → X j = Y j) : (arr c m X : sProp 𝕄) ⊢ arr c m Y := by
  unfold arr; rw [row_congr h]

omit [FloatOps F] [Preorder Lvl] in
theorem arr_of_pts (c : Thread nD τ) {sp : Space} {n : ℕ} {e : EltTy} (m : Memref sig c.2.kind sp ⟨1, ![n]⟩ e) {X : ℕ → Elt F e}
    {f : Buf (Elt F) (m.view.loc c)} (h : m.view.read (Elt F) f = row X) : (m.view.loc c ↦[m.view.set]{fullShare} f : sProp 𝕄) ⊢ arr c m X := by
  unfold arr owns
  iintro H
  iexists f; isplitr; · ipureintro; exact h
  iexact H

/-- `X` with sixteen elements from `o` on replaced by `W`. -/
def put {α : Type} (o : ℕ) (W X : ℕ → α) : ℕ → α := fun j => if o ≤ j ∧ j < o + 16 then W (j - o) else X j

variable {defs : Defs nD τ sig (Elt F) Λ} (𝒱 : Variants) (c : Thread nD τ) (bd : Option 𝒱.V) (E : Set Name)
variable {n : ℕ} {e : EltTy} {α : Type} {Q : α → sProp (MT nD τ sig Ix (Elt F) Name U Lvl)}

omit [FloatOps F] in
/-- Sixteen elements loaded. -/
theorem wp_load {m : Memref sig c.2.kind .vmem ⟨1, ![n]⟩ e} {off : Fin 1 → ℕ} {h : ∀ a, off a + S16.size a ≤ (⟨1, ![n]⟩ : Shape).size a}
    {hl} {k : (S16.Idx → Elt F e) → Prog (TpuEff nD τ sig (Elt F) Λ c.2) α} {X : ℕ → Elt F e} :
    (arr c m X : sProp 𝕄)
      ⊢ iprop((arr c m X -∗ wp frame (wpE defs 𝒱 c bd) E (k (row fun l => X (off 0 + l))) Q)
        -∗ wp frame (wpE defs 𝒱 c bd) E (.op (.load m (Rect.unit (s := ⟨1, ![n]⟩) off S16.size h).toLoadRect hl) k) Q) := by
  unfold arr owns
  iintro ⟨%f, %hf, H⟩ Hk
  iapply (Idealize.ShloMosaic.wp_load 𝒱 c bd E (defs := defs) (m := m) (r := (Rect.unit (s := ⟨1, ![n]⟩) off S16.size h).toLoadRect) (Q := Q) (f := f)
    (S := m.view.set) (View.setOn_subset_set _ _)) $$ H
  iintro H
  have hr : m.view.readAt (Elt F) (Rect.unit (s := ⟨1, ![n]⟩) off S16.size h).toLoadRect f = row (d := ![16]) fun l => X (off 0 + l) := by
    funext x
    rw [View.readAt_apply, hf]
    show X _ = X _
    congr 1
    rw [LoadRect.idx_apply]
    show off 0 + 1 * (x 0).val = _
    rw [Nat.one_mul]
  rw [hr]
  iapply Hk
  iexists f; isplitr; · ipureintro; exact hf
  iexact H

omit [FloatOps F] in
/-- Sixteen elements stored. -/
theorem wp_store {m : Memref sig c.2.kind .vmem ⟨1, ![n]⟩ e} {off : Fin 1 → ℕ} {h : ∀ a, off a + S16.size a ≤ (⟨1, ![n]⟩ : Shape).size a}
    {w : S16.Idx → Elt F e} {hx hm} {k : PUnit → Prog (TpuEff nD τ sig (Elt F) Λ c.2) α} {X W : ℕ → Elt F e} (hw : w = row W) :
    (arr c m X : sProp 𝕄)
      ⊢ iprop((arr c m (put (off 0) W X) -∗ wp frame (wpE defs 𝒱 c bd) E (k ⟨⟩) Q)
        -∗ wp frame (wpE defs 𝒱 c bd) E (.op (.store m (Rect.unit (s := ⟨1, ![n]⟩) off S16.size h) w Finset.univ hx hm) k) Q) := by
  unfold arr owns
  iintro ⟨%f, %hf, H⟩ Hk
  iapply (Idealize.ShloMosaic.wp_store 𝒱 c bd E (defs := defs) (m := m) (r := Rect.unit (s := ⟨1, ![n]⟩) off S16.size h) (Q := Q) (f := f) (S := m.view.set)
    (show (m.view.slice (Rect.unit (s := ⟨1, ![n]⟩) off S16.size h)).setOn Finset.univ ⊆ m.view.set from View.set_slice_subset _ _)) $$ H
  iintro H
  iapply Hk
  iexists _; isplitr; rotate_left
  · iexact H
  ipureintro
  subst hw
  have he : ∀ x : S16.Idx, (((Rect.unit (s := ⟨1, ![n]⟩) off S16.size h).emb x) 0).val = off 0 + (x 0).val := fun x => by
    show off 0 + 1 * (x 0).val = _
    rw [Nat.one_mul]
  funext j
  show m.view.read (Elt F) ((m.view.slice (Rect.unit (s := ⟨1, ![n]⟩) off S16.size h)).write (Elt F) f (row W) Finset.univ) j = put (off 0) W X (j 0).val
  unfold put
  split
  · rename_i hj
    have hlt : (j 0).val - off 0 < 16 := by omega
    have hj' : j = (Rect.unit (s := ⟨1, ![n]⟩) off S16.size h).emb (Shape.ofLane (d := ![16]) ⟨(j 0).val - off 0, hlt⟩) := by
      funext a
      apply Fin.ext
      rw [Fin.eq_zero a, he]
      show _ = off 0 + ((j 0).val - off 0)
      omega
    rw [hj', View.read_slice_write_emb _ _ _ (Finset.mem_univ _), ← hj']
    rfl
  · rename_i hj
    rw [View.read_slice_write_of_not_mem, hf]
    · rfl
    · intro hm
      obtain ⟨x, _, rfl⟩ := Finset.mem_map.mp hm
      refine hj ?_
      rw [he]
      have : (x 0).val < 16 := (x 0).isLt
      omega

omit [FloatOps F] in
/-- The elements that sixteen lanes name, loaded. -/
theorem wp_loadIdx {m : Memref sig c.2.kind .vmem ⟨1, ![n]⟩ e} {I : ℕ → BitVec 32} {v : IVec S16 32} (hv : v = row I)
    {h : ∀ a x, ((![v] : Fin 1 → IVec S16 32) a x).toNat < (⟨1, ![n]⟩ : Shape).size a} {hl}
    {k : Vec F S16 e → Prog (TpuEff nD τ sig (Elt F) Λ c.2) α} {X : ℕ → Elt F e} :
    (arr c m X : sProp 𝕄)
      ⊢ iprop((arr c m X -∗ wp frame (wpE defs 𝒱 c bd) E (k (row fun l => X (I l).toNat)) Q)
        -∗ wp frame (wpE defs 𝒱 c bd) E (SparseCore.vectorLoadIdx m ![v] h hl >>= k) Q) := by
  subst hv
  unfold arr owns
  iintro ⟨%f, %hf, H⟩ Hk
  iapply (SparseCore.wp_vectorLoadIdx 𝒱 c bd E (defs := defs) (base := m) (Q := Q) (f := f) (S := m.view.set) (View.set_slice_subset _ _)) $$ H
  iintro H
  have hr : loadIdx ((m.access (.whole ⟨1, ![n]⟩)).read (Elt F) f) ![row (d := ![16]) I] h = row (d := ![16]) fun l => X (I l).toNat := by
    have h2 : (m.access (.whole ⟨1, ![n]⟩)).read (Elt F) f = row (d := ![n]) X := by
      rw [← hf]
      funext x
      show m.view.read (Elt F) f ((Rect.whole _).emb x) = _
      rw [Rect.emb_whole_apply]
    rw [h2]
    rfl
  rw [hr]
  iapply Hk
  iexists f; isplitr; · ipureintro; exact hf
  iexact H

/-- The elements that sixteen lanes name, stored to (or added to): `Y` is what the array then holds. -/
theorem wp_storeIdx {m : Memref sig c.2.kind .vmem ⟨1, ![n]⟩ e} {I : ℕ → BitVec 32} {i : IVec S16 32} (hi : i = row I)
    {W : ℕ → Elt F e} {v : Vec F S16 e} (hv : v = row W) {M : ℕ → BitVec 1} {mask : IVec S16 1} (hmask : mask = row M) {add : Bool}
    {h : ∀ a x, ((![i] : Fin 1 → IVec S16 32) a x).toNat < (⟨1, ![n]⟩ : Shape).size a} {hs}
    {k : PUnit → Prog (TpuEff nD τ sig (Elt F) Λ c.2) α} {X : ℕ → Elt F e} (Y : ℕ → Elt F e)
    (hY : ∀ j, j < n → (List.range 16).foldl (fun a l => if M l = 1 ∧ (I l).toNat = j then (if add then Elt.idxAdd e a (W l) else W l) else a) (X j) = Y j) :
    (arr c m X : sProp 𝕄)
      ⊢ iprop((arr c m Y -∗ wp frame (wpE defs 𝒱 c bd) E (k ⟨⟩) Q)
        -∗ wp frame (wpE defs 𝒱 c bd) E (SparseCore.vectorStoreIdx m ![i] v mask add h hs >>= k) Q) := by
  subst hi hv hmask
  unfold arr owns
  have hset : (m.access (.whole ⟨1, ![n]⟩)).set = m.view.set := by
    rw [View.set_slice, Rect.set_whole]; rfl
  have hw : ∀ g, (m.access (.whole ⟨1, ![n]⟩)).read (Elt F) g = m.view.read (Elt F) g := fun g => by
    funext x
    show m.view.read (Elt F) g ((Rect.whole _).emb x) = _
    rw [Rect.emb_whole_apply]
  iintro ⟨%f, %hf, H⟩ Hk
  rw [← hset]
  iapply (SparseCore.wp_vectorStoreIdx 𝒱 c bd E (defs := defs) (base := m) (Q := Q) (f := f)) $$ H
  iintro H
  iapply Hk
  iexists _; isplitr; rotate_left
  · iexact H
  ipureintro
  rw [← hw, View.read_write_univ, hw, hf]
  funext j
  rw [storeIdx_row]
  exact hY _ (j 0).isLt

end Cert.Arr
-- ==== Proof.Passes.lean ====
/-
  One pass of the kernel's counting sort over its two rows: the tables cleared, the digits counted, the counts summed
  up, and every key, its origin beside it, put at its place.
-/
module

public import proofs.«01_k».proof.Proof.Words
public import proofs.«01_k».proof.Proof.Arr

@[expose] public section

noncomputable section

namespace Cert.KernelIdeal.Body

open Idealize.ShloMosaic Cert.Lanes Cert.Radix
open Cert.Arr (arr put arr_congr)
open Cert.KernelIdeal Facts₀ Facts
open Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- Tile `i` of device `d`. -/
abbrev thr (d : Dev nD) (i : grid1.Coords) : Thread nD τ := (d, .scVector ((i 0).castLE hcore1) ((i 1).castLE hsub1))

variable {defs : Defs nD τ sig (Elt F) Λ₀} (𝒱 : Variants) (bd : Option 𝒱.V) (E : Set Name) (d : Dev nD) (i : grid1.Coords)
variable {α : Type} {Q : α → sProp (MT nD τ sig Ix (Elt F) Name U Lvl)}

/-- A program's weakest precondition at tile `i`. -/
abbrev W {α : Type} (defs : Defs nD τ sig (Elt F) Λ₀) (𝒱 : Variants) (bd : Option 𝒱.V) (E : Set Name) (d : Dev nD) (i : grid1.Coords)
    (p : PT F i α) (Q : α → sProp 𝕄) : sProp 𝕄 := wp frame (wpE defs 𝒱 (thr d i) bd) E p Q

/-- An array of words, owned by the tile, -/
abbrev own (d : Dev nD) (i : grid1.Coords) {n : ℕ} {e : EltTy} (m : Memref sig .scVector .vmem ⟨1, ![n]⟩ e) (X : ℕ → Elt F e) : sProp 𝕄 :=
  arr (thr d i) m X

/-! ## The tables cleared -/

/-- `X` cleared from `o` on, `n` chunks. -/
def clr (o n : ℕ) (X : ℕ → BitVec 32) : ℕ → BitVec 32 := fun j => if o ≤ j ∧ j < o + 16 * n then 0#32 else X j

theorem clr_put (o n : ℕ) (X : ℕ → BitVec 32) : clr (o + 16) n (put o (fun _ => 0#32) X) = clr o (n + 1) X := by
  funext j
  unfold clr put
  split_ifs <;> first | rfl | omega

theorem zeros_row : (broadcast S16 (0#32 : BitVec 32) : S16.Idx → Elt F .i32) = row fun _ => (0#32 : BitVec 32) := rfl
theorem ones_row : (broadcast S16 (1#32 : BitVec 32) : S16.Idx → Elt F .i32) = row fun _ => (1#32 : BitVec 32) := rfl
theorem all_row : (fun _ => 1#1 : IVec S16 1) = row fun _ => 1#1 := rfl

theorem wp_zero {m0 m1 : Tab} {k : PT F i α} (n o : ℕ) (h : o + 16 * n ≤ 256) (X0 X1 : ℕ → BitVec 32) :
    iprop(own d i m0 X0 ∗ own d i m1 X1 ∗ (own d i m0 (clr o n X0) ∗ own d i m1 (clr o n X1) -∗ W defs 𝒱 bd E d i k Q))
      ⊢ W defs 𝒱 bd E d i (zeroC i m0 m1 k n o h) Q := by
  induction n generalizing o X0 X1 with
  | zero =>
    have hc : ∀ X : ℕ → BitVec 32, clr o 0 X = X := fun X => by
      funext j; unfold clr; rw [if_neg (by omega)]
    rw [hc, hc]
    unfold zeroC
    iintro ⟨H0, H1, Hk⟩
    iapply Hk
    isplitl [H0] <;> iassumption
  | succ n ih =>
    unfold zeroC
    iintro ⟨H0, H1, Hk⟩
    iapply (Arr.wp_load 𝒱 (thr d i) bd E) $$ H0; iintro H0
    iapply (Arr.wp_store 𝒱 (thr d i) bd E (zeros_row)) $$ H0; iintro H0
    iapply (Arr.wp_load 𝒱 (thr d i) bd E) $$ H1; iintro H1
    iapply (Arr.wp_store 𝒱 (thr d i) bd E (zeros_row)) $$ H1; iintro H1
    iapply (ih (o + 16) _ _ _)
    isplitl [H0]; · iexact H0
    isplitl [H1]; · iexact H1
    rw [show (![o] : Fin 1 → ℕ) 0 = o from rfl, clr_put, clr_put]
    iexact Hk

/-! ## The counts summed up -/

theorem pre_put (H : ℕ → ℕ) (o : ℕ) : put o (fun l => BitVec.ofNat 32 (∑ k ∈ Finset.range (o + l), H k)) (pre H o) = pre H (o + 16) := by
  funext j
  unfold pre put
  by_cases h1 : o ≤ j ∧ j < o + 16
  · rw [if_pos h1, if_pos h1.2]; dsimp only; rw [show o + (j - o) = j by omega]
  · rw [if_neg h1]
    exact if_congr (by omega) rfl rfl

theorem wp_prefix {m0 m1 : Tab} {k : PT F i α} (n o : ℕ) (h : o + 16 * n ≤ 256) (H0 H1 : ℕ → ℕ) :
    iprop(own d i m0 (pre H0 o) ∗ own d i m1 (pre H1 o)
        ∗ (own d i m0 (pre H0 (o + 16 * n)) ∗ own d i m1 (pre H1 (o + 16 * n)) -∗ W defs 𝒱 bd E d i k Q))
      ⊢ W defs 𝒱 bd E d i (prefixC i m0 m1 k n o h (BitVec.ofNat 32 (∑ k ∈ Finset.range o, H0 k)) (BitVec.ofNat 32 (∑ k ∈ Finset.range o, H1 k))) Q := by
  induction n generalizing o with
  | zero =>
    unfold prefixC
    iintro ⟨H0, H1, Hk⟩
    iapply Hk
    isplitl [H0] <;> iassumption
  | succ n ih =>
    unfold prefixC
    iintro ⟨H0, H1, Hk⟩
    iapply (Arr.wp_load 𝒱 (thr d i) bd E) $$ H0; iintro H0
    iapply (Arr.wp_load 𝒱 (thr d i) bd E) $$ H1; iintro H1
    iapply (Arr.wp_load 𝒱 (thr d i) bd E) $$ H0; iintro H0
    rw [show (![o] : Fin 1 → ℕ) 0 = o from rfl, pre_row, pre_row, prefixOf_row, prefixOf_row, carryOf_row, carryOf_row]
    iapply (Arr.wp_store 𝒱 (thr d i) bd E rfl) $$ H0; iintro H0
    iapply (Arr.wp_load 𝒱 (thr d i) bd E) $$ H1; iintro H1
    iapply (Arr.wp_store 𝒱 (thr d i) bd E rfl) $$ H1; iintro H1
    iapply (ih (o + 16) _)
    rw [show (![o] : Fin 1 → ℕ) 0 = o from rfl, pre_put, pre_put, show o + 16 + 16 * n = o + 16 * (n + 1) by omega]
    isplitl [H0]; · iexact H0
    isplitl [H1]; · iexact H1
    iexact Hk

/-! ## The digits counted -/

variable {sh : BitVec 32} {t : ℕ}

/-- The counts of the first `i` keys. -/
def counts (t : ℕ) (K : ℕ → BitVec 32) (i : ℕ) : ℕ → BitVec 32 := fun b => BitVec.ofNat 32 (cnt (dk t K) b i)

theorem fold_counts (hs : Selects sh t) (K : ℕ → BitVec 32) (o b : ℕ) :
    (List.range 16).foldl (fun a l => if (1#1 : BitVec 1) = 1 ∧ (dg sh (K (o + l))).toNat = b then a + 1#32 else a) (counts t K o b)
      = counts t K (o + 16) b := by
  simp only [hs _]
  rw [fold_ones (fun l => dig t (K (o + l)))]
  unfold counts
  rw [← BitVec.ofNat_add, cnt_add]

theorem digits_inb (hs : Selects sh t) (K : ℕ → BitVec 32) :
    ∀ a x, ((![digits sh (row K)] : Fin 1 → IVec S16 32) a x).toNat < S256.size a := fun a x => by
  rw [Fin.eq_zero a]
  exact lt_of_eq_of_lt (hs (K (x 0).val)) (dig_lt _ _)

theorem wp_histTrip {k0 k1 : RowI} {m0 m1 : Tab} (hs : Selects sh t) (K0 K1 : ℕ → BitVec 32) (s : Fin k1_t2_loop.trips) :
    iprop((own d i k0 K0 : sProp 𝕄) ∗ own d i k1 K1 ∗ own d i m0 (counts t K0 (16 * s.val)) ∗ own d i m1 (counts t K1 (16 * s.val)))
      ⊢ W defs 𝒱 bd E d i (histTrip i sh k0 k1 m0 m1 s) fun _ =>
          iprop(own d i k0 K0 ∗ own d i k1 K1 ∗ own d i m0 (counts t K0 (16 * (s.val + 1))) ∗ own d i m1 (counts t K1 (16 * (s.val + 1)))) := by
  have ho : k1_off3 s 0 = 16 * s.val := congrFun (Gen.k1_off3_eq s) 0
  unfold histTrip
  iintro ⟨HK0, HK1, H0, H1⟩
  iapply (Arr.wp_load 𝒱 (thr d i) bd E) $$ HK0; iintro HK0
  iapply (Arr.wp_load 𝒱 (thr d i) bd E) $$ HK1; iintro HK1
  rw [ho]
  iapply (wp_assume (defs := defs) 𝒱 (thr d i) bd E (digits_inb hs _))
  iapply (wp_assume (defs := defs) 𝒱 (thr d i) bd E (digits_inb hs _))
  iapply (Arr.wp_storeIdx 𝒱 (thr d i) bd E (digits_row _ _) ones_row all_row (counts t K0 (16 * s.val + 16))
    (fun j _ => fold_counts hs K0 _ j)) $$ H0; iintro H0
  iapply (Arr.wp_storeIdx 𝒱 (thr d i) bd E (digits_row _ _) ones_row all_row (counts t K1 (16 * s.val + 16))
    (fun j _ => fold_counts hs K1 _ j)) $$ H1; iintro H1
  rw [wp_ret]
  imodintro
  isplitl [HK0]; · iexact HK0
  isplitl [HK1]; · iexact HK1
  isplitl [H0]; · iexact H0
  iexact H1

theorem wp_hist {k0 k1 : RowI} {m0 m1 : Tab} {k : PT F i α} (hs : Selects sh t) (K0 K1 : ℕ → BitVec 32) :
    iprop(own d i k0 K0 ∗ own d i k1 K1 ∗ own d i m0 (fun _ => 0#32) ∗ own d i m1 (fun _ => 0#32)
        ∗ (own d i k0 K0 ∗ own d i k1 K1 ∗ own d i m0 (counts t K0 8192) ∗ own d i m1 (counts t K1 8192) -∗ W defs 𝒱 bd E d i k Q))
      ⊢ W defs 𝒱 bd E d i (histLoop i sh k0 k1 m0 m1 >>= fun _ => k) Q := by
  unfold histLoop
  have h0 : ∀ K, counts t K (16 * 0) = fun _ => 0#32 := fun K => by
    funext b; unfold counts; rw [Nat.mul_zero, cnt_zero]
  iintro ⟨HK0, HK1, H0, H1, Hk⟩
  iapply (Scf.wp_for_bind frame (wpE defs 𝒱 (thr d i) bd) E k1_t2_loop.lb k1_t2_loop.ub k1_t2_loop.st k1_t2_ok 0#32 (fun s _ => histTrip i sh k0 k1 m0 m1 s)
    (fun s _ => iprop(own d i k0 K0 ∗ own d i k1 K1 ∗ own d i m0 (counts t K0 (16 * s)) ∗ own d i m1 (counts t K1 (16 * s))))
    (fun s _ => wp_histTrip 𝒱 bd E d i hs K0 K1 s)) $$ [HK0 HK1 H0 H1]
  · rw [h0, h0]
    isplitl [HK0]; · iexact HK0
    isplitl [HK1]; · iexact HK1
    isplitl [H0]; · iexact H0
    iexact H1
  · iintro %_ H
    iapply Hk
    iexact H

/-! ## The keys placed -/

/-- The first `o` keys, and beside each its origin, are at their places. -/
def placed (d : Dev nD) (i : grid1.Coords) (t : ℕ) (K V : ℕ → BitVec 32) (k' v' : RowI) (o : ℕ) : sProp 𝕄 :=
  iprop(∃ X Y, ⌜∀ j < o, X (pos 8192 (dk t K) j) = K j ∧ Y (pos 8192 (dk t K) j) = V j⌝ ∗ own d i k' X ∗ own d i v' Y)

theorem digits_inb2 (hs : Selects sh t) (K : ℕ → BitVec 32) : k1_chk3 (digits sh (row K)) := ⟨digits_inb hs K, digits_inb hs K⟩

theorem pos_toNat {n : ℕ} (hn : n ≤ 2 ^ 32) (dd : ℕ → ℕ) {j : ℕ} (hj : j < n) : (BitVec.ofNat 32 (pos n dd j)).toNat < n := by
  rw [BitVec.toNat_ofNat]
  exact (Nat.mod_le _ _).trans_lt (pos_lt n dd hj)

theorem places_inb (hs : Selects sh t) (K : ℕ → BitVec 32) {o : ℕ} (ho : o + 16 ≤ 8192) :
    k1_chk5 (places sh (row fun l => K (o + l)) (row fun l => next 8192 (dk t K) o (dg sh (K (o + l))).toNat)) := by
  rw [places_row hs]
  have h : ∀ a x, ((![row fun l => BitVec.ofNat 32 (pos 8192 (dk t K) (o + l))] : Fin 1 → IVec S16 32) a x).toNat < S8192.size a := fun a x => by
    rw [Fin.eq_zero a]
    have hx : (x 0).val < 16 := (x 0).isLt
    exact pos_toNat (by decide) (dk t K) (show o + (x 0).val < 8192 by omega)
  exact ⟨h, h⟩

open Classical in
theorem mask_row (sh : BitVec 32) (K : ℕ → BitVec 32) (o : ℕ) :
    (scanCount (broadcast S16 (1#1 : BitVec 1)) (digits sh (row fun l => K (o + l)))).1
      = row fun l => if isLast (fun k => (dg sh (K (o + k))).toNat) l then 1#1 else 0#1 := scanCount_mask fun l => dg sh (K (o + l))

set_option maxHeartbeats 1000000 in
theorem wp_rankTrip {k0 v0 k1 v1 k0' v0' k1' v1' : RowI} {m0 m1 : Tab} (hs : Selects sh t) (K0 V0 K1 V1 : ℕ → BitVec 32) (s : Fin k1_t3_loop.trips) :
    iprop((own d i k0 K0 : sProp 𝕄) ∗ own d i v0 V0 ∗ own d i k1 K1 ∗ own d i v1 V1
        ∗ placed d i t K0 V0 k0' v0' (16 * s.val) ∗ placed d i t K1 V1 k1' v1' (16 * s.val)
        ∗ own d i m0 (next 8192 (dk t K0) (16 * s.val)) ∗ own d i m1 (next 8192 (dk t K1) (16 * s.val)))
      ⊢ W defs 𝒱 bd E d i (rankTrip i sh k0 v0 k1 v1 k0' v0' k1' v1' m0 m1 s) fun _ =>
        iprop(own d i k0 K0 ∗ own d i v0 V0 ∗ own d i k1 K1 ∗ own d i v1 V1
        ∗ placed d i t K0 V0 k0' v0' (16 * (s.val + 1)) ∗ placed d i t K1 V1 k1' v1' (16 * (s.val + 1))
        ∗ own d i m0 (next 8192 (dk t K0) (16 * (s.val + 1))) ∗ own d i m1 (next 8192 (dk t K1) (16 * (s.val + 1)))) := by
  have ho : k1_off4 s 0 = 16 * s.val := congrFun (Gen.k1_off4_eq s) 0
  have hs16 : 16 * s.val + 16 ≤ 8192 := by
    have := k1_off4_inb s 0
    rw [ho] at this
    exact this
  unfold rankTrip placed
  iintro ⟨HK0, HV0, HK1, HV1, ⟨%X0, %Y0, %h0, HX0, HY0⟩, ⟨%X1, %Y1, %h1, HX1, HY1⟩, H0, H1⟩
  iapply (Arr.wp_load 𝒱 (thr d i) bd E) $$ HK0; iintro HK0
  iapply (Arr.wp_load 𝒱 (thr d i) bd E) $$ HV0; iintro HV0
  iapply (Arr.wp_load 𝒱 (thr d i) bd E) $$ HK1; iintro HK1
  iapply (Arr.wp_load 𝒱 (thr d i) bd E) $$ HV1; iintro HV1
  rw [ho]
  iapply (wp_assume (defs := defs) 𝒱 (thr d i) bd E (digits_inb2 hs _))
  iapply (wp_assume (defs := defs) 𝒱 (thr d i) bd E (digits_inb2 hs _))
  iapply (Arr.wp_loadIdx 𝒱 (thr d i) bd E (digits_row _ _)) $$ H0; iintro H0
  iapply (Arr.wp_loadIdx 𝒱 (thr d i) bd E (digits_row _ _)) $$ H1; iintro H1
  iapply (wp_assume (defs := defs) 𝒱 (thr d i) bd E (places_inb hs K0 hs16))
  iapply (wp_assume (defs := defs) 𝒱 (thr d i) bd E (places_inb hs K1 hs16))
  iapply (Arr.wp_storeIdx 𝒱 (thr d i) bd E (places_row hs 8192 K0 (16 * s.val)) rfl all_row _ (fun _ _ => rfl)) $$ HX0; iintro HX0
  iapply (Arr.wp_storeIdx 𝒱 (thr d i) bd E (places_row hs 8192 K0 (16 * s.val)) rfl all_row _ (fun _ _ => rfl)) $$ HY0; iintro HY0
  iapply (Arr.wp_storeIdx 𝒱 (thr d i) bd E (places_row hs 8192 K1 (16 * s.val)) rfl all_row _ (fun _ _ => rfl)) $$ HX1; iintro HX1
  iapply (Arr.wp_storeIdx 𝒱 (thr d i) bd E (places_row hs 8192 K1 (16 * s.val)) rfl all_row _ (fun _ _ => rfl)) $$ HY1; iintro HY1
  iapply (Arr.wp_storeIdx 𝒱 (thr d i) bd E (n := 256) (e := .i32) (add := true) (X := next 8192 (dk t K0) (16 * s.val))
    (digits_row sh fun l => K0 (16 * s.val + l)) (counts_row hs K0 (16 * s.val)) (mask_row sh K0 (16 * s.val)) (next 8192 (dk t K0) (16 * s.val + 16))
    (fun j _ => fold_next hs 8192 K0 _ j)) $$ H0; iintro H0
  iapply (Arr.wp_storeIdx 𝒱 (thr d i) bd E (n := 256) (e := .i32) (add := true) (X := next 8192 (dk t K1) (16 * s.val))
    (digits_row sh fun l => K1 (16 * s.val + l)) (counts_row hs K1 (16 * s.val)) (mask_row sh K1 (16 * s.val)) (next 8192 (dk t K1) (16 * s.val + 16))
    (fun j _ => fold_next hs 8192 K1 _ j)) $$ H1; iintro H1
  rw [wp_ret]
  imodintro
  isplitl [HK0]; · iexact HK0
  isplitl [HV0]; · iexact HV0
  isplitl [HK1]; · iexact HK1
  isplitl [HV1]; · iexact HV1
  isplitl [HX0 HY0]
  · iexists _; iexists _; isplitr; rotate_left
    · isplitl [HX0]; · iexact HX0
      iexact HY0
    ipureintro
    intro j hj
    exact ⟨fold_place 8192 (by decide) (dk t K0) _ hs16 K0 X0 (fun j hj => (h0 j hj).1) j hj,
      fold_place 8192 (by decide) (dk t K0) _ hs16 V0 Y0 (fun j hj => (h0 j hj).2) j hj⟩
  isplitl [HX1 HY1]
  · iexists _; iexists _; isplitr; rotate_left
    · isplitl [HX1]; · iexact HX1
      iexact HY1
    ipureintro
    intro j hj
    exact ⟨fold_place 8192 (by decide) (dk t K1) _ hs16 K1 X1 (fun j hj => (h1 j hj).1) j hj,
      fold_place 8192 (by decide) (dk t K1) _ hs16 V1 Y1 (fun j hj => (h1 j hj).2) j hj⟩
  isplitl [H0]; · iexact H0
  iexact H1

/-- A loop's trips: 512. -/
theorem trips512 : k1_t3_loop.trips = 512 := by decide

theorem wp_rank {k0 v0 k1 v1 k0' v0' k1' v1' : RowI} {m0 m1 : Tab} {k : PT F i α} (hs : Selects sh t) (K0 V0 K1 V1 : ℕ → BitVec 32) :
    iprop(own d i k0 K0 ∗ own d i v0 V0 ∗ own d i k1 K1 ∗ own d i v1 V1
        ∗ placed d i t K0 V0 k0' v0' 0 ∗ placed d i t K1 V1 k1' v1' 0
        ∗ own d i m0 (next 8192 (dk t K0) 0) ∗ own d i m1 (next 8192 (dk t K1) 0)
        ∗ (own d i k0 K0 ∗ own d i v0 V0 ∗ own d i k1 K1 ∗ own d i v1 V1
          ∗ placed d i t K0 V0 k0' v0' 8192 ∗ placed d i t K1 V1 k1' v1' 8192
          ∗ own d i m0 (next 8192 (dk t K0) 8192) ∗ own d i m1 (next 8192 (dk t K1) 8192) -∗ W defs 𝒱 bd E d i k Q))
      ⊢ W defs 𝒱 bd E d i (rankLoop i sh k0 v0 k1 v1 k0' v0' k1' v1' m0 m1 >>= fun _ => k) Q := by
  unfold rankLoop
  iintro ⟨HK0, HV0, HK1, HV1, HP0, HP1, H0, H1, Hk⟩
  iapply (Scf.wp_for_bind frame (wpE defs 𝒱 (thr d i) bd) E k1_t3_loop.lb k1_t3_loop.ub k1_t3_loop.st k1_t3_ok 0#32
    (fun s _ => rankTrip i sh k0 v0 k1 v1 k0' v0' k1' v1' m0 m1 s)
    (fun s _ => iprop(own d i k0 K0 ∗ own d i v0 V0 ∗ own d i k1 K1 ∗ own d i v1 V1
        ∗ placed d i t K0 V0 k0' v0' (16 * s) ∗ placed d i t K1 V1 k1' v1' (16 * s)
        ∗ own d i m0 (next 8192 (dk t K0) (16 * s)) ∗ own d i m1 (next 8192 (dk t K1) (16 * s))))
    (fun s _ => wp_rankTrip 𝒱 bd E d i hs K0 V0 K1 V1 s)) $$ [HK0 HV0 HK1 HV1 HP0 HP1 H0 H1]
  · isplitl [HK0]; · iexact HK0
    isplitl [HV0]; · iexact HV0
    isplitl [HK1]; · iexact HK1
    isplitl [HV1]; · iexact HV1
    isplitl [HP0]; · iexact HP0
    isplitl [HP1]; · iexact HP1
    isplitl [H0]; · iexact H0
    iexact H1
  · iintro %_ H
    iapply Hk
    iexact H

/-! ## The pass -/

/-- Two arrays of a row: the keys, and beside each its origin, after `t` passes. -/
def sorted (d : Dev nD) (i : grid1.Coords) (t : ℕ) (K : ℕ → BitVec 32) (k v : RowI) : sProp 𝕄 :=
  iprop(∃ X Y, ⌜Stage 8192 t K X Y⌝ ∗ own d i k X ∗ own d i v Y)

/-- An array whatever it holds. -/
def some' (d : Dev nD) (i : grid1.Coords) {n : ℕ} {e : EltTy} (m : Memref sig .scVector .vmem ⟨1, ![n]⟩ e) : sProp 𝕄 := iprop(∃ X, own d i m X)

theorem pre_counts_zero (K : ℕ → BitVec 32) : counts t K 8192 = pre (fun b => cnt (dk t K) b 8192) 0 := by
  funext b; unfold counts pre; rw [if_neg (Nat.not_lt_zero _)]

theorem wp_pass {k0 v0 k1 v1 k0' v0' k1' v1' : RowI} {m0 m1 : Tab} {k : PT F i α} (hs : Selects sh t) (K0 K1 : ℕ → BitVec 32) :
    iprop(sorted d i t K0 k0 v0 ∗ sorted d i t K1 k1 v1 ∗ some' d i k0' ∗ some' d i v0' ∗ some' d i k1' ∗ some' d i v1' ∗ some' d i m0 ∗ some' d i m1
        ∗ (sorted d i (t + 1) K0 k0' v0' ∗ sorted d i (t + 1) K1 k1' v1' ∗ some' d i k0 ∗ some' d i v0 ∗ some' d i k1 ∗ some' d i v1 ∗ some' d i m0 ∗ some' d i m1
          -∗ W defs 𝒱 bd E d i k Q))
      ⊢ W defs 𝒱 bd E d i (passC i sh k0 v0 k1 v1 k0' v0' k1' v1' m0 m1 k) Q := by
  have hz : ∀ X : ℕ → BitVec 32, ∀ j < 256, clr 0 16 X j = 0#32 := fun X j hj => by
    unfold clr; rw [if_pos ⟨Nat.zero_le _, by omega⟩]
  have hp : ∀ K : ℕ → BitVec 32, ∀ j < 256, pre (fun b => cnt (dk t K) b 8192) (0 + 16 * 16) j = next 8192 (dk t K) 0 j := fun K j hj => by
    unfold pre next; rw [if_pos (by omega), sum_cnt, cnt_zero, Nat.add_zero]
  unfold passC sorted some'
  iintro ⟨⟨%A0, %B0, %s0, HK0, HV0⟩, ⟨%A1, %B1, %s1, HK1, HV1⟩, ⟨%C0, HX0⟩, ⟨%D0, HY0⟩, ⟨%C1, HX1⟩, ⟨%D1, HY1⟩, ⟨%Z0, H0⟩, ⟨%Z1, H1⟩, Hk⟩
  iapply (wp_zero 𝒱 bd E d i 16 0 _ Z0 Z1)
  isplitl [H0]; · iexact H0
  isplitl [H1]; · iexact H1
  iintro ⟨H0, H1⟩
  ihave H0 := (arr_congr (thr d i) m0 (hz Z0)) $$ H0
  ihave H1 := (arr_congr (thr d i) m1 (hz Z1)) $$ H1
  iapply (wp_hist 𝒱 bd E d i hs A0 A1)
  isplitl [HK0]; · iexact HK0
  isplitl [HK1]; · iexact HK1
  isplitl [H0]; · iexact H0
  isplitl [H1]; · iexact H1
  iintro ⟨HK0, HK1, H0, H1⟩
  rw [pre_counts_zero, pre_counts_zero]
  iapply (wp_prefix 𝒱 bd E d i 16 0 _ (fun b => cnt (dk t A0) b 8192) (fun b => cnt (dk t A1) b 8192))
  isplitl [H0]; · iexact H0
  isplitl [H1]; · iexact H1
  iintro ⟨H0, H1⟩
  ihave H0 := (arr_congr (thr d i) m0 (hp A0)) $$ H0
  ihave H1 := (arr_congr (thr d i) m1 (hp A1)) $$ H1
  iapply (wp_rank 𝒱 bd E d i hs A0 B0 A1 B1)
  isplitl [HK0]; · iexact HK0
  isplitl [HV0]; · iexact HV0
  isplitl [HK1]; · iexact HK1
  isplitl [HV1]; · iexact HV1
  isplitl [HX0 HY0]
  · unfold placed
    iexists C0; iexists D0; isplitr
    · ipureintro; intro j hj; exact absurd hj (Nat.not_lt_zero _)
    isplitl [HX0]; · iexact HX0
    iexact HY0
  isplitl [HX1 HY1]
  · unfold placed
    iexists C1; iexists D1; isplitr
    · ipureintro; intro j hj; exact absurd hj (Nat.not_lt_zero _)
    isplitl [HX1]; · iexact HX1
    iexact HY1
  isplitl [H0]; · iexact H0
  isplitl [H1]; · iexact H1
  unfold placed
  iintro ⟨HK0, HV0, HK1, HV1, ⟨%X0, %Y0, %h0, HX0, HY0⟩, ⟨%X1, %Y1, %h1, HX1, HY1⟩, H0, H1⟩
  iapply Hk
  isplitl [HX0 HY0]
  · iexists X0; iexists Y0; isplitr
    · ipureintro; exact s0.succ h0
    isplitl [HX0]; · iexact HX0
    iexact HY0
  isplitl [HX1 HY1]
  · iexists X1; iexists Y1; isplitr
    · ipureintro; exact s1.succ h1
    isplitl [HX1]; · iexact HX1
    iexact HY1
  isplitl [HK0]; · iexists _; iexact HK0
  isplitl [HV0]; · iexists _; iexact HV0
  isplitl [HK1]; · iexists _; iexact HK1
  isplitl [HV1]; · iexists _; iexact HV1
  isplitl [H0]; · iexists _; iexact H0
  iexists _; iexact H1

end Cert.KernelIdeal.Body
-- ==== Proof.Copy.lean ====
/-
  A copy waited for at once: the source is read at any share, the destination then holds what the source read.
-/
module

public import Idealize.ShloMosaic.Lib.Transfers
public import proofs.«01_k».proof.Proof.Arr

@[expose] public section

noncomputable section

namespace Cert.Copy

open Idealize.ShloMosaic
open Idealize.ShloMosaic.Transfers (Flight MayWaits)
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

/-- What thread `c` owes, its waits so far being those of `W` and waits of index `ι`. -/
def Owe (c : Thread nD τ) (ι : Ix) (O : CellTallies nD τ sig Ix) (W : Waits sig Ix) : sProp 𝕄 :=
  iprop(∃ W', ⌜∀ p ∈ W', p ∈ W ∨ p.2 = ι⌝ ∗ owes c O W')

omit [Preorder Lvl] in
/-- Owned contents, as any buffer contents that read so. -/
theorem pin (c : Thread nD τ) {sp : Space} {s : Shape} {e : EltTy} (m : Memref sig c.2.kind sp s e) {q : PosShare TreeShare}
    {X : s.Idx → Val e} {G : Buf Val (m.view.loc c)} (h : m.view.read Val G = X) : (owns c m q X : sProp 𝕄) ⊢ m.view.loc c ↦[m.view.set]{q} G := by
  unfold owns
  iintro ⟨%f, %hf, H⟩
  have hp : (m.view.loc c ↦[m.view.set]{q} f : sProp 𝕄) = m.view.loc c ↦[m.view.set]{q} G := pointsTo_congr fun i hi => by
    obtain ⟨x, -, rfl⟩ := Finset.mem_map.1 hi
    have := congrFun (hf.trans h.symm) x
    rw [View.read_apply, View.read_apply] at this
    exact cast_inj _ |>.1 this
  iapply (Entails.of_eq hp) $$ H

omit [Preorder Lvl] in
theorem unpin (c : Thread nD τ) {sp : Space} {s : Shape} {e : EltTy} (m : Memref sig c.2.kind sp s e) {q : PosShare TreeShare}
    {X : s.Idx → Val e} {G : Buf Val (m.view.loc c)} (h : m.view.read Val G = X) : (m.view.loc c ↦[m.view.set]{q} G : sProp 𝕄) ⊢ owns c m q X := by
  unfold owns
  iintro H
  iexists G
  isplitr; · ipureintro; exact h
  iexact H

variable (EC : UEmb Counters (MT nD τ sig Ix Val Name U Lvl))
variable {defs : Defs nD τ sig Val Λ} (𝒱 : Variants) (c : Thread nD τ) (bd : Option 𝒱.V)
variable {α : Type} {Q : α → sProp (MT nD τ sig Ix Val Name U Lvl)} {sp sp' : Space} {s : Shape} {e : EltTy}

theorem wp_copy [Infinite Name] [EC.LandsIn (upEmb : UEmb _ 𝕄)] {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {hsrc' : src.view.WordExact} {hdst' : dst.view.WordExact}
    {k : PUnit → Prog (TpuEff nD τ sig Val Λ c.2) α} {q : PosShare TreeShare} {fs : Buf Val (src.view.loc c)}
    {S : Finset (Idx (src.view.loc c))} (hS : src.view.set ⊆ S) (hs : 0 < s.numel) {Y X : s.Idx → Val e} (hX : src.view.read Val fs = X)
    (ι : Ix) {O : CellTallies nD τ sig Ix} {W : Waits sig Ix} :
    iprop((src.view.loc c ↦[S]{q} fs) ∗ owns c dst fullShare Y ∗ semVal (c, .dma sem) 0 ∗ Owe c ι O W ∗ MayWaits c ι O)
      ⊢ iprop((iprop((src.view.loc c ↦[S]{q} fs) ∗ owns c dst fullShare X ∗ semVal (c, .dma sem) 0 ∗ Owe c ι O W)
          -∗ wp frame (wpE defs 𝒱 c bd) Set.univ (k ⟨⟩) Q)
        -∗ wp frame (wpE defs 𝒱 c bd) Set.univ
            (.op (.enqueueDma src (.here dst) (.dma sem) hsrc hdst hsem) fun _ => .op (.waitDma2 sem src dst hsrc' hdst') k) Q) := by
  unfold Owe
  iintro ⟨Hs, Hd, Hv, ⟨%W', %hW', HO⟩, Hmw⟩ Hk
  ihave Hs2 := (pointsTo_split_subset hS).1 $$ Hs
  icases Hs2 with ⟨Hs, Hr⟩
  unfold owns
  icases Hd with ⟨%fd, %hfd, Hd⟩
  iapply (Transfers.wp_dmaLocal EC 𝒱 c bd (Q := Q) (defs := defs) (src := src) (dst := dst) (q := q) (fs := fs) (fd := fd) (Sd := dst.view.set)
    ι (dst.view.amount (.dma sem)) rfl (View.amount_pos _ _ hs) (Finset.Subset.refl _)) $$ [Hs Hd Hv]
  · isplitl [Hs]; · iexact Hs
    isplitl [Hd] <;> iassumption
  iintro Hf
  ihave Hm := (MayWaits.elim (SemLoc.dma sem)) $$ Hmw
  iapply (Transfers.wp_waitLocalO EC 𝒱 c bd (Q := Q) (defs := defs) ι (N := dst.view.amount (.dma sem)) (O := O) (W := W') rfl) $$ [Hf HO Hm]
  · isplitl [Hf]; · iexact Hf
    isplitl [HO] <;> iassumption
  iintro ⟨⟨Hd, Hs⟩, Hv, HO⟩
  iapply Hk
  isplitl [Hs Hr]
  · iapply (pointsTo_split_subset hS).2
    isplitl [Hs] <;> iassumption
  isplitl [Hd]
  · iexists (dst.view.write Val fd (src.view.read Val fs) Finset.univ)
    isplitr
    · ipureintro
      exact (View.read_write_univ (v := dst.view) _ _).trans hX
    · iexact Hd
  isplitl [Hv]; · iexact Hv
  iexists (insert (SemLoc.dma sem, ι) W')
  isplitr
  · ipureintro
    intro p hp
    rcases Finset.mem_insert.1 hp with rfl | hp
    · exact .inr rfl
    · exact hW' p hp
  · iexact HO

end Cert.Copy
-- ==== Proof.Trip.lean ====
/-
  One trip of the kernel's loop over its rows: two rows of keys and of scores fetched, the keys sorted in four passes,
  the scores gathered in the keys' order, and the permutation and the gathered scores written out.
-/
module

public import proofs.«01_k».proof.Proof.Passes
public import proofs.«01_k».proof.Proof.Copy

@[expose] public section

noncomputable section

namespace Cert.KernelIdeal.Body

open Idealize.ShloMosaic Cert.Lanes Cert.Radix
open Idealize.ShloMosaic.Transfers (MayWaits)
open Cert.Arr (arr put arr_congr)
open Cert.Copy (Owe wp_copy)
open Cert.KernelIdeal Facts₀ Facts
open Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (bd : Option 𝒱.V) (E : Set Name) (d : Dev nD) (i : grid1.Coords)
variable {α : Type} {Q : α → sProp (MT nD τ sig Ix (Elt F) Name U Lvl)}

/-! ## The scores gathered -/

/-- The first `n` elements of the array are the scores `S` at the places `V`. -/
def gathered (d : Dev nD) (i : grid1.Coords) (V : ℕ → BitVec 32) (S : ℕ → F .f32) (p : RowF) (n : ℕ) : sProp 𝕄 :=
  iprop(∃ P : ℕ → F .f32, ⌜∀ j < n, P j = S (V j).toNat⌝ ∗ own d i p P)

theorem inb25 {V : ℕ → BitVec 32} (hV : ∀ j < 8192, (V j).toNat < 8192) {o : ℕ} (ho : o + 16 ≤ 8192) : k1_chk25 (row fun l => V (o + l)) := by
  intro a x
  rw [Fin.eq_zero a]
  have hx : (x 0).val < 16 := (x 0).isLt
  exact hV _ (by omega)

theorem inb26 {V : ℕ → BitVec 32} (hV : ∀ j < 8192, (V j).toNat < 8192) {o : ℕ} (ho : o + 16 ≤ 8192) : k1_chk26 (row fun l => V (o + l)) :=
  inb25 hV ho

/-- Sixteen more elements gathered. -/
theorem put_gathered {V : ℕ → BitVec 32} {S P : ℕ → F .f32} {o : ℕ} (h : ∀ j < o, P j = S (V j).toNat) :
    ∀ j < o + 16, put o (fun l => S (V (o + l)).toNat) P j = S (V j).toNat := by
  intro j hj
  unfold put
  split_ifs with hc
  · show S (V (o + (j - o))).toNat = _
    rw [Nat.add_sub_cancel' hc.1]
  · exact h j (by omega)

theorem wp_gatherTrip {v0 v1 : RowI} {s0 p0 s1 p1 : RowF} {V0 V1 : ℕ → BitVec 32} (h0 : ∀ j < 8192, (V0 j).toNat < 8192)
    (h1 : ∀ j < 8192, (V1 j).toNat < 8192) (S0 S1 : ℕ → F .f32) (s : Fin k1_t10_loop.trips) :
    iprop((own d i v0 V0 : sProp 𝕄) ∗ own d i v1 V1 ∗ own d i s0 S0 ∗ own d i s1 S1
        ∗ gathered d i V0 S0 p0 (16 * s.val) ∗ gathered d i V1 S1 p1 (16 * s.val))
      ⊢ W defs 𝒱 bd E d i (gatherTrip i v0 v1 s0 p0 s1 p1 s) fun _ =>
        iprop(own d i v0 V0 ∗ own d i v1 V1 ∗ own d i s0 S0 ∗ own d i s1 S1
        ∗ gathered d i V0 S0 p0 (16 * (s.val + 1)) ∗ gathered d i V1 S1 p1 (16 * (s.val + 1))) := by
  have ho : k1_off11 s 0 = 16 * s.val := congrFun (Gen.k1_off11_eq s) 0
  have ho2 : k1_off12 s 0 = 16 * s.val := congrFun (Gen.k1_off12_eq s) 0
  have ho3 : k1_off13 s 0 = 16 * s.val := congrFun (Gen.k1_off13_eq s) 0
  have hs16 : 16 * s.val + 16 ≤ 8192 := by
    have := k1_off11_inb s 0
    rw [ho] at this
    exact this
  unfold gatherTrip gathered
  iintro ⟨HV0, HV1, HS0, HS1, ⟨%P0, %g0, HP0⟩, ⟨%P1, %g1, HP1⟩⟩
  iapply (Arr.wp_load 𝒱 (thr d i) bd E) $$ HV0; iintro HV0
  rw [ho]
  iapply (wp_assume (defs := defs) 𝒱 (thr d i) bd E (inb25 h0 hs16))
  iapply (Arr.wp_load 𝒱 (thr d i) bd E) $$ HV1; iintro HV1
  rw [ho]
  iapply (wp_assume (defs := defs) 𝒱 (thr d i) bd E (inb26 h1 hs16))
  iapply (Arr.wp_loadIdx 𝒱 (thr d i) bd E rfl) $$ HS0; iintro HS0
  iapply (Arr.wp_load 𝒱 (thr d i) bd E) $$ HP0; iintro HP0
  iapply (Arr.wp_store 𝒱 (thr d i) bd E rfl) $$ HP0; iintro HP0
  iapply (Arr.wp_loadIdx 𝒱 (thr d i) bd E rfl) $$ HS1; iintro HS1
  iapply (Arr.wp_load 𝒱 (thr d i) bd E) $$ HP1; iintro HP1
  iapply (Arr.wp_store 𝒱 (thr d i) bd E rfl) $$ HP1; iintro HP1
  rw [ho2, ho3, wp_ret]
  imodintro
  isplitl [HV0]; · iexact HV0
  isplitl [HV1]; · iexact HV1
  isplitl [HS0]; · iexact HS0
  isplitl [HS1]; · iexact HS1
  isplitl [HP0]
  · iexists _; isplitr; rotate_left
    · iexact HP0
    · ipureintro; exact put_gathered g0
  · iexists _; isplitr; rotate_left
    · iexact HP1
    · ipureintro; exact put_gathered g1

theorem trips_gather : k1_t10_loop.trips = 512 := by decide

theorem wp_gather {v0 v1 : RowI} {s0 p0 s1 p1 : RowF} {k : PT F i α} {V0 V1 : ℕ → BitVec 32} (h0 : ∀ j < 8192, (V0 j).toNat < 8192)
    (h1 : ∀ j < 8192, (V1 j).toNat < 8192) (S0 S1 : ℕ → F .f32) :
    iprop(own d i v0 V0 ∗ own d i v1 V1 ∗ own d i s0 S0 ∗ own d i s1 S1 ∗ some' d i p0 ∗ some' d i p1
        ∗ (own d i v0 V0 ∗ own d i v1 V1 ∗ own d i s0 S0 ∗ own d i s1 S1
          ∗ own d i p0 (fun j => S0 (V0 j).toNat) ∗ own d i p1 (fun j => S1 (V1 j).toNat) -∗ W defs 𝒱 bd E d i k Q))
      ⊢ W defs 𝒱 bd E d i (gatherLoop i v0 v1 s0 p0 s1 p1 >>= fun _ => k) Q := by
  unfold gatherLoop some'
  iintro ⟨HV0, HV1, HS0, HS1, ⟨%P0, HP0⟩, ⟨%P1, HP1⟩, Hk⟩
  iapply (Scf.wp_for_bind frame (wpE defs 𝒱 (thr d i) bd) E k1_t10_loop.lb k1_t10_loop.ub k1_t10_loop.st k1_t10_ok 0#32
    (fun s _ => gatherTrip i v0 v1 s0 p0 s1 p1 s)
    (fun s _ => iprop(own d i v0 V0 ∗ own d i v1 V1 ∗ own d i s0 S0 ∗ own d i s1 S1
        ∗ gathered d i V0 S0 p0 (16 * s) ∗ gathered d i V1 S1 p1 (16 * s)))
    (fun s _ => wp_gatherTrip 𝒱 bd E d i h0 h1 S0 S1 s)) $$ [HV0 HV1 HS0 HS1 HP0 HP1]
  · isplitl [HV0]; · iexact HV0
    isplitl [HV1]; · iexact HV1
    isplitl [HS0]; · iexact HS0
    isplitl [HS1]; · iexact HS1
    unfold gathered
    isplitl [HP0]
    · iexists P0; isplitr
      · ipureintro; intro j hj; exact absurd hj (Nat.not_lt_zero _)
      iexact HP0
    · iexists P1; isplitr
      · ipureintro; intro j hj; exact absurd hj (Nat.not_lt_zero _)
      iexact HP1
  · iintro %_ ⟨HV0, HV1, HS0, HS1, HP0, HP1⟩
    unfold gathered
    icases HP0 with ⟨%R0, %g0, HP0⟩
    icases HP1 with ⟨%R1, %g1, HP1⟩
    iapply Hk
    isplitl [HV0]; · iexact HV0
    isplitl [HV1]; · iexact HV1
    isplitl [HS0]; · iexact HS0
    isplitl [HS1]; · iexact HS1
    isplitl [HP0]
    · iapply (arr_congr (thr d i) p0 g0) $$ HP0
    · iapply (arr_congr (thr d i) p1 g1) $$ HP1

/-! ## The trip -/

/-- The order of the first 8192 keys of `K`, as words: the place of each element of the sorted row. -/
def perm (K : ℕ → BitVec 32) : ℕ → BitVec 32 := fun j =>
  if h : j < 8192 then BitVec.ofNat 32 (sortedFrom (fun a b : Fin 8192 => decide ((K a.val).toNat < (K b.val).toNat)) ⟨j, h⟩).val else 0#32

theorem perm_lt (K : ℕ → BitVec 32) (j : ℕ) : (perm K j).toNat < 8192 := by
  unfold perm
  split_ifs with h
  · rw [BitVec.toNat_ofNat]
    exact (Nat.mod_le _ _).trans_lt (Fin.isLt _)
  · decide

/-- After the fourth pass the places are the keys' order. -/
theorem sorted_perm (K : ℕ → BitVec 32) {k v : RowI} : (sorted d i 4 K k v : sProp 𝕄) ⊢ iprop(some' d i k ∗ own d i v (perm K)) := by
  unfold sorted some'
  iintro ⟨%X, %Y, %h, HX, HY⟩
  isplitl [HX]; · iexists X; iexact HX
  iapply (arr_congr (thr d i) v (X := Y) (Y := perm K) fun j hj => by
    unfold perm; rw [dif_pos hj]; exact h.sorted ⟨j, hj⟩) $$ HY

/-- The keys as they are, their numbers beside them, before the first pass. -/
theorem sorted_zero (K : ℕ → BitVec 32) {k v : RowI} : iprop((own d i k K : sProp 𝕄) ∗ own d i v (fun j => BitVec.ofNat 32 j)) ⊢ sorted d i 0 K k v := by
  unfold sorted
  iintro ⟨HX, HY⟩
  iexists K; iexists (fun j => BitVec.ofNat 32 j)
  isplitr; · ipureintro; exact stage_zero 8192 K _ fun _ _ => rfl
  isplitl [HX]; · iexact HX
  iexact HY

/-! ## The copies -/

variable (EC : UEmb Counters (MT nD τ sig Ix (Elt F) Name U Lvl)) [Infinite Name]
  [EC.LandsIn (upEmb : UEmb _ (MT nD τ sig Ix (Elt F) Name U Lvl))]

/-- An array in HBM, read by the tile at a share. -/
abbrev lent (d : Dev nD) (i : grid1.Coords) {s : Shape} {e : EltTy} (a : Memref sig .scVector .hbm s e) (q : PosShare TreeShare)
    (f : Buf (Elt F) (a.view.loc (thr d i))) : sProp 𝕄 := a.view.loc (thr d i) ↦[a.view.set]{q} f

/-- A row of an array in HBM, owned by the tile. -/
abbrev ownRow (d : Dev nD) (i : grid1.Coords) {e : EltTy} (a : Memref sig .scVector .hbm S128x8192 e) (off : Fin 2 → ℕ)
    (h : ∀ x, off x + S1x8192.size x ≤ S128x8192.size x) (X : ℕ → Elt F e) : sProp 𝕄 := owns (thr d i) (rowOf a off h) fullShare (row X)

/-- The semaphore of a copy, at zero. -/
abbrev idle (d : Dev nD) (i : grid1.Coords) (r : DmaSems sig S_) : sProp 𝕄 := semVal (thr d i, .dma r.sem) 0

theorem rowOf_subset {e : EltTy} (a : Memref sig .scVector .hbm S128x8192 e) (off : Fin 2 → ℕ) (h : ∀ x, off x + S1x8192.size x ≤ S128x8192.size x) :
    (rowOf a off h).view.set ⊆ a.view.set := by
  rw [Memref.set_view_squeeze]
  exact View.set_slice_subset _ _

theorem pos8192 : 0 < S8192.numel := by decide

include EC

variable {ι : Ix} {O : CellTallies nD τ sig Ix} {W₀ : Waits sig Ix}

/-- A row fetched. -/
theorem wp_fetchRow {e : EltTy} {a : Memref sig .scVector .hbm S128x8192 e} {off : Fin 2 → ℕ} {h : ∀ x, off x + S1x8192.size x ≤ S128x8192.size x}
    {b : Memref sig .scVector .vmem S8192 e} {r : DmaSems sig S_} {h1 h2 h3 h4 h5} {k : PT F i α} {q : PosShare TreeShare} {f : Buf (Elt F) (a.view.loc (thr d i))}
    {K : ℕ → Elt F e} (hK : (rowOf a off h).view.read (Elt F) f = row K) :
    iprop(lent d i a q f ∗ some' d i b ∗ idle d i r ∗ Owe (thr d i) ι O W₀ ∗ MayWaits (thr d i) ι O
        ∗ (lent d i a q f ∗ own d i b K ∗ idle d i r ∗ Owe (thr d i) ι O W₀ -∗ W defs 𝒱 bd Set.univ d i k Q))
      ⊢ W defs 𝒱 bd Set.univ d i (.op (.enqueueDma (rowOf a off h) (.here b) (.dma r.sem) h1 h2 h3) fun _ =>
          .op (.waitDma2 r.sem (rowOf a off h) b h4 h5) fun _ => k) Q := by
  unfold some' own arr
  iintro ⟨Ha, ⟨%Y, Hb⟩, Hr, HO, Hmw, Hk⟩
  iapply (wp_copy EC 𝒱 (thr d i) bd (Q := Q) (defs := defs) (src := rowOf a off h) (dst := b) (S := a.view.set) (fs := f) (Y := row Y)
    (rowOf_subset a off h) pos8192 hK ι) $$ [Ha Hb Hr HO Hmw]
  · isplitl [Ha]; · iexact Ha
    isplitl [Hb]; · iexact Hb
    isplitl [Hr]; · iexact Hr
    isplitl [HO] <;> iassumption
  iexact Hk

/-- A whole array of one row fetched. -/
theorem wp_fetchWhole {e : EltTy} {a : Memref sig .scVector .hbm S8192 e}
    {b : Memref sig .scVector .vmem S8192 e} {r : DmaSems sig S_} {h1 h2 h3 h4 h5} {k : PT F i α} {q : PosShare TreeShare} {f : Buf (Elt F) (a.view.loc (thr d i))}
    {K : ℕ → Elt F e} (hK : a.view.read (Elt F) f = row K) :
    iprop(lent d i a q f ∗ some' d i b ∗ idle d i r ∗ Owe (thr d i) ι O W₀ ∗ MayWaits (thr d i) ι O
        ∗ (lent d i a q f ∗ own d i b K ∗ idle d i r ∗ Owe (thr d i) ι O W₀ -∗ W defs 𝒱 bd Set.univ d i k Q))
      ⊢ W defs 𝒱 bd Set.univ d i (.op (.enqueueDma a (.here b) (.dma r.sem) h1 h2 h3) fun _ => .op (.waitDma2 r.sem a b h4 h5) fun _ => k) Q := by
  unfold some' own arr
  iintro ⟨Ha, ⟨%Y, Hb⟩, Hr, HO, Hmw, Hk⟩
  iapply (wp_copy EC 𝒱 (thr d i) bd (Q := Q) (defs := defs) (src := a) (dst := b) (S := a.view.set) (fs := f) (Y := row Y)
    (Finset.Subset.refl _) pos8192 hK ι) $$ [Ha Hb Hr HO Hmw]
  · isplitl [Ha]; · iexact Ha
    isplitl [Hb]; · iexact Hb
    isplitl [Hr]; · iexact Hr
    isplitl [HO] <;> iassumption
  iexact Hk

/-- A row written out. -/
theorem wp_flushRow {e : EltTy} {a : Memref sig .scVector .hbm S128x8192 e} {off : Fin 2 → ℕ} {h : ∀ x, off x + S1x8192.size x ≤ S128x8192.size x}
    {b : Memref sig .scVector .vmem S8192 e} {r : DmaSems sig S_} {h1 h2 h3 h4 h5} {k : PT F i α} {K : ℕ → Elt F e} :
    iprop(own d i b K ∗ (∃ Y, ownRow d i a off h Y) ∗ idle d i r ∗ Owe (thr d i) ι O W₀ ∗ MayWaits (thr d i) ι O
        ∗ (own d i b K ∗ ownRow d i a off h K ∗ idle d i r ∗ Owe (thr d i) ι O W₀ -∗ W defs 𝒱 bd Set.univ d i k Q))
      ⊢ W defs 𝒱 bd Set.univ d i (.op (.enqueueDma b (.here (rowOf a off h)) (.dma r.sem) h1 h2 h3) fun _ =>
          .op (.waitDma2 r.sem b (rowOf a off h) h4 h5) fun _ => k) Q := by
  unfold own arr
  iintro ⟨Hb, ⟨%Y, Ha⟩, Hr, HO, Hmw, Hk⟩
  unfold owns
  icases Hb with ⟨%f, %hf, Hb⟩
  iapply (wp_copy EC 𝒱 (thr d i) bd (Q := Q) (defs := defs) (src := b) (dst := rowOf a off h) (S := b.view.set) (fs := f) (Y := row Y)
    (Finset.Subset.refl _) pos8192 hf ι) $$ [Ha Hb Hr HO Hmw]
  · isplitl [Hb]; · iexact Hb
    isplitl [Ha]; · iexact Ha
    isplitl [Hr]; · iexact Hr
    isplitl [HO] <;> iassumption
  iintro ⟨Hb, Ha, Hr, HO⟩
  iapply Hk
  isplitl [Hb]
  · iexists f
    isplitr; · ipureintro; exact hf
    iexact Hb
  isplitl [Ha]; · iexact Ha
  isplitl [Hr] <;> iassumption

end Cert.KernelIdeal.Body
-- ==== Proof.Region.lean ====
/-
  A trip of the kernel's loop over its rows, as one statement about what the tile holds before and after it.
-/
module

public import proofs.«01_k».proof.Proof.Trip

@[expose] public section

noncomputable section

namespace Cert.KernelIdeal.Body

open Idealize.ShloMosaic Cert.Lanes Cert.Radix
open Idealize.ShloMosaic.Transfers (MayWaits)
open Cert.Arr (arr put arr_congr)
open Cert.Copy (Owe wp_copy)
open Cert.KernelIdeal Facts₀ Facts
open Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (bd : Option 𝒱.V) (E : Set Name) (d : Dev nD) (i : grid1.Coords)
variable {α : Type} {Q : α → sProp (MT nD τ sig Ix (Elt F) Name U Lvl)}

variable (EC : UEmb Counters (MT nD τ sig Ix (Elt F) Name U Lvl)) [Infinite Name]
  [EC.LandsIn (upEmb : UEmb _ (MT nD τ sig Ix (Elt F) Name U Lvl))]
variable {ι : Ix} {O : CellTallies nD τ sig Ix} {W₀ : Waits sig Ix}

variable (a2 : Memref sig .scVector .hbm S128x8192 .i32) (a3 : Memref sig .scVector .hbm S128x8192 .f32)
  (a4 : Memref sig .scVector .hbm S8192 .i32) (harg4 : a4.IsWhole) (a5 : Memref sig .scVector .hbm S128x8192 .i32)
  (a6 : Memref sig .scVector .hbm S128x8192 .f32)
  (a7 : RowI) (harg7 : a7.IsWhole) (a8 : RowI) (a9 : RowI) (harg9 : a9.IsWhole) (a10 : RowI) (a11 : RowF) (harg11 : a11.IsWhole) (a12 : RowF) (harg12 : a12.IsWhole) (a13 : Tab) (a14 : RowI) (harg14 : a14.IsWhole) (a15 : RowI) (a16 : RowI) (harg16 : a16.IsWhole) (a17 : RowI) (a18 : RowF) (harg18 : a18.IsWhole) (a19 : RowF) (harg19 : a19.IsWhole) (a20 : Tab)
  (r0 r1 r2 r3 r4 r5 r6 r7 r8 r9 : DmaSems sig S_)

/-- The tile's scratch arrays, whatever they hold, and its copies' semaphores, all at zero. -/
def scratch : sProp 𝕄 :=
  iprop(some' d i a7 ∗ some' d i a8 ∗ some' d i a9 ∗ some' d i a10 ∗ some' d i a11 ∗ some' d i a12 ∗ some' d i a13 ∗ some' d i a14 ∗ some' d i a15 ∗ some' d i a16 ∗ some' d i a17 ∗ some' d i a18 ∗ some' d i a19 ∗ some' d i a20
    ∗ idle d i r0 ∗ idle d i r1 ∗ idle d i r2 ∗ idle d i r3 ∗ idle d i r4 ∗ idle d i r5 ∗ idle d i r6 ∗ idle d i r7 ∗ idle d i r8 ∗ idle d i r9)

/-- The arrays in HBM that the tile reads: keys, scores and the numbers 0, 1, …. -/
abbrev inputs (q : PosShare TreeShare) (f2 : Buf (Elt F) (a2.view.loc (thr d i))) (f3 : Buf (Elt F) (a3.view.loc (thr d i)))
    (f4 : Buf (Elt F) (a4.view.loc (thr d i))) : sProp 𝕄 := iprop(lent d i a2 q f2 ∗ lent d i a3 q f3 ∗ lent d i a4 q f4)

omit [FloatOps F] [Preorder Lvl] in
theorem some_intro {n : ℕ} {e : EltTy} (m : Memref sig .scVector .vmem ⟨1, ![n]⟩ e) {X : ℕ → Elt F e} : (own d i m X : sProp 𝕄) ⊢ some' d i m := by
  unfold some'
  iintro H; iexists X; iexact H

include EC

set_option maxHeartbeats 1000000 in
theorem wp_trip (q : PosShare TreeShare) {f2 : Buf (Elt F) (a2.view.loc (thr d i))} {f3 : Buf (Elt F) (a3.view.loc (thr d i))}
    {f4 : Buf (Elt F) (a4.view.loc (thr d i))} (t : Fin k1_t1_loop.trips) {K0 K1 : ℕ → BitVec 32} {S0 S1 : ℕ → F .f32}
    (h20 : (rowOf a2 (k1_off1 i t) (k1_off1_inb i t)).view.read (Elt F) f2 = row K0)
    (h21 : (rowOf a2 (k1_off2 i t) (k1_off2_inb i t)).view.read (Elt F) f2 = row K1)
    (h30 : (rowOf a3 (k1_off1 i t) (k1_off1_inb i t)).view.read (Elt F) f3 = row S0)
    (h31 : (rowOf a3 (k1_off2 i t) (k1_off2_inb i t)).view.read (Elt F) f3 = row S1)
    (h4 : a4.view.read (Elt F) f4 = row fun j => BitVec.ofNat 32 j) :
    iprop((inputs d i a2 a3 a4 q f2 f3 f4 : sProp 𝕄)
        ∗ (∃ Y, ownRow d i a5 (k1_off1 i t) (k1_off1_inb i t) Y) ∗ (∃ Y, ownRow d i a5 (k1_off2 i t) (k1_off2_inb i t) Y)
        ∗ (∃ Y, ownRow d i a6 (k1_off1 i t) (k1_off1_inb i t) Y) ∗ (∃ Y, ownRow d i a6 (k1_off2 i t) (k1_off2_inb i t) Y)
        ∗ scratch d i a7 a8 a9 a10 a11 a12 a13 a14 a15 a16 a17 a18 a19 a20 r0 r1 r2 r3 r4 r5 r6 r7 r8 r9 ∗ Owe (thr d i) ι O W₀ ∗ MayWaits (thr d i) ι O)
      ⊢ W defs 𝒱 bd Set.univ d i (tripC i a2 a3 a4 harg4 a5 a6 a7 harg7 a8 a9 harg9 a10 a11 harg11 a12 harg12 a13 a14 harg14 a15 a16 harg16 a17 a18 harg18 a19 harg19 a20 r0 r1 r2 r3 r4 r5 r6 r7 r8 r9 t) fun _ =>
        iprop((inputs d i a2 a3 a4 q f2 f3 f4 : sProp 𝕄)
        ∗ ownRow d i a5 (k1_off1 i t) (k1_off1_inb i t) (perm K0) ∗ ownRow d i a5 (k1_off2 i t) (k1_off2_inb i t) (perm K1)
        ∗ ownRow d i a6 (k1_off1 i t) (k1_off1_inb i t) (fun j => S0 (perm K0 j).toNat)
        ∗ ownRow d i a6 (k1_off2 i t) (k1_off2_inb i t) (fun j => S1 (perm K1 j).toNat)
        ∗ scratch d i a7 a8 a9 a10 a11 a12 a13 a14 a15 a16 a17 a18 a19 a20 r0 r1 r2 r3 r4 r5 r6 r7 r8 r9 ∗ Owe (thr d i) ι O W₀) := by
  unfold scratch
  iintro ⟨⟨H2, H3, H4⟩, P0, P1, P2, P3, ⟨A7, A8, A9, A10, A11, A12, A13, A14, A15, A16, A17, A18, A19, A20, R0, R1, R2, R3, R4, R5, R6, R7, R8, R9⟩, HO, #Hmw⟩
  unfold tripC fetchC
  iapply (wp_fetchRow 𝒱 bd d i EC (ι := ι) (O := O) (W₀ := W₀) h20)
  isplitl [H2]; · iexact H2
  isplitl [A7]; · iexact A7
  isplitl [R0]; · iexact R0
  isplitl [HO]; · iexact HO
  isplitr; · iexact Hmw
  iintro ⟨H2, A7, R0, HO⟩
  iapply (wp_fetchRow 𝒱 bd d i EC (ι := ι) (O := O) (W₀ := W₀) h21)
  isplitl [H2]; · iexact H2
  isplitl [A14]; · iexact A14
  isplitl [R1]; · iexact R1
  isplitl [HO]; · iexact HO
  isplitr; · iexact Hmw
  iintro ⟨H2, A14, R1, HO⟩
  iapply (wp_fetchWhole 𝒱 bd d i EC (ι := ι) (O := O) (W₀ := W₀) h4)
  isplitl [H4]; · iexact H4
  isplitl [A9]; · iexact A9
  isplitl [R2]; · iexact R2
  isplitl [HO]; · iexact HO
  isplitr; · iexact Hmw
  iintro ⟨H4, A9, R2, HO⟩
  iapply (wp_fetchWhole 𝒱 bd d i EC (ι := ι) (O := O) (W₀ := W₀) h4)
  isplitl [H4]; · iexact H4
  isplitl [A16]; · iexact A16
  isplitl [R3]; · iexact R3
  isplitl [HO]; · iexact HO
  isplitr; · iexact Hmw
  iintro ⟨H4, A16, R3, HO⟩
  iapply (wp_fetchRow 𝒱 bd d i EC (ι := ι) (O := O) (W₀ := W₀) h30)
  isplitl [H3]; · iexact H3
  isplitl [A11]; · iexact A11
  isplitl [R4]; · iexact R4
  isplitl [HO]; · iexact HO
  isplitr; · iexact Hmw
  iintro ⟨H3, A11, R4, HO⟩
  iapply (wp_fetchRow 𝒱 bd d i EC (ι := ι) (O := O) (W₀ := W₀) h31)
  isplitl [H3]; · iexact H3
  isplitl [A18]; · iexact A18
  isplitl [R5]; · iexact R5
  isplitl [HO]; · iexact HO
  isplitr; · iexact Hmw
  iintro ⟨H3, A18, R5, HO⟩
  ihave B0 := (sorted_zero d i K0) $$ [A7 A9]
  · isplitl [A7] <;> iassumption
  ihave B1 := (sorted_zero d i K1) $$ [A14 A16]
  · isplitl [A14] <;> iassumption
  iapply (wp_pass 𝒱 bd Set.univ d i (selects_of (t := 0) (by decide) (by decide)) K0 K1)
  isplitl [B0]; · iexact B0
  isplitl [B1]; · iexact B1
  isplitl [A8]; · iexact A8
  isplitl [A10]; · iexact A10
  isplitl [A15]; · iexact A15
  isplitl [A17]; · iexact A17
  isplitl [A13]; · iexact A13
  isplitl [A20]; · iexact A20
  iintro ⟨B0, B1, A7, A9, A14, A16, A13, A20⟩
  iapply (wp_pass 𝒱 bd Set.univ d i (selects_of (t := 1) (by decide) (by decide)) K0 K1)
  isplitl [B0]; · iexact B0
  isplitl [B1]; · iexact B1
  isplitl [A7]; · iexact A7
  isplitl [A9]; · iexact A9
  isplitl [A14]; · iexact A14
  isplitl [A16]; · iexact A16
  isplitl [A13]; · iexact A13
  isplitl [A20]; · iexact A20
  iintro ⟨B0, B1, A8, A10, A15, A17, A13, A20⟩
  iapply (wp_pass 𝒱 bd Set.univ d i (selects_of (t := 2) (by decide) (by decide)) K0 K1)
  isplitl [B0]; · iexact B0
  isplitl [B1]; · iexact B1
  isplitl [A8]; · iexact A8
  isplitl [A10]; · iexact A10
  isplitl [A15]; · iexact A15
  isplitl [A17]; · iexact A17
  isplitl [A13]; · iexact A13
  isplitl [A20]; · iexact A20
  iintro ⟨B0, B1, A7, A9, A14, A16, A13, A20⟩
  iapply (wp_pass 𝒱 bd Set.univ d i (selects_of (t := 3) (by decide) (by decide)) K0 K1)
  isplitl [B0]; · iexact B0
  isplitl [B1]; · iexact B1
  isplitl [A7]; · iexact A7
  isplitl [A9]; · iexact A9
  isplitl [A14]; · iexact A14
  isplitl [A16]; · iexact A16
  isplitl [A13]; · iexact A13
  isplitl [A20]; · iexact A20
  iintro ⟨B0, B1, A8, A10, A15, A17, A13, A20⟩
  ihave B0 := (sorted_perm d i K0) $$ B0
  icases B0 with ⟨A7, A9⟩
  ihave B1 := (sorted_perm d i K1) $$ B1
  icases B1 with ⟨A14, A16⟩
  iapply (wp_gather 𝒱 bd Set.univ d i (V0 := perm K0) (V1 := perm K1) (fun j _ => perm_lt K0 j) (fun j _ => perm_lt K1 j) S0 S1)
  isplitl [A9]; · iexact A9
  isplitl [A16]; · iexact A16
  isplitl [A11]; · iexact A11
  isplitl [A18]; · iexact A18
  isplitl [A12]; · iexact A12
  isplitl [A19]; · iexact A19
  iintro ⟨A9, A16, A11, A18, A12, A19⟩
  unfold flushC
  iapply (wp_flushRow 𝒱 bd d i EC (ι := ι) (O := O) (W₀ := W₀))
  isplitl [A9]; · iexact A9
  isplitl [P0]; · iexact P0
  isplitl [R6]; · iexact R6
  isplitl [HO]; · iexact HO
  isplitr; · iexact Hmw
  iintro ⟨A9, P0, R6, HO⟩
  iapply (wp_flushRow 𝒱 bd d i EC (ι := ι) (O := O) (W₀ := W₀))
  isplitl [A16]; · iexact A16
  isplitl [P1]; · iexact P1
  isplitl [R7]; · iexact R7
  isplitl [HO]; · iexact HO
  isplitr; · iexact Hmw
  iintro ⟨A16, P1, R7, HO⟩
  iapply (wp_flushRow 𝒱 bd d i EC (ι := ι) (O := O) (W₀ := W₀))
  isplitl [A12]; · iexact A12
  isplitl [P2]; · iexact P2
  isplitl [R8]; · iexact R8
  isplitl [HO]; · iexact HO
  isplitr; · iexact Hmw
  iintro ⟨A12, P2, R8, HO⟩
  iapply (wp_flushRow 𝒱 bd d i EC (ι := ι) (O := O) (W₀ := W₀))
  isplitl [A19]; · iexact A19
  isplitl [P3]; · iexact P3
  isplitl [R9]; · iexact R9
  isplitl [HO]; · iexact HO
  isplitr; · iexact Hmw
  iintro ⟨A19, P3, R9, HO⟩
  unfold W
  rw [wp_ret]
  imodintro
  isplitl [H2 H3 H4]
  · isplitl [H2]; · iexact H2
    isplitl [H3] <;> iassumption
  isplitl [P0]; · iexact P0
  isplitl [P1]; · iexact P1
  isplitl [P2]; · iexact P2
  isplitl [P3]; · iexact P3
  isplitr [HO]; rotate_left; · iexact HO
  isplitl [A7]; · iexact A7
  isplitl [A8]; · iexact A8
  isplitl [A9]; · iapply (some_intro d i a9) $$ A9
  isplitl [A10]; · iexact A10
  isplitl [A11]; · iapply (some_intro d i a11) $$ A11
  isplitl [A12]; · iapply (some_intro d i a12) $$ A12
  isplitl [A13]; · iexact A13
  isplitl [A14]; · iexact A14
  isplitl [A15]; · iexact A15
  isplitl [A16]; · iapply (some_intro d i a16) $$ A16
  isplitl [A17]; · iexact A17
  isplitl [A18]; · iapply (some_intro d i a18) $$ A18
  isplitl [A19]; · iapply (some_intro d i a19) $$ A19
  isplitl [A20]; · iexact A20
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

end Cert.KernelIdeal.Body
-- ==== Proof.Rows.lean ====
/-
  The rows of the kernel's arrays in HBM: which elements a row is, what it reads, and the contents the kernel leaves.
-/
module

public import proofs.«01_k».proof.Proof.Region

@[expose] public section

noncomputable section

namespace Cert.KernelIdeal.Body

open Idealize.ShloMosaic Cert.Lanes
open Cert.KernelIdeal Facts₀ Facts
open Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The index of row `r` and column `j`. -/
def at2 (r j : ℕ) : S128x8192.Idx := fun | 0 => ⟨r % 128, Nat.mod_lt _ (by decide)⟩ | 1 => ⟨j % 8192, Nat.mod_lt _ (by decide)⟩

theorem at2_zero {r : ℕ} (j : ℕ) (h : r < 128) : (at2 r j 0).val = r := Nat.mod_eq_of_lt h
theorem at2_one (r : ℕ) {j : ℕ} (h : j < 8192) : (at2 r j 1).val = j := Nat.mod_eq_of_lt h

/-- Every index is that of its row and column. -/
theorem at2_self (x : S128x8192.Idx) : at2 (x 0).val (x 1).val = x := by
  funext a
  match a with
  | 0 => exact Fin.ext (at2_zero _ (x 0).isLt)
  | 1 => exact Fin.ext (at2_one _ (x 1).isLt)

/-- The elements of row `r`. -/
def rowSet (r : ℕ) : Finset S128x8192.Idx := Finset.univ.filter fun x => (x 0).val = r

theorem mem_rowSet {r : ℕ} {x : S128x8192.Idx} : x ∈ rowSet r ↔ (x 0).val = r := by simp [rowSet]

/-- The order of every row's keys. -/
def permOf (kk : S128x8192.Idx → BitVec 32) : S128x8192.Idx → BitVec 32 := fun x => perm (fun j => kk (at2 (x 0).val j)) (x 1).val

/-- The scores of every row, in the order of its keys. -/
def scoresOf (kk : S128x8192.Idx → BitVec 32) (ss : S128x8192.Idx → F .f32) : S128x8192.Idx → F .f32 := fun x =>
  ss (at2 (x 0).val (permOf kk x).toNat)

variable {off : Fin 2 → ℕ} (h : ∀ x, off x + S1x8192.size x ≤ S128x8192.size x)

omit [FloatOps F]

include h in
theorem off_lt : off 0 < 128 := by
  have h0 : off 0 + 1 ≤ 128 := h 0
  omega

/-- Element `y` of the row at `off` is the array's element of that row and column `y`. -/
theorem emb_row (h1 : off 1 = 0) (y : S8192.Idx) :
    (Rect.unit (s := S128x8192) off S1x8192.size h).emb (Shape.reshapeEquiv (Shape.Squeezes.numel_eq squeezes_S1x8192_S8192) y) = at2 (off 0) (y 0).val := by
  have e : (Shape.reshapeEquiv (Shape.Squeezes.numel_eq squeezes_S1x8192_S8192) y : S1x8192.Idx) = Fin.cons ⟨0, Nat.one_pos⟩ y :=
    Shape.reshapeEquiv_cons_one _ y
  rw [e]
  funext a
  match a with
  | 0 =>
    refine Fin.ext ((Rect.emb_apply _ _ _).trans ?_)
    rw [at2_zero _ (off_lt h)]
    show off 0 + 1 * 0 = off 0
    omega
  | 1 =>
    refine Fin.ext ((Rect.emb_apply _ _ _).trans ?_)
    rw [at2_one _ (y 0).isLt]
    show off 1 + 1 * (y 0).val = (y 0).val
    omega

theorem set_row (h1 : off 1 = 0) : (Rect.unit (s := S128x8192) off S1x8192.size h).set = rowSet (off 0) := by
  ext x
  rw [Rect.mem_set_unit, mem_rowSet]
  have hx : (x 1).val < 8192 := (x 1).isLt
  constructor
  · intro H
    have h0 : off 0 ≤ (x 0).val ∧ (x 0).val < off 0 + 1 := H 0
    omega
  · intro H a
    match a with
    | 0 =>
      show off 0 ≤ (x 0).val ∧ (x 0).val < off 0 + 1
      omega
    | 1 =>
      show off 1 ≤ (x 1).val ∧ (x 1).val < off 1 + 8192
      omega

variable (d : Dev nD) (i : grid1.Coords)

/-- The arrays in HBM: keys, scores, the numbers 0, 1, …, and the two results. -/
abbrev kLoc (d : Dev nD) : Loc nD τ sig := (SparseCore.T d).loc main_v10_1
abbrev sLoc (d : Dev nD) : Loc nD τ sig := (SparseCore.T d).loc main_v10_0
abbrev nLoc (d : Dev nD) : Loc nD τ sig := (SparseCore.T d).loc main_v11
abbrev pLoc (d : Dev nD) : Loc nD τ sig := (SparseCore.T d).loc main_v12_0
abbrev gLoc (d : Dev nD) : Loc nD τ sig := (SparseCore.T d).loc main_v12_1

theorem read_keys (h1 : off 1 = 0) (f : S128x8192.Idx → BitVec 32) :
    (rowOf (Memref.whole main_v10_1_scv) off h).view.read (Elt F) f = row fun j => f (at2 (off 0) j) :=
  funext fun y => congrArg f (emb_row h h1 y)

theorem read_scores (h1 : off 1 = 0) (f : S128x8192.Idx → F .f32) :
    (rowOf (Memref.whole main_v10_0_scv) off h).view.read (Elt F) f = row fun j => f (at2 (off 0) j) :=
  funext fun y => congrArg f (emb_row h h1 y)

theorem read_perm (h1 : off 1 = 0) (f : S128x8192.Idx → BitVec 32) :
    (rowOf (Memref.whole main_v12_0_scv) off h).view.read (Elt F) f = row fun j => f (at2 (off 0) j) :=
  funext fun y => congrArg f (emb_row h h1 y)

theorem read_gathered (h1 : off 1 = 0) (f : S128x8192.Idx → F .f32) :
    (rowOf (Memref.whole main_v12_1_scv) off h).view.read (Elt F) f = row fun j => f (at2 (off 0) j) :=
  funext fun y => congrArg f (emb_row h h1 y)

theorem set_perm (h1 : off 1 = 0) : (rowOf (Memref.whole main_v12_0_scv) off h).view.set = rowSet (off 0) := by
  rw [← set_row h h1]
  exact (Memref.set_view_squeeze _ _).trans (View.set_slice_whole main_v12_0_scv _)

theorem set_gathered (h1 : off 1 = 0) : (rowOf (Memref.whole main_v12_1_scv) off h).view.set = rowSet (off 0) := by
  rw [← set_row h h1]
  exact (Memref.set_view_squeeze _ _).trans (View.set_slice_whole main_v12_1_scv _)

/-- A row of the permutation array, whatever it holds, as the kernel's copy takes it, -/
theorem open_perm (h1 : off 1 = 0) (f : S128x8192.Idx → BitVec 32) :
    (pLoc d ↦[rowSet (off 0)]{fullShare} f : sProp 𝕄) ⊢ iprop(∃ Y, ownRow d i (Memref.whole main_v12_0_scv) off h Y) := by
  rw [← set_perm h h1]
  iintro H
  iexists (fun j => f (at2 (off 0) j))
  iapply (Cert.Copy.unpin (thr d i) (rowOf (Memref.whole main_v12_0_scv) off h) (read_perm (F := F) h h1 f)) $$ H

/-- and as it leaves it: the order of the row's keys. -/
theorem close_perm (h1 : off 1 = 0) (kk : S128x8192.Idx → BitVec 32) :
    (ownRow d i (Memref.whole main_v12_0_scv) off h (perm fun j => kk (at2 (off 0) j)) : sProp 𝕄) ⊢ pLoc d ↦[rowSet (off 0)]{fullShare} permOf kk := by
  rw [← set_perm h h1]
  refine Cert.Copy.pin (thr d i) (rowOf (Memref.whole main_v12_0_scv) off h) ((read_perm (F := F) h h1 _).trans (row_congr fun j hj => ?_))
  unfold permOf
  rw [at2_zero _ (off_lt h), at2_one _ hj]

/-- The same of the array of gathered scores. -/
theorem open_gathered (h1 : off 1 = 0) (f : S128x8192.Idx → F .f32) :
    (gLoc d ↦[rowSet (off 0)]{fullShare} f : sProp 𝕄) ⊢ iprop(∃ Y, ownRow d i (Memref.whole main_v12_1_scv) off h Y) := by
  rw [← set_gathered h h1]
  iintro H
  iexists (fun j => f (at2 (off 0) j))
  iapply (Cert.Copy.unpin (thr d i) (rowOf (Memref.whole main_v12_1_scv) off h) (read_gathered (F := F) h h1 f)) $$ H

theorem close_gathered (h1 : off 1 = 0) (kk : S128x8192.Idx → BitVec 32) (ss : S128x8192.Idx → F .f32) :
    (ownRow d i (Memref.whole main_v12_1_scv) off h (fun j => ss (at2 (off 0) (perm (fun j => kk (at2 (off 0) j)) j).toNat)) : sProp 𝕄)
      ⊢ gLoc d ↦[rowSet (off 0)]{fullShare} scoresOf kk ss := by
  rw [← set_gathered h h1]
  refine Cert.Copy.pin (thr d i) (rowOf (Memref.whole main_v12_1_scv) off h) ((read_gathered (F := F) h h1 _).trans (row_congr fun j hj => ?_))
  unfold scoresOf permOf
  rw [at2_zero _ (off_lt h), at2_one _ hj]

end Cert.KernelIdeal.Body
-- ==== Proof.Tile.lean ====
/-
  A tile's run of the kernel: its two trips, two rows each, and what its four rows hold afterwards.
-/
module

public import proofs.«01_k».proof.Proof.Rows

@[expose] public section

noncomputable section

namespace Cert.KernelIdeal.Body

open Idealize.ShloMosaic Cert.Lanes
open Idealize.ShloMosaic.Transfers (MayWaits)
open Cert.Copy (Owe)
open Cert.KernelIdeal Facts₀ Facts
open Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (bd : Option 𝒱.V) (d : Dev nD) (i : grid1.Coords)
variable (EC : UEmb Counters (MT nD τ sig Ix (Elt F) Name U Lvl)) [Infinite Name]
  [EC.LandsIn (upEmb : UEmb _ (MT nD τ sig Ix (Elt F) Name U Lvl))]
variable {ι : Ix} {O : CellTallies nD τ sig Ix} {W₀ : Waits sig Ix}

/-- What the tile reads: keys, scores and the numbers 0, 1, …, at a share. -/
abbrev reads (d : Dev nD) (i : grid1.Coords) (q : PosShare TreeShare) (kk : S128x8192.Idx → BitVec 32) (ss : S128x8192.Idx → F .f32)
    (nn : S8192.Idx → BitVec 32) : sProp 𝕄 :=
  inputs d i (Memref.whole main_v10_1_scv) (Memref.whole main_v10_0_scv) (Memref.whole main_v11_scv) q kk ss nn

/-- The tile's own arrays and semaphores. -/
abbrev tools (d : Dev nD) (i : grid1.Coords) : sProp 𝕄 :=
  scratch (F := F) d i (Memref.whole cc1_scratch0) (Memref.whole cc1_scratch1) (Memref.whole cc1_scratch2) (Memref.whole cc1_scratch3)
    (Memref.whole cc1_scratch4) (Memref.whole cc1_scratch5) (Memref.whole cc1_scratch6) (Memref.whole cc1_scratch7) (Memref.whole cc1_scratch8)
    (Memref.whole cc1_scratch9) (Memref.whole cc1_scratch10) (Memref.whole cc1_scratch11) (Memref.whole cc1_scratch12) (Memref.whole cc1_scratch13)
    cc1_scoped0 cc1_scoped1 cc1_scoped2 cc1_scoped3 cc1_scoped4 cc1_scoped5 cc1_scoped6 cc1_scoped7 cc1_scoped8 cc1_scoped9

/-- One trip, of the kernel's own arrays. -/
abbrev tripW (i : grid1.Coords) (t : Fin k1_t1_loop.trips) : PT F i (BitVec 32) :=
  tripC i (Memref.whole main_v10_1_scv) (Memref.whole main_v10_0_scv) (Memref.whole main_v11_scv) (Memref.isWhole_whole _)
    (Memref.whole main_v12_0_scv) (Memref.whole main_v12_1_scv)
    (Memref.whole cc1_scratch0) (Memref.isWhole_whole _) (Memref.whole cc1_scratch1) (Memref.whole cc1_scratch2) (Memref.isWhole_whole _)
    (Memref.whole cc1_scratch3) (Memref.whole cc1_scratch4) (Memref.isWhole_whole _) (Memref.whole cc1_scratch5) (Memref.isWhole_whole _)
    (Memref.whole cc1_scratch6) (Memref.whole cc1_scratch7) (Memref.isWhole_whole _) (Memref.whole cc1_scratch8)
    (Memref.whole cc1_scratch9) (Memref.isWhole_whole _) (Memref.whole cc1_scratch10) (Memref.whole cc1_scratch11) (Memref.isWhole_whole _)
    (Memref.whole cc1_scratch12) (Memref.isWhole_whole _) (Memref.whole cc1_scratch13)
    cc1_scoped0 cc1_scoped1 cc1_scoped2 cc1_scoped3 cc1_scoped4 cc1_scoped5 cc1_scoped6 cc1_scoped7 cc1_scoped8 cc1_scoped9 t

/-- Row `r` of both results, holding what `P` and `G` give. -/
def pair (d : Dev nD) (r : ℕ) (P : S128x8192.Idx → BitVec 32) (G : S128x8192.Idx → F .f32) : sProp 𝕄 :=
  iprop((pLoc d ↦[rowSet r]{fullShare} P) ∗ gLoc d ↦[rowSet r]{fullShare} G)

/-- The tile's first row. -/
def base (i : grid1.Coords) : ℕ := 8 * (i 1).val + 4 * (i 0).val

theorem trips_rows : k1_t1_loop.trips = 2 := by decide

/-- The results' contents before (`false`) and after (`true`) the tile's work on them. -/
def upto {α : Type} (b : Bool) (f g : α) : α := if b then g else f

include EC

theorem wp_tripW (q : PosShare TreeShare) {kk : S128x8192.Idx → BitVec 32} {ss : S128x8192.Idx → F .f32} {nn : S8192.Idx → BitVec 32}
    (hn : nn = row fun j => BitVec.ofNat 32 j) (t : Fin k1_t1_loop.trips) (P : S128x8192.Idx → BitVec 32) (G : S128x8192.Idx → F .f32) :
    iprop((reads d i q kk ss nn : sProp 𝕄) ∗ pair d (base i + 2 * t.val) P G ∗ pair d (base i + 2 * t.val + 1) P G
        ∗ tools d i ∗ Owe (thr d i) ι O W₀ ∗ MayWaits (thr d i) ι O)
      ⊢ W defs 𝒱 bd Set.univ d i (tripW i t) fun _ =>
        iprop((reads d i q kk ss nn : sProp 𝕄) ∗ pair d (base i + 2 * t.val) (permOf kk) (scoresOf kk ss)
          ∗ pair d (base i + 2 * t.val + 1) (permOf kk) (scoresOf kk ss) ∗ tools d i ∗ Owe (thr d i) ι O W₀) := by
  have e1 : k1_off1 i t 0 = base i + 2 * t.val := congrFun (Gen.k1_off1_eq i t) 0
  have e2 : k1_off2 i t 0 = base i + 2 * t.val + 1 := congrFun (Gen.k1_off2_eq i t) 0
  have z1 : k1_off1 i t 1 = 0 := congrFun (Gen.k1_off1_eq i t) 1
  have z2 : k1_off2 i t 1 = 0 := congrFun (Gen.k1_off2_eq i t) 1
  rw [← e2, ← e1]
  unfold pair
  iintro ⟨HI, ⟨P1, G1⟩, ⟨P2, G2⟩, HT, HO, HM⟩
  ihave P1 := (open_perm (k1_off1_inb i t) d i z1 P) $$ P1
  ihave P2 := (open_perm (k1_off2_inb i t) d i z2 P) $$ P2
  ihave G1 := (open_gathered (k1_off1_inb i t) d i z1 G) $$ G1
  ihave G2 := (open_gathered (k1_off2_inb i t) d i z2 G) $$ G2
  ihave H := (wp_trip (defs := defs) 𝒱 bd d i EC (Memref.whole main_v10_1_scv) (Memref.whole main_v10_0_scv) (Memref.whole main_v11_scv) (Memref.isWhole_whole _)
    (Memref.whole main_v12_0_scv) (Memref.whole main_v12_1_scv)
    (Memref.whole cc1_scratch0) (Memref.isWhole_whole _) (Memref.whole cc1_scratch1) (Memref.whole cc1_scratch2) (Memref.isWhole_whole _)
    (Memref.whole cc1_scratch3) (Memref.whole cc1_scratch4) (Memref.isWhole_whole _) (Memref.whole cc1_scratch5) (Memref.isWhole_whole _)
    (Memref.whole cc1_scratch6) (Memref.whole cc1_scratch7) (Memref.isWhole_whole _) (Memref.whole cc1_scratch8)
    (Memref.whole cc1_scratch9) (Memref.isWhole_whole _) (Memref.whole cc1_scratch10) (Memref.whole cc1_scratch11) (Memref.isWhole_whole _)
    (Memref.whole cc1_scratch12) (Memref.isWhole_whole _) (Memref.whole cc1_scratch13)
    cc1_scoped0 cc1_scoped1 cc1_scoped2 cc1_scoped3 cc1_scoped4 cc1_scoped5 cc1_scoped6 cc1_scoped7 cc1_scoped8 cc1_scoped9 q t
    (read_keys (F := F) (k1_off1_inb i t) z1 kk) (read_keys (F := F) (k1_off2_inb i t) z2 kk)
    (read_scores (F := F) (k1_off1_inb i t) z1 ss) (read_scores (F := F) (k1_off2_inb i t) z2 ss) (f4 := nn) hn) $$ [HI P1 P2 G1 G2 HT HO HM]
  · isplitl [HI]; · iexact HI
    isplitl [P1]; · iexact P1
    isplitl [P2]; · iexact P2
    isplitl [G1]; · iexact G1
    isplitl [G2]; · iexact G2
    isplitl [HT]; · iexact HT
    isplitl [HO] <;> iassumption
  unfold W
  iapply (wp_wand frame (wpE defs 𝒱 (thr d i) bd) Set.univ) $$ H
  iintro %_ ⟨HI, P1, P2, G1, G2, HT, HO⟩
  ihave P1 := (close_perm (k1_off1_inb i t) d i z1 kk) $$ P1
  ihave P2 := (close_perm (k1_off2_inb i t) d i z2 kk) $$ P2
  ihave G1 := (close_gathered (k1_off1_inb i t) d i z1 kk ss) $$ G1
  ihave G2 := (close_gathered (k1_off2_inb i t) d i z2 kk ss) $$ G2
  isplitl [HI]; · iexact HI
  isplitl [P1 G1]
  · isplitl [P1] <;> iassumption
  isplitl [P2 G2]
  · isplitl [P2] <;> iassumption
  isplitl [HT] <;> iassumption

/-- The whole of the tile's run: the four rows it owns left at the keys' order and the scores in it. -/
theorem wp_kernelC (q : PosShare TreeShare) {kk : S128x8192.Idx → BitVec 32} {ss : S128x8192.Idx → F .f32} {nn : S8192.Idx → BitVec 32}
    (hn : nn = row fun j => BitVec.ofNat 32 j) (P : S128x8192.Idx → BitVec 32) (G : S128x8192.Idx → F .f32) :
    iprop((reads d i q kk ss nn : sProp 𝕄) ∗ pair d (base i) P G ∗ pair d (base i + 1) P G ∗ pair d (base i + 2) P G ∗ pair d (base i + 3) P G
        ∗ tools d i ∗ Owe (thr d i) ι O W₀ ∗ MayWaits (thr d i) ι O)
      ⊢ wp frame (wpE defs 𝒱 (thr d i) bd) Set.univ ((Scf.Loop.for k1_t1_loop k1_t1_ok 0#32 fun t _ => tripW i t) >>= fun _ => pure PUnit.unit) fun _ =>
        iprop((reads d i q kk ss nn : sProp 𝕄) ∗ pair d (base i) (permOf kk) (scoresOf kk ss) ∗ pair d (base i + 1) (permOf kk) (scoresOf kk ss)
          ∗ pair d (base i + 2) (permOf kk) (scoresOf kk ss) ∗ pair d (base i + 3) (permOf kk) (scoresOf kk ss) ∗ tools d i ∗ Owe (thr d i) ι O W₀) := by
  iintro ⟨HI, H0, H1, H2, H3, HT, HO, #HM⟩
  iapply (Scf.wp_for_bind (M := 𝕄) frame (wpE defs 𝒱 (thr d i) bd) Set.univ k1_t1_loop.lb k1_t1_loop.ub k1_t1_loop.st k1_t1_ok 0#32
    (fun s _ => tripW i s)
    (fun s _ => iprop((reads d i q kk ss nn : sProp 𝕄)
      ∗ pair d (base i) (upto (decide (0 < s)) P (permOf kk)) (upto (decide (0 < s)) G (scoresOf kk ss))
      ∗ pair d (base i + 1) (upto (decide (0 < s)) P (permOf kk)) (upto (decide (0 < s)) G (scoresOf kk ss))
      ∗ pair d (base i + 2) (upto (decide (1 < s)) P (permOf kk)) (upto (decide (1 < s)) G (scoresOf kk ss))
      ∗ pair d (base i + 3) (upto (decide (1 < s)) P (permOf kk)) (upto (decide (1 < s)) G (scoresOf kk ss))
      ∗ tools d i ∗ Owe (thr d i) ι O W₀ ∗ (MayWaits (thr d i) ι O : sProp 𝕄)))
    ?step) $$ [HI H0 H1 H2 H3 HT HO]
  case step =>
    intro s _
    have hs : s.val < 2 := lt_of_lt_of_eq s.isLt trips_rows
    have w := wp_tripW (defs := defs) 𝒱 bd d i EC (ι := ι) (O := O) (W₀ := W₀) q (ss := ss) (kk := kk) hn s P G
    rcases (show s.val = 0 ∨ s.val = 1 by omega) with e | h1
    · rw [e] at w ⊢
      iintro ⟨HI, H0, H1, H2, H3, HT, HO, #HM⟩
      ihave H := w $$ [HI H0 H1 HT HO]
      · isplitl [HI]; · iexact HI
        isplitl [H0]; · iexact H0
        isplitl [H1]; · iexact H1
        isplitl [HT]; · iexact HT
        isplitl [HO]; · iexact HO
        iexact HM
      unfold W
      iapply (wp_wand frame (wpE defs 𝒱 (thr d i) bd) Set.univ) $$ H
      iintro %_ ⟨HI, H0, H1, HT, HO⟩
      isplitl [HI]; · iexact HI
      isplitl [H0]; · iexact H0
      isplitl [H1]; · iexact H1
      isplitl [H2]; · iexact H2
      isplitl [H3]; · iexact H3
      isplitl [HT]; · iexact HT
      isplitl [HO]; · iexact HO
      iexact HM
    · rw [h1] at w ⊢
      iintro ⟨HI, H0, H1, H2, H3, HT, HO, #HM⟩
      ihave H := w $$ [HI H2 H3 HT HO]
      · isplitl [HI]; · iexact HI
        isplitl [H2]; · iexact H2
        isplitl [H3]; · iexact H3
        isplitl [HT]; · iexact HT
        isplitl [HO]; · iexact HO
        iexact HM
      unfold W
      iapply (wp_wand frame (wpE defs 𝒱 (thr d i) bd) Set.univ) $$ H
      iintro %_ ⟨HI, H2, H3, HT, HO⟩
      isplitl [HI]; · iexact HI
      isplitl [H0]; · iexact H0
      isplitl [H1]; · iexact H1
      isplitl [H2]; · iexact H2
      isplitl [H3]; · iexact H3
      isplitl [HT]; · iexact HT
      isplitl [HO]; · iexact HO
      iexact HM
  · isplitl [HI]; · iexact HI
    isplitl [H0]; · iexact H0
    isplitl [H1]; · iexact H1
    isplitl [H2]; · iexact H2
    isplitl [H3]; · iexact H3
    isplitl [HT]; · iexact HT
    isplitl [HO]; · iexact HO
    iexact HM
  iintro %_ ⟨HI, H0, H1, H2, H3, HT, HO, -⟩
  rw [Prog.pure_eq_ret, wp_ret]
  imodintro
  isplitl [HI]; · iexact HI
  isplitl [H0]; · iexact H0
  isplitl [H1]; · iexact H1
  isplitl [H2]; · iexact H2
  isplitl [H3]; · iexact H3
  isplitl [HT] <;> iassumption

end Cert.KernelIdeal.Body
-- ==== Proof.Own.lean ====
/-
  A tile's own arrays and semaphores, among everything that is its own.
-/
module

public import proofs.«01_k».proof.Proof.Tile
public import Idealize.ShloMosaic.Lib.SparseCore.Quiescent

@[expose] public section

noncomputable section

namespace Cert.KernelIdeal.Body

open Idealize.ShloMosaic Cert.Lanes
open Idealize.ShloMosaic.SparseCore.Cfg (ownBufs ownSems0 ownCells ownRefs mem_ownCells mem_ownRefs_of_owner)
open Cert.KernelIdeal Facts₀ Facts
open Idealize.SL
open Idealize.SL.BI (sProp bigSep bigSep_singleton)
open scoped Idealize.SL.BI
open Idealize.SL.BI.BIBase Idealize.SL.BI.Laws Idealize.SL.Sem Idealize.SL.ProofMode
open Idealize.SL.RA

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (d : Dev nD) (i : grid1.Coords)

/-- The members that a one-to-one function names, and the rest. -/
theorem bigSep_named {M : Type} [URA M] {I J : Type} [DecidableEq I] [DecidableEq J] [Fintype J] {s : Finset I} {f : J → I} (inj : Function.Injective f)
    (sub : ∀ j, f j ∈ s) (Φ : I → sProp M) :
    bigSep s Φ = iprop(bigSep Finset.univ (fun j => Φ (f j)) ∗ bigSep (s \ Finset.univ.image f) Φ) := by
  rw [← SparseCore.bigSep_image_of_injOn inj.injOn Φ]
  refine SparseCore.bigSep_sdiff_split' fun x hx => ?_
  obtain ⟨j, -, rfl⟩ := Finset.mem_image.mp hx
  exact sub j

omit [FloatOps F] [Preorder Lvl] in
/-- An array held whole, whatever it holds. -/
theorem some_whole {n : ℕ} {e : EltTy} (m : Memref sig .scVector .vmem ⟨1, ![n]⟩ e) (hm : m.view.set = Finset.univ) (hn : 0 < n) :
    (iprop(∃ f, m.view.loc (thr d i) ↦{fullShare} f) : sProp 𝕄) = some' d i m := by
  have fwd : (iprop(∃ f, m.view.loc (thr d i) ↦{fullShare} f) : sProp 𝕄) ⊢ some' d i m := by
    iintro ⟨%f, H⟩
    haveI : Inhabited (Elt F e) := ⟨m.view.read (Elt F) f fun a => ⟨0, by rw [Fin.eq_zero a]; exact hn⟩⟩
    obtain ⟨X, hX⟩ := exists_row (m.view.read (Elt F) f)
    unfold some' own
    iexists X
    rw [← hm]
    iapply (Cert.Arr.arr_of_pts (thr d i) m hX) $$ H
  have back : (some' d i m : sProp 𝕄) ⊢ iprop(∃ f, m.view.loc (thr d i) ↦{fullShare} f) := by
    unfold some' own Cert.Arr.arr owns
    iintro ⟨%X, %f, -, H⟩
    iexists f
    rw [hm]
    iexact H
  exact BI.Entails.antisymm fwd back

/-- The scratch arrays, numbered, -/
def scratchRef : Fin 14 → Ref sig .scVector := fun | 0 => cc1_scratch0 | 1 => cc1_scratch1 | 2 => cc1_scratch2 | 3 => cc1_scratch3 | 4 => cc1_scratch4 | 5 => cc1_scratch5 | 6 => cc1_scratch6 | 7 => cc1_scratch7 | 8 => cc1_scratch8 | 9 => cc1_scratch9 | 10 => cc1_scratch10 | 11 => cc1_scratch11 | 12 => cc1_scratch12 | 13 => cc1_scratch13

/-- and the semaphores. -/
def scratchSem : Fin 10 → DmaSems sig S_ := fun | 0 => cc1_scoped0 | 1 => cc1_scoped1 | 2 => cc1_scoped2 | 3 => cc1_scoped3 | 4 => cc1_scoped4 | 5 => cc1_scoped5 | 6 => cc1_scoped6 | 7 => cc1_scoped7 | 8 => cc1_scoped8 | 9 => cc1_scoped9

theorem scratchRef_inj : Function.Injective scratchRef := by decide

theorem scratchSem_inj : Function.Injective fun k => (SemLoc.dma (scratchSem k).sem : SemLoc sig) := by decide

abbrev tileProc (i : grid1.Coords) : Proc τ := .scVector ((i 0).castLE hcore1) ((i 1).castLE hsub1)

/-- The tile's other buffers, -/
def otherBufs (d : Dev nD) (i : grid1.Coords) : sProp 𝕄 :=
  bigSep (ownRefs (τ := τ) (tileProc i) \ Finset.univ.image fun k => (tileProc i).devRef (scratchRef k)) fun b => iprop(∃ f, ((d, b) : Loc nD τ sig) ↦{fullShare} f)

/-- and its other semaphores. -/
def otherSems (d : Dev nD) (i : grid1.Coords) : sProp 𝕄 :=
  bigSep (ownCells (thr d i) \ Finset.univ.image fun k => ((thr d i, SemLoc.dma (scratchSem k).sem) : GSem nD τ sig)) fun g => semVal g 0

omit [FloatOps F] [Preorder Lvl] in
theorem ownBufs_eq : (ownBufs (thr d i) : sProp 𝕄) = iprop((some' d i (Memref.whole cc1_scratch0) ∗ some' d i (Memref.whole cc1_scratch1) ∗ some' d i (Memref.whole cc1_scratch2) ∗ some' d i (Memref.whole cc1_scratch3) ∗ some' d i (Memref.whole cc1_scratch4) ∗ some' d i (Memref.whole cc1_scratch5) ∗ some' d i (Memref.whole cc1_scratch6) ∗ some' d i (Memref.whole cc1_scratch7) ∗ some' d i (Memref.whole cc1_scratch8) ∗ some' d i (Memref.whole cc1_scratch9) ∗ some' d i (Memref.whole cc1_scratch10) ∗ some' d i (Memref.whole cc1_scratch11) ∗ some' d i (Memref.whole cc1_scratch12) ∗ some' d i (Memref.whole cc1_scratch13)) ∗ otherBufs d i) := by
  unfold ownBufs otherBufs
  rw [bigSep_named (J := Fin 14) (f := fun k => (tileProc i).devRef (scratchRef k))
    (fun a b e => scratchRef_inj (Proc.devRef_injective _ e))
    (fun k => mem_ownRefs_of_owner (p := tileProc i) (by fin_cases k <;> rfl))]
  rw [show (Finset.univ : Finset (Fin 14)) = {0, 1, 2, 3, 4, 5, 6, 7, 8, 9, 10, 11, 12, 13} by decide]
  repeat rw [SparseCore.bigSep_insert' (by decide)]
  rw [bigSep_singleton]
  rw [(show (iprop(∃ f, ((d, (tileProc i).devRef (scratchRef 0)) : Loc nD τ sig) ↦{fullShare} f) : sProp 𝕄) = some' d i (Memref.whole cc1_scratch0) from some_whole d i (Memref.whole cc1_scratch0) (View.set_whole _) (by decide)),
    (show (iprop(∃ f, ((d, (tileProc i).devRef (scratchRef 1)) : Loc nD τ sig) ↦{fullShare} f) : sProp 𝕄) = some' d i (Memref.whole cc1_scratch1) from some_whole d i (Memref.whole cc1_scratch1) (View.set_whole _) (by decide)),
    (show (iprop(∃ f, ((d, (tileProc i).devRef (scratchRef 2)) : Loc nD τ sig) ↦{fullShare} f) : sProp 𝕄) = some' d i (Memref.whole cc1_scratch2) from some_whole d i (Memref.whole cc1_scratch2) (View.set_whole _) (by decide)),
    (show (iprop(∃ f, ((d, (tileProc i).devRef (scratchRef 3)) : Loc nD τ sig) ↦{fullShare} f) : sProp 𝕄) = some' d i (Memref.whole cc1_scratch3) from some_whole d i (Memref.whole cc1_scratch3) (View.set_whole _) (by decide)),
    (show (iprop(∃ f, ((d, (tileProc i).devRef (scratchRef 4)) : Loc nD τ sig) ↦{fullShare} f) : sProp 𝕄) = some' d i (Memref.whole cc1_scratch4) from some_whole d i (Memref.whole cc1_scratch4) (View.set_whole _) (by decide)),
    (show (iprop(∃ f, ((d, (tileProc i).devRef (scratchRef 5)) : Loc nD τ sig) ↦{fullShare} f) : sProp 𝕄) = some' d i (Memref.whole cc1_scratch5) from some_whole d i (Memref.whole cc1_scratch5) (View.set_whole _) (by decide)),
    (show (iprop(∃ f, ((d, (tileProc i).devRef (scratchRef 6)) : Loc nD τ sig) ↦{fullShare} f) : sProp 𝕄) = some' d i (Memref.whole cc1_scratch6) from some_whole d i (Memref.whole cc1_scratch6) (View.set_whole _) (by decide)),
    (show (iprop(∃ f, ((d, (tileProc i).devRef (scratchRef 7)) : Loc nD τ sig) ↦{fullShare} f) : sProp 𝕄) = some' d i (Memref.whole cc1_scratch7) from some_whole d i (Memref.whole cc1_scratch7) (View.set_whole _) (by decide)),
    (show (iprop(∃ f, ((d, (tileProc i).devRef (scratchRef 8)) : Loc nD τ sig) ↦{fullShare} f) : sProp 𝕄) = some' d i (Memref.whole cc1_scratch8) from some_whole d i (Memref.whole cc1_scratch8) (View.set_whole _) (by decide)),
    (show (iprop(∃ f, ((d, (tileProc i).devRef (scratchRef 9)) : Loc nD τ sig) ↦{fullShare} f) : sProp 𝕄) = some' d i (Memref.whole cc1_scratch9) from some_whole d i (Memref.whole cc1_scratch9) (View.set_whole _) (by decide)),
    (show (iprop(∃ f, ((d, (tileProc i).devRef (scratchRef 10)) : Loc nD τ sig) ↦{fullShare} f) : sProp 𝕄) = some' d i (Memref.whole cc1_scratch10) from some_whole d i (Memref.whole cc1_scratch10) (View.set_whole _) (by decide)),
    (show (iprop(∃ f, ((d, (tileProc i).devRef (scratchRef 11)) : Loc nD τ sig) ↦{fullShare} f) : sProp 𝕄) = some' d i (Memref.whole cc1_scratch11) from some_whole d i (Memref.whole cc1_scratch11) (View.set_whole _) (by decide)),
    (show (iprop(∃ f, ((d, (tileProc i).devRef (scratchRef 12)) : Loc nD τ sig) ↦{fullShare} f) : sProp 𝕄) = some' d i (Memref.whole cc1_scratch12) from some_whole d i (Memref.whole cc1_scratch12) (View.set_whole _) (by decide)),
    (show (iprop(∃ f, ((d, (tileProc i).devRef (scratchRef 13)) : Loc nD τ sig) ↦{fullShare} f) : sProp 𝕄) = some' d i (Memref.whole cc1_scratch13) from some_whole d i (Memref.whole cc1_scratch13) (View.set_whole _) (by decide))]

omit [FloatOps F] [Preorder Lvl] in
theorem ownSems_eq : (ownSems0 (thr d i) : sProp 𝕄) = iprop((idle d i cc1_scoped0 ∗ idle d i cc1_scoped1 ∗ idle d i cc1_scoped2 ∗ idle d i cc1_scoped3 ∗ idle d i cc1_scoped4 ∗ idle d i cc1_scoped5 ∗ idle d i cc1_scoped6 ∗ idle d i cc1_scoped7 ∗ idle d i cc1_scoped8 ∗ idle d i cc1_scoped9) ∗ otherSems d i) := by
  unfold ownSems0 otherSems
  rw [bigSep_named (J := Fin 10) (f := fun k => ((thr d i, SemLoc.dma (scratchSem k).sem) : GSem nD τ sig))
    (fun a b e => scratchSem_inj (Prod.mk.inj e).2)
    (fun k => mem_ownCells.mpr ⟨rfl, by
      show (SemLoc.dma (scratchSem k).sem : SemLoc sig).isScoped .scVector = true
      revert k; decide⟩)]
  rw [show (Finset.univ : Finset (Fin 10)) = {0, 1, 2, 3, 4, 5, 6, 7, 8, 9} by decide]
  repeat rw [SparseCore.bigSep_insert' (by decide)]
  rw [bigSep_singleton]
  rfl

omit [FloatOps F] [Preorder Lvl] in
/-- What is the tile's own: the kernel's arrays and semaphores, and the rest. -/
theorem own_tools : iprop((ownBufs (thr d i) : sProp 𝕄) ∗ ownSems0 (thr d i)) ⊢ iprop(tools d i ∗ otherBufs d i ∗ otherSems d i) := by
  rw [ownBufs_eq, ownSems_eq]
  unfold tools scratch
  iintro ⟨⟨⟨B0, B1, B2, B3, B4, B5, B6, B7, B8, B9, B10, B11, B12, B13⟩, HB⟩, ⟨S0, S1, S2, S3, S4, S5, S6, S7, S8, S9⟩, HS⟩
  isplitr [HB HS]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [HB] <;> iassumption

omit [FloatOps F] [Preorder Lvl] in
theorem tools_own : iprop((tools d i : sProp 𝕄) ∗ otherBufs d i ∗ otherSems d i) ⊢ iprop(ownBufs (thr d i) ∗ ownSems0 (thr d i)) := by
  rw [ownBufs_eq, ownSems_eq]
  unfold tools scratch
  iintro ⟨⟨B0, B1, B2, B3, B4, B5, B6, B7, B8, B9, B10, B11, B12, B13, S0, S1, S2, S3, S4, S5, S6, S7, S8, S9⟩, HB, HS⟩
  isplitr [S0 S1 S2 S3 S4 S5 S6 S7 S8 S9 HS]
  · isplitr [HB]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      iexact B13
    iexact HB
  isplitr [HS]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iexact HS

end Cert.KernelIdeal.Body
-- ==== Proof.Deal.lean ====
/-
  How the kernel's arrays are dealt: to each SparseCore a share of what is read and the rows its tiles write, and so again
  to each of its tiles.
-/
module

public import proofs.«01_k».proof.Proof.Own
public import Idealize.ShloMosaic.Lib.ShareLeaves

@[expose] public section

noncomputable section

namespace Cert.KernelIdeal.Body

open Idealize.ShloMosaic Cert.Lanes
open Idealize.ShloMosaic.ShareLeaves (leaf pointsTo_leaves)
open Cert.KernelIdeal Facts₀ Facts
open Idealize.SL
open Idealize.SL.BI (sProp bigSep bigSep_singleton bigSep_congr)
open scoped Idealize.SL.BI
open Idealize.SL.BI.BIBase Idealize.SL.BI.Laws Idealize.SL.Sem Idealize.SL.ProofMode
open Idealize.SL.RA

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The numbers 0, 1, …. -/
def numbers : S8192.Idx → BitVec 32 := iotaInDim S8192 32 0

theorem numbers_eq : numbers = row fun j => BitVec.ofNat 32 j := rfl

/-- What is read, at a share. -/
def hold (d : Dev nD) (q : PosShare TreeShare) (kk : S128x8192.Idx → BitVec 32) (ss : S128x8192.Idx → F .f32) : sProp 𝕄 :=
  iprop((kLoc d ↦{q} kk) ∗ (sLoc d ↦{q} ss) ∗ nLoc d ↦{q} numbers)

/-- What is written, on a set of elements. -/
def outs (d : Dev nD) (I : Finset S128x8192.Idx) (P : S128x8192.Idx → BitVec 32) (G : S128x8192.Idx → F .f32) : sProp 𝕄 :=
  iprop((pLoc d ↦[I]{fullShare} P) ∗ gLoc d ↦[I]{fullShare} G)

/-- The rows SparseCore `c` writes, -/
def coreSet (c : ℕ) : Finset S128x8192.Idx := Finset.univ.filter fun x => (x 0).val / 4 % 2 = c

/-- and those of its tile `s`. -/
def tileSet (c s : ℕ) : Finset S128x8192.Idx := Finset.univ.filter fun x => (x 0).val / 4 = 2 * s + c

/-- The shares of what is read. -/
def coreShare (c : ℕ) : PosShare TreeShare := leaf 1 fullShare ⟨c % 2, Nat.mod_lt _ (by decide)⟩
def tileShare (c s : ℕ) : PosShare TreeShare := leaf 4 (coreShare c) ⟨s % 16, Nat.mod_lt _ (by decide)⟩

omit [FloatOps F] [Preorder Lvl] in
theorem hold_leaves (d : Dev nD) (q : PosShare TreeShare) (kk : S128x8192.Idx → BitVec 32) (ss : S128x8192.Idx → F .f32) (n : ℕ) :
    (hold d q kk ss : sProp 𝕄) = bigSep Finset.univ fun k : Fin (2 ^ n) => hold d (leaf n q k) kk ss := by
  unfold hold
  rw [BI.bigSep_sep', BI.bigSep_sep', pointsTo_leaves Finset.univ _ n q, pointsTo_leaves Finset.univ _ n q, pointsTo_leaves Finset.univ _ n q]

omit [FloatOps F] [Preorder Lvl] in
theorem outs_union (d : Dev nD) {J : Type} [DecidableEq J] [Fintype J] (S : J → Finset S128x8192.Idx) (I : Finset S128x8192.Idx)
    (hI : Finset.univ.biUnion S = I) (hd : ∀ a b x, x ∈ S a → x ∈ S b → a = b) (P : S128x8192.Idx → BitVec 32) (G : S128x8192.Idx → F .f32) :
    (outs d I P G : sProp 𝕄) = bigSep Finset.univ fun k => outs d (S k) P G := by
  have hdis : ∀ a ∈ (Finset.univ : Finset J), ∀ b ∈ (Finset.univ : Finset J), a ≠ b → Disjoint (S a) (S b) := fun a _ b _ hab =>
    Finset.disjoint_left.mpr fun x ha hb => hab (hd a b x ha hb)
  unfold outs
  rw [BI.bigSep_sep', ← hI]
  rw [pointsTo_biUnion (ℓ := pLoc d) Finset.univ S hdis, pointsTo_biUnion (ℓ := gLoc d) Finset.univ S hdis]

omit [FloatOps F] [Preorder Lvl] in
/-- All of it is what the two SparseCores get, -/
theorem deal_cores (d : Dev nD) (kk : S128x8192.Idx → BitVec 32) (ss : S128x8192.Idx → F .f32) (P : S128x8192.Idx → BitVec 32) (G : S128x8192.Idx → F .f32) :
    (iprop(hold d fullShare kk ss ∗ outs d Finset.univ P G) : sProp 𝕄)
      = bigSep Finset.univ fun c : Fin 2 => iprop(hold d (coreShare c.val) kk ss ∗ outs d (coreSet c.val) P G) := by
  rw [BI.bigSep_sep', hold_leaves d fullShare kk ss 1, outs_union d (fun c : Fin 2 => coreSet c.val) Finset.univ ?_ ?_ P G]
  · exact congrArg (fun H : sProp 𝕄 => iprop(H ∗ _)) (bigSep_congr fun c _ =>
      congrArg (fun k => hold d (leaf 1 fullShare k) kk ss) (Fin.ext (Nat.mod_eq_of_lt c.isLt).symm))
  · ext x
    simp only [Finset.mem_biUnion, Finset.mem_univ, _root_.true_and, coreSet, Finset.mem_filter, iff_true]
    exact ⟨⟨(x 0).val / 4 % 2, Nat.mod_lt _ (by decide)⟩, rfl⟩
  · intro a b x ha hb
    simp only [coreSet, Finset.mem_filter, Finset.mem_univ, _root_.true_and] at ha hb
    exact Fin.ext (ha.symm.trans hb)

omit [FloatOps F] [Preorder Lvl] in
/-- and what one of them gets is what its sixteen tiles get. -/
theorem deal_tiles (d : Dev nD) {c : ℕ} (hc : c < 2) (kk : S128x8192.Idx → BitVec 32) (ss : S128x8192.Idx → F .f32) (P : S128x8192.Idx → BitVec 32) (G : S128x8192.Idx → F .f32) :
    (iprop(hold d (coreShare c) kk ss ∗ outs d (coreSet c) P G) : sProp 𝕄)
      = bigSep Finset.univ fun s : Fin 16 => iprop(hold d (tileShare c s.val) kk ss ∗ outs d (tileSet c s.val) P G) := by
  rw [BI.bigSep_sep', hold_leaves d (coreShare c) kk ss 4, outs_union d (fun s : Fin 16 => tileSet c s.val) (coreSet c) ?_ ?_ P G]
  · exact congrArg (fun H : sProp 𝕄 => iprop(H ∗ _)) (bigSep_congr fun s _ =>
      congrArg (fun k => hold d (leaf 4 (coreShare c) k) kk ss) (Fin.ext (Nat.mod_eq_of_lt s.isLt).symm))
  · ext x
    have hx : (x 0).val < 128 := (x 0).isLt
    simp only [Finset.mem_biUnion, Finset.mem_univ, _root_.true_and, coreSet, tileSet, Finset.mem_filter]
    constructor
    · rintro ⟨s, hs⟩
      omega
    · intro h
      exact ⟨⟨(x 0).val / 8, by omega⟩, by show (x 0).val / 4 = 2 * ((x 0).val / 8) + c; omega⟩
  · intro a b x ha hb
    simp only [tileSet, Finset.mem_filter, Finset.mem_univ, _root_.true_and] at ha hb
    exact Fin.ext (by omega)

omit [FloatOps F] [Preorder Lvl] in
/-- A tile's elements are its four rows. -/
theorem deal_rows (d : Dev nD) (i : grid1.Coords) (P : S128x8192.Idx → BitVec 32) (G : S128x8192.Idx → F .f32) :
    (outs d (tileSet (i 0).val (i 1).val) P G : sProp 𝕄)
      = iprop(pair d (base i) P G ∗ pair d (base i + 1) P G ∗ pair d (base i + 2) P G ∗ pair d (base i + 3) P G) := by
  rw [outs_union d (fun k : Fin 4 => rowSet (base i + k.val)) _ ?_ ?_ P G]
  · rw [show (Finset.univ : Finset (Fin 4)) = {0, 1, 2, 3} by decide]
    repeat rw [SparseCore.bigSep_insert' (by decide)]
    rw [bigSep_singleton]
    rfl
  · ext x
    simp only [Finset.mem_biUnion, Finset.mem_univ, _root_.true_and, tileSet, mem_rowSet, Finset.mem_filter, base]
    constructor
    · rintro ⟨s, hs⟩
      have := s.isLt
      omega
    · intro h
      exact ⟨⟨(x 0).val % 4, Nat.mod_lt _ (by decide)⟩, by show (x 0).val = 8 * (i 1).val + 4 * (i 0).val + (x 0).val % 4; omega⟩
  · intro a b x ha hb
    simp only [mem_rowSet] at ha hb
    exact Fin.ext (by omega)

omit [FloatOps F] [Preorder Lvl] in
theorem reads_hold (d : Dev nD) (i : grid1.Coords) (q : PosShare TreeShare) (kk : S128x8192.Idx → BitVec 32) (ss : S128x8192.Idx → F .f32) :
    (reads d i q kk ss numbers : sProp 𝕄) = hold d q kk ss := by
  unfold reads inputs lent hold
  simp only [Memref.view_whole, View.set_whole]

end Cert.KernelIdeal.Body
-- ==== Proof.Draw.lean ====
/-
  The kernel's drawing of the noise. It touches the buffers of its own values alone: from them at any contents it runs to its end
  and leaves them at some contents. What the noise is nothing later depends on, the keys being made of the words.
-/
module

public import proofs.«01_k».proof.KernelIdeal
public import Idealize.ShloMosaic.Lib.StableHlo.Run
public import Idealize.ShloMosaic.Lib.Pipeline.RegionsOwned

@[expose] public section

noncomputable section

namespace Cert.KernelIdeal.Body

open Idealize.ShloMosaic Cert.KernelIdeal
open Idealize.SL Idealize.SL.RA Idealize.SL.BI
open scoped Idealize.SL.BI
open Idealize.SL.BI.BIBase Idealize.SL.BI.Laws Idealize.SL.ProofMode Idealize.SL.Sem
open Idealize.ShloMosaic.StableHlo (held wp_hlo_within)

variable {F : FTy → Type} [FloatOps F] [Cert.KernelIdeal.Facts]

/-- The arguments, what the calls take besides the noise, and what follows. -/
def apart : Finset (Ref sig .tc) := {main_arg0, main_arg1, main_arg2, main_arg3, main_v8, main_v9, main_v10_1, main_v10_0, main_v11,
  main_v12_0, main_v12_1, main_v13, main_v14}

/-- The buffers of the drawing's values. -/
abbrev drawing : Finset (DevRef τ sig) := Pipeline.ucRefsBut τ sig apart

/-- A buffer is among them. -/
def Drawn (b : Ref sig .tc) : Prop := b.isScoped = false ∧ b ∉ apart
instance (b : Ref sig .tc) : Decidable (Drawn b) := inferInstanceAs (Decidable (_ ∧ _))

omit [Cert.KernelIdeal.Facts] in
theorem Drawn.mem {b : Ref sig .tc} (h : Drawn b) : (Proc.devRef .tc b : DevRef τ sig) ∈ drawing :=
  Pipeline.mem_ucRefsBut apart b (fun e => absurd (h.1.symm.trans e) (by decide)) h.2

section Runs

variable {Ix : Type} [DecidableEq Ix] {Name : Type} [DecidableEq Name] {U : Type} [URA U] {Lvl : Type} [Preorder Lvl] {Λ : Labels}
variable (defs : Defs nD τ sig (Elt F) Λ) (𝒱 : Variants) (d : Dev nD) (bd : Option 𝒱.V)

local notation "𝕄" => MT nD τ sig Ix (Elt F) Name U Lvl

/-- A stretch of the program runs in those buffers. -/
def Within (Ix : Type) [DecidableEq Ix] (Name : Type) [DecidableEq Name] (U : Type) [URA U] (Lvl : Type) [Preorder Lvl]
    (p : Prog (TpuEff nD τ sig (Elt F) Λ .tc) PUnit) : Prop :=
  ∀ V : Valuation τ sig (Elt F), iprop(boundary (d.tc : Thread nD τ) ∗ (held (d.tc : Thread nD τ) drawing V : sProp (MT nD τ sig Ix (Elt F) Name U Lvl)))
    ⊢ wp frame (wpE defs 𝒱 (d.tc : Thread nD τ) bd) Set.univ p
        fun _ => iprop(boundary (d.tc : Thread nD τ) ∗ ∃ V' : Valuation τ sig (Elt F), held (d.tc : Thread nD τ) drawing V')

variable {defs 𝒱 d bd}

theorem Within.pure : Within defs 𝒱 d bd Ix Name U Lvl (Pure.pure ⟨⟩) := by
  intro V
  rw [wp_pure]
  iintro ⟨Hb, H⟩
  imodintro
  isplitl [Hb]; · iexact Hb
  iexists V
  iexact H

theorem Within.bind {p q : Prog (TpuEff nD τ sig (Elt F) Λ .tc) PUnit} (hp : Within defs 𝒱 d bd Ix Name U Lvl p) (hq : Within defs 𝒱 d bd Ix Name U Lvl q) :
    Within defs 𝒱 d bd Ix Name U Lvl (p >>= fun _ => q) := by
  intro V
  rw [wp_bind]
  iintro H
  ihave H := (hp V) $$ H
  iapply (wp_wand frame (wpE defs 𝒱 (d.tc : Thread nD τ) bd) Set.univ) $$ [H]
  · iexact H
  iintro %_ ⟨Hb, %V', H⟩
  iapply (hq V')
  isplitl [Hb] <;> iassumption

theorem Within.op {op : HloOp τ sig (Elt F)} (h : op.bufs ⊆ drawing) (hf : op.fresh = ∅) :
    Within defs 𝒱 d bd Ix Name U Lvl (hlo rfl op fun _ => .ret ⟨⟩) := by
  intro V
  iintro H
  iapply (wp_hlo_within 𝒱 (d.tc : Thread nD τ) bd Set.univ h (V := V) (hf := hf)) $$ H
  iintro ⟨Hb, H⟩
  rw [wp_ret]; imodintro
  isplitl [Hb]; · iexact Hb
  iexists _
  iexact H

theorem Within.nullary {y : Ref sig .tc} {v : y.ty.Contents (Elt F)} {hy} (h : Drawn y) :
    Within defs 𝒱 d bd Ix Name U Lvl (hlo rfl (StableHlo.nullary y v hy) fun _ => .ret ⟨⟩) :=
  .op (by rw [StableHlo.nullary_bufs]; exact Finset.singleton_subset_iff.2 h.mem) rfl

theorem Within.unary {x y : Ref sig .tc} {f : x.ty.Contents (Elt F) → y.ty.Contents (Elt F)} {hx hy} (h : Drawn x ∧ Drawn y) :
    Within defs 𝒱 d bd Ix Name U Lvl (hlo rfl (StableHlo.unary x y f hx hy) fun _ => .ret ⟨⟩) :=
  .op (by rw [StableHlo.unary_bufs]; exact Finset.insert_subset h.1.mem (Finset.singleton_subset_iff.2 h.2.mem)) rfl

theorem Within.reshape {x y : Ref sig .tc} {he hn hx hy} (h : Drawn x ∧ Drawn y) :
    Within defs 𝒱 d bd Ix Name U Lvl (hlo rfl (StableHlo.reshape x y he hn hx hy) fun _ => .ret ⟨⟩) :=
  .op (by rw [StableHlo.reshape_bufs]; exact Finset.insert_subset h.1.mem (Finset.singleton_subset_iff.2 h.2.mem)) rfl

theorem Within.binary {a b y : Ref sig .tc} {f : a.ty.Contents (Elt F) → b.ty.Contents (Elt F) → y.ty.Contents (Elt F)} {ha hb hy} (h : Drawn a ∧ Drawn b ∧ Drawn y) :
    Within defs 𝒱 d bd Ix Name U Lvl (hlo rfl (StableHlo.binary a b y f ha hb hy) fun _ => .ret ⟨⟩) :=
  .op (by rw [StableHlo.binary_bufs]; exact Finset.insert_subset h.1.mem (Finset.insert_subset h.2.1.mem (Finset.singleton_subset_iff.2 h.2.2.mem))) rfl

/-- What follows such a stretch goes on from the buffers at some contents. -/
theorem Within.seq {p q : Prog (TpuEff nD τ sig (Elt F) Λ .tc) PUnit} {P : sProp 𝕄} {Q : PUnit → sProp 𝕄} (hp : Within defs 𝒱 d bd Ix Name U Lvl p)
    (h : ∀ V, iprop(boundary (d.tc : Thread nD τ) ∗ held (d.tc : Thread nD τ) drawing V ∗ P) ⊢ wp frame (wpE defs 𝒱 (d.tc : Thread nD τ) bd) Set.univ q Q)
    (V : Valuation τ sig (Elt F)) :
    iprop(boundary (d.tc : Thread nD τ) ∗ held (d.tc : Thread nD τ) drawing V ∗ P) ⊢ wp frame (wpE defs 𝒱 (d.tc : Thread nD τ) bd) Set.univ (p >>= fun _ => q) Q := by
  rw [wp_bind]
  iintro ⟨Hb, H, HP⟩
  ihave H := (hp V) $$ [Hb H]
  · isplitl [Hb] <;> iassumption
  iapply (wp_wand frame (wpE defs 𝒱 (d.tc : Thread nD τ) bd) Set.univ) $$ [H]
  · iexact H
  iintro %_ ⟨Hb, %V', H⟩
  iapply (h V')
  isplitl [Hb]; · iexact Hb
  isplitl [H] <;> iassumption

/-! ### The drawing -/

end Runs

section Drawing

variable {Ix : Type} [DecidableEq Ix] {Name : Type} [DecidableEq Name] {U : Type} [URA U] {Lvl : Type} [Preorder Lvl]
variable {defs : Defs nD τ sig (Elt F) (SparseCore.Sig (Pipeline.Sig Λ₀ (Fin 2) fun p => (pcfgs (F := F) p).Adm) 1)} {𝒱 : Variants} {d : Dev nD} {bd : Option 𝒱.V}

/-- The call of the function that draws uniformly, and in it the call of the generator. -/
abbrev uni : fn_uniform.Bufs := main_call0.call0

theorem rounds0 : Within defs 𝒱 d bd Ix Name U Lvl (fn_threefry2x32.body_part0 (F := F) uni.v4 uni.v6 uni.v17 uni.v16 uni.call0) := by
  unfold fn_threefry2x32.body_part0
  repeat' first
    | with_reducible refine .bind ?_ ?_
    | with_reducible apply Within.binary
    | with_reducible apply Within.unary
    | with_reducible apply Within.nullary
    | with_reducible apply Within.reshape
    | with_reducible exact .pure
    | decide +kernel

theorem rounds1 : Within defs 𝒱 d bd Ix Name U Lvl (fn_threefry2x32.body_part1 (F := F) uni.v4 uni.v6 uni.v17 uni.v16 uni.call0) := by
  unfold fn_threefry2x32.body_part1
  repeat' first
    | with_reducible refine .bind ?_ ?_
    | with_reducible apply Within.binary
    | with_reducible apply Within.unary
    | with_reducible apply Within.nullary
    | with_reducible apply Within.reshape
    | with_reducible exact .pure
    | decide +kernel

theorem rounds2 : Within defs 𝒱 d bd Ix Name U Lvl (fn_threefry2x32.body_part2 (F := F) uni.v4 uni.v6 uni.v17 uni.v16 uni.call0) := by
  unfold fn_threefry2x32.body_part2
  repeat' first
    | with_reducible refine .bind ?_ ?_
    | with_reducible apply Within.binary
    | with_reducible apply Within.unary
    | with_reducible apply Within.nullary
    | with_reducible apply Within.reshape
    | with_reducible exact .pure
    | decide +kernel

theorem rounds3 : Within defs 𝒱 d bd Ix Name U Lvl (fn_threefry2x32.body_part3 (F := F) uni.v4 uni.v6 uni.v17 uni.v16 uni.call0) := by
  unfold fn_threefry2x32.body_part3
  repeat' first
    | with_reducible refine .bind ?_ ?_
    | with_reducible apply Within.binary
    | with_reducible apply Within.unary
    | with_reducible apply Within.nullary
    | with_reducible apply Within.reshape
    | with_reducible exact .pure
    | decide +kernel

theorem generator : Within defs 𝒱 d bd Ix Name U Lvl (fn_threefry2x32.body (F := F) uni.v4 uni.v6 uni.v17 uni.v16 uni.call0) := by
  unfold fn_threefry2x32.body
  exact .bind rounds0 (.bind rounds1 (.bind rounds2 rounds3))

theorem uniform : Within defs 𝒱 d bd Ix Name U Lvl (fn_uniform.body (F := F) (.of main_v6) main_call0.cst main_call0.cst_0 uni) := by
  unfold fn_uniform.body
  repeat' first
    | with_reducible refine .bind ?_ ?_
    | with_reducible apply Within.binary
    | with_reducible apply Within.unary
    | with_reducible apply Within.nullary
    | with_reducible apply Within.reshape
    | with_reducible exact .pure
    | exact generator
    | decide +kernel

/-- The drawing runs in the buffers of its own values. -/
theorem gumbel : Within defs 𝒱 d bd Ix Name U Lvl (fn_gumbel.body (F := F) (.of main_v6) main_call0) := by
  unfold fn_gumbel.body
  repeat' first
    | with_reducible refine .bind ?_ ?_
    | with_reducible apply Within.binary
    | with_reducible apply Within.unary
    | with_reducible apply Within.nullary
    | with_reducible apply Within.reshape
    | with_reducible exact .pure
    | exact uniform
    | decide +kernel

end Drawing

end Cert.KernelIdeal.Body

end
-- ==== Proof.Score.lean ====
/-
  The second kernel: sixteen rows of gathered scores at a time, and of each row one number.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Rows
public import Idealize.ShloMosaic.Lib.Pipeline.FrameBody
public import Idealize.ShloMosaic.Lib.Pipeline.Value
public import Idealize.ShloMosaic.Lib.Pipeline.ValueKit.Geometry
public import Idealize.ShloMosaic.Lib.SparseCore.Quiescent
public import Idealize.ShloMosaic.Lib.Tactic

@[expose] public section

noncomputable section

namespace Cert.KernelIdeal.Body

open Idealize.ShloMosaic Idealize.ShloMosaic.TcCoe Idealize.ShloMosaic.Tactic
open Idealize.ShloMosaic.SparseCore.Cfg (HIx)
open Cert.KernelIdeal Facts₀ Facts
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] {U : Type} [URA U]

local notation "𝕄" => MT nD τ sig (HIx 1) (Elt F) ℕ U ℕ

/-! ## The body -/

/-- The number of each column. -/
abbrev lanes : IVec S16x8192 32 := iota .tc S16x8192 32 [1] iota_S16x8192_d1_w32

/-- What the body makes of sixteen rows `x`. -/
def rowsOut (x : Vec F S16x8192 .f32) : Vec F S16x1 .f32 :=
  Gen.k2_pay1 (Gen.k2_pay2 x) (Gen.k2_pay3 x) lanes (Gen.k2_pay6 lanes (Gen.k2_pay4 x) (Gen.k2_pay5 x) 8160#32)

theorem zeros : (![0, 0] : Fin 2 → ℕ) = fun _ => 0 := by decide

theorem covers (p : Vec F S16x1 .f32) (y : S16x1.Idx) :
    ∃ pc ∈ ([⟨Rect.unit (s := S16x1) ![0, 0] S16x1.size inb_S16x1_S16x1_0_0, p⟩] : List (View.Piece (Elt F) S16x1 .f32)), y ∈ pc.1.set :=
  ⟨_, List.mem_singleton_self _, View.mem_set_unit_zero zeros inb_S16x1_S16x1_0_0 y⟩

/-- The body reads the block of scores, leaves it, and fills the block of results. -/
theorem body_run (d : Dev nD) (i : grid2.Coords) (a : Memref sig .tc .vmem S16x8192 .f32) (ha : a.IsWhole)
    (b : Memref sig .tc .vmem S16x1 .f32) (hb : b.IsWhole) (x : Vec F S16x8192 .f32) (Q : PUnit → sProp 𝕄) :
    iprop(owns (d : Thread nD τ) a fullShare x ∗ (∃ y, owns (d : Thread nD τ) b fullShare y)
        ∗ (iprop(owns (d : Thread nD τ) a fullShare x ∗ owns (d : Thread nD τ) b fullShare (rowsOut x)) -∗ Q ⟨⟩))
      ⊢ wp frame (wpE (defs₀ (F := F)) Variants.none d none) Set.univ (cc2__logprob_body i a ha b hb) Q := by
  simp only [Gen.cc2__logprob_body_eq_skeleton]; unfold Gen.cc2__logprob_body_skel
  simp only [Gen.k2_part1_eq_skeleton, Gen.k2_part2_eq_skeleton]
  unfold owns
  iintro ⟨⟨%f, %hf, Ha⟩, ⟨%y, %g, -, Hb⟩, Hk⟩
  subst hf
  sl_exec
  sl_step
  iapply Hk
  isplitl [Ha]
  · iexists f; isplitr; · ipureintro; rfl
    iexact Ha
  iexists _; isplitr
  swap; · iexact Hb
  ipureintro
  refine (View.read_writes_eq_canon _ _ _ (covers _)).trans ?_
  rw [View.canon_unit_zero zeros]
  have hl : View.readAt (Elt F) a.view (Rect.unit ![0, 0] S16x8192.size Gen.inb_S16x8192_S16x8192_0_0).toLoadRect f = View.read (Elt F) a.view f :=
    View.ld_unit_zero zeros Gen.inb_S16x8192_S16x8192_0_0 (View.read (Elt F) a.view f)
  unfold body_run.sl.r body_run.sl.r_1 body_run.sl.r_4 body_run.sl.v7 body_run.sl.r_2 body_run.sl.r_3 rowsOut
  rw [hl]

/-! ## The kernel's eight points -/

/-- Block `t` of the scores `ps`. -/
def rowsIn (ps : S128x8192.Idx → F .f32) (t : Fin cfg2.N) : Vec F S16x8192 .f32 :=
  ((cfg2.win 0).blk t).view.read (Elt F) ps

/-- What the points find and leave, where the scores are `ps` and the array of results starts at `o`; before it the
    TensorCore has waited on the cells of `W`. -/
def scoring (ps : S128x8192.Idx → F .f32) (o : S128x1.Idx → F .f32) (W : Set (SemLoc sig × HIx 1)) (d : Dev nD) :
    Dat τ (Elt F) (HIx 1) ℕ U ℕ cfg2 d where
  A w := match w with
    | ⟨0, _⟩ => ps
    | ⟨1, _⟩ => o
  after w t := match w with
    | ⟨0, _⟩ => rowsIn ps t
    | ⟨1, _⟩ => rowsOut (rowsIn ps t)
  Φ _ := Pipeline.scopedRest spec2 d
  q _ := fullShare
  owed _ := 0
  recorded _ := W

variable (ps : S128x8192.Idx → F .f32) (o : S128x1.Idx → F .f32) (W : Set (SemLoc sig × HIx 1)) (d : Dev nD)

local notation "dat" => (scoring (U := U) ps o W d)

theorem left_in (t : Fin cfg2.N) : (dat).after 0 t = rowsIn ps t := by dsimp only [scoring]
theorem left_out (t : Fin cfg2.N) : (dat).after 1 t = rowsOut (rowsIn ps t) := by dsimp only [scoring]

theorem found_in (t : Fin cfg2.N) (e) : (dat).before 0 t e = rowsIn ps t :=
  (dat).before_in_eq_fetched 0 rfl (fun _ => rfl) (fun _ _ _ => rfl) (fun t => by rw [left_in]; rfl) t e

/-- The body at each point. -/
theorem scoring_body : BodyObligation (dat) (defs₀ (F := F)) Variants.none none Set.univ := fun t => by
  rw [Gen.bigSep_W2, Gen.bigSep_W2]
  refine triple_restated (P := iprop((dat).Φ t.castSucc ∗ (dat).owesAt none t.castSucc
      ∗ (∃ e, owns (d : Thread nD τ) (Gen.st2_0 t) fullShare ((dat).before 0 t e))
      ∗ (∃ e, owns (d : Thread nD τ) (Gen.st2_1 t) fullShare ((dat).before 1 t e))))
    (Q := fun _ => iprop((dat).Φ t.castSucc ∗ (dat).owesAt none t.castSucc
      ∗ owns (d : Thread nD τ) (Gen.st2_0 t) fullShare ((dat).after 0 t)
      ∗ owns (d : Thread nD τ) (Gen.st2_1 t) fullShare ((dat).after 1 t)))
    (W := wp frame (wpE (defs₀ (F := F)) Variants.none d none) Set.univ (Gen.bodyAt2 t)) ?_ rfl .rfl fun _ => .rfl
  simp only [found_in, left_in, left_out]
  iintro ⟨HΦ, Ho, ⟨%e, H⟩, ⟨%e', H'⟩⟩
  iapply (body_run d (grid2.coords t) _ _ _ _ (rowsIn ps t) _)
  isplitl [H]; · iexact H
  isplitl [H']; · iexists _; iexact H'
  iintro ⟨H, H'⟩
  isplitl [HΦ]; · iexact HΦ
  isplitl [Ho]; · iexact Ho
  isplitl [H] <;> iassumption

/-! ## The array of results -/

/-- The result of every row. -/
def sumsOf (ps : S128x8192.Idx → F .f32) : S128x1.Idx → F .f32 := fun i =>
  rowsOut (fun y => ps (at2 (16 * ((i 0).val / 16) + (y 0).val) (y 1).val)) (fun | 0 => ⟨(i 0).val % 16, Nat.mod_lt _ (by decide)⟩ | 1 => ⟨0, by decide⟩)

/-- A block's place is its point. -/
theorem index_in : ∀ (t : Fin grid2.N) (a : Fin 2), win2_0.index t a = if a = 0 then t.val else 0 := by decide +kernel
theorem index_out : ∀ (t : Fin grid2.N) (a : Fin 2), win2_1.index t a = if a = 0 then t.val else 0 := by decide +kernel

theorem points (t : Fin grid2.N) : t.val < 8 := lt_of_lt_of_eq t.isLt Gen.N_2

theorem rowsIn_at (t : Fin cfg2.N) : rowsIn ps t = fun y => ps (at2 (16 * t.val + (y 0).val) (y 1).val) := by
  funext y
  have ht := points t
  have hy0 : (y 0).val < 16 := (y 0).isLt
  have hy1 : (y 1).val < 8192 := (y 1).isLt
  refine congrArg ps (funext fun a => Fin.ext ?_)
  match a with
  | 0 =>
    refine Eq.trans ?_ (at2_zero (r := 16 * t.val + (y 0).val) (y 1).val (by omega)).symm
    blk_simp; rw [index_in t 0]; show t.val * 16 + _ = _; omega
  | 1 =>
    refine Eq.trans ?_ (at2_one (16 * t.val + (y 0).val) hy1).symm
    blk_simp; rw [index_in t 1]; show 0 * 8192 + _ = _; omega

theorem sums_end : (dat).arrAt 1 cfg2.N = sumsOf ps := by
  refine (dat).arrAt_eq_of_covers 1 (sumsOf ps) (by decide +kernel) fun t hf y => ?_
  rw [left_out]
  have hy0 : (y 0).val < 16 := (y 0).isLt
  have hy1 : (y 1).val < 1 := (y 1).isLt
  have e0 : ((win2_1.blk t).view.emb y 0).val = 16 * t.val + (y 0).val := by
    blk_simp; rw [index_out t 0]; show t.val * 16 + _ = _; omega
  blk_simp
  rw [rowsIn_at]
  refine congr (congrArg rowsOut (funext fun x => congrArg ps ?_)) (funext fun a => Fin.ext ?_)
  · rw [e0, show (16 * t.val + (y 0).val) / 16 = t.val by omega]
  · match a with
    | 0 => show _ = ((win2_1.blk t).view.emb y 0).val % 16; rw [e0]; show (y 0).val = _; omega
    | 1 => show (y 1).val = 0; omega

end Cert.KernelIdeal.Body
-- ==== Proof.Head.lean ====
/-
  The first kernel: eight rows of items at a time, their logits 1024 columns at a time in a scratch buffer, and after a row's
  last columns its scores and its keys.
-/
module

public import proofs.«01_k».proof.Proof.Score
public import Idealize.ShloMosaic.Lib.VecWindow

@[expose] public section

noncomputable section

namespace Cert.KernelIdeal.Body

open Idealize.ShloMosaic Idealize.ShloMosaic.TcCoe Idealize.ShloMosaic.Tactic
open Idealize.ShloMosaic.SparseCore.Cfg (HIx)
open Cert.KernelIdeal Facts₀ Facts
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] {U : Type} [URA U]

local notation "𝕄" => MT nD τ sig (HIx 1) (Elt F) ℕ U ℕ

/-! ## The body -/

/-- Row `r` of a block of items. -/
abbrev slab (x : Vec F S8x1024x32 .f32) (r : ℕ) (h : ∀ a, (![r, 0, 0] : Fin 3 → ℕ) a + S1x1024x32.size a ≤ S8x1024x32.size a) : Vec F S1x1024x32 .f32 :=
  View.ld x (Rect.unit (s := S8x1024x32) ![r, 0, 0] S1x1024x32.size h)

/-- The logits of a block `x` of items under the weights `w`, without the bias. -/
def chunkOf (w : Vec F S1x32 .f32) (x : Vec F S8x1024x32 .f32) : FVec F S8x1024 .f32 :=
  Gen.k0_pay1 (Gen.k0_pay4 w) (Gen.k0_pay5 w (slab x 0 inb_S8x1024x32_S1x1024x32_0_0_0)) (Gen.k0_pay6 w (slab x 1 inb_S8x1024x32_S1x1024x32_1_0_0))
    (Gen.k0_pay7 w (slab x 2 inb_S8x1024x32_S1x1024x32_2_0_0)) (Gen.k0_pay8 w (slab x 3 inb_S8x1024x32_S1x1024x32_3_0_0))
    (Gen.k0_pay9 w (slab x 4 inb_S8x1024x32_S1x1024x32_4_0_0)) (Gen.k0_pay10 w (slab x 5 inb_S8x1024x32_S1x1024x32_5_0_0))
    (Gen.k0_pay11 (slab x 6 inb_S8x1024x32_S1x1024x32_6_0_0)) (slab x 7 inb_S8x1024x32_S1x1024x32_7_0_0)

/-- The logits `z` with columns `1024 j` on replaced by `p`. -/
abbrev putCols (z : Vec F S8x8192 .f32) (j : ℕ) (p : FVec F S8x1024 .f32) : Vec F S8x8192 .f32 :=
  VecWindow.put z ![0, 1024 * j] S8x1024.size p

theorem whole_weights (b : Memref sig .tc .vmem S1x32 .f32) (g) :
    View.readAt (Elt F) b.view (Rect.unit ![0, 0] S1x32.size Gen.inb_S1x32_S1x32_0_0).toLoadRect g = View.read (Elt F) b.view g :=
  View.ld_unit_zero zeros Gen.inb_S1x32_S1x32_0_0 (View.read (Elt F) b.view g)

/-- At a point that is not a row's last, the body only adds to the logits. -/
theorem head_run (d : Dev nD) (i : grid0.Coords) (hi : ¬k0_cond1 i = 1#1) (a : Memref sig .tc .vmem S8x1024x32 .f32) (ha : a.IsWhole)
    (b : Memref sig .tc .vmem S1x32 .f32) (hb : b.IsWhole) (c : Memref sig .tc .vmem S1x1 .f32) (hc : c.IsWhole)
    (n : Memref sig .tc .vmem S8x8192 .f32) (hn : n.IsWhole) (v : Memref sig .tc .vmem S8x8192 .i32) (hv : v.IsWhole)
    (p : Memref sig .tc .vmem S8x8192 .f32) (hp : p.IsWhole) (q : Memref sig .tc .vmem S8x8192 .i32) (hq : q.IsWhole)
    (l : Memref sig .tc .vmem S8x8192 .f32) (hl : l.IsWhole)
    (x : Vec F S8x1024x32 .f32) (w : Vec F S1x32 .f32) (z : Vec F S8x8192 .f32) (Q : PUnit → sProp 𝕄) :
    iprop(owns (d : Thread nD τ) a fullShare x ∗ owns (d : Thread nD τ) b fullShare w ∗ owns (d : Thread nD τ) l fullShare z
        ∗ (iprop(owns (d : Thread nD τ) a fullShare x ∗ owns (d : Thread nD τ) b fullShare w
            ∗ owns (d : Thread nD τ) l fullShare (putCols z (i 1).val (chunkOf w x))) -∗ Q ⟨⟩))
      ⊢ wp frame (wpE (defs₀ (F := F)) Variants.none d none) Set.univ (cc0__scores_keys_body i a ha b hb c hc n hn v hv p hp q hq l hl) Q := by
  simp only [Gen.cc0__scores_keys_body_eq_skeleton]; unfold Gen.cc0__scores_keys_body_skel
  simp only [Gen.k0_part1_eq_skeleton]
  rw [dif_neg hi]
  unfold owns
  iintro ⟨⟨%f, %hf, Ha⟩, ⟨%g, %hg, Hb⟩, ⟨%y, %hy, Hl⟩, Hk⟩
  subst hf; subst hg; subst hy
  sl_exec
  sl_step
  iapply Hk
  isplitl [Ha]
  · iexists f; isplitr; · ipureintro; rfl
    iexact Ha
  isplitl [Hb]
  · iexists g; isplitr; · ipureintro; rfl
    iexact Hb
  iexists _; isplitr
  swap; · iexact Hl
  ipureintro
  refine (View.read_writes_cons_put _ _ _ _ _ (Gen.k0_off1_eq i)).trans ?_
  rw [View.writes_nil]
  refine congrArg (putCols _ _) ?_
  unfold head_run.sl.r head_run.sl.r_1 head_run.sl.r_2 head_run.sl.r_3 head_run.sl.r_4 head_run.sl.r_5 head_run.sl.r_6 head_run.sl.r_7
  rw [whole_weights]
  rfl

/-- At a row's last point, it also makes scores and keys. -/
theorem last_run (d : Dev nD) (i : grid0.Coords) (hi : k0_cond1 i = 1#1) (a : Memref sig .tc .vmem S8x1024x32 .f32) (ha : a.IsWhole)
    (b : Memref sig .tc .vmem S1x32 .f32) (hb : b.IsWhole) (c : Memref sig .tc .vmem S1x1 .f32) (hc : c.IsWhole)
    (n : Memref sig .tc .vmem S8x8192 .f32) (hn : n.IsWhole) (v : Memref sig .tc .vmem S8x8192 .i32) (hv : v.IsWhole)
    (p : Memref sig .tc .vmem S8x8192 .f32) (hp : p.IsWhole) (q : Memref sig .tc .vmem S8x8192 .i32) (hq : q.IsWhole)
    (l : Memref sig .tc .vmem S8x8192 .f32) (hl : l.IsWhole)
    (x : Vec F S8x1024x32 .f32) (w : Vec F S1x32 .f32) (u : Vec F S1x1 .f32) (k : Vec F S8x8192 .i32) (z : Vec F S8x8192 .f32) (Q : PUnit → sProp 𝕄) :
    iprop(owns (d : Thread nD τ) a fullShare x ∗ owns (d : Thread nD τ) b fullShare w ∗ owns (d : Thread nD τ) c fullShare u
        ∗ owns (d : Thread nD τ) v fullShare k ∗ (∃ y, owns (d : Thread nD τ) p fullShare y) ∗ (∃ y, owns (d : Thread nD τ) q fullShare y)
        ∗ owns (d : Thread nD τ) l fullShare z
        ∗ (iprop(owns (d : Thread nD τ) a fullShare x ∗ owns (d : Thread nD τ) b fullShare w ∗ owns (d : Thread nD τ) c fullShare u
            ∗ owns (d : Thread nD τ) v fullShare k
            ∗ owns (d : Thread nD τ) p fullShare (Gen.k0_pay2 (putCols z (i 1).val (chunkOf w x)) u) ∗ owns (d : Thread nD τ) q fullShare (Gen.k0_pay3 k)
            ∗ owns (d : Thread nD τ) l fullShare (putCols z (i 1).val (chunkOf w x))) -∗ Q ⟨⟩))
      ⊢ wp frame (wpE (defs₀ (F := F)) Variants.none d none) Set.univ (cc0__scores_keys_body i a ha b hb c hc n hn v hv p hp q hq l hl) Q := by
  simp only [Gen.cc0__scores_keys_body_eq_skeleton]; unfold Gen.cc0__scores_keys_body_skel
  simp only [Gen.k0_part1_eq_skeleton]
  rw [dif_pos hi]
  unfold owns
  iintro ⟨⟨%f, %hf, Ha⟩, ⟨%g, %hg, Hb⟩, ⟨%fc, %hfc, Hc⟩, ⟨%fv, %hfv, Hv⟩, ⟨%y, %fp, -, Hp⟩, ⟨%y', %fq, -, Hq⟩, ⟨%fl, %hfl, Hl⟩, Hk⟩
  subst hf; subst hg; subst hfc; subst hfv; subst hfl
  sl_exec
  sl_step
  iapply Hk
  have hz : View.read (Elt F) l.view (l.view.writes (Elt F) fl [⟨Rect.unit (k0_off1 i) ![8, 1024] (Gen.k0_off1_inb i),
      chunkOf (View.read (Elt F) b.view g) (View.read (Elt F) a.view f)⟩])
      = putCols (View.read (Elt F) l.view fl) (i 1).val (chunkOf (View.read (Elt F) b.view g) (View.read (Elt F) a.view f)) := by
    refine (View.read_writes_cons_put _ _ _ _ _ (Gen.k0_off1_eq i)).trans ?_
    rw [View.writes_nil]
  isplitl [Ha]
  · iexists f; isplitr; · ipureintro; rfl
    iexact Ha
  isplitl [Hb]
  · iexists g; isplitr; · ipureintro; rfl
    iexact Hb
  isplitl [Hc]
  · iexists fc; isplitr; · ipureintro; rfl
    iexact Hc
  isplitl [Hv]
  · iexists fv; isplitr; · ipureintro; rfl
    iexact Hv
  isplitl [Hp]
  · iexists _; isplitr
    swap; · iexact Hp
    ipureintro
    refine (View.read_writes_full _ _ _ _ _).trans ?_
    refine congr (congrArg Gen.k0_pay2 ?_) (View.ld_unit_zero zeros Gen.inb_S1x1_S1x1_0_0 (View.read (Elt F) c.view fc))
    unfold last_run.sl.v43
    refine (View.readAt_full _ _ _).trans (Eq.trans ?_ hz)
    unfold last_run.sl.Hl_1 last_run.sl.r last_run.sl.r_1 last_run.sl.r_2 last_run.sl.r_3 last_run.sl.r_4 last_run.sl.r_5 last_run.sl.r_6 last_run.sl.r_7
    rw [whole_weights]
    rfl
  isplitl [Hq]
  · iexists _; isplitr
    swap; · iexact Hq
    ipureintro
    refine (View.read_writes_full _ _ _ _ _).trans ?_
    exact congrArg Gen.k0_pay3 (View.ld_unit_zero zeros Gen.inb_S8x8192_S8x8192_0_0 (View.read (Elt F) v.view fv))
  iexists _; isplitr
  swap; · iexact Hl
  ipureintro
  refine Eq.trans ?_ hz
  unfold last_run.sl.Hl_1 last_run.sl.r last_run.sl.r_1 last_run.sl.r_2 last_run.sl.r_3 last_run.sl.r_4 last_run.sl.r_5 last_run.sl.r_6 last_run.sl.r_7
  rw [whole_weights]
  rfl

/-! ## The kernel's 128 points -/

theorem head_points (t : Fin grid0.N) : t.val < 128 := lt_of_lt_of_eq t.isLt Gen.N_0

/-- A row's last point is every eighth; a point's columns are its number's remainder. -/
theorem head_last : ∀ t : Fin grid0.N, k0_cond1 (grid0.coords t) = 1#1 ↔ t.val % 8 = 7 := by decide +kernel
theorem head_col : ∀ t : Fin grid0.N, (grid0.coords t 1).val = t.val % 8 := by decide +kernel

/-- The blocks of the operands. -/
def itemsIn (X : S128x8192x32.Idx → F .f32) (t : Fin cfg0.N) : Vec F S8x1024x32 .f32 := ((cfg0.win 0).blk t).view.read (Elt F) X
def weightsIn (wt : S1x32.Idx → F .f32) (t : Fin cfg0.N) : Vec F S1x32 .f32 := ((cfg0.win 1).blk t).view.read (Elt F) wt
def biasIn (b : S1x1.Idx → F .f32) (t : Fin cfg0.N) : Vec F S1x1 .f32 := ((cfg0.win 2).blk t).view.read (Elt F) b
def noiseIn (g : S128x8192.Idx → F .f32) (t : Fin cfg0.N) : Vec F S8x8192 .f32 := ((cfg0.win 3).blk t).view.read (Elt F) g
def wordsIn (v : S128x8192.Idx → BitVec 32) (t : Fin cfg0.N) : Vec F S8x8192 .i32 := ((cfg0.win 4).blk t).view.read (Elt F) v

/-- The index of item `j` of row `r` and feature `k`. -/
def at3 (r j k : ℕ) : S128x8192x32.Idx := fun
  | 0 => ⟨r % 128, Nat.mod_lt _ (by decide)⟩ | 1 => ⟨j % 8192, Nat.mod_lt _ (by decide)⟩ | 2 => ⟨k % 32, Nat.mod_lt _ (by decide)⟩

/-- Rows `8 q` on and columns `1024 j` on of the items. -/
def itemsAt (X : S128x8192x32.Idx → F .f32) (q j : ℕ) : Vec F S8x1024x32 .f32 := fun y =>
  X (at3 (8 * q + (y 0).val) (1024 * j + (y 1).val) (y 2).val)

/-- The logits of rows `8 q` on, without the bias. -/
def logitsAt (X : S128x8192x32.Idx → F .f32) (wt : S1x32.Idx → F .f32) (q : ℕ) : Vec F S8x8192 .f32 := fun y =>
  chunkOf wt (itemsAt X q ((y 1).val / 1024)) (fun | 0 => y 0 | 1 => ⟨(y 1).val % 1024, Nat.mod_lt _ (by decide)⟩)

theorem index_items : ∀ (t : Fin grid0.N) (a : Fin 3), win0_0.index t a = if a = 0 then t.val / 8 else if a = 1 then t.val % 8 else 0 := by decide +kernel
theorem index_weights : ∀ (t : Fin grid0.N) (a : Fin 2), win0_1.index t a = 0 := by decide +kernel
theorem index_bias : ∀ (t : Fin grid0.N) (a : Fin 2), win0_2.index t a = 0 := by decide +kernel
theorem index_words : ∀ (t : Fin grid0.N) (a : Fin 2), win0_4.index t a = if a = 0 then t.val / 8 else 0 := by decide +kernel
theorem index_scores : ∀ (t : Fin grid0.N) (a : Fin 2), win0_5.index t a = if a = 0 then t.val / 8 else 0 := by decide +kernel
theorem index_keys : ∀ (t : Fin grid0.N) (a : Fin 2), win0_6.index t a = if a = 0 then t.val / 8 else 0 := by decide +kernel

theorem itemsIn_at (X : S128x8192x32.Idx → F .f32) (t : Fin cfg0.N) : itemsIn X t = itemsAt X (t.val / 8) (t.val % 8) := by
  funext y
  have ht := head_points t
  have hy0 : (y 0).val < 8 := (y 0).isLt
  have hy1 : (y 1).val < 1024 := (y 1).isLt
  have hy2 : (y 2).val < 32 := (y 2).isLt
  refine congrArg X (funext fun a => Fin.ext ?_)
  match a with
  | 0 =>
    blk_simp; rw [index_items t 0]; show t.val / 8 * 8 + _ = (8 * (t.val / 8) + (y 0).val) % 128; omega
  | 1 =>
    blk_simp; rw [index_items t 1]; show t.val % 8 * 1024 + _ = (1024 * (t.val % 8) + (y 1).val) % 8192; omega
  | 2 =>
    blk_simp; rw [index_items t 2]; show 0 * 32 + _ = (y 2).val % 32; omega

theorem weightsIn_eq (wt : S1x32.Idx → F .f32) (t : Fin cfg0.N) : weightsIn wt t = wt := by
  funext y
  refine congrArg wt (funext fun a => Fin.ext ?_)
  match a with
  | 0 => blk_simp; rw [index_weights t 0]
  | 1 => blk_simp; rw [index_weights t 1]; show 0 * 32 + _ = _; omega

theorem biasIn_eq (b : S1x1.Idx → F .f32) (t : Fin cfg0.N) : biasIn b t = b := by
  funext y
  refine congrArg b (funext fun a => Fin.ext ?_)
  match a with
  | 0 => blk_simp; rw [index_bias t 0]
  | 1 => blk_simp; rw [index_bias t 1]

theorem wordsIn_at (v : S128x8192.Idx → BitVec 32) (t : Fin cfg0.N) : wordsIn (F := F) v t = fun y => v (at2 (8 * (t.val / 8) + (y 0).val) (y 1).val) := by
  funext y
  have ht := head_points t
  have hy0 : (y 0).val < 8 := (y 0).isLt
  have hy1 : (y 1).val < 8192 := (y 1).isLt
  refine congrArg v (funext fun a => Fin.ext ?_)
  match a with
  | 0 =>
    refine Eq.trans ?_ (at2_zero (r := 8 * (t.val / 8) + (y 0).val) (y 1).val (by omega)).symm
    blk_simp; rw [index_words t 0]; show t.val / 8 * 8 + _ = _; omega
  | 1 =>
    refine Eq.trans ?_ (at2_one (8 * (t.val / 8) + (y 0).val) hy1).symm
    blk_simp; rw [index_words t 1]; show 0 * 8192 + _ = _; omega

/-- The logits of a row block before point `n` of the grid: what the earlier columns' points put there. -/
def Logits (X : S128x8192x32.Idx → F .f32) (wt : S1x32.Idx → F .f32) (n : ℕ) (z : Vec F S8x8192 .f32) : Prop :=
  ∀ y : S8x8192.Idx, (y 1).val < 1024 * (n % 8) → z y = logitsAt X wt (n / 8) y

/-- One point's columns more. -/
theorem putCols_at (X : S128x8192x32.Idx → F .f32) (wt : S1x32.Idx → F .f32) (n : ℕ) (z : Vec F S8x8192 .f32) (h : Logits X wt n z)
    (y : S8x8192.Idx) (hy : (y 1).val < 1024 * (n % 8) + 1024) :
    putCols z (n % 8) (chunkOf wt (itemsAt X (n / 8) (n % 8))) y = logitsAt X wt (n / 8) y := by
  have hy0 : (y 0).val < 8 := (y 0).isLt
  unfold putCols VecWindow.put
  split
  · rename_i hin
    have h1 : 1024 * (n % 8) ≤ (y 1).val := (hin 1).1
    unfold logitsAt
    rw [show (y 1).val / 1024 = n % 8 by omega]
    refine congrArg _ (funext fun a => Fin.ext ?_)
    match a with
    | 0 => refine (Rect.unitLocal_val _ _ _).trans ?_; show (y 0).val - 0 = (y 0).val; omega
    | 1 => refine (Rect.unitLocal_val _ _ _).trans ?_; show (y 1).val - 1024 * (n % 8) = (y 1).val % 1024; omega
  · rename_i hout
    refine h y ?_
    refine Nat.lt_of_not_le fun hle => hout fun a => ?_
    match a with
    | 0 => exact ⟨Nat.zero_le _, show (y 0).val < 0 + 8 by omega⟩
    | 1 => exact ⟨hle, hy⟩

theorem putCols_next (X : S128x8192x32.Idx → F .f32) (wt : S1x32.Idx → F .f32) (n : ℕ) (z : Vec F S8x8192 .f32) (h : Logits X wt n z) :
    Logits X wt (n + 1) (putCols z (n % 8) (chunkOf wt (itemsAt X (n / 8) (n % 8)))) := by
  intro y hy
  by_cases h7 : n % 8 = 7
  · omega
  · rw [show (n + 1) / 8 = n / 8 by omega]
    exact putCols_at X wt n z h y (by omega)

theorem putCols_last (X : S128x8192x32.Idx → F .f32) (wt : S1x32.Idx → F .f32) (n : ℕ) (h7 : n % 8 = 7) (z : Vec F S8x8192 .f32) (h : Logits X wt n z) :
    putCols z (n % 8) (chunkOf wt (itemsAt X (n / 8) (n % 8))) = logitsAt X wt (n / 8) := by
  funext y
  have hy1 : (y 1).val < 8192 := (y 1).isLt
  exact putCols_at X wt n z h y (by omega)

/-- The scoped buffers of the other kernel on this core. -/
def others (d : Dev nD) : sProp 𝕄 :=
  iprop((∃ f : Buf (Elt F) ((d : Thread nD τ).loc cc2_stg0_0), ((d : Thread nD τ).loc cc2_stg0_0) ↦{fullShare} f)
    ∗ (∃ f : Buf (Elt F) ((d : Thread nD τ).loc cc2_stg0_1), ((d : Thread nD τ).loc cc2_stg0_1) ↦{fullShare} f)
    ∗ (∃ f : Buf (Elt F) ((d : Thread nD τ).loc cc2_stg1_0), ((d : Thread nD τ).loc cc2_stg1_0) ↦{fullShare} f)
    ∗ (∃ f : Buf (Elt F) ((d : Thread nD τ).loc cc2_stg1_1), ((d : Thread nD τ).loc cc2_stg1_1) ↦{fullShare} f))

/-- The scratch buffer before point `n`. -/
def logitsBuf (X : S128x8192x32.Idx → F .f32) (wt : S1x32.Idx → F .f32) (d : Dev nD) (n : ℕ) : sProp 𝕄 :=
  iprop(∃ z, ⌜Logits X wt n z⌝ ∗ owns (d : Thread nD τ) (Memref.whole cc0_scratch0) fullShare z)

/-- What the points find and leave, where the items are `X`, the weights `wt`, the bias `b`, the noise `g` and the words `v`, and the
    arrays of scores and keys start at `os` and `ok`; the TensorCore owes `O` and has before it waited on the cells of `W`. -/
def heading (X : S128x8192x32.Idx → F .f32) (wt : S1x32.Idx → F .f32) (b : S1x1.Idx → F .f32) (g : S128x8192.Idx → F .f32) (v : S128x8192.Idx → BitVec 32)
    (os : S128x8192.Idx → F .f32) (ok : S128x8192.Idx → BitVec 32) (O : CellTallies nD τ sig (HIx 1)) (W : Set (SemLoc sig × HIx 1)) (d : Dev nD) :
    Dat τ (Elt F) (HIx 1) ℕ U ℕ cfg0 d where
  A w := match w with
    | ⟨0, _⟩ => X
    | ⟨1, _⟩ => wt
    | ⟨2, _⟩ => b
    | ⟨3, _⟩ => g
    | ⟨4, _⟩ => v
    | ⟨5, _⟩ => os
    | ⟨6, _⟩ => ok
  after w t := match w with
    | ⟨0, _⟩ => itemsIn X t
    | ⟨1, _⟩ => weightsIn wt t
    | ⟨2, _⟩ => biasIn b t
    | ⟨3, _⟩ => noiseIn g t
    | ⟨4, _⟩ => wordsIn (F := F) v t
    | ⟨5, _⟩ => Gen.k0_pay2 (logitsAt X wt (t.val / 8)) b
    | ⟨6, _⟩ => Gen.k0_pay3 (F := F) (wordsIn (F := F) v t)
  Φ t := iprop(logitsBuf X wt d t.val ∗ others d)
  q _ := fullShare
  owed _ := O
  recorded _ := W

variable (X : S128x8192x32.Idx → F .f32) (wt : S1x32.Idx → F .f32) (b : S1x1.Idx → F .f32) (g : S128x8192.Idx → F .f32) (v : S128x8192.Idx → BitVec 32)
variable (os : S128x8192.Idx → F .f32) (ok : S128x8192.Idx → BitVec 32) (O : CellTallies nD τ sig (HIx 1)) (W : Set (SemLoc sig × HIx 1)) (d : Dev nD)

local notation "hdat" => (heading (U := U) X wt b g v os ok O W d)

theorem head_left0 (t : Fin cfg0.N) : (hdat).after 0 t = itemsIn X t := by dsimp only [heading]
theorem head_left1 (t : Fin cfg0.N) : (hdat).after 1 t = weightsIn wt t := by dsimp only [heading]
theorem head_left2 (t : Fin cfg0.N) : (hdat).after 2 t = biasIn b t := by dsimp only [heading]
theorem head_left3 (t : Fin cfg0.N) : (hdat).after 3 t = noiseIn g t := by dsimp only [heading]
theorem head_left4 (t : Fin cfg0.N) : (hdat).after 4 t = wordsIn (F := F) v t := by dsimp only [heading]
theorem head_left5 (t : Fin cfg0.N) : (hdat).after 5 t = Gen.k0_pay2 (logitsAt X wt (t.val / 8)) b := by dsimp only [heading]
theorem head_left6 (t : Fin cfg0.N) : (hdat).after 6 t = Gen.k0_pay3 (F := F) (wordsIn (F := F) v t) := by dsimp only [heading]

theorem head_found0 (t : Fin cfg0.N) (e) : (hdat).before 0 t e = itemsIn X t :=
  (hdat).before_in_eq_fetched 0 rfl (fun _ => rfl) (fun _ _ _ => rfl) (fun t => by rw [head_left0]; rfl) t e
theorem head_found1 (t : Fin cfg0.N) (e) : (hdat).before 1 t e = weightsIn wt t :=
  (hdat).before_in_eq_fetched 1 rfl (fun _ => rfl) (fun _ _ _ => rfl) (fun t => by rw [head_left1]; rfl) t e
theorem head_found2 (t : Fin cfg0.N) (e) : (hdat).before 2 t e = biasIn b t :=
  (hdat).before_in_eq_fetched 2 rfl (fun _ => rfl) (fun _ _ _ => rfl) (fun t => by rw [head_left2]; rfl) t e
theorem head_found3 (t : Fin cfg0.N) (e) : (hdat).before 3 t e = noiseIn g t :=
  (hdat).before_in_eq_fetched 3 rfl (fun _ => rfl) (fun _ _ _ => rfl) (fun t => by rw [head_left3]; rfl) t e
theorem head_found4 (t : Fin cfg0.N) (e) : (hdat).before 4 t e = wordsIn (F := F) v t :=
  (hdat).before_in_eq_fetched 4 rfl (fun _ => rfl) (fun _ _ _ => rfl) (fun t => by rw [head_left4]; rfl) t e

theorem leaves_live {cfg : Pipeline.Cfg sig Λ₀} {d : Dev nD} (D : Dat τ (Elt F) (HIx 1) ℕ U ℕ cfg d) (w : Fin cfg.W) (t : Fin cfg.N) (hi : cfg.idle w (cfg.grid.coords t) = false) :
    D.leavesExact w t = (owns (d : Thread nD τ) ((cfg.win w).stage (cfg.slots t w)) fullShare (D.after w t) : sProp 𝕄) := by
  unfold Dat.leavesExact; rw [hi]

theorem idle5 (t : Fin cfg0.N) (h : ¬t.val % 8 = 7) : cfg0.idle 5 (cfg0.grid.coords t) = true := by
  show (!(k0_cond1 (grid0.coords t) == 1#1)) = true
  rw [Bool.not_eq_true', beq_eq_false_iff_ne]
  exact fun e => h ((head_last t).1 e)
theorem idle6 (t : Fin cfg0.N) (h : ¬t.val % 8 = 7) : cfg0.idle 6 (cfg0.grid.coords t) = true := idle5 t h
theorem live5 (t : Fin cfg0.N) (h : t.val % 8 = 7) : cfg0.idle 5 (cfg0.grid.coords t) = false := by
  show (!(k0_cond1 (grid0.coords t) == 1#1)) = false
  rw [Bool.not_eq_false', beq_iff_eq]
  exact (head_last t).2 h
theorem live6 (t : Fin cfg0.N) (h : t.val % 8 = 7) : cfg0.idle 6 (cfg0.grid.coords t) = false := live5 t h

/-- The body at each point. -/
theorem heading_body : BodyObligation (hdat) (defs₀ (F := F)) Variants.none none Set.univ := fun t => by
  rw [Gen.bigSep_W0, Gen.bigSep_W0]
  refine triple_restated (P := iprop((logitsBuf X wt d t.val ∗ others d) ∗ (hdat).owesAt none t.castSucc
      ∗ (∃ e, owns (d : Thread nD τ) (Gen.st0_0 t) fullShare ((hdat).before 0 t e))
      ∗ (∃ e, owns (d : Thread nD τ) (Gen.st0_1 t) fullShare ((hdat).before 1 t e))
      ∗ (∃ e, owns (d : Thread nD τ) (Gen.st0_2 t) fullShare ((hdat).before 2 t e))
      ∗ (∃ e, owns (d : Thread nD τ) (Gen.st0_3 t) fullShare ((hdat).before 3 t e))
      ∗ (∃ e, owns (d : Thread nD τ) (Gen.st0_4 t) fullShare ((hdat).before 4 t e))
      ∗ (∃ e, owns (d : Thread nD τ) (Gen.st0_5 t) fullShare ((hdat).before 5 t e))
      ∗ (∃ e, owns (d : Thread nD τ) (Gen.st0_6 t) fullShare ((hdat).before 6 t e))))
    (Q := fun _ => iprop((logitsBuf X wt d (t.val + 1) ∗ others d) ∗ (hdat).owesAt none t.castSucc
      ∗ owns (d : Thread nD τ) (Gen.st0_0 t) fullShare ((hdat).after 0 t)
      ∗ owns (d : Thread nD τ) (Gen.st0_1 t) fullShare ((hdat).after 1 t)
      ∗ owns (d : Thread nD τ) (Gen.st0_2 t) fullShare ((hdat).after 2 t)
      ∗ owns (d : Thread nD τ) (Gen.st0_3 t) fullShare ((hdat).after 3 t)
      ∗ owns (d : Thread nD τ) (Gen.st0_4 t) fullShare ((hdat).after 4 t)
      ∗ (hdat).leavesExact 5 t ∗ (hdat).leavesExact 6 t))
    (W := wp frame (wpE (defs₀ (F := F)) Variants.none d none) Set.univ (Gen.bodyAt0 t)) ?_ rfl .rfl fun _ => .rfl
  simp only [head_found0, head_found1, head_found2, head_found3, head_found4, head_left0, head_left1, head_left2, head_left3, head_left4]
  by_cases h7 : t.val % 8 = 7
  · rw [leaves_live _ 5 t (live5 t h7), leaves_live _ 6 t (live6 t h7), head_left5, head_left6]
    unfold logitsBuf
    iintro ⟨⟨⟨%z, %hz, Hz⟩, Hr⟩, Ho, ⟨%e0, H0⟩, ⟨%e1, H1⟩, ⟨%e2, H2⟩, ⟨%e3, H3⟩, ⟨%e4, H4⟩, ⟨%e5, H5⟩, ⟨%e6, H6⟩⟩
    iapply (last_run d (grid0.coords t) ((head_last t).2 h7) _ _ _ _ _ _ _ _ _ _ _ _ _ _ _ _ (itemsIn X t) (weightsIn wt t) (biasIn b t) (wordsIn v t) z _)
    rw [head_col t, itemsIn_at, weightsIn_eq, biasIn_eq, putCols_last X wt t.val h7 z hz]
    isplitl [H0]; · iexact H0
    isplitl [H1]; · iexact H1
    isplitl [H2]; · iexact H2
    isplitl [H4]; · iexact H4
    isplitl [H5]; · iexists _; iexact H5
    isplitl [H6]; · iexists _; iexact H6
    isplitl [Hz]; · iexact Hz
    iintro ⟨H0, H1, H2, H4, H5, H6, Hz⟩
    isplitl [Hz Hr]
    · isplitl [Hz]
      · iexists _; isplitr
        swap; · iexact Hz
        ipureintro
        rw [← putCols_last X wt t.val h7 z hz]
        exact putCols_next X wt t.val z hz
      iexact Hr
    isplitl [Ho]; · iexact Ho
    isplitl [H0]; · iexact H0
    isplitl [H1]; · iexact H1
    isplitl [H2]; · iexact H2
    isplitl [H3]; · iexact H3
    isplitl [H4]; · iexact H4
    isplitl [H5] <;> iassumption
  · rw [(hdat).leavesExact_idle 5 t (idle5 t h7) (by rw [← Bool.not_eq_true]; exact fun h => h7 ((Gen.flush0_5 t).1 h)),
      (hdat).leavesExact_idle 6 t (idle6 t h7) (by rw [← Bool.not_eq_true]; exact fun h => h7 ((Gen.flush0_6 t).1 h))]
    unfold logitsBuf
    iintro ⟨⟨⟨%z, %hz, Hz⟩, Hr⟩, Ho, ⟨%e0, H0⟩, ⟨%e1, H1⟩, ⟨%e2, H2⟩, ⟨%e3, H3⟩, ⟨%e4, H4⟩, H5, H6⟩
    iapply (head_run d (grid0.coords t) (fun h => h7 ((head_last t).1 h)) _ _ _ _ _ _ _ _ _ _ _ _ _ _ _ _ (itemsIn X t) (weightsIn wt t) z _)
    rw [head_col t, itemsIn_at, weightsIn_eq]
    isplitl [H0]; · iexact H0
    isplitl [H1]; · iexact H1
    isplitl [Hz]; · iexact Hz
    iintro ⟨H0, H1, Hz⟩
    isplitl [Hz Hr]
    · isplitl [Hz]
      · iexists _; isplitr
        swap; · iexact Hz
        ipureintro
        exact putCols_next X wt t.val z hz
      iexact Hr
    isplitl [Ho]; · iexact Ho
    isplitl [H0]; · iexact H0
    isplitl [H1]; · iexact H1
    isplitl [H2]; · iexact H2
    isplitl [H3]; · iexact H3
    isplitl [H4]; · iexact H4
    isplitl [H5] <;> iassumption

/-! ## The arrays of scores and keys -/

/-- The score of every item, -/
def scoreOf (X : S128x8192x32.Idx → F .f32) (wt : S1x32.Idx → F .f32) (b : S1x1.Idx → F .f32) : S128x8192.Idx → F .f32 := fun i =>
  Gen.k0_pay2 (logitsAt X wt ((i 0).val / 8)) b (fun | 0 => ⟨(i 0).val % 8, Nat.mod_lt _ (by decide)⟩ | 1 => i 1)

/-- and its key. -/
def keyOf (v : S128x8192.Idx → BitVec 32) : S128x8192.Idx → BitVec 32 := fun i =>
  v i ^^^ ((v i).sshiftRight 31 ||| 0x80000000#32) ^^^ 0xFFFFFFFF#32

theorem scores_end : (hdat).arrAt 5 cfg0.N = scoreOf X wt b := by
  refine (hdat).arrAt_eq_of_covers 5 (scoreOf X wt b) (by decide +kernel) fun t hf y => ?_
  rw [head_left5]
  have hy0 : (y 0).val < 8 := (y 0).isLt
  have e0 : ((win0_5.blk t).view.emb y 0).val = 8 * (t.val / 8) + (y 0).val := by
    blk_simp; rw [index_scores t 0]; show t.val / 8 * 8 + _ = _; omega
  have e1 : ((win0_5.blk t).view.emb y 1).val = (y 1).val := by
    blk_simp; rw [index_scores t 1]; show 0 * 8192 + _ = _; omega
  blk_simp
  unfold scoreOf
  refine congr (congrArg (fun q => Gen.k0_pay2 (logitsAt X wt q) b) ?_) (funext fun a => Fin.ext ?_)
  · refine Eq.trans ?_ (congrArg (· / 8) e0.symm); show t.val / 8 = (8 * (t.val / 8) + (y 0).val) / 8; omega
  · match a with
    | 0 => refine Eq.trans ?_ (congrArg (· % 8) e0.symm); show (y 0).val = (8 * (t.val / 8) + (y 0).val) % 8; omega
    | 1 => exact e1.symm

theorem keys_end : (hdat).arrAt 6 cfg0.N = keyOf v := by
  refine (hdat).arrAt_eq_of_covers 6 (keyOf v) (by decide +kernel) fun t hf y => ?_
  rw [head_left6]
  have hy0 : (y 0).val < 8 := (y 0).isLt
  have hy1 : (y 1).val < 8192 := (y 1).isLt
  have ht := head_points t
  have e0 : ((win0_6.blk t).view.emb y 0).val = 8 * (t.val / 8) + (y 0).val := by
    blk_simp; rw [index_keys t 0]; show t.val / 8 * 8 + _ = _; omega
  have e1 : ((win0_6.blk t).view.emb y 1).val = (y 1).val := by
    blk_simp; rw [index_keys t 1]; show 0 * 8192 + _ = _; omega
  have e : at2 (8 * (t.val / 8) + (y 0).val) (y 1).val = (win0_6.blk t).view.emb y := by
    rw [← e0, ← e1]; exact at2_self _
  blk_simp
  rw [wordsIn_at]
  show _ = keyOf v ((win0_6.blk t).view.emb y)
  rw [← e]
  rfl

end Cert.KernelIdeal.Body
-- ==== Proof.Stage.lean ====
/-
  The two kernels of the TensorCore as steps of @main: one takes items, weights, bias, noise and words and leaves scores and keys
  beside them; the other takes the gathered scores and leaves one number of each row beside them.
-/
module

public import proofs.«01_k».proof.Proof.Head
public import Idealize.ShloMosaic.Lib.Pipeline.Regions

@[expose] public section

noncomputable section

namespace Cert.KernelIdeal.Body

open Idealize.ShloMosaic Idealize.ShloMosaic.TcCoe
open Idealize.ShloMosaic.SparseCore.Cfg (HIx)
open Cert.KernelIdeal Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig (HIx 1) (Elt F) ℕ U ℕ

/-- Where the operands of the first kernel lie. -/
abbrev xLoc (d : Dev nD) : Loc nD τ sig := (SparseCore.T d).loc main_arg0
abbrev wLoc (d : Dev nD) : Loc nD τ sig := (SparseCore.T d).loc main_v9
abbrev bLoc (d : Dev nD) : Loc nD τ sig := (SparseCore.T d).loc main_v8
abbrev uLoc (d : Dev nD) : Loc nD τ sig := (SparseCore.T d).loc main_v7
abbrev vLoc (d : Dev nD) : Loc nD τ sig := (SparseCore.T d).loc main_arg3
/-- Where the results of the last kernel lie, as a column and as a row. -/
abbrev cLoc (d : Dev nD) : Loc nD τ sig := (SparseCore.T d).loc main_v13
abbrev lLoc (d : Dev nD) : Loc nD τ sig := (SparseCore.T d).loc main_v14

abbrev noTable : (p : Fin 2) → (pcfgs (F := F) p).Adm := fun p => (cfgs p).toPCfg_adm
abbrev stages : Fin 2 → Pipeline.Cfg sig Λ₀ := Pipeline.pin (pcfgs (F := F)) noTable

/-- What the TensorCore owes and has waited on: `O`, and cells of `W`. -/
def settled (d : Dev nD) (O : CellTallies nD τ sig (HIx 1)) (W : Set (SemLoc sig × HIx 1)) : sProp 𝕄 :=
  iprop(∃ W', ⌜∀ p ∈ W', p ∈ W⌝ ∗ owes (d : Thread nD τ) O W')

/-- What the two kernels find on every device: the operands of the first and the contents its results start at, what the core
    owes then and has waited on, and the same of the last. -/
structure Given (F : FTy → Type) where
  X : Dev nD → S128x8192x32.Idx → F .f32
  wt : Dev nD → S1x32.Idx → F .f32
  b : Dev nD → S1x1.Idx → F .f32
  g : Dev nD → S128x8192.Idx → F .f32
  v : Dev nD → S128x8192.Idx → BitVec 32
  os : Dev nD → S128x8192.Idx → F .f32
  ok : Dev nD → S128x8192.Idx → BitVec 32
  O : Dev nD → CellTallies nD τ sig (HIx 1)
  W₀ : Dev nD → Set (SemLoc sig × HIx 1)
  ps : Dev nD → S128x8192.Idx → F .f32
  o : Dev nD → S128x1.Idx → F .f32
  W : Dev nD → Set (SemLoc sig × HIx 1)

variable (A : Given F)
variable (L : GSem nD τ sig → Finset (HIx 1)) (lv : GSem nD τ sig → HIx 1 → ℕ)

abbrev data : (p : Fin 2) → (d : Dev nD) → Pipeline.Dat τ (Elt F) (HIx 1) ℕ U ℕ (stages (F := F) p) d := fun
  | ⟨0, _⟩ => fun d => heading (A.X d) (A.wt d) (A.b d) (A.g d) (A.v d) (A.os d) (A.ok d) (A.O d) (A.W₀ d) d
  | ⟨1, _⟩ => fun d => scoring (A.ps d) (A.o d) (A.W d) d
  | ⟨_ + 2, h⟩ => absurd h (Nat.not_lt.2 (Nat.le_add_left _ _))

theorem heads_eq (d : Dev nD) (G) : ((data (U := U) A 0 d).arrays G : sProp 𝕄)
    = iprop((xLoc d ↦{fullShare} (G (0 : Fin 7) : S128x8192x32.Idx → F .f32)) ∗ (wLoc d ↦{fullShare} (G (1 : Fin 7) : S1x32.Idx → F .f32))
      ∗ (bLoc d ↦{fullShare} (G (2 : Fin 7) : S1x1.Idx → F .f32)) ∗ (uLoc d ↦{fullShare} (G (3 : Fin 7) : S128x8192.Idx → F .f32))
      ∗ (vLoc d ↦{fullShare} (G (4 : Fin 7) : S128x8192.Idx → BitVec 32)) ∗ (sLoc d ↦{fullShare} (G (5 : Fin 7) : S128x8192.Idx → F .f32))
      ∗ kLoc d ↦{fullShare} (G (6 : Fin 7) : S128x8192.Idx → BitVec 32)) := by
  unfold Pipeline.Dat.arrays
  refine (Gen.bigSep_W0 _).trans ?_
  simp only [fun w => (data (U := U) A 0 d).share_full (w := w) fun _ => rfl]
  refine congr (congrArg BIBase.sep (congrArg (fun I : Finset S128x8192x32.Idx => (xLoc d ↦[I]{fullShare} (G (0 : Fin 7)) : sProp 𝕄)) (Gen.arr_whole0 0).set_eq_univ)) ?_
  refine congr (congrArg BIBase.sep (congrArg (fun I : Finset S1x32.Idx => (wLoc d ↦[I]{fullShare} (G (1 : Fin 7)) : sProp 𝕄)) (Gen.arr_whole0 1).set_eq_univ)) ?_
  refine congr (congrArg BIBase.sep (congrArg (fun I : Finset S1x1.Idx => (bLoc d ↦[I]{fullShare} (G (2 : Fin 7)) : sProp 𝕄)) (Gen.arr_whole0 2).set_eq_univ)) ?_
  refine congr (congrArg BIBase.sep (congrArg (fun I : Finset S128x8192.Idx => (uLoc d ↦[I]{fullShare} (G (3 : Fin 7)) : sProp 𝕄)) (Gen.arr_whole0 3).set_eq_univ)) ?_
  refine congr (congrArg BIBase.sep (congrArg (fun I : Finset S128x8192.Idx => (vLoc d ↦[I]{fullShare} (G (4 : Fin 7)) : sProp 𝕄)) (Gen.arr_whole0 4).set_eq_univ)) ?_
  exact congr (congrArg BIBase.sep (congrArg (fun I : Finset S128x8192.Idx => (sLoc d ↦[I]{fullShare} (G (5 : Fin 7)) : sProp 𝕄)) (Gen.arr_whole0 5).set_eq_univ))
    (congrArg (fun I : Finset S128x8192.Idx => (kLoc d ↦[I]{fullShare} (G (6 : Fin 7)) : sProp 𝕄)) (Gen.arr_whole0 6).set_eq_univ)

theorem arrays_eq (d : Dev nD) (G) : ((data (U := U) A 1 d).arrays G : sProp 𝕄)
    = iprop((gLoc d ↦{fullShare} (G (0 : Fin 2) : S128x8192.Idx → F .f32)) ∗ cLoc d ↦{fullShare} (G (1 : Fin 2) : S128x1.Idx → F .f32)) := by
  unfold Pipeline.Dat.arrays
  refine (Gen.bigSep_W2 _).trans ?_
  rw [(data (U := U) A 1 d).share_full fun _ => rfl, (data (U := U) A 1 d).share_full fun _ => rfl]
  exact congr (congrArg BIBase.sep (congrArg (fun I : Finset S128x8192.Idx => (gLoc d ↦[I]{fullShare} (G (0 : Fin 2)) : sProp 𝕄)) (Gen.arr_whole2 0).set_eq_univ))
    (congrArg (fun I : Finset S128x1.Idx => (cLoc d ↦[I]{fullShare} (G (1 : Fin 2)) : sProp 𝕄)) (Gen.arr_whole2 1).set_eq_univ)

theorem noTable_eq0 (d : Dev nD) (q) (pf) :
    (Pipeline.prefHeld (Ix := HIx 1) (Name := ℕ) (U := U) (Lvl := ℕ) (Val := Elt F) (pcfgs (F := F) 0).pre d q pf : sProp 𝕄) = iprop(emp) :=
  bigSep_univ_eq_bigSepL (I := Fin 0) [] (by decide) (by decide) _
theorem noTable_eq (d : Dev nD) (q) (pf) :
    (Pipeline.prefHeld (Ix := HIx 1) (Name := ℕ) (U := U) (Lvl := ℕ) (Val := Elt F) (pcfgs (F := F) 1).pre d q pf : sProp 𝕄) = iprop(emp) :=
  bigSep_univ_eq_bigSepL (I := Fin 0) [] (by decide) (by decide) _

/-- The operands of the first kernel. -/
def operands (d : Dev nD) : sProp 𝕄 :=
  iprop((xLoc d ↦{fullShare} A.X d) ∗ (wLoc d ↦{fullShare} A.wt d) ∗ (bLoc d ↦{fullShare} A.b d) ∗ (uLoc d ↦{fullShare} A.g d) ∗ vLoc d ↦{fullShare} A.v d)

theorem scratch_in (d : Dev nD) : (Pipeline.scopedRest spec0 d : sProp 𝕄) ⊢ iprop(logitsBuf (A.X d) (A.wt d) d 0 ∗ others d) := by
  rw [Gen.scopedRest0_eq]
  unfold logitsBuf others
  iintro ⟨⟨%f, Hf⟩, Hr⟩
  isplitl [Hf]
  · iexists f
    isplitr; · ipureintro; exact fun y hy => absurd hy (by omega)
    rw [owns_whole]
    iexact Hf
  iexact Hr

theorem scratch_out (d : Dev nD) (n : ℕ) : iprop(logitsBuf (A.X d) (A.wt d) d n ∗ others d) ⊢ (Pipeline.scopedRest spec0 d : sProp 𝕄) := by
  rw [Gen.scopedRest0_eq]
  unfold logitsBuf others
  iintro ⟨⟨%z, -, Hz⟩, Hr⟩
  isplitl [Hz]
  · iexists z
    iapply (BIBase.Entails.of_eq (owns_whole (d : Thread nD τ) cc0_scratch0 fullShare z))
    iexact Hz
  iexact Hr

/-- The first step, where the core may wait on its own cells whatever it owes. -/
def headStep (hm : ∀ (d : Dev nD) (s : SemLoc sig), (levAts L lv : sProp 𝕄) ⊢ MayWait (d : Thread nD τ) s none (A.O d)) :
    Pipeline.RegionSeg (pcfgs (F := F)) noTable (data (U := U) A) none defs₀ Variants.none L lv 0 where
  win := Gen.launch0.win.to₀
  block_pos := Gen.block_pos0
  stage_whole := Gen.stage_whole0
  K := PEmpty
  osem k := k.elim
  ho := Pipeline.OwnSemFacts.none _
  hbody d := (heading_body (A.X d) (A.wt d) (A.b d) (A.g d) (A.v d) (A.os d) (A.ok d) (A.O d) (A.W₀ d) d).loose
  hwaits d := Pipeline.cellsWaits_intro _ _ _ _ _ fun _ _ _ => hm d _
  pre d := iprop(operands A d ∗ (sLoc d ↦{fullShare} A.os d) ∗ (kLoc d ↦{fullShare} A.ok d) ∗ settled d (A.O d) (A.W₀ d))
  post d := iprop(operands A d ∗ (sLoc d ↦{fullShare} scoreOf (A.X d) (A.wt d) (A.b d)) ∗ (kLoc d ↦{fullShare} keyOf (A.v d))
    ∗ settled d (A.O d) (A.W₀ d ∪ cfg0.waitPairs none))
  X _ := iprop(emp)
  Y _ := iprop(emp)
  Z _ := iprop(emp)
  hentry d := by
    rw [Pipeline.ownSems0_none, heads_eq, noTable_eq0]
    unfold settled operands Pipeline.Dat.owesAt Pipeline.owesWithin Pipeline.Dat.bound
    iintro ⟨⟨⟨Hx, Hw, Hb, Hu, Hv⟩, Hs, Hk, %W', %hW, HO⟩, -, -⟩
    imodintro
    isplitl [Hx Hw Hb Hu Hv Hs Hk]
    · isplitl [Hx]; · iexact Hx
      isplitl [Hw]; · iexact Hw
      isplitl [Hb]; · iexact Hb
      isplitl [Hu]; · iexact Hu
      isplitl [Hv]; · iexact Hv
      isplitl [Hs]; · iexact Hs
      iexact Hk
    isplitr; · iempintro
    isplitl [HO]
    · iexists W'; isplitr; · ipureintro; exact fun p hp => Or.inl (hW p hp)
      iexact HO
    isplitr <;> iempintro
  hin d := by
    refine BIBase.Entails.trans ?_ (scratch_in A d)
    iintro ⟨-, -, H⟩
    iexact H
  hout d := by
    rw [Pipeline.ownSems0_none]
    show iprop(logitsBuf (A.X d) (A.wt d) d cfg0.N ∗ others d) ⊢ _
    iintro H
    isplitr; · iempintro
    isplitr; · iempintro
    iapply (scratch_out A d _)
    iexact H
  hexit d := by
    rw [heads_eq]
    unfold settled operands Pipeline.Dat.owesAt Pipeline.owesWithin Pipeline.Dat.bound
    rw [show (data (U := U) A 0 d).arrAt 5 (stages (F := F) 0).N = scoreOf (A.X d) (A.wt d) (A.b d) from scores_end _ _ _ _ _ _ _ _ _ d,
      show (data (U := U) A 0 d).arrAt 6 (stages (F := F) 0).N = keyOf (A.v d) from keys_end _ _ _ _ _ _ _ _ _ d,
      show (data (U := U) A 0 d).arrAt 0 (stages (F := F) 0).N = A.X d from (data (U := U) A 0 d).arrAt_in 0 rfl _,
      show (data (U := U) A 0 d).arrAt 1 (stages (F := F) 0).N = A.wt d from (data (U := U) A 0 d).arrAt_in 1 rfl _,
      show (data (U := U) A 0 d).arrAt 2 (stages (F := F) 0).N = A.b d from (data (U := U) A 0 d).arrAt_in 2 rfl _,
      show (data (U := U) A 0 d).arrAt 3 (stages (F := F) 0).N = A.g d from (data (U := U) A 0 d).arrAt_in 3 rfl _,
      show (data (U := U) A 0 d).arrAt 4 (stages (F := F) 0).N = A.v d from (data (U := U) A 0 d).arrAt_in 4 rfl _]
    iintro ⟨⟨Hx, Hw, Hb, Hu, Hv, Hs, Hk⟩, ⟨%W', %hW, HO⟩, -, -⟩
    imodintro
    isplitl [Hx Hw Hb Hu Hv]
    · isplitl [Hx]; · iexact Hx
      isplitl [Hw]; · iexact Hw
      isplitl [Hb]; · iexact Hb
      isplitl [Hu]; · iexact Hu
      iexact Hv
    isplitl [Hs]; · iexact Hs
    isplitl [Hk]; · iexact Hk
    iexists W'; isplitr; · ipureintro; exact hW
    iexact HO

/-- The last step. -/
def scoringStep : Pipeline.RegionSeg (pcfgs (F := F)) noTable (data (U := U) A) none defs₀ Variants.none L lv 1 where
  win := Gen.launch2.win.to₀
  block_pos := Gen.block_pos2
  stage_whole := Gen.stage_whole2
  K := PEmpty
  osem k := k.elim
  ho := Pipeline.OwnSemFacts.none _
  hbody d := (scoring_body (A.ps d) (A.o d) (A.W d) d).loose
  hwaits := Pipeline.hwaits_of_owed_zero _ _ _ _ L lv 1 fun _ _ => rfl
  pre d := iprop((gLoc d ↦{fullShare} A.ps d) ∗ (cLoc d ↦{fullShare} A.o d) ∗ settled d 0 (A.W d))
  post d := iprop((gLoc d ↦{fullShare} A.ps d) ∗ (cLoc d ↦{fullShare} sumsOf (A.ps d)) ∗ settled d 0 (A.W d ∪ cfg2.waitPairs none))
  X _ := iprop(emp)
  Y _ := iprop(emp)
  Z _ := iprop(emp)
  hentry d := by
    rw [Pipeline.ownSems0_none, arrays_eq, noTable_eq]
    unfold settled Pipeline.Dat.owesAt Pipeline.owesWithin Pipeline.Dat.bound
    iintro ⟨⟨Hg, Hc, %W', %hW, HO⟩, -, -⟩
    imodintro
    isplitl [Hg Hc]
    · isplitl [Hg]; · iexact Hg
      iexact Hc
    isplitr; · iempintro
    isplitl [HO]
    · iexists W'; isplitr; · ipureintro; exact fun p hp => Or.inl (hW p hp)
      iexact HO
    isplitr <;> iempintro
  hin d := by
    show _ ⊢ (Pipeline.scopedRest spec2 d : sProp 𝕄)
    iintro ⟨-, -, H⟩
    iexact H
  hout d := by
    rw [Pipeline.ownSems0_none]
    show (Pipeline.scopedRest spec2 d : sProp 𝕄) ⊢ _
    iintro H
    isplitr; · iempintro
    isplitr; · iempintro
    iexact H
  hexit d := by
    rw [arrays_eq]
    unfold settled Pipeline.Dat.owesAt Pipeline.owesWithin Pipeline.Dat.bound
    rw [show (data (U := U) A 1 d).arrAt 1 (stages (F := F) 1).N = sumsOf (A.ps d) from sums_end (A.ps d) (A.o d) (A.W d) d,
      show (data (U := U) A 1 d).arrAt 0 (stages (F := F) 1).N = A.ps d from (data (U := U) A 1 d).arrAt_in 0 rfl _]
    iintro ⟨⟨Hg, Hc⟩, ⟨%W', %hW, HO⟩, -, -⟩
    imodintro
    isplitl [Hg]; · iexact Hg
    isplitl [Hc]; · iexact Hc
    iexists W'; isplitr; · ipureintro; exact hW
    iexact HO

theorem head_pre (hm) (d : Dev nD) : (headStep (U := U) A L lv hm).pre d
    = iprop(operands A d ∗ (sLoc d ↦{fullShare} A.os d) ∗ (kLoc d ↦{fullShare} A.ok d) ∗ settled d (A.O d) (A.W₀ d)) := rfl
theorem head_post (hm) (d : Dev nD) : (headStep (U := U) A L lv hm).post d
    = iprop(operands A d ∗ (sLoc d ↦{fullShare} scoreOf (A.X d) (A.wt d) (A.b d)) ∗ (kLoc d ↦{fullShare} keyOf (A.v d))
      ∗ settled d (A.O d) (A.W₀ d ∪ cfg0.waitPairs none)) := rfl
theorem step_pre (d : Dev nD) : (scoringStep (U := U) A L lv).pre d = iprop((gLoc d ↦{fullShare} A.ps d) ∗ (cLoc d ↦{fullShare} A.o d) ∗ settled d 0 (A.W d)) := rfl
theorem step_post (d : Dev nD) : (scoringStep (U := U) A L lv).post d
    = iprop((gLoc d ↦{fullShare} A.ps d) ∗ (cLoc d ↦{fullShare} sumsOf (A.ps d)) ∗ settled d 0 (A.W d ∪ cfg2.waitPairs none)) := rfl

end Cert.KernelIdeal.Body
-- ==== Proof.Launch.lean ====
/-
  The program's run: @main draws the noise, lays weights and bias out as rows and runs the first kernel, which makes scores and keys; it makes the
  numbers 0, 1, … and starts the second kernel on the thirty-two tiles, which share keys, scores and numbers and write four rows
  each of the permutation and of the gathered scores; then it runs the third kernel over the gathered scores and lays its column of
  results out as a row.
-/
module

public import proofs.«01_k».proof.Proof.Deal
public import proofs.«01_k».proof.Proof.Draw
public import proofs.«01_k».proof.Proof.Stage
public import Idealize.ShloMosaic.Lib.StableHlo.Run
public import Idealize.ShloMosaic.Lib.Pipeline.Kit

@[expose] public section

noncomputable section

namespace Cert.KernelIdeal.Body

open Idealize.ShloMosaic Cert.Lanes
open Idealize.ShloMosaic.SparseCore (S V T)
open Idealize.ShloMosaic.SparseCore.Cfg (HIx Pay ownBufs ownSems0)
open Cert.Copy (Owe)
open Cert.KernelIdeal Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The copies' part of the two kernels on the TensorCore. -/
def EP : Emb UP (MT nD τ sig (HIx 1) (Elt F) ℕ UU ℕ) := (Emb.inl : Emb UP (UP × Counters)).trans embR
instance EP_lands : (EP (F := F)).LandsIn (upEmb : UEmb _ (MT nD τ sig (HIx 1) (Elt F) ℕ UU ℕ)) := by unfold EP embR; infer_instance
abbrev EC : UEmb Counters (MT nD τ sig (HIx 1) (Elt F) ℕ UU ℕ) := countersEmb

variable (m : (ℓ : Loc nD τ sig) → Buf (Elt F) ℓ) (ρ : Dev nD → PrngReg)
variable [FloatOps F]

/-- Where weights and bias lie before they are laid out as rows, -/
abbrev awLoc (d : Dev nD) : Loc nD τ sig := (SparseCore.T d).loc main_arg1
abbrev abLoc (d : Dev nD) : Loc nD τ sig := (SparseCore.T d).loc main_arg2
/-- and the rows. -/
def wOf (d : Dev nD) : S1x32.Idx → F .f32 := shapeCast S1x32 (m (awLoc d) : S32x1.Idx → F .f32) shapeCasts_S32x1_S1x32
def bOf (d : Dev nD) : S1x1.Idx → F .f32 := shapeCast S1x1 (m (abLoc d) : S1.Idx → F .f32) shapeCasts_S1_S1x1
/-- Keys and scores, of the words, items, weights and bias at launch, and the launch contents of the results. -/
def keysOf (d : Dev nD) : S128x8192.Idx → BitVec 32 := keyOf (m (vLoc d))
def valsOf (d : Dev nD) : S128x8192.Idx → F .f32 := scoreOf (m (xLoc d)) (wOf m d) (bOf m d)
abbrev perm₀ (d : Dev nD) : S128x8192.Idx → BitVec 32 := m (pLoc d)
abbrev vals₀ (d : Dev nD) : S128x8192.Idx → F .f32 := m (gLoc d)

/-- What tile `s` of SparseCore `c` is handed, and what it hands back. -/
def tileIn (d : Dev nD) (c s : ℕ) : sProp 𝕄 := iprop(hold d (tileShare c s) (keysOf m d) (valsOf m d) ∗ outs d (tileSet c s) (perm₀ m d) (vals₀ m d))
def tileOut (d : Dev nD) (c s : ℕ) : sProp 𝕄 :=
  iprop(hold d (tileShare c s) (keysOf m d) (valsOf m d) ∗ outs d (tileSet c s) (permOf (keysOf m d)) (scoresOf (keysOf m d) (valsOf m d)))
/-- The same of SparseCore `c`, -/
def coreIn (d : Dev nD) (c : ℕ) : sProp 𝕄 := iprop(hold d (coreShare c) (keysOf m d) (valsOf m d) ∗ outs d (coreSet c) (perm₀ m d) (vals₀ m d))
def coreOut (d : Dev nD) (c : ℕ) : sProp 𝕄 :=
  iprop(hold d (coreShare c) (keysOf m d) (valsOf m d) ∗ outs d (coreSet c) (permOf (keysOf m d)) (scoresOf (keysOf m d) (valsOf m d)))
/-- and of the call. -/
def callIn (d : Dev nD) : sProp 𝕄 := iprop(hold d fullShare (keysOf m d) (valsOf m d) ∗ outs d Finset.univ (perm₀ m d) (vals₀ m d))
def callOut (d : Dev nD) : sProp 𝕄 :=
  iprop(hold d fullShare (keysOf m d) (valsOf m d) ∗ outs d Finset.univ (permOf (keysOf m d)) (scoresOf (keysOf m d) (valsOf m d)))

def P : (K (F := F)).Pay (nD := nD) (Val := Elt F) (Name := ℕ) (U := UU) where
  st := fun _ d c => coreIn m d c.val
  dn := fun _ d c => coreOut m d c.val
  go := fun _ d c s => tileIn m d c.val s.val
  td := fun _ d c s => tileOut m d c.val s.val
  x := fun _ _ => iprop(emp)

instance P_storable : (P (F := F) m).IsStorable where
  st _ d c := by unfold P coreIn hold outs; infer_instance
  dn _ d c := by unfold P coreOut hold outs; infer_instance
  go _ d c s := by unfold P tileIn hold outs; infer_instance
  td _ d c s := by unfold P tileOut hold outs; infer_instance

/-! ## A tile -/

theorem tile_body (d : Dev nD) (i : grid1.Coords) (hF : (K (F := F)).Facts) (O : CellTallies nD τ sig (HIx 1)) (W : Waits sig (HIx 1)) (hO : ∀ g, O g none = 0) :
    iprop(levAts (K (F := F)).L (K (F := F)).lev ∗ emp ∗ tileIn m d (i 0).val (i 1).val
        ∗ scopedBufs (thr d i) ∗ scopedSems0 (thr d i) ∗ owes (thr d i) O W)
      ⊢ wp frame (wpE (defs₀ (F := F)) 𝒱₀ (thr d i) none) Set.univ
          (cc1_k i (Memref.whole main_v10_1_scv) (Memref.isWhole_whole _) (Memref.whole main_v10_0_scv) (Memref.isWhole_whole _) (Memref.whole main_v11_scv) (Memref.isWhole_whole _) (Memref.whole main_v12_0_scv) (Memref.isWhole_whole _) (Memref.whole main_v12_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scoped0 cc1_scoped1 cc1_scoped2 cc1_scoped3 cc1_scoped4 cc1_scoped5 cc1_scoped6 cc1_scoped7 cc1_scoped8 cc1_scoped9)
          fun _ => iprop(tileOut m d (i 0).val (i 1).val ∗ scopedBufs (thr d i) ∗ scopedSems0 (thr d i)
            ∗ ∃ W', ⌜∀ p ∈ W', p ∈ W ∨ p.2 = none⌝ ∗ owes (thr d i) O W') := by
  rw [cc1_k_shape]
  unfold kernelC tileIn tileOut
  rw [(K (F := F)).scopedBufs_V hF d ((i 0).castLE hcore1) ((i 1).castLE hsub1),
    SparseCore.Cfg.scopedSems0_V (Val := Elt F) d ((i 0).castLE hcore1) ((i 1).castLE hsub1), deal_rows, deal_rows, ← reads_hold d i]
  iintro ⟨#Hlv, -, ⟨HI, H0, H1, H2, H3⟩, HB, HS, HO⟩
  ihave HM := ((K (F := F)).mayWaits_none (thr := thr d i) hO) $$ Hlv
  ihave HT := (own_tools d i) $$ [HB HS]
  · isplitl [HB] <;> iassumption
  icases HT with ⟨HT, HB, HS⟩
  ihave H := (wp_kernelC (defs := defs₀ (F := F)) 𝒱₀ none d i EC (ι := none) (O := O) (W₀ := W) (tileShare (i 0).val (i 1).val)
    (kk := keysOf m d) (ss := valsOf m d) numbers_eq (perm₀ m d) (vals₀ m d)) $$ [HI H0 H1 H2 H3 HT HO HM]
  · isplitl [HI]; · iexact HI
    isplitl [H0]; · iexact H0
    isplitl [H1]; · iexact H1
    isplitl [H2]; · iexact H2
    isplitl [H3]; · iexact H3
    isplitl [HT]; · iexact HT
    isplitl [HO]
    · unfold Owe
      iexists W
      isplitr; · ipureintro; exact fun p hp => .inl hp
      iexact HO
    iexact HM
  iapply (wp_wand frame (wpE (defs₀ (F := F)) 𝒱₀ (thr d i) none) Set.univ) $$ H
  iintro %_ ⟨HI, H0, H1, H2, H3, HT, HO⟩
  ihave HT := (tools_own d i) $$ [HT HB HS]
  · isplitl [HT]; · iexact HT
    isplitl [HB] <;> iassumption
  icases HT with ⟨HB, HS⟩
  isplitl [HI H0 H1 H2 H3]
  · isplitl [HI]; · iexact HI
    isplitl [H0]; · iexact H0
    isplitl [H1]; · iexact H1
    isplitl [H2]; · iexact H2
    iexact H3
  isplitl [HB]; · iexact HB
  isplitl [HS]; · iexact HS
  unfold Owe
  iexact HO

/-! ## The launch theorem's obligations -/

def tileCoords (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1_k (tileCoords c s) (Memref.whole main_v10_1_scv) (Memref.isWhole_whole _) (Memref.whole main_v10_0_scv) (Memref.isWhole_whole _) (Memref.whole main_v11_scv) (Memref.isWhole_whole _) (Memref.whole main_v12_0_scv) (Memref.isWhole_whole _) (Memref.whole main_v12_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scoped0 cc1_scoped1 cc1_scoped2 cc1_scoped3 cc1_scoped4 cc1_scoped5 cc1_scoped6 cc1_scoped7 cc1_scoped8 cc1_scoped9) ⟨⟩ c s := rfl

omit [FloatOps F] in
theorem waits_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_tile]; simp only [SparseCore.onTile, hc, and_self, ↓reduceDIte]
  exact (tile_body m d (tileCoords ⟨_, hc.1⟩ ⟨_, hc.2⟩) hF O W hO).trans (wp_mono frame _ _ fun _ => waits_post)

theorem coreIn_eq (d : Dev nD) {c : ℕ} (hc : c < 2) : coreIn m d c = bigSep Finset.univ fun s : Fin 16 => tileIn m d c s.val := deal_tiles d hc _ _ _ _
theorem coreOut_eq (d : Dev nD) {c : ℕ} (hc : c < 2) : coreOut m d c = bigSep Finset.univ fun s : Fin 16 => tileOut m d c s.val := deal_tiles d hc _ _ _ _
theorem callIn_eq (d : Dev nD) : callIn m d = bigSep Finset.univ fun c : Fin 2 => coreIn m d c.val := deal_cores d _ _ _ _
theorem callOut_eq (d : Dev nD) : callOut m d = bigSep Finset.univ fun c : Fin 2 => coreOut m d c.val := deal_cores d _ _ _ _

theorem vecSplit : (K (F := F)).VecSplit' (P m) 0 := by
  intro d c
  show coreIn m d c.val ⊢ |={Set.univ}=> iprop((bigSep Finset.univ fun s : Fin 16 => tileIn m d c.val s.val)
      ∗ ((bigSep Finset.univ fun s : Fin 16 => tileOut m d c.val s.val) -∗ coreOut m d c.val))
  rw [coreIn_eq m d (show c.val < 2 from c.isLt), coreOut_eq m d (show c.val < 2 from c.isLt)]
  iintro H; imodintro
  isplitl [H]; · iexact H
  iintro H; iexact H

/-! ## The launch's ghost state -/

theorem cells_apart : Function.Injective (Pipeline.cellOf (nD := nD) (τ := τ) (stages (F := F))) := Gen.cellOf_inj

def u₀ : UU := (initOf (K (F := F)).hsCells (K (F := F)).hsToks,
  (initOf (Pipeline.cells (stages (F := F)) cells_apart) (Pipeline.launchToks (stages (F := F)) cells_apart), 1))

/-- What the copies of the two kernels on the TensorCore start from on device `d`. -/
def copies₀ (d : Dev nD) : sProp 𝕄 :=
  iprop((bigSep Finset.univ fun p : Fin 2 => Pipeline.cellsGhost (stages (F := F)) EP p d) ∗ bigSep Finset.univ fun p : Fin 2 => Pipeline.toksInit (stages (F := F)) EP p d)
/-- Those of one of the two. -/
def copy₀ (p : Fin 2) (d : Dev nD) : sProp 𝕄 :=
  iprop(Pipeline.cellsGhost (stages (F := F)) EP p d ∗ Pipeline.toksInit (stages (F := F)) EP p d)

omit [FloatOps F] in
theorem copies_split (d : Dev nD) : (copies₀ d : sProp 𝕄) ⊢ iprop(copy₀ (F := F) 0 d ∗ copy₀ (F := F) 1 d) := by
  unfold copies₀ copy₀
  rw [show (Finset.univ : Finset (Fin 2)) = {0, 1} by decide, SparseCore.bigSep_insert' (by decide), bigSep_singleton,
    SparseCore.bigSep_insert' (by decide), bigSep_singleton]
  iintro ⟨⟨H0, H1⟩, H2, H3⟩
  isplitl [H0 H2]
  · isplitl [H0] <;> iassumption
  isplitl [H1] <;> iassumption

omit [FloatOps F] in
theorem emp_all {α : Type} (s : Finset α) : (bigSep s fun _ => iprop(emp) : sProp 𝕄) = iprop(emp) := bigSep_emp_const s

theorem start_own : (ownU (u₀ (F := F)) : sProp 𝕄)
    ⊢ |={Set.univ}=> iprop(BI.own (EH (initOf (K (F := F)).hsCells (K (F := F)).hsToks)) ∗ (bigSep Finset.univ fun d : Dev nD => copies₀ d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR := (own_pair_emb embR _ _) $$ HR
  icases HR with ⟨HR, -⟩
  ihave HR := (show BI.own (((Emb.inl : Emb UP (UP × Counters)).trans (embR : Emb (UP × Counters) (MT nD τ sig (HIx 1) (Elt F) ℕ UU ℕ)))
      (initOf (Pipeline.cells (stages (F := F)) cells_apart) (Pipeline.launchToks (stages (F := F)) cells_apart))) ⊢ _
    from Pipeline.fund_ghost (stages (F := F)) EP cells_apart) $$ HR
  imod HR
  imodintro
  isplitl [HH]; · iexact HH
  isplitl [HR]
  · unfold copies₀
    rw [bigSep_sep']
    iexact HR
  unfold P; dsimp only
  rw [show (bigSep Finset.univ fun _ : Thread nD τ => bigSep Finset.univ fun _ : Fin 1 => (iprop(emp) : sProp 𝕄)) = iprop(emp) from by
    rw [bigSep_congr fun _ _ => emp_all _, emp_all]]
  iempintro

/-! ## @main -/

/-- The buffers that the drawing of the noise does not name, at given contents. -/
def rest (d : Dev nD) (W : (b : Ref sig .tc) → Buf (Elt F) ((d.tc : Thread nD τ).loc b)) : sProp 𝕄 :=
  iprop((xLoc d ↦{fullShare} W main_arg0) ∗ (awLoc d ↦{fullShare} W main_arg1) ∗ (abLoc d ↦{fullShare} W main_arg2)
    ∗ (vLoc d ↦{fullShare} W main_arg3) ∗ (bLoc d ↦{fullShare} W main_v8) ∗ (wLoc d ↦{fullShare} W main_v9)
    ∗ (kLoc d ↦{fullShare} W main_v10_1) ∗ (sLoc d ↦{fullShare} W main_v10_0) ∗ (nLoc d ↦{fullShare} W main_v11)
    ∗ (pLoc d ↦{fullShare} W main_v12_0) ∗ (gLoc d ↦{fullShare} W main_v12_1) ∗ (cLoc d ↦{fullShare} W main_v13) ∗ lLoc d ↦{fullShare} W main_v14)

omit [FloatOps F] in
theorem unscoped_eq (d : Dev nD) (W : Valuation τ sig (Elt F)) :
    (unscopedBufs d (fun b => W (Proc.devRef .tc b)) : sProp 𝕄) = iprop(rest d (fun b => W (Proc.devRef .tc b)) ∗ held (T d) drawing W) := by
  rw [Pipeline.unscopedBufs_sdiff apart (fun b hb => Finset.mem_filter.2 ⟨Finset.mem_univ b, by revert b; decide⟩), Pipeline.unscopedBufsBut_held]
  unfold apart rest
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The drawn noise among the buffers of the drawing. -/
abbrev u' : DevRef τ sig := Proc.devRef .tc (main_v7 : Ref sig .tc)

omit [FloatOps F] in
theorem held_u (d : Dev nD) (W : Valuation τ sig (Elt F)) : (held (T d) drawing W : sProp 𝕄) ⊢ uLoc d ↦{fullShare} W u' := by
  have h : Drawn main_v7 := by decide
  rw [StableHlo.held_sub_split (T d) (Finset.singleton_subset_iff.2 h.mem) W]
  unfold held
  rw [bigSep_singleton]
  exact sep_elim_left

abbrev aw' : DevRef τ sig := Proc.devRef .tc (main_arg1 : Ref sig .tc)
abbrev ab' : DevRef τ sig := Proc.devRef .tc (main_arg2 : Ref sig .tc)
abbrev b' : DevRef τ sig := Proc.devRef .tc (main_v8 : Ref sig .tc)
abbrev w' : DevRef τ sig := Proc.devRef .tc (main_v9 : Ref sig .tc)
abbrev n' : DevRef τ sig := Proc.devRef .tc (main_v11 : Ref sig .tc)
abbrev c' : DevRef τ sig := Proc.devRef .tc (main_v13 : Ref sig .tc)
abbrev l' : DevRef τ sig := Proc.devRef .tc (main_v14 : Ref sig .tc)
abbrev opBias : HloOp τ sig (Elt F) := StableHlo.reshape main_arg2 main_v8 (rfl : (.f32 : EltTy) = .f32) shapeCasts_S1_S1x1
abbrev opWeights : HloOp τ sig (Elt F) := StableHlo.reshape main_arg1 main_v9 (rfl : (.f32 : EltTy) = .f32) shapeCasts_S32x1_S1x32
abbrev opNumbers : HloOp τ sig (Elt F) := StableHlo.nullary main_v11 (iotaInDim S8192 32 0)
abbrev opFlat : HloOp τ sig (Elt F) := StableHlo.reshape main_v13 main_v14 (rfl : (.f32 : EltTy) = .f32) shapeCasts_S128x1_S128

omit [FloatOps F] in
theorem held_n (d : Dev nD) (W : Valuation τ sig (Elt F)) : (held (T d) {n'} W : sProp 𝕄) = nLoc d ↦{fullShare} W n' := by
  unfold held
  rw [bigSep_singleton]

omit [FloatOps F] in
theorem held_cl (d : Dev nD) (W : Valuation τ sig (Elt F)) : (held (T d) {c', l'} W : sProp 𝕄) = iprop((cLoc d ↦{fullShare} W c') ∗ lLoc d ↦{fullShare} W l') := by
  unfold held
  rw [SparseCore.bigSep_insert' (by decide), bigSep_singleton]

omit [FloatOps F] in
theorem held_b (d : Dev nD) (W : Valuation τ sig (Elt F)) : (held (T d) {ab', b'} W : sProp 𝕄) = iprop((abLoc d ↦{fullShare} W ab') ∗ bLoc d ↦{fullShare} W b') := by
  unfold held
  rw [SparseCore.bigSep_insert' (by decide), bigSep_singleton]

omit [FloatOps F] in
theorem held_w (d : Dev nD) (W : Valuation τ sig (Elt F)) : (held (T d) {aw', w'} W : sProp 𝕄) = iprop((awLoc d ↦{fullShare} W aw') ∗ wLoc d ↦{fullShare} W w') := by
  unfold held
  rw [SparseCore.bigSep_insert' (by decide), bigSep_singleton]

omit [FloatOps F] in
theorem within_b : (opBias (F := F)).bufs ⊆ {ab', b'} := by
  rw [StableHlo.reshape_bufs]

omit [FloatOps F] in
theorem within_w : (opWeights (F := F)).bufs ⊆ {aw', w'} := by
  rw [StableHlo.reshape_bufs]

omit [FloatOps F] in
theorem within : (opNumbers (F := F)).bufs ⊆ {n'} := by
  rw [StableHlo.nullary_bufs]

omit [FloatOps F] in
theorem within' : (opFlat (F := F)).bufs ⊆ {c', l'} := by
  rw [StableHlo.reshape_bufs]

def V0 (d : Dev nD) : Valuation τ sig (Elt F) := fun b => m (d, b)

omit [FloatOps F] in
theorem bias_result (d : Dev nD) : (opBias (F := F)).result (V0 m d) b' = bOf m d := by
  rw [StableHlo.reshape_result]; rfl
omit [FloatOps F] in
theorem bias_kept (d : Dev nD) : (opBias (F := F)).result (V0 m d) ab' = m (abLoc d) := StableHlo.reshape_result_ne _ _ _ _ _ _ _ (by decide)
omit [FloatOps F] in
theorem weights_result (d : Dev nD) : (opWeights (F := F)).result (V0 m d) w' = wOf m d := by
  rw [StableHlo.reshape_result]; rfl
omit [FloatOps F] in
theorem weights_kept (d : Dev nD) : (opWeights (F := F)).result (V0 m d) aw' = m (awLoc d) := StableHlo.reshape_result_ne _ _ _ _ _ _ _ (by decide)

/-- The results of all rows, laid out as a row. -/
def flat (ps : S128x8192.Idx → F .f32) : S128.Idx → F .f32 := shapeCast S128 (sumsOf ps) shapeCasts_S128x1_S128

/-- The two arrays of results once the last kernel has run. -/
def V1 (d : Dev nD) (ps : S128x8192.Idx → F .f32) : Valuation τ sig (Elt F) := Function.update (V0 m d) c' (sumsOf ps)

theorem V1_c (d : Dev nD) (ps : S128x8192.Idx → F .f32) : V1 m d ps c' = sumsOf ps := Function.update_self ..
theorem V1_l (d : Dev nD) (ps : S128x8192.Idx → F .f32) : V1 m d ps l' = m (lLoc d) := Function.update_of_ne (by decide) ..

theorem flat_result (d : Dev nD) (ps : S128x8192.Idx → F .f32) : (opFlat (F := F)).result (V1 m d ps) l' = flat ps := by
  rw [StableHlo.reshape_result, V1_c]; rfl

theorem st_eq (d : Dev nD) : (bigSep Finset.univ fun c : Fin ((K (F := F)).nCore 0) => (P m).st 0 d c) = callIn m d := (callIn_eq m d).symm
theorem dn_eq (d : Dev nD) : (bigSep Finset.univ fun c : Fin ((K (F := F)).nCore 0) => (P m).dn 0 d c) = callOut m d := (callOut_eq m d).symm

/-- The cells the TensorCore may have waited on before the second kernel's call, and in it. -/
def low₀ (d : Dev nD) : Set (SemLoc sig × HIx 1) := {p | (K (F := F)).lev (T d, p.1) p.2 ≤ 8 * SparseCore.Cfg.Blocks.fst (Q := 1) (N := 1) 0}
def low (d : Dev nD) : Set (SemLoc sig × HIx 1) := {p | (K (F := F)).lev (T d, p.1) p.2 ≤ 8 * SparseCore.Cfg.Blocks.fst (Q := 1) (N := 1) 1}

omit [FloatOps F] in
theorem low_more₀ {d : Dev nD} {W' : Waits sig (HIx 1)} (h : ∀ p ∈ W', p ∈ low₀ (F := F) d ∪ cfg0.waitPairs none) :
    (K (F := F)).WBelow (T d) W' (8 * SparseCore.Cfg.Blocks.fst (Q := 1) (N := 1) 0) := by
  intro p hp
  rcases h p hp with h | ⟨w, s, rfl⟩
  · exact h
  exact Nat.zero_le _

omit [FloatOps F] in
theorem low_more {d : Dev nD} {W' : Waits sig (HIx 1)} (h : ∀ p ∈ W', p ∈ low (F := F) d ∪ cfg2.waitPairs none) :
    (K (F := F)).WBelow (T d) W' (8 * SparseCore.Cfg.Blocks.fst (Q := 1) (N := 1) 1) := by
  intro p hp
  rcases h p hp with h | ⟨w, s, rfl⟩
  · exact h
  exact Nat.zero_le _

omit [FloatOps F] in
/-- What the TensorCore owes before the second kernel's call it owes in that call alone. -/
theorem owes_none (d : Dev nD) (g : GSem nD τ sig) : (K (F := F)).Otc (N := 1) d 0 g none = 0 := by
  by_contra h
  exact absurd ((K (F := F)).lev_of_Otc_pos (Nat.pos_of_ne_zero h)) (Nat.not_succ_le_zero _)

/-- What the two kernels on the TensorCore find, the noise being `g`. -/
def given (g : S128x8192.Idx → F .f32) : Given F where
  X d := m (xLoc d)
  wt d := wOf m d
  b d := bOf m d
  g _ := g
  v d := m (vLoc d)
  os d := m (sLoc d)
  ok d := m (kLoc d)
  O d := (K (F := F)).Otc d 0
  W₀ d := low₀ (F := F) d
  ps d := scoresOf (keysOf m d) (valsOf m d)
  o d := m (cLoc d)
  W d := low (F := F) d

theorem may_wait (g : S128x8192.Idx → F .f32) (d : Dev nD) (s : SemLoc sig) :
    (levAts (K (F := F)).L (K (F := F)).lev : sProp 𝕄) ⊢ MayWait (d.tc : Thread nD τ) s none ((given m g).O d) :=
  (K (F := F)).mayWait_none s (owes_none d)

/-- What the first call starts from, and what it ends with. -/
def headIn (g : S128x8192.Idx → F .f32) (d : Dev nD) : sProp 𝕄 :=
  iprop(operands (given m g) d ∗ (sLoc d ↦{fullShare} m (sLoc d)) ∗ (kLoc d ↦{fullShare} m (kLoc d)) ∗ settled d ((K (F := F)).Otc d 0) (low₀ (F := F) d))
def headOut (g : S128x8192.Idx → F .f32) (d : Dev nD) : sProp 𝕄 :=
  iprop(operands (given m g) d ∗ (sLoc d ↦{fullShare} valsOf m d) ∗ (kLoc d ↦{fullShare} keysOf m d)
    ∗ settled d ((K (F := F)).Otc d 0) (low₀ (F := F) d ∪ cfg0.waitPairs none))
/-- The same of the last. -/
def lastIn (d : Dev nD) : sProp 𝕄 :=
  iprop((gLoc d ↦{fullShare} scoresOf (keysOf m d) (valsOf m d)) ∗ (cLoc d ↦{fullShare} m (cLoc d)) ∗ settled d 0 (low (F := F) d))
def lastOut (d : Dev nD) : sProp 𝕄 :=
  iprop((gLoc d ↦{fullShare} scoresOf (keysOf m d) (valsOf m d)) ∗ (cLoc d ↦{fullShare} sumsOf (scoresOf (keysOf m d) (valsOf m d)))
    ∗ settled d 0 (low (F := F) d ∪ cfg2.waitPairs none))

theorem head_in (g : S128x8192.Idx → F .f32) (d : Dev nD) : (headStep (U := UU) (given m g) (K (F := F)).L (K (F := F)).lev (may_wait m g)).pre d = headIn m g d := head_pre ..
theorem head_out (g : S128x8192.Idx → F .f32) (d : Dev nD) : (headStep (U := UU) (given m g) (K (F := F)).L (K (F := F)).lev (may_wait m g)).post d = headOut m g d := head_post ..
theorem last_in (g : S128x8192.Idx → F .f32) (d : Dev nD) : (scoringStep (U := UU) (given m g) (K (F := F)).L (K (F := F)).lev).pre d = lastIn m d := step_pre ..
theorem last_out (g : S128x8192.Idx → F .f32) (d : Dev nD) : (scoringStep (U := UU) (given m g) (K (F := F)).L (K (F := F)).lev).post d = lastOut m d := step_post ..

/-- The first kernel's call, -/
theorem head_call (g : S128x8192.Idx → F .f32) (d : Dev nD) (Q : PUnit → sProp 𝕄) (hQ : iprop(boundary (T d) ∗ headOut m g d) ⊢ Q ⟨⟩) :
    iprop(boundary (T d) ∗ headIn m g d ∗ levAts (K (F := F)).L (K (F := F)).lev ∗ copy₀ (F := F) 0 d)
      ⊢ wp frame (wpE (D (F := F)) 𝒱 (T d) none) Set.univ (.op (.customCall (Pipeline.entry 0) ()) fun _ => .ret ⟨⟩) Q := by
  unfold copy₀
  rw [← head_in m g]
  iintro ⟨Hb, Hpre, Hlv, Hc, Ht⟩
  rw [← head_out m g] at hQ
  iapply ((headStep (given m g) (K (F := F)).L (K (F := F)).lev (may_wait m g)).wp (pcfgs (F := F)) noTable (data (given m g)) none cells_apart EP defs₀ Variants.none
    (K (F := F)).L (K (F := F)).lev d none (fun _ h => absurd h (by simp)) (fun _ => .ret ⟨⟩) Q)
  isplitr
  · iintro H
    rw [wp_ret]; imodintro
    iapply hQ
    iexact H
  isplitl [Hb]; · iexact Hb
  isplitl [Hpre]; · iexact Hpre
  isplitl [Hlv]; · iexact Hlv
  isplitl [Hc] <;> iassumption

/-- the last one's, -/
theorem scoring_call (g : S128x8192.Idx → F .f32) (d : Dev nD) (Q : PUnit → sProp 𝕄) (hQ : iprop(boundary (T d) ∗ lastOut m d) ⊢ Q ⟨⟩) :
    iprop(boundary (T d) ∗ lastIn m d ∗ levAts (K (F := F)).L (K (F := F)).lev ∗ copy₀ (F := F) 1 d)
      ⊢ wp frame (wpE (D (F := F)) 𝒱 (T d) none) Set.univ (.op (.customCall (Pipeline.entry 1) ()) fun _ => .ret ⟨⟩) Q := by
  unfold copy₀
  rw [← last_in m g]
  iintro ⟨Hb, Hpre, Hlv, Hc, Ht⟩
  rw [← last_out m g] at hQ
  iapply ((scoringStep (given m g) (K (F := F)).L (K (F := F)).lev).wp (pcfgs (F := F)) noTable (data (given m g)) none cells_apart EP defs₀ Variants.none
    (K (F := F)).L (K (F := F)).lev d none (fun _ h => absurd h (by simp)) (fun _ => .ret ⟨⟩) Q)
  isplitr
  · iintro H
    rw [wp_ret]; imodintro
    iapply hQ
    iexact H
  isplitl [Hb]; · iexact Hb
  isplitl [Hpre]; · iexact Hpre
  isplitl [Hlv]; · iexact Hlv
  isplitl [Hc] <;> iassumption

omit [FloatOps F] in
theorem lift_call (p : Fin 2) : (Prog.lift (.customCall (SparseCore.inner (Pipeline.entry p)) ())
      : Prog (TpuEff nD τ sig (Elt F) (SparseCore.Sig (ΛP (F := F)) 1) .tc) PUnit)
    = SparseCore.liftProg (.op (.customCall (Pipeline.entry p) ()) fun _ => .ret ⟨⟩) := rfl

/-- and both as @main makes them. -/
theorem head_run_call (g : S128x8192.Idx → F .f32) (d : Dev nD) :
    iprop(boundary (T d) ∗ headIn m g d ∗ levAts (K (F := F)).L (K (F := F)).lev ∗ copy₀ (F := F) 0 d)
      ⊢ wp frame (wpE ((K (F := F)).defs (D (F := F))) 𝒱 (T d) none) Set.univ (Prog.lift (.customCall (SparseCore.inner (Pipeline.entry 0)) ()))
          fun _ => iprop(boundary (T d) ∗ headOut m g d) := by
  have h := head_call m g d (fun _ => iprop(boundary (T d) ∗ headOut m g d)) .rfl
  rw [lift_call]
  generalize (Prog.op (.customCall (Pipeline.entry 0) ()) fun _ => .ret ⟨⟩ : Prog (TpuEff nD τ sig (Elt F) (ΛP (F := F)) .tc) PUnit) = prog at h ⊢
  exact h.trans ((K (F := F)).wp_liftProg (D (F := F)) 𝒱 (T d) Set.univ none prog _)

theorem scoring_run (g : S128x8192.Idx → F .f32) (d : Dev nD) :
    iprop(boundary (T d) ∗ lastIn m d ∗ levAts (K (F := F)).L (K (F := F)).lev ∗ copy₀ (F := F) 1 d)
      ⊢ wp frame (wpE ((K (F := F)).defs (D (F := F))) 𝒱 (T d) none) Set.univ (Prog.lift (.customCall (SparseCore.inner (Pipeline.entry 1)) ()))
          fun _ => iprop(boundary (T d) ∗ lastOut m d) := by
  have h := scoring_call m g d (fun _ => iprop(boundary (T d) ∗ lastOut m d)) .rfl
  rw [lift_call]
  generalize (Prog.op (.customCall (Pipeline.entry 1) ()) fun _ => .ret ⟨⟩ : Prog (TpuEff nD τ sig (Elt F) (ΛP (F := F)) .tc) PUnit) = prog at h ⊢
  exact h.trans ((K (F := F)).wp_liftProg (D (F := F)) 𝒱 (T d) Set.univ none prog _)

/-- What else the TensorCore holds of its calls before the second kernel's. -/
def rest₀ (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

/-- What @main leaves: its arguments as they were, and its results. -/
def ends (d : Dev nD) : sProp 𝕄 :=
  iprop(callOut m d ∗ (lLoc d ↦{fullShare} flat (scoresOf (keysOf m d) (valsOf m d)))
    ∗ (xLoc d ↦{fullShare} m (xLoc d)) ∗ (awLoc d ↦{fullShare} m (awLoc d)) ∗ (abLoc d ↦{fullShare} m (abLoc d))
    ∗ vLoc d ↦{fullShare} m (vLoc d))

/-- @main from its drawing on. -/
theorem main_drawn (κ : GSem nD τ sig → ℕ) (d : Dev nD) (V : Valuation τ sig (Elt F)) :
    iprop(boundary (T d) ∗ held (T d) drawing V ∗ (K (F := F)).ctx EH (P m) κ ∗ (K (F := F)).tcSt EH d 0 ∗ rest d (fun b => m ((SparseCore.T d).loc b))
        ∗ (K (F := F)).tcSems0 d ∗ copies₀ d)
      ⊢ wp frame (wpE ((K (F := F)).defs (D (F := F))) 𝒱 (SparseCore.T d) none) Set.univ (main d)
          fun _ => iprop((K (F := F)).tcSt EH d 1 ∗ ends m d ∗ boundary (T d) ∗ (K (F := F)).tcSems0 d) := by
  unfold main
  revert V
  iterate 11
    with_reducible refine Within.seq ?_ ?_
    · first
        | with_reducible exact gumbel
        | with_reducible apply Within.binary; decide
        | with_reducible apply Within.unary; decide
        | with_reducible apply Within.nullary; decide
  intro V
  simp only [wp_bind, wp_pure]
  unfold rest
  beta_reduce
  iintro ⟨Hb, Hd, #Hctx, Hst, ⟨Hx, Haw, Hab, Hv, Hbi, Hw, Hk, Hs, Hn, Hp, Hg, Hc, Hl⟩, Hts, Hcp⟩
  ihave Hu := (held_u d V) $$ Hd
  ihave Hcp := (copies_split d) $$ Hcp
  icases Hcp with ⟨Hc0, Hc1⟩
  iapply (wp_hlo_within 𝒱 (SparseCore.T d) none Set.univ (op := opBias) (S := {ab', b'}) within_b (V := V0 m d)) $$ [Hb Hab Hbi]
  · isplitl [Hb]; · iexact Hb
    rw [held_b]
    isplitl [Hab]; · iexact Hab
    iexact Hbi
  iintro ⟨Hb, H⟩
  ihave H := (Entails.of_eq (held_b (F := F) d _)) $$ H
  rw [bias_result, bias_kept]
  icases H with ⟨Hab, Hbi⟩
  rw [wp_ret]; imodintro
  iapply (wp_hlo_within 𝒱 (SparseCore.T d) none Set.univ (op := opWeights) (S := {aw', w'}) within_w (V := V0 m d)) $$ [Hb Haw Hw]
  · isplitl [Hb]; · iexact Hb
    rw [held_w]
    isplitl [Haw]; · iexact Haw
    iexact Hw
  iintro ⟨Hb, H⟩
  ihave H := (Entails.of_eq (held_w (F := F) d _)) $$ H
  rw [weights_result, weights_kept]
  icases H with ⟨Haw, Hw⟩
  rw [wp_ret]; imodintro
  ihave Hlv := (SparseCore.Cfg.ctx_levAts κ) $$ Hctx
  ihave Hst := (show (K (F := F)).tcSt EH d 0 ⊢ iprop((∃ W, ⌜(K (F := F)).WBelow (T d) W (8 * SparseCore.Cfg.Blocks.fst (Q := 1) (N := 1) 0)⌝
    ∗ owes (T d) ((K (F := F)).Otc d 0) W) ∗ rest₀ d) from by unfold SparseCore.Cfg.tcSt rest₀; exact .rfl) $$ Hst
  icases Hst with ⟨⟨%W₀, %hW₀, HO⟩, Hat⟩
  iapply (wp_wand frame (wpE ((K (F := F)).defs (D (F := F))) 𝒱 (T d) none) Set.univ) $$ [Hb Hx Hw Hbi Hu Hv Hs Hk HO Hlv Hc0]
  · iapply (head_run_call m (V u') d)
    isplitl [Hb]; · iexact Hb
    isplitl [Hx Hw Hbi Hu Hv Hs Hk HO]
    · unfold headIn operands settled
      isplitl [Hx Hw Hbi Hu Hv]
      · isplitl [Hx]; · iexact Hx
        isplitl [Hw]; · iexact Hw
        isplitl [Hbi]; · iexact Hbi
        isplitl [Hu]; · iexact Hu
        iexact Hv
      isplitl [Hs]; · iexact Hs
      isplitl [Hk]; · iexact Hk
      iexists W₀
      isplitr; · ipureintro; exact hW₀
      iexact HO
    isplitl [Hlv]; · iexact Hlv
    iexact Hc0
  iintro %_ ⟨Hb, H⟩
  unfold headOut operands settled
  icases H with ⟨⟨Hx, -, -, -, Hv⟩, Hs, Hk, %W₁, %hW₁, HO⟩
  iapply (wp_hlo_within 𝒱 (SparseCore.T d) none Set.univ (op := opNumbers) (S := {n'}) within (V := V0 m d)) $$ [Hb Hn]
  · isplitl [Hb]; · iexact Hb
    rw [held_n]
    iexact Hn
  iintro ⟨Hb, Hn⟩
  ihave Hn := (Entails.of_eq (held_n (F := F) d _)) $$ Hn
  rw [StableHlo.nullary_result]
  rw [wp_ret]; imodintro
  ihave Hst := (show iprop((∃ W, ⌜(K (F := F)).WBelow (T d) W (8 * SparseCore.Cfg.Blocks.fst (Q := 1) (N := 1) 0)⌝
    ∗ owes (T d) ((K (F := F)).Otc d 0) W) ∗ rest₀ d) ⊢ (K (F := F)).tcSt EH d 0 from by unfold SparseCore.Cfg.tcSt rest₀; exact .rfl) $$ [HO Hat]
  · isplitl [HO]
    · iexists W₁
      isplitr; · ipureintro; exact low_more₀ hW₁
      iexact HO
    iexact Hat
  iapply ((K (F := F)).wp_run (D (F := F)) 𝒱 (EH := EH) (P := P m) κ d 0) $$ [Hst Hk Hs Hn Hp Hg Hc Hl Hb Hts Hc1 Hx Haw Hab Hv]
  isplitr; · iexact Hctx
  isplitl [Hst]; · iexact Hst
  isplitl [Hk Hs Hn Hp Hg]
  · rw [st_eq]
    unfold callIn hold outs
    isplitl [Hk Hs Hn]
    · isplitl [Hk]; · iexact Hk
      isplitl [Hs]; · iexact Hs
      iexact Hn
    isplitl [Hp]; · iexact Hp
    iexact Hg
  iintro ⟨Hst, Hdn⟩
  ihave Hdn := (Entails.of_eq (dn_eq m d)) $$ Hdn
  unfold callOut hold outs
  icases Hdn with ⟨Hin, Hp, Hg⟩
  unfold SparseCore.Cfg.tcSt
  rw [show (K (F := F)).Otc d ((0 : Fin 1).val + 1) = 0 from (K (F := F)).Otc_end d le_rfl, show (K (F := F)).Otc d 1 = 0 from (K (F := F)).Otc_end d le_rfl]
  icases Hst with ⟨⟨%W, %hW, HO⟩, Hat⟩
  ihave Hlv := (SparseCore.Cfg.ctx_levAts κ) $$ Hctx
  iapply (wp_wand frame (wpE ((K (F := F)).defs (D (F := F))) 𝒱 (T d) none) Set.univ) $$ [Hb Hg Hc HO Hlv Hc1]
  · iapply (scoring_run m (V u') d)
    isplitl [Hb]; · iexact Hb
    isplitl [Hg Hc HO]
    · unfold lastIn settled
      isplitl [Hg]; · iexact Hg
      isplitl [Hc]; · iexact Hc
      iexists W
      isplitr; · ipureintro; exact hW
      iexact HO
    isplitl [Hlv]; · iexact Hlv
    iexact Hc1
  iintro %_ ⟨Hb, H⟩
  unfold lastOut settled
  icases H with ⟨Hg, Hc, %W', %hW', HO⟩
  iapply (wp_hlo_within 𝒱 (SparseCore.T d) none Set.univ (op := opFlat) (S := {c', l'}) within' (V := V1 m d (scoresOf (keysOf m d) (valsOf m d)))) $$ [Hb Hc Hl]
  · isplitl [Hb]; · iexact Hb
    rw [held_cl, V1_c, V1_l]
    isplitl [Hc] <;> iassumption
  iintro ⟨Hb, Hcl⟩
  ihave Hcl := (Entails.of_eq (held_cl (F := F) d _)) $$ Hcl
  rw [flat_result]
  icases Hcl with ⟨-, Hl⟩
  rw [wp_ret]; imodintro; imodintro
  isplitl [HO Hat]
  · isplitl [HO]
    · iexists W'
      isplitr; · ipureintro; exact low_more hW'
      iexact HO
    iexact Hat
  isplitl [Hin Hp Hg Hl Hx Haw Hab Hv]
  · unfold ends callOut hold outs
    isplitl [Hin Hp Hg]
    · isplitl [Hin]; · iexact Hin
      isplitl [Hp] <;> iassumption
    isplitl [Hl]; · iexact Hl
    isplitl [Hx]; · iexact Hx
    isplitl [Haw]; · iexact Haw
    isplitl [Hab]; · iexact Hab
    iexact Hv
  isplitl [Hb] <;> iassumption

theorem main_run (κ : GSem nD τ sig → ℕ) (d : Dev nD) :
    iprop((K (F := F)).ctx EH (P m) κ ∗ (K (F := F)).tcSt EH d 0 ∗ (K (F := F)).tcRes m ρ d ∗ copies₀ d)
      ⊢ wp frame (wpE ((K (F := F)).defs (D (F := F))) 𝒱 (SparseCore.T d) none) Set.univ (main d)
          fun _ => iprop((K (F := F)).tcSt EH d 1 ∗ ends m d ∗ (K (F := F)).tcEnd d) := by
  unfold SparseCore.Cfg.tcRes SparseCore.Cfg.tcEnd
  have e : (unscopedBufs d fun b => m ((SparseCore.T d).loc b) : sProp 𝕄) = iprop(rest d (fun b => m ((SparseCore.T d).loc b)) ∗ held (T d) drawing (V0 m d)) :=
    unscoped_eq d (V0 m d)
  have h := main_drawn m κ d (V0 m d)
  generalize main (F := F) d = prog at h ⊢
  rw [e]
  iintro ⟨#Hctx, Hst, ⟨Hb, ⟨Hr, Hd⟩, Hts, -⟩, Hcp⟩
  iapply h
  isplitl [Hb]; · iexact Hb
  isplitl [Hd]; · iexact Hd
  isplitr; · iexact Hctx
  isplitl [Hst]; · iexact Hst
  isplitl [Hr]; · iexact Hr
  isplitl [Hts] <;> iassumption

/-- What a final memory holds: the results, and the arguments as they were. -/
def fq (d : Dev nD) (s' : Phys nD τ sig (Elt F)) : Prop :=
  s'.mem.mem (pLoc d) = permOf (keysOf m d) ∧ s'.mem.mem (lLoc d) = flat (scoresOf (keysOf m d) (valsOf m d))
    ∧ s'.mem.mem (xLoc d) = m (xLoc d) ∧ s'.mem.mem (awLoc d) = m (awLoc d) ∧ s'.mem.mem (abLoc d) = m (abLoc d)
    ∧ s'.mem.mem (vLoc d) = m (vLoc d)

omit [FloatOps F] in
theorem agree {s' : Phys nD τ sig (Elt F)} (ℓ : Loc nD τ sig) (f : Buf (Elt F) ℓ) :
    iprop((ℓ ↦{fullShare} f : sProp 𝕄) ∗ SI s') ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem final (d : Dev nD) (s' : Phys nD τ sig (Elt F)) : iprop(ends m d ∗ SI s') ⊢ (⌜fq m d s'⌝ : sProp 𝕄) := by
  unfold ends callOut hold outs
  iintro ⟨⟨⟨-, Hp, -⟩, Hl, Hx, Haw, Hab, Hv⟩, HSI⟩
  ihave H := (agree (pLoc d) _) $$ [Hp HSI]
  · isplitl [Hp] <;> iassumption
  icases H with ⟨%hp, HSI⟩
  ihave H := (agree (lLoc d) _) $$ [Hl HSI]
  · isplitl [Hl] <;> iassumption
  icases H with ⟨%hl, HSI⟩
  ihave H := (agree (xLoc d) _) $$ [Hx HSI]
  · isplitl [Hx] <;> iassumption
  icases H with ⟨%hx, HSI⟩
  ihave H := (agree (awLoc d) _) $$ [Haw HSI]
  · isplitl [Haw] <;> iassumption
  icases H with ⟨%haw, HSI⟩
  ihave H := (agree (abLoc d) _) $$ [Hab HSI]
  · isplitl [Hab] <;> iassumption
  icases H with ⟨%hab, HSI⟩
  ihave H := (agree (vLoc d) _) $$ [Hv HSI]
  · isplitl [Hv] <;> iassumption
  icases H with ⟨%hv, -⟩
  ipureintro
  exact ⟨hp, hl, hx, haw, hab, hv⟩

/-! ## The run -/

/-- Every run of the program ends with the permutation and one number of every row of gathered scores, its
    arguments as they were, and every semaphore at zero. -/
theorem run_main [∀ e, Nonempty (Elt F e)] :
    θ_run (Cert.KernelIdeal.defs (F := F)) (Cert.KernelIdeal.threads (F := F)) ⟨m, fun _ => 0, ρ⟩ (fun r =>
      (∀ d : Dev nD, r.2.mem (pLoc d) = permOf (keysOf m d) ∧ r.2.mem (lLoc d) = flat (scoresOf (keysOf m d) (valsOf m d))
        ∧ r.2.mem (xLoc d) = m (xLoc d) ∧ r.2.mem (awLoc d) = m (awLoc d) ∧ r.2.mem (abLoc d) = m (abLoc d)
        ∧ r.2.mem (vLoc d) = m (vLoc d)) ∧ r.2.sem = fun _ => 0) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts)
    (fun q _ => match q with | 0 => SparseCore.Cfg.VecSplit.of_plain (vecSplit m))
    m ρ main copies₀ (ends m) (u₀ (F := F)) (sep_elim_left.trans (start_own m)) (main_run m ρ) (fq m) (final m) _ (fun _ h hz => ⟨h, hz⟩)

end Cert.KernelIdeal.Body
-- ==== Proof.Tails.lean ====
/-
  Sums of the last entries of a row of extended reals: how doubling builds them, and what their logarithms are when the row's
  exponentials are taken relative to its greatest entry.
-/
module

public import Idealize.ShloMosaic.PureOps.Ideal
public import Mathlib.Analysis.SpecialFunctions.Log.Basic
public import Mathlib.Algebra.BigOperators.Intervals

@[expose] public section

noncomputable section

namespace Cert.Tails

open Idealize.ShloMosaic
open scoped BigOperators

/-! ## Sums of consecutive entries -/

/-- The first 8192 entries of `e`, then zeros. -/
def upTo (e : ℕ → EReal) : ℕ → EReal := fun j => if j < 8192 then e j else 0

/-- The `n` entries of a row from the `j`th on, added up. -/
def stretch (e : ℕ → EReal) (n j : ℕ) : EReal := ∑ i ∈ Finset.range n, upTo e (j + i)

/-- All entries of a row from the `j`th on, added up. -/
abbrev tail (e : ℕ → EReal) (j : ℕ) : EReal := stretch e 8192 j

theorem stretch_one (e : ℕ → EReal) {j : ℕ} (h : j < 8192) : stretch e 1 j = e j := by
  unfold stretch upTo
  rw [Finset.sum_range_one, Nat.add_zero, if_pos h]

/-- Twice as many entries are the first half and the second. -/
theorem stretch_double (e : ℕ → EReal) (n j : ℕ) : stretch e (n + n) j = stretch e n j + stretch e n (j + n) := by
  unfold stretch
  rw [Finset.sum_range_add]
  exact congrArg _ (Finset.sum_congr rfl fun i _ => by rw [Nat.add_assoc])

/-- Past the row's end there is nothing. -/
theorem stretch_past (e : ℕ → EReal) (n : ℕ) {j : ℕ} (h : 8192 ≤ j) : stretch e n j = 0 :=
  Finset.sum_eq_zero fun i _ => if_neg (by omega)

theorem tail_congr {e e' : ℕ → EReal} (h : ∀ j < 8192, e j = e' j) (j : ℕ) : tail e j = tail e' j :=
  Finset.sum_congr rfl fun i _ => by
    unfold upTo
    by_cases hi : j + i < 8192
    · rw [if_pos hi, if_pos hi, h _ hi]
    · rw [if_neg hi, if_neg hi]

/-- A tail, its entries met from the last to the first. -/
theorem tail_backwards (e : ℕ → EReal) (j : ℕ) :
    ∑ k ∈ Finset.range 8192, (if j ≤ k then e (8191 - (k - j)) else 0) = tail e j := by
  unfold tail stretch
  rw [← Finset.sum_range_reflect]
  refine Finset.sum_congr rfl fun i hi => ?_
  have hi' := Finset.mem_range.1 hi
  unfold upTo
  by_cases h : j + i < 8192
  · rw [if_pos h, if_pos (by omega)]
    exact congrArg e (by omega)
  · rw [if_neg h, if_neg (by omega)]

/-! ## Logarithms of tails of exponentials -/

/-- The exponential of an extended real below infinity, as a real number. -/
def ex (x : EReal) : ℝ := (Ideal.exp x).toReal

theorem ex_nonneg {x : EReal} (h : x < ⊤) : 0 ≤ ex x := by
  induction x with
  | bot => exact le_of_eq rfl
  | coe r => exact (Real.exp_pos r).le
  | top => exact absurd h (lt_irrefl _)

theorem exp_eq {x : EReal} (h : x < ⊤) : Ideal.exp x = (ex x : EReal) := by
  induction x with
  | bot => rfl
  | coe r => rfl
  | top => exact absurd h (lt_irrefl _)

theorem exp_sub {x : EReal} (h : x < ⊤) (μ : ℝ) : Ideal.exp (x - μ) = ((ex x * Real.exp (-μ) : ℝ) : EReal) := by
  induction x with
  | bot => rw [EReal.bot_sub]; show (0 : EReal) = ((0 * Real.exp (-μ) : ℝ) : EReal); rw [zero_mul, EReal.coe_zero]
  | coe r =>
    rw [← EReal.coe_sub]
    show ((Real.exp (r - μ) : ℝ) : EReal) = ((Real.exp r * Real.exp (-μ) : ℝ) : EReal)
    rw [← Real.exp_add, sub_eq_add_neg]
  | top => exact absurd h (lt_irrefl _)

/-- A sum of real numbers is one among the extended reals. -/
theorem sum_coe (f : ℕ → ℝ) (n : ℕ) : ∑ i ∈ Finset.range n, (f i : EReal) = ((∑ i ∈ Finset.range n, f i : ℝ) : EReal) := by
  induction n with
  | zero => rfl
  | succ n ih => rw [Finset.sum_range_succ, Finset.sum_range_succ, ih, EReal.coe_add]

/-- A tail's real sum. -/
def realTail (a : ℕ → EReal) (j : ℕ) : ℝ := ∑ i ∈ Finset.range 8192, if j + i < 8192 then ex (a (j + i)) else 0

theorem realTail_nonneg {a : ℕ → EReal} (ha : ∀ j, a j < ⊤) (j : ℕ) : 0 ≤ realTail a j :=
  Finset.sum_nonneg fun i _ => by
    by_cases h : j + i < 8192
    · rw [if_pos h]; exact ex_nonneg (ha _)
    · rw [if_neg h]

theorem tail_exp {a : ℕ → EReal} (ha : ∀ j, a j < ⊤) (j : ℕ) : tail (fun i => Ideal.exp (a i)) j = (realTail a j : EReal) := by
  unfold tail stretch realTail upTo
  rw [← sum_coe]
  refine Finset.sum_congr rfl fun i _ => ?_
  by_cases h : j + i < 8192
  · rw [if_pos h, if_pos h]; exact exp_eq (ha _)
  · rw [if_neg h, if_neg h, EReal.coe_zero]

theorem tail_exp_sub {a : ℕ → EReal} (ha : ∀ j, a j < ⊤) (μ : ℝ) (j : ℕ) :
    tail (fun i => Ideal.exp (a i - μ)) j = ((realTail a j * Real.exp (-μ) : ℝ) : EReal) := by
  unfold tail stretch realTail upTo
  rw [Finset.sum_mul, ← sum_coe]
  refine Finset.sum_congr rfl fun i _ => ?_
  by_cases h : j + i < 8192
  · rw [if_pos h, if_pos h]; exact exp_sub (ha _) μ
  · rw [if_neg h, if_neg h, zero_mul, EReal.coe_zero]

/-- The logarithm of a positive real number, and of zero. -/
theorem log_pos {r : ℝ} (h : 0 < r) : Ideal.log (r : EReal) = (Real.log r : EReal) := if_neg (not_le.2 h)
theorem log_zero : Ideal.log ((0 : ℝ) : EReal) = ⊥ := if_pos le_rfl

/-- Taken relative to a finite number and moved back, the logarithm of a tail of exponentials is the same. -/
theorem log_tail {a : ℕ → EReal} (ha : ∀ j, a j < ⊤) (μ : ℝ) (j : ℕ) :
    (μ : EReal) + Ideal.log (tail (fun i => Ideal.exp (a i - μ)) j) = Ideal.log (tail (fun i => Ideal.exp (a i)) j) := by
  rw [tail_exp ha, tail_exp_sub ha]
  rcases (realTail_nonneg ha j).eq_or_lt with h | h
  · rw [← h, zero_mul, log_zero, EReal.add_bot]
  · rw [log_pos h, log_pos (mul_pos h (Real.exp_pos _)), Real.log_mul h.ne' (Real.exp_pos _).ne', Real.log_exp, ← EReal.coe_add]
    exact congrArg _ (by ring)

/-- An entry less the logarithm of its tail of exponentials is one number whether or not the exponentials are taken relative to a
bound of the row below infinity. -/
theorem entry_less_log {a : ℕ → EReal} (ha : ∀ j, a j < ⊤) {μ : EReal} (hμ : μ < ⊤) {j : ℕ} (hj : a j ≤ μ) :
    a j - (μ + Ideal.log (tail (fun i => Ideal.exp (a i - μ)) j)) = a j - Ideal.log (tail (fun i => Ideal.exp (a i)) j) := by
  induction μ with
  | bot => rw [le_bot_iff.1 hj, EReal.bot_sub, EReal.bot_sub]
  | coe r => rw [log_tail ha]
  | top => exact absurd hμ (lt_irrefl _)

/-- The sum over a row's columns of the entry less the logarithm of its tail of exponentials. -/
def rowSum (a : ℕ → EReal) : EReal := ∑ k : Fin 8192, (a k.val - Ideal.log (tail (fun i => Ideal.exp (a i)) k.val))

end Cert.Tails

end
-- ==== Proof.Sums.lean ====
/-
  What the second kernel makes of its rows, over the extended reals: thirteen doublings turn a row's exponentials into the sums of its
  tails, so that its number is the sum over its columns of the entry less the logarithm of its tail.
-/
module

public import proofs.«01_k».proof.Proof.Score
public import proofs.«01_k».proof.Proof.Tails
public import Idealize.ShloMosaic.Lib.KernelVsHost
public import Idealize.ShloMosaic.Lib.WordCmp
public import Idealize.ShloMosaic.PureOps.Ideal.Laws

@[expose] public section

noncomputable section

namespace Cert.KernelIdeal.Body

open Idealize.ShloMosaic
open Cert.KernelIdeal Facts₀ Facts
open Cert.Tails
open scoped BigOperators

/-! ## One doubling -/

/-- The place of a block's row and column. -/
def atB (r : Fin 16) (j : ℕ) : S16x8192.Idx := fun | 0 => r | 1 => ⟨j % 8192, Nat.mod_lt _ (by decide)⟩

theorem atB_one (r : Fin 16) {j : ℕ} (h : j < 8192) : (atB r j 1).val = j := Nat.mod_eq_of_lt h

/-- A block with, added to each entry, the entry `8192 - c` columns on, where there is one. -/
def doubled {F : FTy → Type} [FloatOps F] (c : BitVec 32) (v : Vec F S16x8192 .f32) : Vec F S16x8192 .f32 :=
  addf v (select (cmpi .slt lanes (broadcast S16x8192 c)) (dynamicRotate 1 c none v rotates_S16x8192_d1) (broadcast S16x8192 (Scalar.ofBits .f32 0x00000000#32)))

theorem lanes_at (r : Fin 16) {j : ℕ} (h : j < 8192) : lanes (atB r j) = BitVec.ofNat 32 j :=
  (iota_single_apply ..).trans (congrArg _ (atB_one r h))

theorem small_toInt {n : ℕ} (h : n ≤ 8192) : (BitVec.ofNat 32 n).toInt = n := by
  rw [BitVec.toInt_eq_toNat_cond, BitVec.toNat_ofNat, Nat.mod_eq_of_lt (by omega), if_pos (by omega)]

theorem before_iff (r : Fin 16) {j c : ℕ} (h : j < 8192) (hc : c ≤ 8192) :
    cmpi .slt lanes (broadcast S16x8192 (BitVec.ofNat 32 c)) (atB r j) = 1#1 ↔ j < c := by
  show IntOp.cmpi .slt (lanes (atB r j)) (BitVec.ofNat 32 c) = 1#1 ↔ j < c
  rw [lanes_at r h]
  refine (WordCmp.ofBool_decide_eq_one_iff _).trans ?_
  rw [small_toInt (Nat.le_of_lt h), small_toInt hc]
  omega

/-- A rotation by all but `n` columns reads the column `n` further on. -/
theorem rotated_at {α : Type} (v : S16x8192.Idx → α) (r : Fin 16) {j n : ℕ} (h : j + n < 8192) (hn : 0 < n) :
    dynamicRotate 1 (BitVec.ofNat 32 (8192 - n)) none v rotates_S16x8192_d1 (atB r j) = v (atB r (j + n)) := by
  refine dynamicRotate_apply 1 _ v _ (atB r j) (atB r (j + n)) fun b => ?_
  match b with
  | ⟨0, _⟩ => rfl
  | ⟨1, _⟩ =>
    show (j + n) % 8192 = (j % 8192 + 8192 - (BitVec.ofNat 32 (8192 - n)).toNat % 8192) % 8192
    rw [BitVec.toNat_ofNat]
    omega

/-- Where a block holds the sums of `n` entries, doubling gives those of twice as many. -/
theorem doubled_at (e : Fin 16 → ℕ → EReal) (v : Vec Ideal S16x8192 .f32) {n : ℕ} (hn : 0 < n) (hn' : n < 8192)
    (hv : ∀ (r : Fin 16) (j : ℕ), j < 8192 → v (atB r j) = stretch (e r) n j) (r : Fin 16) (j : ℕ) (h : j < 8192) :
    doubled (F := Ideal) (BitVec.ofNat 32 (8192 - n)) v (atB r j) = stretch (e r) (n + n) j := by
  rw [stretch_double, ← hv r j h]
  refine congrArg (v (atB r j) + ·) ?_
  by_cases hj : j < 8192 - n
  · refine (if_pos ((before_iff r h (by omega)).2 hj)).trans ?_
    rw [rotated_at v r (by omega) hn, hv r (j + n) (by omega)]
  · refine (if_neg fun q => hj ((before_iff r h (by omega)).1 q)).trans ?_
    rw [stretch_past _ _ (by omega)]
    exact Ideal.ofBits_zero_f32

/-! ## A block -/

/-- A row's exponentials relative to its greatest entry, as the block holds them. -/
def exps {F : FTy → Type} [FloatOps F] (x : Vec F S16x8192 .f32) : Vec F S16x8192 .f32 :=
  exp (subf (Gen.k2_pay2 x) (broadcastTo S16x8192 (Gen.k2_pay3 x) broadcasts_S16x1_S16x8192))

/-- All thirteen doublings. -/
def summed {F : FTy → Type} [FloatOps F] (v : Vec F S16x8192 .f32) : Vec F S16x8192 .f32 :=
  doubled 4096#32 (doubled 6144#32 (doubled 7168#32 (doubled 7680#32 (doubled 7936#32 (doubled 8064#32 (doubled 8128#32
    (doubled 8160#32 (doubled 8176#32 (doubled 8184#32 (doubled 8188#32 (doubled 8190#32 (doubled 8191#32 v))))))))))))

theorem rowsOut_eq {F : FTy → Type} [FloatOps F] (x : Vec F S16x8192 .f32) :
    rowsOut x = shapeCast S16x1 (multiReduction .add [1] S16 (subf (Gen.k2_pay2 x) (addf (broadcastTo S16x8192 (Gen.k2_pay3 x) broadcasts_S16x1_S16x8192)
      (log (summed (exps x))))) 0x00000000#32 reduces_S16x8192_S16 (.inl rfl) rfl) shapeCasts_S16_S16x1 := rfl

/-- After all thirteen, each entry has become its tail's sum. -/
theorem summed_at (e : Fin 16 → ℕ → EReal) (v : Vec Ideal S16x8192 .f32)
    (hv : ∀ (r : Fin 16) (j : ℕ), j < 8192 → v (atB r j) = e r j) (r : Fin 16) (j : ℕ) (h : j < 8192) :
    summed (F := Ideal) v (atB r j) = tail (e r) j := by
  have h1 := doubled_at e v (n := 1) (by decide) (by decide) fun r j h => (hv r j h).trans (stretch_one _ h).symm
  have h2 := doubled_at e _ (n := 2) (by decide) (by decide) h1
  have h3 := doubled_at e _ (n := 4) (by decide) (by decide) h2
  have h4 := doubled_at e _ (n := 8) (by decide) (by decide) h3
  have h5 := doubled_at e _ (n := 16) (by decide) (by decide) h4
  have h6 := doubled_at e _ (n := 32) (by decide) (by decide) h5
  have h7 := doubled_at e _ (n := 64) (by decide) (by decide) h6
  have h8 := doubled_at e _ (n := 128) (by decide) (by decide) h7
  have h9 := doubled_at e _ (n := 256) (by decide) (by decide) h8
  have h10 := doubled_at e _ (n := 512) (by decide) (by decide) h9
  have h11 := doubled_at e _ (n := 1024) (by decide) (by decide) h10
  have h12 := doubled_at e _ (n := 2048) (by decide) (by decide) h11
  exact doubled_at e _ (n := 4096) (by decide) (by decide) h12 r j h

/-! ## Its numbers -/

/-- A row of a block. -/
def rowB (x : Vec Ideal S16x8192 .f32) (r : Fin 16) : ℕ → EReal := fun j => x (atB r j)

/-- The place of a row's number among a block's. -/
def atN (r : Fin 16) : S16.Idx := fun | 0 => r

theorem kept_at (r : Fin 16) (k : Fin 8192) : reduces_S16x8192_S16.lift (atN r) k = atB r k.val := by
  funext a
  match a with
  | ⟨0, _⟩ => exact Fin.ext rfl
  | ⟨1, _⟩ => exact Fin.ext (atB_one r k.isLt).symm

theorem column_at {α : Type} (v : S16.Idx → α) (y : S16x1.Idx) : shapeCast S16x1 v shapeCasts_S16_S16x1 y = v (atN (y 0)) :=
  shapeCast_apply v _ y (atN (y 0)) (by
    rw [Shape.rowMajor_val_one, Shape.rowMajor_val_two]
    have hy1 : (y 1).val < 1 := (y 1).isLt
    show (y 0).val = (y 0).val * 1 + (y 1).val
    omega)

theorem spread_at {α : Type} (v : S16x1.Idx → α) (r : Fin 16) (j : ℕ) :
    broadcastTo S16x8192 v broadcasts_S16x1_S16x8192 (atB r j) = v (fun | 0 => r | 1 => ⟨0, Nat.one_pos⟩) :=
  broadcastTo_apply v _ (atB r j) _ fun a => by
    match a with
    | ⟨0, _⟩ => rfl
    | ⟨1, _⟩ => rfl

/-- A row's greatest entry. -/
def greatest (x : Vec Ideal S16x8192 .f32) (r : Fin 16) : EReal := (Finset.univ : Finset (Fin 8192)).fold max ⊥ fun k => rowB x r k.val

theorem low_bits : FloatOps.ofBits (F := Ideal) .f32 0xFF800000#32 = ⊥ := by simp [Ideal.ofBits, Ideal.ieee]

theorem same_block {F : FTy → Type} [FloatOps F] (x : Vec F S16x8192 .f32) : Gen.k2_pay2 x = x := shapeCast_self _ _

theorem greatest_at (x : Vec Ideal S16x8192 .f32) (r : Fin 16) (j : ℕ) :
    broadcastTo S16x8192 (Gen.k2_pay3 (F := Ideal) x) broadcasts_S16x1_S16x8192 (atB r j) = greatest x r := by
  rw [spread_at]
  unfold Gen.k2_pay3
  rw [same_block]
  refine (column_at _ _).trans ((Ideal.multiReduction_maximumf_single x _ _ _ _ _).trans ?_)
  rw [low_bits]
  exact congrArg ((Finset.univ : Finset (Fin 8192)).fold max ⊥) (funext fun k => congrArg x (kept_at r k))

theorem greatest_lt {x : Vec Ideal S16x8192 .f32} (hx : ∀ y, x y < (⊤ : EReal)) (r : Fin 16) : greatest x r < ⊤ :=
  (Finset.fold_max_lt _).2 ⟨bot_lt_top, fun _ _ => hx _⟩

theorem le_greatest (x : Vec Ideal S16x8192 .f32) (r : Fin 16) {j : ℕ} (h : j < 8192) : rowB x r j ≤ greatest x r :=
  (Finset.le_fold_max _).2 (Or.inr ⟨⟨j, h⟩, Finset.mem_univ _, le_rfl⟩)

theorem exps_at (x : Vec Ideal S16x8192 .f32) (r : Fin 16) (j : ℕ) : exps (F := Ideal) x (atB r j) = Ideal.exp (rowB x r j - greatest x r) := by
  unfold exps
  rw [same_block]
  exact congrArg (fun z => Ideal.exp (rowB x r j - z)) (greatest_at x r j)

theorem rowsOut_at {x : Vec Ideal S16x8192 .f32} (hx : ∀ y, x y < (⊤ : EReal)) (y : S16x1.Idx) :
    rowsOut (F := Ideal) x y = rowSum (rowB x (y 0)) := by
  rw [rowsOut_eq, column_at, same_block]
  refine (Ideal.multiReduction_add_single _ _ _ _ _ _).trans (Finset.sum_congr rfl fun k _ => ?_)
  refine (congrArg (subf x (addf (broadcastTo S16x8192 (Gen.k2_pay3 x) broadcasts_S16x1_S16x8192) (log (summed (exps x))))) (kept_at (y 0) k)).trans ?_
  refine Eq.trans ?_ (entry_less_log (a := rowB x (y 0)) (fun _ => hx _) (greatest_lt hx (y 0)) (le_greatest x (y 0) k.isLt))
  refine congrArg₂ (fun g t => rowB x (y 0) k.val - (g + Ideal.log t)) (greatest_at x (y 0) k.val) ?_
  exact summed_at (fun r i => Ideal.exp (rowB x r i - greatest x r)) _ (fun r j _ => exps_at x r j) (y 0) k.val k.isLt

/-! ## All blocks -/

/-- The numbers of all 128 rows. -/
theorem sumsOf_at {ps : S128x8192.Idx → Ideal .f32} (hp : ∀ x, ps x < (⊤ : EReal)) (i : S128x1.Idx) :
    sumsOf (F := Ideal) ps i = rowSum fun j => ps (at2 (i 0).val j) := by
  have hi : (i 0).val < 128 := (i 0).isLt
  unfold sumsOf
  rw [rowsOut_at fun _ => hp _]
  refine congrArg rowSum (funext fun j => congrArg ps (funext fun a => Fin.ext ?_))
  match a with
  | ⟨0, _⟩ => show (16 * ((i 0).val / 16) + (i 0).val % 16) % 128 = (i 0).val % 128; omega
  | ⟨1, _⟩ => exact Nat.mod_mod _ _

end Cert.KernelIdeal.Body

end
-- ==== Proof.Places.lean ====
/-
  Words and keys. A float's word, read as a signed number where it is not negative and else by the places of its other bits downwards,
  has a place in the order of the floats. The key of a word is the greatest place less the word's place: a greater place has a lesser key.
-/
module

public import proofs.«01_k».proof.Proof.Head
public import Idealize.ShloMosaic.Lib.WordCmp

@[expose] public section

namespace Cert.KernelIdeal.Body

open Idealize.ShloMosaic Cert.KernelIdeal

/-- The place of a word. -/
def placeOf (a : BitVec 32) : BitVec 32 := Scalar.select (IntOp.cmpi .slt a 0#32) (IntOp.subi 4294967295#32 (IntOp.andi a 2147483647#32)) a

/-- The key of a word. -/
def wordKey (a : BitVec 32) : BitVec 32 := a ^^^ (a.sshiftRight 31 ||| 0x80000000#32) ^^^ 0xFFFFFFFF#32

theorem top_bit (i : ℕ) (hi : i < 32) : (0x80000000#32).getLsbD i = decide (i = 31) := by
  have h : ∀ i : Fin 32, (0x80000000#32).getLsbD i.val = decide (i.val = 31) := by decide
  exact h ⟨i, hi⟩

/-- Setting the top bit of a word without it adds to its number. -/
theorem flip_low (a : BitVec 32) (h : a.toNat < 2 ^ 31) : (a ^^^ 0x80000000#32).toNat = 2 ^ 31 + a.toNat := by
  have e : a ^^^ 0x80000000#32 = 0x80000000#32 ||| a := by
    refine BitVec.eq_of_getLsbD_eq fun i hi => ?_
    rw [BitVec.getLsbD_xor, BitVec.getLsbD_or, top_bit i hi]
    by_cases h31 : i = 31
    · subst h31
      have : a.getLsbD 31 = false := by rw [← BitVec.testBit_toNat]; exact Nat.testBit_lt_two_pow h
      rw [this]; rfl
    · rw [decide_eq_false h31, Bool.xor_false, Bool.false_or]
  rw [e, BitVec.toNat_or]
  have := Nat.two_pow_add_eq_or_of_lt h 1
  rw [Nat.mul_one] at this
  exact this.symm

theorem key_low (a : BitVec 32) (h : a.toNat < 2 ^ 31) : (wordKey a).toNat = 2 ^ 31 - 1 - a.toNat := by
  have hm : a.msb = false := by rw [BitVec.msb_eq_false_iff_two_mul_lt]; omega
  have hs : a.sshiftRight 31 = 0#32 := by
    rw [BitVec.sshiftRight_eq_of_msb_false hm]
    refine BitVec.eq_of_toNat_eq ?_
    rw [BitVec.toNat_ushiftRight, Nat.shiftRight_eq_div_pow]
    exact Nat.div_eq_of_lt h
  unfold wordKey
  rw [hs, BitVec.zero_or, show (0xFFFFFFFF#32 : BitVec 32) = BitVec.allOnes 32 by decide, BitVec.xor_allOnes, BitVec.toNat_not, flip_low a h]
  omega

theorem key_high (a : BitVec 32) (h : 2 ^ 31 ≤ a.toNat) : wordKey a = a := by
  have hm : a.msb = true := by rw [BitVec.msb_eq_true_iff_two_mul_ge]; omega
  have hs : a.sshiftRight 31 = BitVec.allOnes 32 := by
    rw [BitVec.sshiftRight_eq_of_msb_true hm]
    have : (~~~a) >>> 31 = 0#32 := by
      refine BitVec.eq_of_toNat_eq ?_
      rw [BitVec.toNat_ushiftRight, Nat.shiftRight_eq_div_pow, BitVec.toNat_not]
      exact Nat.div_eq_of_lt (by have := a.isLt; omega)
    rw [this]; decide
  unfold wordKey
  rw [hs, show (BitVec.allOnes 32 ||| 0x80000000#32 : BitVec 32) = BitVec.allOnes 32 by decide, show (0xFFFFFFFF#32 : BitVec 32) = BitVec.allOnes 32 by decide,
    BitVec.xor_assoc, BitVec.xor_self, BitVec.xor_zero]

theorem place_low (a : BitVec 32) (h : a.toNat < 2 ^ 31) : placeOf a = a := by
  refine if_neg fun hc => ?_
  have h' := (WordCmp.ofBool_decide_eq_one_iff _).1 hc
  have e : a.toInt = a.toNat := by rw [BitVec.toInt_eq_toNat_cond, if_pos (by omega)]
  rw [e, show (0#32 : BitVec 32).toInt = 0 by decide] at h'
  omega

theorem place_high (a : BitVec 32) (h : 2 ^ 31 ≤ a.toNat) : (placeOf a).toInt = 2 ^ 31 - 1 - (a.toNat : ℤ) := by
  have hlt := a.isLt
  have e : a.toInt = (a.toNat : ℤ) - 2 ^ 32 := by rw [BitVec.toInt_eq_toNat_cond, if_neg (by omega)]; rfl
  have hc : IntOp.cmpi .slt a 0#32 = 1#1 := (WordCmp.ofBool_decide_eq_one_iff _).2 (by
    rw [e, show (0#32 : BitVec 32).toInt = 0 by decide]; omega)
  have hp : placeOf a = 4294967295#32 - (a &&& 2147483647#32) := if_pos hc
  have hand : (a &&& 2147483647#32).toNat = a.toNat - 2 ^ 31 := by
    rw [BitVec.toNat_and, show (2147483647#32 : BitVec 32).toNat = 2 ^ 31 - 1 by decide, Nat.and_two_pow_sub_one_eq_mod]
    omega
  have hsub : (4294967295#32 - (a &&& 2147483647#32)).toNat = 2 ^ 32 - 1 - (a.toNat - 2 ^ 31) := by
    rw [BitVec.toNat_sub, hand, show (4294967295#32 : BitVec 32).toNat = 2 ^ 32 - 1 by decide]
    omega
  rw [hp, BitVec.toInt_eq_toNat_cond, hsub, if_neg (by omega)]
  omega

/-- Key and place together are the greatest place. -/
theorem key_place (a : BitVec 32) : ((wordKey a).toNat : ℤ) + (placeOf a).toInt = 2 ^ 31 - 1 := by
  by_cases h : a.toNat < 2 ^ 31
  · rw [key_low a h, place_low a h]
    have e : a.toInt = a.toNat := by rw [BitVec.toInt_eq_toNat_cond, if_pos (by omega)]
    rw [e]; omega
  · rw [key_high a (by omega), place_high a (by omega)]; omega

/-- The lesser key is of the greater place. -/
theorem key_lt_iff (a b : BitVec 32) : (wordKey a).toNat < (wordKey b).toNat ↔ (placeOf b).toInt < (placeOf a).toInt := by
  have ha := key_place a
  have hb := key_place b
  omega

end Cert.KernelIdeal.Body

end
-- ==== Proof.Logits.lean ====
/-
  The scores that the first kernel makes, over the extended reals: of row `r` and item `j`, the sum over the features of weight times
  feature, and the bias; less the mean of these over the row.
-/
module

public import proofs.«01_k».proof.Proof.Head
public import Idealize.ShloMosaic.Lib.MatmulPlain
public import Idealize.ShloMosaic.Lib.Pipeline.Value
public import Idealize.ShloMosaic.PureOps.Ideal.Laws

@[expose] public section

noncomputable section

namespace Cert.KernelIdeal.Body

open Idealize.ShloMosaic Idealize.ShloMosaic.ValueIdx
open Cert.KernelIdeal Facts₀ Facts
open scoped BigOperators

/-- The index of feature `k`'s weight. -/
def wAt (k : Fin 32) : S1x32.Idx := fun | 0 => ⟨0, Nat.one_pos⟩ | 1 => k

/-- The index of feature `k` of an item of one row. -/
def itemAt (j : S1x1024.Idx) (k : Fin 32) : S1x1024x32.Idx := fun | 0 => ⟨0, Nat.one_pos⟩ | 1 => j 1 | 2 => k

/-- A row's 1024 logits, as the kernel makes them. -/
abbrev rowDot (w : Vec Ideal S1x32 .f32) (v : Vec Ideal S1x1024x32 .f32) : FVec Ideal S1x1024 .f32 :=
  matmul dot_S1x32_S32x1024_S1x1024_1_0_0_1_n_n none (Gen.k0_pay4 w)
    (transpose S32x1024 [1, 0] (shapeCast S1024x32 v shapeCasts_S1x1024x32_S1024x32) transposes_S1024x32_p1_0_S32x1024 : FVec Ideal S32x1024 .f32)
    (constant S1x1024 .f32 0x00000000#32)

theorem rowDot_at (w : Vec Ideal S1x32 .f32) (v : Vec Ideal S1x1024x32 .f32) (j : S1x1024.Idx) :
    rowDot w v j = ∑ k : Fin 32, (w (wAt k) : EReal) * v (itemAt j k) := by
  refine (Ideal.matmul_constant_zero_apply dot_S1x32_S32x1024_S1x1024_1_0_0_1_n_n none _ _ j).trans ?_
  refine (Equiv.sum_comp (contrEquiv1 dot_S1x32_S32x1024_S1x1024_1_0_0_1_n_n 32 rfl rfl).symm _).symm.trans (Finset.sum_congr rfl fun k _ => ?_)
  have hc := contrEquiv1_symm_val dot_S1x32_S32x1024_S1x1024_1_0_0_1_n_n 32 rfl rfl k
  have hj : (j 0).val = 0 := by have : (j 0).val < 1 := (j 0).isLt; omega
  refine congrArg₂ (fun a b : EReal => a * b) ?_ ?_
  · refine shapeCast_apply w shapeCasts_S1x32_S1x32 _ (wAt k) ?_
    refine congrArg (fun i => (S1x32.rowMajor i).val) (funext fun a => Fin.ext ?_)
    match a with
    | ⟨0, _⟩ => exact hj.symm
    | ⟨1, _⟩ => exact hc.symm
  · let y : S1024x32.Idx := fun | 0 => j 1 | 1 => k
    refine (transpose_apply _ _ _ _ y ?_).trans (shapeCast_apply v shapeCasts_S1x1024x32_S1024x32 y (itemAt j k) ?_)
    · intro a
      match a with
      | ⟨0, _⟩ => exact hc.symm
      | ⟨1, _⟩ => rfl
    · rw [Shape.rowMajor_val_two, Shape.rowMajor_val_three]
      show (0 * 1024 + (j 1).val) * 32 + k.val = (j 1).val * 32 + k.val
      omega

/-- The index of feature `k` of an item of a block. -/
def blockAt (y : S8x1024.Idx) (k : Fin 32) : S8x1024x32.Idx := fun | 0 => y 0 | 1 => y 1 | 2 => k

theorem slab_in (n : Fin 8) (a : Fin 3) : (![n.val, 0, 0] : Fin 3 → ℕ) a + S1x1024x32.size a ≤ S8x1024x32.size a := by
  have hn := n.isLt
  match a with
  | ⟨0, _⟩ => show n.val + 1 ≤ 8; omega
  | ⟨1, _⟩ => show 0 + 1024 ≤ 1024; omega
  | ⟨2, _⟩ => show 0 + 32 ≤ 32; omega

theorem chunkOf_at (w : Vec Ideal S1x32 .f32) (x : Vec Ideal S8x1024x32 .f32) (y : S8x1024.Idx) :
    chunkOf w x y = ∑ k : Fin 32, (w (wAt k) : EReal) * x (blockAt y k) := by
  let f : Fin 8 → S1x1024.Idx → Ideal .f32 := fun n => rowDot w (slab x n.val (slab_in n))
  let i : S1x1024.Idx := fun | 0 => ⟨0, Nat.one_pos⟩ | 1 => y 1
  have e : chunkOf w x = shapeCast S8x1024 (concatenate S8x1024 0 (List.ofFn fun n : Fin 8 => (⟨S1x1024, f n⟩ : (s : Shape) × (s.Idx → Ideal .f32)))
      concatenates_S1x1024_S1x1024_S1x1024_S1x1024_S1x1024_S1x1024_S1x1024_S1x1024_S8x1024_d0) shapeCasts_S8x1024_S8x1024 := rfl
  rw [e]
  refine (shapeCast_apply _ shapeCasts_S8x1024_S8x1024 y y rfl).trans ?_
  refine (concatenate_ofFn_unit_apply (t := S8x1024) (0 : Fin 2) f _ rfl rfl y (y 0) rfl i fun b hb => ?_).trans ?_
  · match b with
    | ⟨0, _⟩ => exact absurd rfl hb
    | ⟨1, _⟩ => rfl
  · refine (rowDot_at w _ i).trans (Finset.sum_congr rfl fun k _ => congrArg (fun a : EReal => w (wAt k) * a) ?_)
    refine congrArg x (funext fun a => Fin.ext ?_)
    match a with
    | ⟨0, _⟩ => show (y 0).val + 1 * 0 = (y 0).val; omega
    | ⟨1, _⟩ => show 0 + 1 * (y 1).val = (y 1).val; omega
    | ⟨2, _⟩ => show 0 + 1 * k.val = k.val; omega

/-- The logit of row `r` and item `j`. -/
def logit (X : S128x8192x32.Idx → Ideal .f32) (wt : S1x32.Idx → Ideal .f32) (b : Ideal .f32) (r j : ℕ) : EReal :=
  (∑ k : Fin 32, (wt (wAt k) : EReal) * X (at3 r j k.val)) + b

/-- The only place of the bias. -/
def bAt : S1x1.Idx := fun | 0 => ⟨0, Nat.one_pos⟩ | 1 => ⟨0, Nat.one_pos⟩

theorem logitsAt_at (X : S128x8192x32.Idx → Ideal .f32) (wt : S1x32.Idx → Ideal .f32) (q : ℕ) (y : S8x8192.Idx) :
    (logitsAt X wt q y : EReal) = ∑ k : Fin 32, (wt (wAt k) : EReal) * X (at3 (8 * q + (y 0).val) (y 1).val k.val) := by
  unfold logitsAt
  refine (chunkOf_at _ _ _).trans (Finset.sum_congr rfl fun k _ => congrArg (fun a : EReal => wt (wAt k) * a) ?_)
  refine congrArg X ?_
  refine congrArg (fun n => at3 (8 * q + (y 0).val) n k.val) ?_
  show 1024 * ((y 1).val / 1024) + (y 1).val % 1024 = (y 1).val
  omega

/-- The score of row `r` and item `j`: the logit less the mean of the row's. -/
def score (X : S128x8192x32.Idx → Ideal .f32) (wt : S1x32.Idx → Ideal .f32) (b : Ideal .f32) (i : S128x8192.Idx) : EReal :=
  logit X wt b (i 0).val (i 1).val - Ideal.div (∑ k : Fin 8192, logit X wt b (i 0).val k.val) (FloatOps.ofBits (F := Ideal) .f32 0x46000000#32)

theorem scoreOf_at (X : S128x8192x32.Idx → Ideal .f32) (wt : S1x32.Idx → Ideal .f32) (b : S1x1.Idx → Ideal .f32) (i : S128x8192.Idx) :
    scoreOf X wt b i = score X wt (b bAt) i := by
  have hi0 : (i 0).val < 128 := (i 0).isLt
  unfold scoreOf
  let y : S8x8192.Idx := fun | 0 => ⟨(i 0).val % 8, Nat.mod_lt _ (by decide)⟩ | 1 => i 1
  let u : FVec Ideal S8x8192 .f32 := addf (logitsAt X wt ((i 0).val / 8)) (broadcast S8x8192 (extractAt ![0, 0] b inpos_S1x1_p0_0))
  have hu : ∀ z : S8x8192.Idx, (z 0).val = (i 0).val % 8 → (u z : EReal) = logit X wt (b bAt) (i 0).val (z 1).val := fun z hz => by
    have eb : extractAt ![0, 0] b inpos_S1x1_p0_0 = b bAt := congrArg b (funext fun a => Fin.ext (by
      match a with
      | ⟨0, _⟩ => rfl
      | ⟨1, _⟩ => rfl))
    show (logitsAt X wt ((i 0).val / 8) z : EReal) + extractAt ![0, 0] b inpos_S1x1_p0_0 = _
    rw [eb, logitsAt_at, hz, show 8 * ((i 0).val / 8) + (i 0).val % 8 = (i 0).val by omega]
    rfl
  let w8 : FVec Ideal S8 .f32 := multiReduction .add [1] S8 u 0x00000000#32 reduces_S8x8192_S8 (.inl rfl) rfl
  show (u y : EReal) - broadcastTo S8x8192 (divf (shapeCast S8x1 w8 shapeCasts_S8_S8x1) (broadcast S8x1 (Scalar.ofBits .f32 0x46000000#32))) broadcasts_S8x1_S8x8192 y = _
  let y1 : S8x1.Idx := fun | 0 => y 0 | 1 => ⟨0, Nat.one_pos⟩
  let y8 : S8.Idx := fun | 0 => y 0
  unfold score
  refine congrArg₂ (fun a c : EReal => a - c) (hu y rfl) ?_
  refine (broadcastTo_apply _ broadcasts_S8x1_S8x8192 y y1 ?_).trans ?_
  · intro a
    match a with
    | ⟨0, _⟩ => rfl
    | ⟨1, _⟩ => rfl
  show Ideal.div (shapeCast S8x1 w8 shapeCasts_S8_S8x1 y1) _ = _
  refine congrArg (fun a : EReal => Ideal.div a (FloatOps.ofBits (F := Ideal) .f32 0x46000000#32)) ?_
  refine (shapeCast_apply w8 shapeCasts_S8_S8x1 y1 y8 ?_).trans ?_
  · rw [Shape.rowMajor_val_one, Shape.rowMajor_val_two]
    show (y 0).val = (y 0).val * 1 + 0
    omega
  refine (Ideal.multiReduction_add_single u _ reduces_S8x8192_S8 (.inl rfl) rfl y8).trans (Finset.sum_congr rfl fun k _ => ?_)
  exact hu _ rfl

end Cert.KernelIdeal.Body

end
-- ==== Proof.Noise.lean ====
/-
  The reference as a list of its operations, and its drawing of the noise read back. The called functions' operations stand in their calls'
  places, at those calls' buffers. The threefry rounds are cut where the precondition's program cuts them, so that the two words that
  they leave are that program's function of the key and the counts, window by window from the last; with what stands around them the
  noise is that program's drawing of it.
-/
module

public import proofs.«01_k».proof.Proof.Gen.ReferenceIdeal
public import proofs.«01_k».proof.Pre_words_in_order
public import Idealize.ShloMosaic.Lib.StableHlo.Run

@[expose] public section

noncomputable section

namespace Cert.ReferenceIdeal.Drawn

open Cert.ReferenceIdeal Cert.ReferenceIdeal.Gen Idealize.ShloMosaic Idealize.ShloMosaic.TcCoe Idealize.SL.Sem Idealize.ShloMosaic.StableHlo

variable {F : FTy → Type} [FloatOps F]

/-- Operations run one list after another. -/
theorem after_two (A B : List (HloOp τ sig (Elt F))) (V : Valuation τ sig (Elt F)) : after (A ++ B) V = after B (after A V) := by
  induction A generalizing V with
  | nil => rfl
  | cons op A ih => exact ih _

/-! ## The operations -/

/-- The threefry rounds' operations 1–24. -/
abbrev round0 : List (HloOp τ sig (Elt F)) :=
  [ TRef.binary (.of (T := ⟨S_, .i32⟩) main_call0_call0_v4) (.of (T := ⟨S_, .i32⟩) main_call0_call0_v6) (.of (T := ⟨S_, .i32⟩) main_call0_call0_call0_v0) xori,
    TRef.nullary (.of (T := ⟨S_, .i32⟩) main_call0_call0_call0_c) (constantI S_ 32 466688986#32),
    TRef.binary (.of (T := ⟨S_, .i32⟩) main_call0_call0_call0_v0) (.of (T := ⟨S_, .i32⟩) main_call0_call0_call0_c) (.of (T := ⟨S_, .i32⟩) main_call0_call0_call0_v1) xori,
    TRef.unary (.of (T := ⟨S_, .i32⟩) main_call0_call0_v4) (.of (T := ⟨S128x8192, .i32⟩) main_call0_call0_call0_v2) (broadcastInDim S128x8192 ![] bcast_S_S128x8192),
    TRef.binary (.of (T := ⟨S128x8192, .i32⟩) main_call0_call0_v17) (.of (T := ⟨S128x8192, .i32⟩) main_call0_call0_call0_v2) (.of (T := ⟨S128x8192, .i32⟩) main_call0_call0_call0_v3) addi,
    TRef.unary (.of (T := ⟨S_, .i32⟩) main_call0_call0_v6) (.of (T := ⟨S128x8192, .i32⟩) main_call0_call0_call0_v4) (broadcastInDim S128x8192 ![] bcast_S_S128x8192),
    TRef.binary (.of (T := ⟨S128x8192, .i32⟩) main_call0_call0_v16) (.of (T := ⟨S128x8192, .i32⟩) main_call0_call0_call0_v4) (.of (T := ⟨S128x8192, .i32⟩) main_call0_call0_call0_v5) addi,
    TRef.binary (.of (T := ⟨S128x8192, .i32⟩) main_call0_call0_call0_v3) (.of (T := ⟨S128x8192, .i32⟩) main_call0_call0_call0_v5) (.of (T := ⟨S128x8192, .i32⟩) main_call0_call0_call0_v6) addi,
    TRef.nullary (.of (T := ⟨S_, .i32⟩) main_call0_call0_call0_c_0) (constantI S_ 32 13#32),
    TRef.unary (.of (T := ⟨S_, .i32⟩) main_call0_call0_call0_c_0) (.of (T := ⟨S128x8192, .i32⟩) main_call0_call0_call0_v7) (broadcastInDim S128x8192 ![] bcast_S_S128x8192),
    TRef.binary (.of (T := ⟨S128x8192, .i32⟩) main_call0_call0_call0_v5) (.of (T := ⟨S128x8192, .i32⟩) main_call0_call0_call0_v7) (.of (T := ⟨S128x8192, .i32⟩) main_call0_call0_call0_v8) Host.shli,
    TRef.nullary (.of (T := ⟨S_, .i32⟩) main_call0_call0_call0_c_1) (constantI S_ 32 19#32),
    TRef.unary (.of (T := ⟨S_, .i32⟩) main_call0_call0_call0_c_1) (.of (T := ⟨S128x8192, .i32⟩) main_call0_call0_call0_v9) (broadcastInDim S128x8192 ![] bcast_S_S128x8192),
    TRef.binary (.of (T := ⟨S128x8192, .i32⟩) main_call0_call0_call0_v5) (.of (T := ⟨S128x8192, .i32⟩) main_call0_call0_call0_v9) (.of (T := ⟨S128x8192, .i32⟩) main_call0_call0_call0_v10) Host.shrui,
    TRef.binary (.of (T := ⟨S128x8192, .i32⟩) main_call0_call0_call0_v8) (.of (T := ⟨S128x8192, .i32⟩) main_call0_call0_call0_v10) (.of (T := ⟨S128x8192, .i32⟩) main_call0_call0_call0_v11) ori,
    TRef.binary (.of (T := ⟨S128x8192, .i32⟩) main_call0_call0_call0_v6) (.of (T := ⟨S128x8192, .i32⟩) main_call0_call0_call0_v11) (.of (T := ⟨S128x8192, .i32⟩) main_call0_call0_call0_v12) xori,
    TRef.binary (.of (T := ⟨S128x8192, .i32⟩) main_call0_call0_call0_v6) (.of (T := ⟨S128x8192, .i32⟩) main_call0_call0_call0_v12) (.of (T := ⟨S128x8192, .i32⟩) main_call0_call0_call0_v13) addi,
    TRef.nullary (.of (T := ⟨S_, .i32⟩) main_call0_call0_call0_c_2) (constantI S_ 32 15#32),
    TRef.unary (.of (T := ⟨S_, .i32⟩) main_call0_call0_call0_c_2) (.of (T := ⟨S128x8192, .i32⟩) main_call0_call0_call0_v14) (broadcastInDim S128x8192 ![] bcast_S_S128x8192),
    TRef.binary (.of (T := ⟨S128x8192, .i32⟩) main_call0_call0_call0_v12) (.of (T := ⟨S128x8192, .i32⟩) main_call0_call0_call0_v14) (.of (T := ⟨S128x8192, .i32⟩) main_call0_call0_call0_v15) Host.shli,
    TRef.nullary (.of (T := ⟨S_, .i32⟩) main_call0_call0_call0_c_3) (constantI S_ 32 17#32),
    TRef.unary (.of (T := ⟨S_, .i32⟩) main_call0_call0_call0_c_3) (.of (T := ⟨S128x8192, .i32⟩) main_call0_call0_call0_v16) (broadcastInDim S128x8192 ![] bcast_S_S128x8192),
    TRef.binary (.of (T := ⟨S128x8192, .i32⟩) main_call0_call0_call0_v12) (.of (T := ⟨S128x8192, .i32⟩) main_call0_call0_call0_v16) (.of (T := ⟨S128x8192, .i32⟩) main_call0_call0_call0_v17) Host.shrui,
    TRef.binary (.of (T := ⟨S128x8192, .i32⟩) main_call0_call0_call0_v15) (.of (T := ⟨S128x8192, .i32⟩) main_call0_call0_call0_v17) (.of (T := ⟨S128x8192, .i32⟩) main_call0_call0_call0_v18) ori ]

/-- The threefry rounds' operations 25–48. -/
abbrev round1 : List (HloOp τ sig (Elt F)) :=
  [ TRef.binary (.of (T := ⟨S128x8192, .i32⟩) main_call0_call0_call0_v13) (.of (T := ⟨S128x8192, .i32⟩) main_call0_call0_call0_v18) (.of (T := ⟨S128x8192, .i32⟩) main_call0_call0_call0_v19) xori,
    TRef.binary (.of (T := ⟨S128x8192, .i32⟩) main_call0_call0_call0_v13) (.of (T := ⟨S128x8192, .i32⟩) main_call0_call0_call0_v19) (.of (T := ⟨S128x8192, .i32⟩) main_call0_call0_call0_v20) addi,
    TRef.nullary (.of (T := ⟨S_, .i32⟩) main_call0_call0_call0_c_4) (constantI S_ 32 26#32),
    TRef.unary (.of (T := ⟨S_, .i32⟩) main_call0_call0_call0_c_4) (.of (T := ⟨S128x8192, .i32⟩) main_call0_call0_call0_v21) (broadcastInDim S128x8192 ![] bcast_S_S128x8192),
    TRef.binary (.of (T := ⟨S128x8192, .i32⟩) main_call0_call0_call0_v19) (.of (T := ⟨S128x8192, .i32⟩) main_call0_call0_call0_v21) (.of (T := ⟨S128x8192, .i32⟩) main_call0_call0_call0_v22) Host.shli,
    TRef.nullary (.of (T := ⟨S_, .i32⟩) main_call0_call0_call0_c_5) (constantI S_ 32 6#32),
    TRef.unary (.of (T := ⟨S_, .i32⟩) main_call0_call0_call0_c_5) (.of (T := ⟨S128x8192, .i32⟩) main_call0_call0_call0_v23) (broadcastInDim S128x8192 ![] bcast_S_S128x8192),
    TRef.binary (.of (T := ⟨S128x8192, .i32⟩) main_call0_call0_call0_v19) (.of (T := ⟨S128x8192, .i32⟩) main_call0_call0_call0_v23) (.of (T := ⟨S128x8192, .i32⟩) main_call0_call0_call0_v24) Host.shrui,
    TRef.binary (.of (T := ⟨S128x8192, .i32⟩) main_call0_call0_call0_v22) (.of (T := ⟨S128x8192, .i32⟩) main_call0_call0_call0_v24) (.of (T := ⟨S128x8192, .i32⟩) main_call0_call0_call0_v25) ori,
    TRef.binary (.of (T := ⟨S128x8192, .i32⟩) main_call0_call0_call0_v20) (.of (T := ⟨S128x8192, .i32⟩) main_call0_call0_call0_v25) (.of (T := ⟨S128x8192, .i32⟩) main_call0_call0_call0_v26) xori,
    TRef.binary (.of (T := ⟨S128x8192, .i32⟩) main_call0_call0_call0_v20) (.of (T := ⟨S128x8192, .i32⟩) main_call0_call0_call0_v26) (.of (T := ⟨S128x8192, .i32⟩) main_call0_call0_call0_v27) addi,
    TRef.nullary (.of (T := ⟨S_, .i32⟩) main_call0_call0_call0_c_6) (constantI S_ 32 6#32),
    TRef.unary (.of (T := ⟨S_, .i32⟩) main_call0_call0_call0_c_6) (.of (T := ⟨S128x8192, .i32⟩) main_call0_call0_call0_v28) (broadcastInDim S128x8192 ![] bcast_S_S128x8192),
    TRef.binary (.of (T := ⟨S128x8192, .i32⟩) main_call0_call0_call0_v26) (.of (T := ⟨S128x8192, .i32⟩) main_call0_call0_call0_v28) (.of (T := ⟨S128x8192, .i32⟩) main_call0_call0_call0_v29) Host.shli,
    TRef.nullary (.of (T := ⟨S_, .i32⟩) main_call0_call0_call0_c_7) (constantI S_ 32 26#32),
    TRef.unary (.of (T := ⟨S_, .i32⟩) main_call0_call0_call0_c_7) (.of (T := ⟨S128x8192, .i32⟩) main_call0_call0_call0_v30) (broadcastInDim S128x8192 ![] bcast_S_S128x8192),
    TRef.binary (.of (T := ⟨S128x8192, .i32⟩) main_call0_call0_call0_v26) (.of (T := ⟨S128x8192, .i32⟩) main_call0_call0_call0_v30) (.of (T := ⟨S128x8192, .i32⟩) main_call0_call0_call0_v31) Host.shrui,
    TRef.binary (.of (T := ⟨S128x8192, .i32⟩) main_call0_call0_call0_v29) (.of (T := ⟨S128x8192, .i32⟩) main_call0_call0_call0_v31) (.of (T := ⟨S128x8192, .i32⟩) main_call0_call0_call0_v32) ori,
    TRef.binary (.of (T := ⟨S128x8192, .i32⟩) main_call0_call0_call0_v27) (.of (T := ⟨S128x8192, .i32⟩) main_call0_call0_call0_v32) (.of (T := ⟨S128x8192, .i32⟩) main_call0_call0_call0_v33) xori,
    TRef.unary (.of (T := ⟨S_, .i32⟩) main_call0_call0_v6) (.of (T := ⟨S128x8192, .i32⟩) main_call0_call0_call0_v34) (broadcastInDim S128x8192 ![] bcast_S_S128x8192),
    TRef.binary (.of (T := ⟨S128x8192, .i32⟩) main_call0_call0_call0_v27) (.of (T := ⟨S128x8192, .i32⟩) main_call0_call0_call0_v34) (.of (T := ⟨S128x8192, .i32⟩) main_call0_call0_call0_v35) addi,
    TRef.unary (.of (T := ⟨S_, .i32⟩) main_call0_call0_call0_v1) (.of (T := ⟨S128x8192, .i32⟩) main_call0_call0_call0_v36) (broadcastInDim S128x8192 ![] bcast_S_S128x8192),
    TRef.binary (.of (T := ⟨S128x8192, .i32⟩) main_call0_call0_call0_v33) (.of (T := ⟨S128x8192, .i32⟩) main_call0_call0_call0_v36) (.of (T := ⟨S128x8192, .i32⟩) main_call0_call0_call0_v37) addi,
    TRef.nullary (.of (T := ⟨S_, .i32⟩) main_call0_call0_call0_c_8) (constantI S_ 32 1#32) ]

/-- The threefry rounds' operations 49–72. -/
abbrev round2 : List (HloOp τ sig (Elt F)) :=
  [ TRef.unary (.of (T := ⟨S_, .i32⟩) main_call0_call0_call0_c_8) (.of (T := ⟨S128x8192, .i32⟩) main_call0_call0_call0_v38) (broadcastInDim S128x8192 ![] bcast_S_S128x8192),
    TRef.binary (.of (T := ⟨S128x8192, .i32⟩) main_call0_call0_call0_v37) (.of (T := ⟨S128x8192, .i32⟩) main_call0_call0_call0_v38) (.of (T := ⟨S128x8192, .i32⟩) main_call0_call0_call0_v39) addi,
    TRef.binary (.of (T := ⟨S128x8192, .i32⟩) main_call0_call0_call0_v35) (.of (T := ⟨S128x8192, .i32⟩) main_call0_call0_call0_v39) (.of (T := ⟨S128x8192, .i32⟩) main_call0_call0_call0_v40) addi,
    TRef.nullary (.of (T := ⟨S_, .i32⟩) main_call0_call0_call0_c_9) (constantI S_ 32 17#32),
    TRef.unary (.of (T := ⟨S_, .i32⟩) main_call0_call0_call0_c_9) (.of (T := ⟨S128x8192, .i32⟩) main_call0_call0_call0_v41) (broadcastInDim S128x8192 ![] bcast_S_S128x8192),
    TRef.binary (.of (T := ⟨S128x8192, .i32⟩) main_call0_call0_call0_v39) (.of (T := ⟨S128x8192, .i32⟩) main_call0_call0_call0_v41) (.of (T := ⟨S128x8192, .i32⟩) main_call0_call0_call0_v42) Host.shli,
    TRef.nullary (.of (T := ⟨S_, .i32⟩) main_call0_call0_call0_c_10) (constantI S_ 32 15#32),
    TRef.unary (.of (T := ⟨S_, .i32⟩) main_call0_call0_call0_c_10) (.of (T := ⟨S128x8192, .i32⟩) main_call0_call0_call0_v43) (broadcastInDim S128x8192 ![] bcast_S_S128x8192),
    TRef.binary (.of (T := ⟨S128x8192, .i32⟩) main_call0_call0_call0_v39) (.of (T := ⟨S128x8192, .i32⟩) main_call0_call0_call0_v43) (.of (T := ⟨S128x8192, .i32⟩) main_call0_call0_call0_v44) Host.shrui,
    TRef.binary (.of (T := ⟨S128x8192, .i32⟩) main_call0_call0_call0_v42) (.of (T := ⟨S128x8192, .i32⟩) main_call0_call0_call0_v44) (.of (T := ⟨S128x8192, .i32⟩) main_call0_call0_call0_v45) ori,
    TRef.binary (.of (T := ⟨S128x8192, .i32⟩) main_call0_call0_call0_v40) (.of (T := ⟨S128x8192, .i32⟩) main_call0_call0_call0_v45) (.of (T := ⟨S128x8192, .i32⟩) main_call0_call0_call0_v46) xori,
    TRef.binary (.of (T := ⟨S128x8192, .i32⟩) main_call0_call0_call0_v40) (.of (T := ⟨S128x8192, .i32⟩) main_call0_call0_call0_v46) (.of (T := ⟨S128x8192, .i32⟩) main_call0_call0_call0_v47) addi,
    TRef.nullary (.of (T := ⟨S_, .i32⟩) main_call0_call0_call0_c_11) (constantI S_ 32 29#32),
    TRef.unary (.of (T := ⟨S_, .i32⟩) main_call0_call0_call0_c_11) (.of (T := ⟨S128x8192, .i32⟩) main_call0_call0_call0_v48) (broadcastInDim S128x8192 ![] bcast_S_S128x8192),
    TRef.binary (.of (T := ⟨S128x8192, .i32⟩) main_call0_call0_call0_v46) (.of (T := ⟨S128x8192, .i32⟩) main_call0_call0_call0_v48) (.of (T := ⟨S128x8192, .i32⟩) main_call0_call0_call0_v49) Host.shli,
    TRef.nullary (.of (T := ⟨S_, .i32⟩) main_call0_call0_call0_c_12) (constantI S_ 32 3#32),
    TRef.unary (.of (T := ⟨S_, .i32⟩) main_call0_call0_call0_c_12) (.of (T := ⟨S128x8192, .i32⟩) main_call0_call0_call0_v50) (broadcastInDim S128x8192 ![] bcast_S_S128x8192),
    TRef.binary (.of (T := ⟨S128x8192, .i32⟩) main_call0_call0_call0_v46) (.of (T := ⟨S128x8192, .i32⟩) main_call0_call0_call0_v50) (.of (T := ⟨S128x8192, .i32⟩) main_call0_call0_call0_v51) Host.shrui,
    TRef.binary (.of (T := ⟨S128x8192, .i32⟩) main_call0_call0_call0_v49) (.of (T := ⟨S128x8192, .i32⟩) main_call0_call0_call0_v51) (.of (T := ⟨S128x8192, .i32⟩) main_call0_call0_call0_v52) ori,
    TRef.binary (.of (T := ⟨S128x8192, .i32⟩) main_call0_call0_call0_v47) (.of (T := ⟨S128x8192, .i32⟩) main_call0_call0_call0_v52) (.of (T := ⟨S128x8192, .i32⟩) main_call0_call0_call0_v53) xori,
    TRef.binary (.of (T := ⟨S128x8192, .i32⟩) main_call0_call0_call0_v47) (.of (T := ⟨S128x8192, .i32⟩) main_call0_call0_call0_v53) (.of (T := ⟨S128x8192, .i32⟩) main_call0_call0_call0_v54) addi,
    TRef.nullary (.of (T := ⟨S_, .i32⟩) main_call0_call0_call0_c_13) (constantI S_ 32 16#32),
    TRef.unary (.of (T := ⟨S_, .i32⟩) main_call0_call0_call0_c_13) (.of (T := ⟨S128x8192, .i32⟩) main_call0_call0_call0_v55) (broadcastInDim S128x8192 ![] bcast_S_S128x8192),
    TRef.binary (.of (T := ⟨S128x8192, .i32⟩) main_call0_call0_call0_v53) (.of (T := ⟨S128x8192, .i32⟩) main_call0_call0_call0_v55) (.of (T := ⟨S128x8192, .i32⟩) main_call0_call0_call0_v56) Host.shli ]

/-- The threefry rounds' operations 73–96. -/
abbrev round3 : List (HloOp τ sig (Elt F)) :=
  [ TRef.nullary (.of (T := ⟨S_, .i32⟩) main_call0_call0_call0_c_14) (constantI S_ 32 16#32),
    TRef.unary (.of (T := ⟨S_, .i32⟩) main_call0_call0_call0_c_14) (.of (T := ⟨S128x8192, .i32⟩) main_call0_call0_call0_v57) (broadcastInDim S128x8192 ![] bcast_S_S128x8192),
    TRef.binary (.of (T := ⟨S128x8192, .i32⟩) main_call0_call0_call0_v53) (.of (T := ⟨S128x8192, .i32⟩) main_call0_call0_call0_v57) (.of (T := ⟨S128x8192, .i32⟩) main_call0_call0_call0_v58) Host.shrui,
    TRef.binary (.of (T := ⟨S128x8192, .i32⟩) main_call0_call0_call0_v56) (.of (T := ⟨S128x8192, .i32⟩) main_call0_call0_call0_v58) (.of (T := ⟨S128x8192, .i32⟩) main_call0_call0_call0_v59) ori,
    TRef.binary (.of (T := ⟨S128x8192, .i32⟩) main_call0_call0_call0_v54) (.of (T := ⟨S128x8192, .i32⟩) main_call0_call0_call0_v59) (.of (T := ⟨S128x8192, .i32⟩) main_call0_call0_call0_v60) xori,
    TRef.binary (.of (T := ⟨S128x8192, .i32⟩) main_call0_call0_call0_v54) (.of (T := ⟨S128x8192, .i32⟩) main_call0_call0_call0_v60) (.of (T := ⟨S128x8192, .i32⟩) main_call0_call0_call0_v61) addi,
    TRef.nullary (.of (T := ⟨S_, .i32⟩) main_call0_call0_call0_c_15) (constantI S_ 32 24#32),
    TRef.unary (.of (T := ⟨S_, .i32⟩) main_call0_call0_call0_c_15) (.of (T := ⟨S128x8192, .i32⟩) main_call0_call0_call0_v62) (broadcastInDim S128x8192 ![] bcast_S_S128x8192),
    TRef.binary (.of (T := ⟨S128x8192, .i32⟩) main_call0_call0_call0_v60) (.of (T := ⟨S128x8192, .i32⟩) main_call0_call0_call0_v62) (.of (T := ⟨S128x8192, .i32⟩) main_call0_call0_call0_v63) Host.shli,
    TRef.nullary (.of (T := ⟨S_, .i32⟩) main_call0_call0_call0_c_16) (constantI S_ 32 8#32),
    TRef.unary (.of (T := ⟨S_, .i32⟩) main_call0_call0_call0_c_16) (.of (T := ⟨S128x8192, .i32⟩) main_call0_call0_call0_v64) (broadcastInDim S128x8192 ![] bcast_S_S128x8192),
    TRef.binary (.of (T := ⟨S128x8192, .i32⟩) main_call0_call0_call0_v60) (.of (T := ⟨S128x8192, .i32⟩) main_call0_call0_call0_v64) (.of (T := ⟨S128x8192, .i32⟩) main_call0_call0_call0_v65) Host.shrui,
    TRef.binary (.of (T := ⟨S128x8192, .i32⟩) main_call0_call0_call0_v63) (.of (T := ⟨S128x8192, .i32⟩) main_call0_call0_call0_v65) (.of (T := ⟨S128x8192, .i32⟩) main_call0_call0_call0_v66) ori,
    TRef.binary (.of (T := ⟨S128x8192, .i32⟩) main_call0_call0_call0_v61) (.of (T := ⟨S128x8192, .i32⟩) main_call0_call0_call0_v66) (.of (T := ⟨S128x8192, .i32⟩) main_call0_call0_call0_v67) xori,
    TRef.unary (.of (T := ⟨S_, .i32⟩) main_call0_call0_call0_v1) (.of (T := ⟨S128x8192, .i32⟩) main_call0_call0_call0_v68) (broadcastInDim S128x8192 ![] bcast_S_S128x8192),
    TRef.binary (.of (T := ⟨S128x8192, .i32⟩) main_call0_call0_call0_v61) (.of (T := ⟨S128x8192, .i32⟩) main_call0_call0_call0_v68) (.of (T := ⟨S128x8192, .i32⟩) main_call0_call0_call0_v69) addi,
    TRef.unary (.of (T := ⟨S_, .i32⟩) main_call0_call0_v4) (.of (T := ⟨S128x8192, .i32⟩) main_call0_call0_call0_v70) (broadcastInDim S128x8192 ![] bcast_S_S128x8192),
    TRef.binary (.of (T := ⟨S128x8192, .i32⟩) main_call0_call0_call0_v67) (.of (T := ⟨S128x8192, .i32⟩) main_call0_call0_call0_v70) (.of (T := ⟨S128x8192, .i32⟩) main_call0_call0_call0_v71) addi,
    TRef.nullary (.of (T := ⟨S_, .i32⟩) main_call0_call0_call0_c_17) (constantI S_ 32 2#32),
    TRef.unary (.of (T := ⟨S_, .i32⟩) main_call0_call0_call0_c_17) (.of (T := ⟨S128x8192, .i32⟩) main_call0_call0_call0_v72) (broadcastInDim S128x8192 ![] bcast_S_S128x8192),
    TRef.binary (.of (T := ⟨S128x8192, .i32⟩) main_call0_call0_call0_v71) (.of (T := ⟨S128x8192, .i32⟩) main_call0_call0_call0_v72) (.of (T := ⟨S128x8192, .i32⟩) main_call0_call0_call0_v73) addi,
    TRef.binary (.of (T := ⟨S128x8192, .i32⟩) main_call0_call0_call0_v69) (.of (T := ⟨S128x8192, .i32⟩) main_call0_call0_call0_v73) (.of (T := ⟨S128x8192, .i32⟩) main_call0_call0_call0_v74) addi,
    TRef.nullary (.of (T := ⟨S_, .i32⟩) main_call0_call0_call0_c_18) (constantI S_ 32 13#32),
    TRef.unary (.of (T := ⟨S_, .i32⟩) main_call0_call0_call0_c_18) (.of (T := ⟨S128x8192, .i32⟩) main_call0_call0_call0_v75) (broadcastInDim S128x8192 ![] bcast_S_S128x8192) ]

/-- The threefry rounds' operations 97–120. -/
abbrev round4 : List (HloOp τ sig (Elt F)) :=
  [ TRef.binary (.of (T := ⟨S128x8192, .i32⟩) main_call0_call0_call0_v73) (.of (T := ⟨S128x8192, .i32⟩) main_call0_call0_call0_v75) (.of (T := ⟨S128x8192, .i32⟩) main_call0_call0_call0_v76) Host.shli,
    TRef.nullary (.of (T := ⟨S_, .i32⟩) main_call0_call0_call0_c_19) (constantI S_ 32 19#32),
    TRef.unary (.of (T := ⟨S_, .i32⟩) main_call0_call0_call0_c_19) (.of (T := ⟨S128x8192, .i32⟩) main_call0_call0_call0_v77) (broadcastInDim S128x8192 ![] bcast_S_S128x8192),
    TRef.binary (.of (T := ⟨S128x8192, .i32⟩) main_call0_call0_call0_v73) (.of (T := ⟨S128x8192, .i32⟩) main_call0_call0_call0_v77) (.of (T := ⟨S128x8192, .i32⟩) main_call0_call0_call0_v78) Host.shrui,
    TRef.binary (.of (T := ⟨S128x8192, .i32⟩) main_call0_call0_call0_v76) (.of (T := ⟨S128x8192, .i32⟩) main_call0_call0_call0_v78) (.of (T := ⟨S128x8192, .i32⟩) main_call0_call0_call0_v79) ori,
    TRef.binary (.of (T := ⟨S128x8192, .i32⟩) main_call0_call0_call0_v74) (.of (T := ⟨S128x8192, .i32⟩) main_call0_call0_call0_v79) (.of (T := ⟨S128x8192, .i32⟩) main_call0_call0_call0_v80) xori,
    TRef.binary (.of (T := ⟨S128x8192, .i32⟩) main_call0_call0_call0_v74) (.of (T := ⟨S128x8192, .i32⟩) main_call0_call0_call0_v80) (.of (T := ⟨S128x8192, .i32⟩) main_call0_call0_call0_v81) addi,
    TRef.nullary (.of (T := ⟨S_, .i32⟩) main_call0_call0_call0_c_20) (constantI S_ 32 15#32),
    TRef.unary (.of (T := ⟨S_, .i32⟩) main_call0_call0_call0_c_20) (.of (T := ⟨S128x8192, .i32⟩) main_call0_call0_call0_v82) (broadcastInDim S128x8192 ![] bcast_S_S128x8192),
    TRef.binary (.of (T := ⟨S128x8192, .i32⟩) main_call0_call0_call0_v80) (.of (T := ⟨S128x8192, .i32⟩) main_call0_call0_call0_v82) (.of (T := ⟨S128x8192, .i32⟩) main_call0_call0_call0_v83) Host.shli,
    TRef.nullary (.of (T := ⟨S_, .i32⟩) main_call0_call0_call0_c_21) (constantI S_ 32 17#32),
    TRef.unary (.of (T := ⟨S_, .i32⟩) main_call0_call0_call0_c_21) (.of (T := ⟨S128x8192, .i32⟩) main_call0_call0_call0_v84) (broadcastInDim S128x8192 ![] bcast_S_S128x8192),
    TRef.binary (.of (T := ⟨S128x8192, .i32⟩) main_call0_call0_call0_v80) (.of (T := ⟨S128x8192, .i32⟩) main_call0_call0_call0_v84) (.of (T := ⟨S128x8192, .i32⟩) main_call0_call0_call0_v85) Host.shrui,
    TRef.binary (.of (T := ⟨S128x8192, .i32⟩) main_call0_call0_call0_v83) (.of (T := ⟨S128x8192, .i32⟩) main_call0_call0_call0_v85) (.of (T := ⟨S128x8192, .i32⟩) main_call0_call0_call0_v86) ori,
    TRef.binary (.of (T := ⟨S128x8192, .i32⟩) main_call0_call0_call0_v81) (.of (T := ⟨S128x8192, .i32⟩) main_call0_call0_call0_v86) (.of (T := ⟨S128x8192, .i32⟩) main_call0_call0_call0_v87) xori,
    TRef.binary (.of (T := ⟨S128x8192, .i32⟩) main_call0_call0_call0_v81) (.of (T := ⟨S128x8192, .i32⟩) main_call0_call0_call0_v87) (.of (T := ⟨S128x8192, .i32⟩) main_call0_call0_call0_v88) addi,
    TRef.nullary (.of (T := ⟨S_, .i32⟩) main_call0_call0_call0_c_22) (constantI S_ 32 26#32),
    TRef.unary (.of (T := ⟨S_, .i32⟩) main_call0_call0_call0_c_22) (.of (T := ⟨S128x8192, .i32⟩) main_call0_call0_call0_v89) (broadcastInDim S128x8192 ![] bcast_S_S128x8192),
    TRef.binary (.of (T := ⟨S128x8192, .i32⟩) main_call0_call0_call0_v87) (.of (T := ⟨S128x8192, .i32⟩) main_call0_call0_call0_v89) (.of (T := ⟨S128x8192, .i32⟩) main_call0_call0_call0_v90) Host.shli,
    TRef.nullary (.of (T := ⟨S_, .i32⟩) main_call0_call0_call0_c_23) (constantI S_ 32 6#32),
    TRef.unary (.of (T := ⟨S_, .i32⟩) main_call0_call0_call0_c_23) (.of (T := ⟨S128x8192, .i32⟩) main_call0_call0_call0_v91) (broadcastInDim S128x8192 ![] bcast_S_S128x8192),
    TRef.binary (.of (T := ⟨S128x8192, .i32⟩) main_call0_call0_call0_v87) (.of (T := ⟨S128x8192, .i32⟩) main_call0_call0_call0_v91) (.of (T := ⟨S128x8192, .i32⟩) main_call0_call0_call0_v92) Host.shrui,
    TRef.binary (.of (T := ⟨S128x8192, .i32⟩) main_call0_call0_call0_v90) (.of (T := ⟨S128x8192, .i32⟩) main_call0_call0_call0_v92) (.of (T := ⟨S128x8192, .i32⟩) main_call0_call0_call0_v93) ori,
    TRef.binary (.of (T := ⟨S128x8192, .i32⟩) main_call0_call0_call0_v88) (.of (T := ⟨S128x8192, .i32⟩) main_call0_call0_call0_v93) (.of (T := ⟨S128x8192, .i32⟩) main_call0_call0_call0_v94) xori ]

/-- The threefry rounds' operations 121–144. -/
abbrev round5 : List (HloOp τ sig (Elt F)) :=
  [ TRef.binary (.of (T := ⟨S128x8192, .i32⟩) main_call0_call0_call0_v88) (.of (T := ⟨S128x8192, .i32⟩) main_call0_call0_call0_v94) (.of (T := ⟨S128x8192, .i32⟩) main_call0_call0_call0_v95) addi,
    TRef.nullary (.of (T := ⟨S_, .i32⟩) main_call0_call0_call0_c_24) (constantI S_ 32 6#32),
    TRef.unary (.of (T := ⟨S_, .i32⟩) main_call0_call0_call0_c_24) (.of (T := ⟨S128x8192, .i32⟩) main_call0_call0_call0_v96) (broadcastInDim S128x8192 ![] bcast_S_S128x8192),
    TRef.binary (.of (T := ⟨S128x8192, .i32⟩) main_call0_call0_call0_v94) (.of (T := ⟨S128x8192, .i32⟩) main_call0_call0_call0_v96) (.of (T := ⟨S128x8192, .i32⟩) main_call0_call0_call0_v97) Host.shli,
    TRef.nullary (.of (T := ⟨S_, .i32⟩) main_call0_call0_call0_c_25) (constantI S_ 32 26#32),
    TRef.unary (.of (T := ⟨S_, .i32⟩) main_call0_call0_call0_c_25) (.of (T := ⟨S128x8192, .i32⟩) main_call0_call0_call0_v98) (broadcastInDim S128x8192 ![] bcast_S_S128x8192),
    TRef.binary (.of (T := ⟨S128x8192, .i32⟩) main_call0_call0_call0_v94) (.of (T := ⟨S128x8192, .i32⟩) main_call0_call0_call0_v98) (.of (T := ⟨S128x8192, .i32⟩) main_call0_call0_call0_v99) Host.shrui,
    TRef.binary (.of (T := ⟨S128x8192, .i32⟩) main_call0_call0_call0_v97) (.of (T := ⟨S128x8192, .i32⟩) main_call0_call0_call0_v99) (.of (T := ⟨S128x8192, .i32⟩) main_call0_call0_call0_v100) ori,
    TRef.binary (.of (T := ⟨S128x8192, .i32⟩) main_call0_call0_call0_v95) (.of (T := ⟨S128x8192, .i32⟩) main_call0_call0_call0_v100) (.of (T := ⟨S128x8192, .i32⟩) main_call0_call0_call0_v101) xori,
    TRef.unary (.of (T := ⟨S_, .i32⟩) main_call0_call0_v4) (.of (T := ⟨S128x8192, .i32⟩) main_call0_call0_call0_v102) (broadcastInDim S128x8192 ![] bcast_S_S128x8192),
    TRef.binary (.of (T := ⟨S128x8192, .i32⟩) main_call0_call0_call0_v95) (.of (T := ⟨S128x8192, .i32⟩) main_call0_call0_call0_v102) (.of (T := ⟨S128x8192, .i32⟩) main_call0_call0_call0_v103) addi,
    TRef.unary (.of (T := ⟨S_, .i32⟩) main_call0_call0_v6) (.of (T := ⟨S128x8192, .i32⟩) main_call0_call0_call0_v104) (broadcastInDim S128x8192 ![] bcast_S_S128x8192),
    TRef.binary (.of (T := ⟨S128x8192, .i32⟩) main_call0_call0_call0_v101) (.of (T := ⟨S128x8192, .i32⟩) main_call0_call0_call0_v104) (.of (T := ⟨S128x8192, .i32⟩) main_call0_call0_call0_v105) addi,
    TRef.nullary (.of (T := ⟨S_, .i32⟩) main_call0_call0_call0_c_26) (constantI S_ 32 3#32),
    TRef.unary (.of (T := ⟨S_, .i32⟩) main_call0_call0_call0_c_26) (.of (T := ⟨S128x8192, .i32⟩) main_call0_call0_call0_v106) (broadcastInDim S128x8192 ![] bcast_S_S128x8192),
    TRef.binary (.of (T := ⟨S128x8192, .i32⟩) main_call0_call0_call0_v105) (.of (T := ⟨S128x8192, .i32⟩) main_call0_call0_call0_v106) (.of (T := ⟨S128x8192, .i32⟩) main_call0_call0_call0_v107) addi,
    TRef.binary (.of (T := ⟨S128x8192, .i32⟩) main_call0_call0_call0_v103) (.of (T := ⟨S128x8192, .i32⟩) main_call0_call0_call0_v107) (.of (T := ⟨S128x8192, .i32⟩) main_call0_call0_call0_v108) addi,
    TRef.nullary (.of (T := ⟨S_, .i32⟩) main_call0_call0_call0_c_27) (constantI S_ 32 17#32),
    TRef.unary (.of (T := ⟨S_, .i32⟩) main_call0_call0_call0_c_27) (.of (T := ⟨S128x8192, .i32⟩) main_call0_call0_call0_v109) (broadcastInDim S128x8192 ![] bcast_S_S128x8192),
    TRef.binary (.of (T := ⟨S128x8192, .i32⟩) main_call0_call0_call0_v107) (.of (T := ⟨S128x8192, .i32⟩) main_call0_call0_call0_v109) (.of (T := ⟨S128x8192, .i32⟩) main_call0_call0_call0_v110) Host.shli,
    TRef.nullary (.of (T := ⟨S_, .i32⟩) main_call0_call0_call0_c_28) (constantI S_ 32 15#32),
    TRef.unary (.of (T := ⟨S_, .i32⟩) main_call0_call0_call0_c_28) (.of (T := ⟨S128x8192, .i32⟩) main_call0_call0_call0_v111) (broadcastInDim S128x8192 ![] bcast_S_S128x8192),
    TRef.binary (.of (T := ⟨S128x8192, .i32⟩) main_call0_call0_call0_v107) (.of (T := ⟨S128x8192, .i32⟩) main_call0_call0_call0_v111) (.of (T := ⟨S128x8192, .i32⟩) main_call0_call0_call0_v112) Host.shrui,
    TRef.binary (.of (T := ⟨S128x8192, .i32⟩) main_call0_call0_call0_v110) (.of (T := ⟨S128x8192, .i32⟩) main_call0_call0_call0_v112) (.of (T := ⟨S128x8192, .i32⟩) main_call0_call0_call0_v113) ori ]

/-- The threefry rounds' operations 145–168. -/
abbrev round6 : List (HloOp τ sig (Elt F)) :=
  [ TRef.binary (.of (T := ⟨S128x8192, .i32⟩) main_call0_call0_call0_v108) (.of (T := ⟨S128x8192, .i32⟩) main_call0_call0_call0_v113) (.of (T := ⟨S128x8192, .i32⟩) main_call0_call0_call0_v114) xori,
    TRef.binary (.of (T := ⟨S128x8192, .i32⟩) main_call0_call0_call0_v108) (.of (T := ⟨S128x8192, .i32⟩) main_call0_call0_call0_v114) (.of (T := ⟨S128x8192, .i32⟩) main_call0_call0_call0_v115) addi,
    TRef.nullary (.of (T := ⟨S_, .i32⟩) main_call0_call0_call0_c_29) (constantI S_ 32 29#32),
    TRef.unary (.of (T := ⟨S_, .i32⟩) main_call0_call0_call0_c_29) (.of (T := ⟨S128x8192, .i32⟩) main_call0_call0_call0_v116) (broadcastInDim S128x8192 ![] bcast_S_S128x8192),
    TRef.binary (.of (T := ⟨S128x8192, .i32⟩) main_call0_call0_call0_v114) (.of (T := ⟨S128x8192, .i32⟩) main_call0_call0_call0_v116) (.of (T := ⟨S128x8192, .i32⟩) main_call0_call0_call0_v117) Host.shli,
    TRef.nullary (.of (T := ⟨S_, .i32⟩) main_call0_call0_call0_c_30) (constantI S_ 32 3#32),
    TRef.unary (.of (T := ⟨S_, .i32⟩) main_call0_call0_call0_c_30) (.of (T := ⟨S128x8192, .i32⟩) main_call0_call0_call0_v118) (broadcastInDim S128x8192 ![] bcast_S_S128x8192),
    TRef.binary (.of (T := ⟨S128x8192, .i32⟩) main_call0_call0_call0_v114) (.of (T := ⟨S128x8192, .i32⟩) main_call0_call0_call0_v118) (.of (T := ⟨S128x8192, .i32⟩) main_call0_call0_call0_v119) Host.shrui,
    TRef.binary (.of (T := ⟨S128x8192, .i32⟩) main_call0_call0_call0_v117) (.of (T := ⟨S128x8192, .i32⟩) main_call0_call0_call0_v119) (.of (T := ⟨S128x8192, .i32⟩) main_call0_call0_call0_v120) ori,
    TRef.binary (.of (T := ⟨S128x8192, .i32⟩) main_call0_call0_call0_v115) (.of (T := ⟨S128x8192, .i32⟩) main_call0_call0_call0_v120) (.of (T := ⟨S128x8192, .i32⟩) main_call0_call0_call0_v121) xori,
    TRef.binary (.of (T := ⟨S128x8192, .i32⟩) main_call0_call0_call0_v115) (.of (T := ⟨S128x8192, .i32⟩) main_call0_call0_call0_v121) (.of (T := ⟨S128x8192, .i32⟩) main_call0_call0_call0_v122) addi,
    TRef.nullary (.of (T := ⟨S_, .i32⟩) main_call0_call0_call0_c_31) (constantI S_ 32 16#32),
    TRef.unary (.of (T := ⟨S_, .i32⟩) main_call0_call0_call0_c_31) (.of (T := ⟨S128x8192, .i32⟩) main_call0_call0_call0_v123) (broadcastInDim S128x8192 ![] bcast_S_S128x8192),
    TRef.binary (.of (T := ⟨S128x8192, .i32⟩) main_call0_call0_call0_v121) (.of (T := ⟨S128x8192, .i32⟩) main_call0_call0_call0_v123) (.of (T := ⟨S128x8192, .i32⟩) main_call0_call0_call0_v124) Host.shli,
    TRef.nullary (.of (T := ⟨S_, .i32⟩) main_call0_call0_call0_c_32) (constantI S_ 32 16#32),
    TRef.unary (.of (T := ⟨S_, .i32⟩) main_call0_call0_call0_c_32) (.of (T := ⟨S128x8192, .i32⟩) main_call0_call0_call0_v125) (broadcastInDim S128x8192 ![] bcast_S_S128x8192),
    TRef.binary (.of (T := ⟨S128x8192, .i32⟩) main_call0_call0_call0_v121) (.of (T := ⟨S128x8192, .i32⟩) main_call0_call0_call0_v125) (.of (T := ⟨S128x8192, .i32⟩) main_call0_call0_call0_v126) Host.shrui,
    TRef.binary (.of (T := ⟨S128x8192, .i32⟩) main_call0_call0_call0_v124) (.of (T := ⟨S128x8192, .i32⟩) main_call0_call0_call0_v126) (.of (T := ⟨S128x8192, .i32⟩) main_call0_call0_call0_v127) ori,
    TRef.binary (.of (T := ⟨S128x8192, .i32⟩) main_call0_call0_call0_v122) (.of (T := ⟨S128x8192, .i32⟩) main_call0_call0_call0_v127) (.of (T := ⟨S128x8192, .i32⟩) main_call0_call0_call0_v128) xori,
    TRef.binary (.of (T := ⟨S128x8192, .i32⟩) main_call0_call0_call0_v122) (.of (T := ⟨S128x8192, .i32⟩) main_call0_call0_call0_v128) (.of (T := ⟨S128x8192, .i32⟩) main_call0_call0_call0_v129) addi,
    TRef.nullary (.of (T := ⟨S_, .i32⟩) main_call0_call0_call0_c_33) (constantI S_ 32 24#32),
    TRef.unary (.of (T := ⟨S_, .i32⟩) main_call0_call0_call0_c_33) (.of (T := ⟨S128x8192, .i32⟩) main_call0_call0_call0_v130) (broadcastInDim S128x8192 ![] bcast_S_S128x8192),
    TRef.binary (.of (T := ⟨S128x8192, .i32⟩) main_call0_call0_call0_v128) (.of (T := ⟨S128x8192, .i32⟩) main_call0_call0_call0_v130) (.of (T := ⟨S128x8192, .i32⟩) main_call0_call0_call0_v131) Host.shli,
    TRef.nullary (.of (T := ⟨S_, .i32⟩) main_call0_call0_call0_c_34) (constantI S_ 32 8#32) ]

/-- The threefry rounds' operations 169–192. -/
abbrev round7 : List (HloOp τ sig (Elt F)) :=
  [ TRef.unary (.of (T := ⟨S_, .i32⟩) main_call0_call0_call0_c_34) (.of (T := ⟨S128x8192, .i32⟩) main_call0_call0_call0_v132) (broadcastInDim S128x8192 ![] bcast_S_S128x8192),
    TRef.binary (.of (T := ⟨S128x8192, .i32⟩) main_call0_call0_call0_v128) (.of (T := ⟨S128x8192, .i32⟩) main_call0_call0_call0_v132) (.of (T := ⟨S128x8192, .i32⟩) main_call0_call0_call0_v133) Host.shrui,
    TRef.binary (.of (T := ⟨S128x8192, .i32⟩) main_call0_call0_call0_v131) (.of (T := ⟨S128x8192, .i32⟩) main_call0_call0_call0_v133) (.of (T := ⟨S128x8192, .i32⟩) main_call0_call0_call0_v134) ori,
    TRef.binary (.of (T := ⟨S128x8192, .i32⟩) main_call0_call0_call0_v129) (.of (T := ⟨S128x8192, .i32⟩) main_call0_call0_call0_v134) (.of (T := ⟨S128x8192, .i32⟩) main_call0_call0_call0_v135) xori,
    TRef.unary (.of (T := ⟨S_, .i32⟩) main_call0_call0_v6) (.of (T := ⟨S128x8192, .i32⟩) main_call0_call0_call0_v136) (broadcastInDim S128x8192 ![] bcast_S_S128x8192),
    TRef.binary (.of (T := ⟨S128x8192, .i32⟩) main_call0_call0_call0_v129) (.of (T := ⟨S128x8192, .i32⟩) main_call0_call0_call0_v136) (.of (T := ⟨S128x8192, .i32⟩) main_call0_call0_call0_v137) addi,
    TRef.unary (.of (T := ⟨S_, .i32⟩) main_call0_call0_call0_v1) (.of (T := ⟨S128x8192, .i32⟩) main_call0_call0_call0_v138) (broadcastInDim S128x8192 ![] bcast_S_S128x8192),
    TRef.binary (.of (T := ⟨S128x8192, .i32⟩) main_call0_call0_call0_v135) (.of (T := ⟨S128x8192, .i32⟩) main_call0_call0_call0_v138) (.of (T := ⟨S128x8192, .i32⟩) main_call0_call0_call0_v139) addi,
    TRef.nullary (.of (T := ⟨S_, .i32⟩) main_call0_call0_call0_c_35) (constantI S_ 32 4#32),
    TRef.unary (.of (T := ⟨S_, .i32⟩) main_call0_call0_call0_c_35) (.of (T := ⟨S128x8192, .i32⟩) main_call0_call0_call0_v140) (broadcastInDim S128x8192 ![] bcast_S_S128x8192),
    TRef.binary (.of (T := ⟨S128x8192, .i32⟩) main_call0_call0_call0_v139) (.of (T := ⟨S128x8192, .i32⟩) main_call0_call0_call0_v140) (.of (T := ⟨S128x8192, .i32⟩) main_call0_call0_call0_v141) addi,
    TRef.binary (.of (T := ⟨S128x8192, .i32⟩) main_call0_call0_call0_v137) (.of (T := ⟨S128x8192, .i32⟩) main_call0_call0_call0_v141) (.of (T := ⟨S128x8192, .i32⟩) main_call0_call0_call0_v142) addi,
    TRef.nullary (.of (T := ⟨S_, .i32⟩) main_call0_call0_call0_c_36) (constantI S_ 32 13#32),
    TRef.unary (.of (T := ⟨S_, .i32⟩) main_call0_call0_call0_c_36) (.of (T := ⟨S128x8192, .i32⟩) main_call0_call0_call0_v143) (broadcastInDim S128x8192 ![] bcast_S_S128x8192),
    TRef.binary (.of (T := ⟨S128x8192, .i32⟩) main_call0_call0_call0_v141) (.of (T := ⟨S128x8192, .i32⟩) main_call0_call0_call0_v143) (.of (T := ⟨S128x8192, .i32⟩) main_call0_call0_call0_v144) Host.shli,
    TRef.nullary (.of (T := ⟨S_, .i32⟩) main_call0_call0_call0_c_37) (constantI S_ 32 19#32),
    TRef.unary (.of (T := ⟨S_, .i32⟩) main_call0_call0_call0_c_37) (.of (T := ⟨S128x8192, .i32⟩) main_call0_call0_call0_v145) (broadcastInDim S128x8192 ![] bcast_S_S128x8192),
    TRef.binary (.of (T := ⟨S128x8192, .i32⟩) main_call0_call0_call0_v141) (.of (T := ⟨S128x8192, .i32⟩) main_call0_call0_call0_v145) (.of (T := ⟨S128x8192, .i32⟩) main_call0_call0_call0_v146) Host.shrui,
    TRef.binary (.of (T := ⟨S128x8192, .i32⟩) main_call0_call0_call0_v144) (.of (T := ⟨S128x8192, .i32⟩) main_call0_call0_call0_v146) (.of (T := ⟨S128x8192, .i32⟩) main_call0_call0_call0_v147) ori,
    TRef.binary (.of (T := ⟨S128x8192, .i32⟩) main_call0_call0_call0_v142) (.of (T := ⟨S128x8192, .i32⟩) main_call0_call0_call0_v147) (.of (T := ⟨S128x8192, .i32⟩) main_call0_call0_call0_v148) xori,
    TRef.binary (.of (T := ⟨S128x8192, .i32⟩) main_call0_call0_call0_v142) (.of (T := ⟨S128x8192, .i32⟩) main_call0_call0_call0_v148) (.of (T := ⟨S128x8192, .i32⟩) main_call0_call0_call0_v149) addi,
    TRef.nullary (.of (T := ⟨S_, .i32⟩) main_call0_call0_call0_c_38) (constantI S_ 32 15#32),
    TRef.unary (.of (T := ⟨S_, .i32⟩) main_call0_call0_call0_c_38) (.of (T := ⟨S128x8192, .i32⟩) main_call0_call0_call0_v150) (broadcastInDim S128x8192 ![] bcast_S_S128x8192),
    TRef.binary (.of (T := ⟨S128x8192, .i32⟩) main_call0_call0_call0_v148) (.of (T := ⟨S128x8192, .i32⟩) main_call0_call0_call0_v150) (.of (T := ⟨S128x8192, .i32⟩) main_call0_call0_call0_v151) Host.shli ]

/-- The threefry rounds' operations 193–216. -/
abbrev round8 : List (HloOp τ sig (Elt F)) :=
  [ TRef.nullary (.of (T := ⟨S_, .i32⟩) main_call0_call0_call0_c_39) (constantI S_ 32 17#32),
    TRef.unary (.of (T := ⟨S_, .i32⟩) main_call0_call0_call0_c_39) (.of (T := ⟨S128x8192, .i32⟩) main_call0_call0_call0_v152) (broadcastInDim S128x8192 ![] bcast_S_S128x8192),
    TRef.binary (.of (T := ⟨S128x8192, .i32⟩) main_call0_call0_call0_v148) (.of (T := ⟨S128x8192, .i32⟩) main_call0_call0_call0_v152) (.of (T := ⟨S128x8192, .i32⟩) main_call0_call0_call0_v153) Host.shrui,
    TRef.binary (.of (T := ⟨S128x8192, .i32⟩) main_call0_call0_call0_v151) (.of (T := ⟨S128x8192, .i32⟩) main_call0_call0_call0_v153) (.of (T := ⟨S128x8192, .i32⟩) main_call0_call0_call0_v154) ori,
    TRef.binary (.of (T := ⟨S128x8192, .i32⟩) main_call0_call0_call0_v149) (.of (T := ⟨S128x8192, .i32⟩) main_call0_call0_call0_v154) (.of (T := ⟨S128x8192, .i32⟩) main_call0_call0_call0_v155) xori,
    TRef.binary (.of (T := ⟨S128x8192, .i32⟩) main_call0_call0_call0_v149) (.of (T := ⟨S128x8192, .i32⟩) main_call0_call0_call0_v155) (.of (T := ⟨S128x8192, .i32⟩) main_call0_call0_call0_v156) addi,
    TRef.nullary (.of (T := ⟨S_, .i32⟩) main_call0_call0_call0_c_40) (constantI S_ 32 26#32),
    TRef.unary (.of (T := ⟨S_, .i32⟩) main_call0_call0_call0_c_40) (.of (T := ⟨S128x8192, .i32⟩) main_call0_call0_call0_v157) (broadcastInDim S128x8192 ![] bcast_S_S128x8192),
    TRef.binary (.of (T := ⟨S128x8192, .i32⟩) main_call0_call0_call0_v155) (.of (T := ⟨S128x8192, .i32⟩) main_call0_call0_call0_v157) (.of (T := ⟨S128x8192, .i32⟩) main_call0_call0_call0_v158) Host.shli,
    TRef.nullary (.of (T := ⟨S_, .i32⟩) main_call0_call0_call0_c_41) (constantI S_ 32 6#32),
    TRef.unary (.of (T := ⟨S_, .i32⟩) main_call0_call0_call0_c_41) (.of (T := ⟨S128x8192, .i32⟩) main_call0_call0_call0_v159) (broadcastInDim S128x8192 ![] bcast_S_S128x8192),
    TRef.binary (.of (T := ⟨S128x8192, .i32⟩) main_call0_call0_call0_v155) (.of (T := ⟨S128x8192, .i32⟩) main_call0_call0_call0_v159) (.of (T := ⟨S128x8192, .i32⟩) main_call0_call0_call0_v160) Host.shrui,
    TRef.binary (.of (T := ⟨S128x8192, .i32⟩) main_call0_call0_call0_v158) (.of (T := ⟨S128x8192, .i32⟩) main_call0_call0_call0_v160) (.of (T := ⟨S128x8192, .i32⟩) main_call0_call0_call0_v161) ori,
    TRef.binary (.of (T := ⟨S128x8192, .i32⟩) main_call0_call0_call0_v156) (.of (T := ⟨S128x8192, .i32⟩) main_call0_call0_call0_v161) (.of (T := ⟨S128x8192, .i32⟩) main_call0_call0_call0_v162) xori,
    TRef.binary (.of (T := ⟨S128x8192, .i32⟩) main_call0_call0_call0_v156) (.of (T := ⟨S128x8192, .i32⟩) main_call0_call0_call0_v162) (.of (T := ⟨S128x8192, .i32⟩) main_call0_call0_call0_v163) addi,
    TRef.nullary (.of (T := ⟨S_, .i32⟩) main_call0_call0_call0_c_42) (constantI S_ 32 6#32),
    TRef.unary (.of (T := ⟨S_, .i32⟩) main_call0_call0_call0_c_42) (.of (T := ⟨S128x8192, .i32⟩) main_call0_call0_call0_v164) (broadcastInDim S128x8192 ![] bcast_S_S128x8192),
    TRef.binary (.of (T := ⟨S128x8192, .i32⟩) main_call0_call0_call0_v162) (.of (T := ⟨S128x8192, .i32⟩) main_call0_call0_call0_v164) (.of (T := ⟨S128x8192, .i32⟩) main_call0_call0_call0_v165) Host.shli,
    TRef.nullary (.of (T := ⟨S_, .i32⟩) main_call0_call0_call0_c_43) (constantI S_ 32 26#32),
    TRef.unary (.of (T := ⟨S_, .i32⟩) main_call0_call0_call0_c_43) (.of (T := ⟨S128x8192, .i32⟩) main_call0_call0_call0_v166) (broadcastInDim S128x8192 ![] bcast_S_S128x8192),
    TRef.binary (.of (T := ⟨S128x8192, .i32⟩) main_call0_call0_call0_v162) (.of (T := ⟨S128x8192, .i32⟩) main_call0_call0_call0_v166) (.of (T := ⟨S128x8192, .i32⟩) main_call0_call0_call0_v167) Host.shrui,
    TRef.binary (.of (T := ⟨S128x8192, .i32⟩) main_call0_call0_call0_v165) (.of (T := ⟨S128x8192, .i32⟩) main_call0_call0_call0_v167) (.of (T := ⟨S128x8192, .i32⟩) main_call0_call0_call0_v168) ori,
    TRef.binary (.of (T := ⟨S128x8192, .i32⟩) main_call0_call0_call0_v163) (.of (T := ⟨S128x8192, .i32⟩) main_call0_call0_call0_v168) (.of (T := ⟨S128x8192, .i32⟩) main_call0_call0_call0_v169) xori,
    TRef.unary (.of (T := ⟨S_, .i32⟩) main_call0_call0_call0_v1) (.of (T := ⟨S128x8192, .i32⟩) main_call0_call0_call0_v170) (broadcastInDim S128x8192 ![] bcast_S_S128x8192) ]

/-- The threefry rounds' operations 217–222. -/
abbrev round9 : List (HloOp τ sig (Elt F)) :=
  [ TRef.binary (.of (T := ⟨S128x8192, .i32⟩) main_call0_call0_call0_v163) (.of (T := ⟨S128x8192, .i32⟩) main_call0_call0_call0_v170) (.of (T := ⟨S128x8192, .i32⟩) main_call0_call0_v18_0) addi,
    TRef.unary (.of (T := ⟨S_, .i32⟩) main_call0_call0_v4) (.of (T := ⟨S128x8192, .i32⟩) main_call0_call0_call0_v172) (broadcastInDim S128x8192 ![] bcast_S_S128x8192),
    TRef.binary (.of (T := ⟨S128x8192, .i32⟩) main_call0_call0_call0_v169) (.of (T := ⟨S128x8192, .i32⟩) main_call0_call0_call0_v172) (.of (T := ⟨S128x8192, .i32⟩) main_call0_call0_call0_v173) addi,
    TRef.nullary (.of (T := ⟨S_, .i32⟩) main_call0_call0_call0_c_44) (constantI S_ 32 5#32),
    TRef.unary (.of (T := ⟨S_, .i32⟩) main_call0_call0_call0_c_44) (.of (T := ⟨S128x8192, .i32⟩) main_call0_call0_call0_v174) (broadcastInDim S128x8192 ![] bcast_S_S128x8192),
    TRef.binary (.of (T := ⟨S128x8192, .i32⟩) main_call0_call0_call0_v173) (.of (T := ⟨S128x8192, .i32⟩) main_call0_call0_call0_v174) (.of (T := ⟨S128x8192, .i32⟩) main_call0_call0_v18_1) addi ]

/-- The interval that the uniform numbers are drawn from. -/
abbrev bounds : List (HloOp τ sig (Elt F)) :=
  [ TRef.nullary (.of (T := ⟨S_, .f32⟩) main_call0_cst) (constant S_ .f32 0x3F800000#32),
    TRef.nullary (.of (T := ⟨S_, .f32⟩) main_call0_cst_0) (constant S_ .f32 0x00800000#32) ]

/-- The key's words, the interval's ends and the counts. -/
abbrev counts : List (HloOp τ sig (Elt F)) :=
  [ TRef.unary (.of (T := ⟨S_, .f32⟩) main_call0_cst) (.of (T := ⟨S_, .f32⟩) main_call0_call0_v0) id,
    TRef.unary (.of (T := ⟨S_, .f32⟩) main_call0_cst_0) (.of (T := ⟨S1x1, .f32⟩) main_call0_call0_v1) (broadcastInDim S1x1 ![] bcast_S_S1x1),
    TRef.unary (.of (T := ⟨S_, .f32⟩) main_call0_call0_v0) (.of (T := ⟨S1x1, .f32⟩) main_call0_call0_v2) (broadcastInDim S1x1 ![] bcast_S_S1x1),
    TRef.unary (.of (T := ⟨S2, .i32⟩) main_v17) (.of (T := ⟨S1, .i32⟩) main_call0_call0_v3) (extractStridedSlice S1 ![0] · slices_S2_S1_0),
    TRef.reshape (.of (T := ⟨S1, .i32⟩) main_call0_call0_v3) (.of (T := ⟨S_, .i32⟩) main_call0_call0_v4) (rfl : (.i32 : EltTy) = .i32) shapeCasts_S1_S_,
    TRef.unary (.of (T := ⟨S2, .i32⟩) main_v17) (.of (T := ⟨S1, .i32⟩) main_call0_call0_v5) (extractStridedSlice S1 ![1] · slices_S2_S1_1),
    TRef.reshape (.of (T := ⟨S1, .i32⟩) main_call0_call0_v5) (.of (T := ⟨S_, .i32⟩) main_call0_call0_v6) (rfl : (.i32 : EltTy) = .i32) shapeCasts_S1_S_,
    TRef.nullary (.of (T := ⟨S128x8192, .i64⟩) main_call0_call0_v7) (iotaInDim S128x8192 64 0),
    TRef.nullary (.of (T := ⟨S128x8192, .i64⟩) main_call0_call0_v8) (iotaInDim S128x8192 64 1),
    TRef.nullary (.of (T := ⟨S_, .i64⟩) main_call0_call0_c) (constantI S_ 64 8192#64),
    TRef.unary (.of (T := ⟨S_, .i64⟩) main_call0_call0_c) (.of (T := ⟨S128x8192, .i64⟩) main_call0_call0_v9) (broadcastInDim S128x8192 ![] bcast_S_S128x8192),
    TRef.binary (.of (T := ⟨S128x8192, .i64⟩) main_call0_call0_v9) (.of (T := ⟨S128x8192, .i64⟩) main_call0_call0_v7) (.of (T := ⟨S128x8192, .i64⟩) main_call0_call0_v10) muli,
    TRef.nullary (.of (T := ⟨S_, .i64⟩) main_call0_call0_c_0) (constantI S_ 64 1#64),
    TRef.unary (.of (T := ⟨S_, .i64⟩) main_call0_call0_c_0) (.of (T := ⟨S128x8192, .i64⟩) main_call0_call0_v11) (broadcastInDim S128x8192 ![] bcast_S_S128x8192),
    TRef.binary (.of (T := ⟨S128x8192, .i64⟩) main_call0_call0_v11) (.of (T := ⟨S128x8192, .i64⟩) main_call0_call0_v8) (.of (T := ⟨S128x8192, .i64⟩) main_call0_call0_v12) muli,
    TRef.binary (.of (T := ⟨S128x8192, .i64⟩) main_call0_call0_v10) (.of (T := ⟨S128x8192, .i64⟩) main_call0_call0_v12) (.of (T := ⟨S128x8192, .i64⟩) main_call0_call0_v13) addi,
    TRef.nullary (.of (T := ⟨S_, .i64⟩) main_call0_call0_c_1) (constantI S_ 64 32#64),
    TRef.unary (.of (T := ⟨S_, .i64⟩) main_call0_call0_c_1) (.of (T := ⟨S128x8192, .i64⟩) main_call0_call0_v14) (broadcastInDim S128x8192 ![] bcast_S_S128x8192),
    TRef.binary (.of (T := ⟨S128x8192, .i64⟩) main_call0_call0_v13) (.of (T := ⟨S128x8192, .i64⟩) main_call0_call0_v14) (.of (T := ⟨S128x8192, .i64⟩) main_call0_call0_v15) Host.shrui,
    TRef.unary (.of (T := ⟨S128x8192, .i64⟩) main_call0_call0_v13) (.of (T := ⟨S128x8192, .i32⟩) main_call0_call0_v16) (trunci 32 · natLt_32_64),
    TRef.unary (.of (T := ⟨S128x8192, .i64⟩) main_call0_call0_v15) (.of (T := ⟨S128x8192, .i32⟩) main_call0_call0_v17) (trunci 32 · natLt_32_64) ]

/-- Both words of each place joined, and the uniform number that their bits make. -/
abbrev unit : List (HloOp τ sig (Elt F)) :=
  [ TRef.binary (.of (T := ⟨S128x8192, .i32⟩) main_call0_call0_v18_0) (.of (T := ⟨S128x8192, .i32⟩) main_call0_call0_v18_1) (.of (T := ⟨S128x8192, .i32⟩) main_call0_call0_v19) xori,
    TRef.nullary (.of (T := ⟨S_, .i32⟩) main_call0_call0_c_2) (constantI S_ 32 9#32),
    TRef.unary (.of (T := ⟨S_, .i32⟩) main_call0_call0_c_2) (.of (T := ⟨S128x8192, .i32⟩) main_call0_call0_v20) (broadcastInDim S128x8192 ![] bcast_S_S128x8192),
    TRef.binary (.of (T := ⟨S128x8192, .i32⟩) main_call0_call0_v19) (.of (T := ⟨S128x8192, .i32⟩) main_call0_call0_v20) (.of (T := ⟨S128x8192, .i32⟩) main_call0_call0_v21) Host.shrui,
    TRef.nullary (.of (T := ⟨S_, .i32⟩) main_call0_call0_c_3) (constantI S_ 32 1065353216#32),
    TRef.unary (.of (T := ⟨S_, .i32⟩) main_call0_call0_c_3) (.of (T := ⟨S128x8192, .i32⟩) main_call0_call0_v22) (broadcastInDim S128x8192 ![] bcast_S_S128x8192),
    TRef.binary (.of (T := ⟨S128x8192, .i32⟩) main_call0_call0_v21) (.of (T := ⟨S128x8192, .i32⟩) main_call0_call0_v22) (.of (T := ⟨S128x8192, .i32⟩) main_call0_call0_v23) ori,
    TRef.unary (.of (T := ⟨S128x8192, .i32⟩) main_call0_call0_v23) (.of (T := ⟨S128x8192, .f32⟩) main_call0_call0_v24) (bitcastToFloat .f32),
    TRef.nullary (.of (T := ⟨S_, .f32⟩) main_call0_call0_cst) (constant S_ .f32 0x3F800000#32),
    TRef.unary (.of (T := ⟨S_, .f32⟩) main_call0_call0_cst) (.of (T := ⟨S128x8192, .f32⟩) main_call0_call0_v25) (broadcastInDim S128x8192 ![] bcast_S_S128x8192),
    TRef.binary (.of (T := ⟨S128x8192, .f32⟩) main_call0_call0_v24) (.of (T := ⟨S128x8192, .f32⟩) main_call0_call0_v25) (.of (T := ⟨S128x8192, .f32⟩) main_call0_call0_v26) subf,
    TRef.binary (.of (T := ⟨S1x1, .f32⟩) main_call0_call0_v2) (.of (T := ⟨S1x1, .f32⟩) main_call0_call0_v1) (.of (T := ⟨S1x1, .f32⟩) main_call0_call0_v27) subf,
    TRef.unary (.of (T := ⟨S1x1, .f32⟩) main_call0_call0_v27) (.of (T := ⟨S128x8192, .f32⟩) main_call0_call0_v28) (broadcastInDim S128x8192 ![0, 1] bcast_S1x1_S128x8192_0_1),
    TRef.binary (.of (T := ⟨S128x8192, .f32⟩) main_call0_call0_v26) (.of (T := ⟨S128x8192, .f32⟩) main_call0_call0_v28) (.of (T := ⟨S128x8192, .f32⟩) main_call0_call0_v29) mulf,
    TRef.unary (.of (T := ⟨S1x1, .f32⟩) main_call0_call0_v1) (.of (T := ⟨S128x8192, .f32⟩) main_call0_call0_v30) (broadcastInDim S128x8192 ![0, 1] bcast_S1x1_S128x8192_0_1),
    TRef.binary (.of (T := ⟨S128x8192, .f32⟩) main_call0_call0_v29) (.of (T := ⟨S128x8192, .f32⟩) main_call0_call0_v30) (.of (T := ⟨S128x8192, .f32⟩) main_call0_call0_v31) addf,
    TRef.unary (.of (T := ⟨S1x1, .f32⟩) main_call0_call0_v1) (.of (T := ⟨S128x8192, .f32⟩) main_call0_call0_v32) (broadcastInDim S128x8192 ![0, 1] bcast_S1x1_S128x8192_0_1),
    TRef.binary (.of (T := ⟨S128x8192, .f32⟩) main_call0_call0_v32) (.of (T := ⟨S128x8192, .f32⟩) main_call0_call0_v31) (.of (T := ⟨S128x8192, .f32⟩) main_call0_v0) maximumf ]

/-- The noise of the uniform number. -/
abbrev logs : List (HloOp τ sig (Elt F)) :=
  [ TRef.unary (.of (T := ⟨S128x8192, .f32⟩) main_call0_v0) (.of (T := ⟨S128x8192, .f32⟩) main_call0_v1) Host.log,
    TRef.unary (.of (T := ⟨S128x8192, .f32⟩) main_call0_v1) (.of (T := ⟨S128x8192, .f32⟩) main_call0_v2) Host.negf,
    TRef.unary (.of (T := ⟨S128x8192, .f32⟩) main_call0_v2) (.of (T := ⟨S128x8192, .f32⟩) main_call0_v3) Host.log,
    TRef.unary (.of (T := ⟨S128x8192, .f32⟩) main_call0_v3) (.of (T := ⟨S128x8192, .f32⟩) main_v18) Host.negf ]

/-- The scores. -/
abbrev scoring : List (HloOp τ sig (Elt F)) :=
  [ binary main_arg0 main_arg1 main_v0 ((fun l r => Host.dotGeneral dot_S128x8192x32_S32x1_S128x8192x1_2_0_01_1_n_n none l r) : (⟨S128x8192x32, .f32⟩ : BufTy).Contents (Elt F) → (⟨S32x1, .f32⟩ : BufTy).Contents (Elt F) → (⟨S128x8192x1, .f32⟩ : BufTy).Contents (Elt F)),
    unary main_arg2 main_v1 (broadcastInDim S1x1x1 ![2] bcast_S1_S1x1x1_2 : (⟨S1, .f32⟩ : BufTy).Contents (Elt F) → (⟨S1x1x1, .f32⟩ : BufTy).Contents (Elt F)),
    unary main_v1 main_v2 (broadcastInDim S128x8192x1 ![0, 1, 2] bcast_S1x1x1_S128x8192x1_0_1_2 : (⟨S1x1x1, .f32⟩ : BufTy).Contents (Elt F) → (⟨S128x8192x1, .f32⟩ : BufTy).Contents (Elt F)),
    binary main_v0 main_v2 main_v3 (addf : (⟨S128x8192x1, .f32⟩ : BufTy).Contents (Elt F) → (⟨S128x8192x1, .f32⟩ : BufTy).Contents (Elt F) → (⟨S128x8192x1, .f32⟩ : BufTy).Contents (Elt F)),
    reshape main_v3 main_v4 (rfl : (.f32 : EltTy) = .f32) shapeCasts_S128x8192x1_S128x8192,
    nullary main_cst (constant S_ .f32 0x00000000#32),
    binary main_v4 main_cst main_v5 ((fun x v => Host.reduceAdd x v reducesTo_S128x8192_S128_d1 h_S_) : (⟨S128x8192, .f32⟩ : BufTy).Contents (Elt F) → (⟨S_, .f32⟩ : BufTy).Contents (Elt F) → (⟨S128, .f32⟩ : BufTy).Contents (Elt F)),
    unary main_v5 main_v6 (broadcastInDim S128x1 ![0] bcast_S128_S128x1_0 : (⟨S128, .f32⟩ : BufTy).Contents (Elt F) → (⟨S128x1, .f32⟩ : BufTy).Contents (Elt F)),
    nullary main_cst_0 (constant S_ .f32 0x46000000#32),
    unary main_cst_0 main_v7 (broadcastInDim S128x1 ![] bcast_S_S128x1 : (⟨S_, .f32⟩ : BufTy).Contents (Elt F) → (⟨S128x1, .f32⟩ : BufTy).Contents (Elt F)),
    binary main_v6 main_v7 main_v8 (Host.divf : (⟨S128x1, .f32⟩ : BufTy).Contents (Elt F) → (⟨S128x1, .f32⟩ : BufTy).Contents (Elt F) → (⟨S128x1, .f32⟩ : BufTy).Contents (Elt F)),
    unary main_v8 main_v9 (broadcastInDim S128x8192 ![0, 1] bcast_S128x1_S128x8192_0_1 : (⟨S128x1, .f32⟩ : BufTy).Contents (Elt F) → (⟨S128x8192, .f32⟩ : BufTy).Contents (Elt F)),
    binary main_v4 main_v9 main_v10 (subf : (⟨S128x8192, .f32⟩ : BufTy).Contents (Elt F) → (⟨S128x8192, .f32⟩ : BufTy).Contents (Elt F) → (⟨S128x8192, .f32⟩ : BufTy).Contents (Elt F)) ]

/-- The key. -/
abbrev keying : List (HloOp τ sig (Elt F)) :=
  [ nullary main_c (constantI S_ 32 42#32),
    nullary main_c_1 (constantI S_ 32 32#32),
    binary main_c main_c_1 main_v11 (Host.shrui : (⟨S_, .i32⟩ : BufTy).Contents (Elt F) → (⟨S_, .i32⟩ : BufTy).Contents (Elt F) → (⟨S_, .i32⟩ : BufTy).Contents (Elt F)),
    unary main_v11 main_v12 (id : (⟨S_, .i32⟩ : BufTy).Contents (Elt F) → (⟨S_, .i32⟩ : BufTy).Contents (Elt F)),
    unary main_v12 main_v13 (broadcastInDim S1 ![] bcast_S_S1 : (⟨S_, .i32⟩ : BufTy).Contents (Elt F) → (⟨S1, .i32⟩ : BufTy).Contents (Elt F)),
    nullary main_c_2 (constantI S_ 32 4294967295#32),
    binary main_c main_c_2 main_v14 (andi : (⟨S_, .i32⟩ : BufTy).Contents (Elt F) → (⟨S_, .i32⟩ : BufTy).Contents (Elt F) → (⟨S_, .i32⟩ : BufTy).Contents (Elt F)),
    unary main_v14 main_v15 (id : (⟨S_, .i32⟩ : BufTy).Contents (Elt F) → (⟨S_, .i32⟩ : BufTy).Contents (Elt F)),
    unary main_v15 main_v16 (broadcastInDim S1 ![] bcast_S_S1 : (⟨S_, .i32⟩ : BufTy).Contents (Elt F) → (⟨S1, .i32⟩ : BufTy).Contents (Elt F)),
    binary main_v13 main_v16 main_v17 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

/-- The permutation. -/
abbrev sorting : List (HloOp τ sig (Elt F)) :=
  [ nullary main_cst_3 (constant S_ .f32 0x3F800000#32),
    unary main_cst_3 main_v19 (broadcastInDim S128x8192 ![] bcast_S_S128x8192 : (⟨S_, .f32⟩ : BufTy).Contents (Elt F) → (⟨S128x8192, .f32⟩ : BufTy).Contents (Elt F)),
    binary main_v10 main_v19 main_v20 (Host.divf : (⟨S128x8192, .f32⟩ : BufTy).Contents (Elt F) → (⟨S128x8192, .f32⟩ : BufTy).Contents (Elt F) → (⟨S128x8192, .f32⟩ : BufTy).Contents (Elt F)),
    binary main_v20 main_v18 main_v21 (addf : (⟨S128x8192, .f32⟩ : BufTy).Contents (Elt F) → (⟨S128x8192, .f32⟩ : BufTy).Contents (Elt F) → (⟨S128x8192, .f32⟩ : BufTy).Contents (Elt F)),
    unary main_v21 main_v22 (Host.negf : (⟨S128x8192, .f32⟩ : BufTy).Contents (Elt F) → (⟨S128x8192, .f32⟩ : BufTy).Contents (Elt F)),
    TRef.nullary (.of (T := ⟨S128x8192, .i32⟩) main_call1_v0) (iotaInDim S128x8192 32 1),
    TRef.binary (.of (T := ⟨S128x8192, .f32⟩) main_v22) (.of (T := ⟨S128x8192, .i32⟩) main_call1_v0) (.of (T := ⟨S128x8192, .f32⟩) main_call1_v1_0) (fun x y => (Host.sort2 S128x8192 1 comparator_f32_i32_d1 x y).1),
    TRef.binary (.of (T := ⟨S128x8192, .f32⟩) main_v22) (.of (T := ⟨S128x8192, .i32⟩) main_call1_v0) (.of (T := ⟨S128x8192, .i32⟩) main_v23) (fun x y => (Host.sort2 S128x8192 1 comparator_f32_i32_d1 x y).2) ]

/-- The scores along it. -/
abbrev taking : List (HloOp τ sig (Elt F)) :=
  [ TRef.nullary (.of (T := ⟨S_, .i32⟩) main_call2_c) (constantI S_ 32 0#32),
    TRef.unary (.of (T := ⟨S_, .i32⟩) main_call2_c) (.of (T := ⟨S128x8192, .i32⟩) main_call2_v0) (broadcastInDim S128x8192 ![] bcast_S_S128x8192),
    TRef.binary (.of (T := ⟨S128x8192, .i32⟩) main_v23) (.of (T := ⟨S128x8192, .i32⟩) main_call2_v0) (.of (T := ⟨S128x8192, .i1⟩) main_call2_v1) (cmpi .slt),
    TRef.nullary (.of (T := ⟨S_, .i32⟩) main_call2_c_0) (constantI S_ 32 8192#32),
    TRef.unary (.of (T := ⟨S_, .i32⟩) main_call2_c_0) (.of (T := ⟨S128x8192, .i32⟩) main_call2_v2) (broadcastInDim S128x8192 ![] bcast_S_S128x8192),
    TRef.binary (.of (T := ⟨S128x8192, .i32⟩) main_v23) (.of (T := ⟨S128x8192, .i32⟩) main_call2_v2) (.of (T := ⟨S128x8192, .i32⟩) main_call2_v3) addi,
    TRef.ternary (.of (T := ⟨S128x8192, .i1⟩) main_call2_v1) (.of (T := ⟨S128x8192, .i32⟩) main_call2_v3) (.of (T := ⟨S128x8192, .i32⟩) main_v23) (.of (T := ⟨S128x8192, .i32⟩) main_call2_v4) select,
    TRef.reshape (.of (T := ⟨S128x8192, .i32⟩) main_call2_v4) (.of (T := ⟨S128x8192x1, .i32⟩) main_call2_v5) (rfl : (.i32 : EltTy) = .i32) shapeCasts_S128x8192_S128x8192x1,
    TRef.nullary (.of (T := ⟨S1, .i32⟩) main_call2_c_1) (constantI S1 32 8191#32),
    TRef.nullary (.of (T := ⟨S_, .i32⟩) main_call2_c_2) (constantI S_ 32 0#32),
    TRef.unary (.of (T := ⟨S_, .i32⟩) main_call2_c_2) (.of (T := ⟨S128x8192x1, .i32⟩) main_call2_v6) (broadcastInDim S128x8192x1 ![] bcast_S_S128x8192x1),
    TRef.binary (.of (T := ⟨S128x8192x1, .i32⟩) main_call2_v5) (.of (T := ⟨S128x8192x1, .i32⟩) main_call2_v6) (.of (T := ⟨S128x8192x1, .i1⟩) main_call2_v7) (cmpi .sge),
    TRef.unary (.of (T := ⟨S1, .i32⟩) main_call2_c_1) (.of (T := ⟨S1x1x1, .i32⟩) main_call2_v8) (broadcastInDim S1x1x1 ![2] bcast_S1_S1x1x1_2),
    TRef.unary (.of (T := ⟨S1x1x1, .i32⟩) main_call2_v8) (.of (T := ⟨S128x8192x1, .i32⟩) main_call2_v9) (broadcastInDim S128x8192x1 ![0, 1, 2] bcast_S1x1x1_S128x8192x1_0_1_2),
    TRef.binary (.of (T := ⟨S128x8192x1, .i32⟩) main_call2_v5) (.of (T := ⟨S128x8192x1, .i32⟩) main_call2_v9) (.of (T := ⟨S128x8192x1, .i1⟩) main_call2_v10) (cmpi .sle),
    TRef.binary (.of (T := ⟨S128x8192x1, .i1⟩) main_call2_v7) (.of (T := ⟨S128x8192x1, .i1⟩) main_call2_v10) (.of (T := ⟨S128x8192x1, .i1⟩) main_call2_v11) andi,
    TRef.nullary (.of (T := ⟨S_, .i1⟩) main_call2_c_3) (constantI S_ 1 1#1),
    TRef.binary (.of (T := ⟨S128x8192x1, .i1⟩) main_call2_v11) (.of (T := ⟨S_, .i1⟩) main_call2_c_3) (.of (T := ⟨S128x8192, .i1⟩) main_call2_v12) (fun x v => Host.reduce IntOp.andi x v reducesTo_S128x8192x1_S128x8192_d2 h_S_),
    TRef.binary (.of (T := ⟨S128x8192, .f32⟩) main_v10) (.of (T := ⟨S128x8192x1, .i32⟩) main_call2_v5) (.of (T := ⟨S128x8192, .f32⟩) main_call2_v13) (fun x i => Host.gather gather_S128x8192_S128x8192x1_S128x8192_n_1_0_0_1_2_11 x i),
    TRef.nullary (.of (T := ⟨S_, .f32⟩) main_call2_cst) (constant S_ .f32 0x7FC00000#32),
    TRef.unary (.of (T := ⟨S_, .f32⟩) main_call2_cst) (.of (T := ⟨S128x8192, .f32⟩) main_call2_v14) (broadcastInDim S128x8192 ![] bcast_S_S128x8192),
    TRef.ternary (.of (T := ⟨S128x8192, .i1⟩) main_call2_v12) (.of (T := ⟨S128x8192, .f32⟩) main_call2_v13) (.of (T := ⟨S128x8192, .f32⟩) main_call2_v14) (.of (T := ⟨S128x8192, .f32⟩) main_v24) select ]

/-- The rows' numbers. -/
abbrev summing : List (HloOp τ sig (Elt F)) :=
  [ TRef.unary (.of (T := ⟨S128x8192, .f32⟩) main_v24) (.of (T := ⟨S128x8192, .f32⟩) main_v25) (Host.reverse [1]),
    unary main_v25 main_v26 (Host.exp : (⟨S128x8192, .f32⟩ : BufTy).Contents (Elt F) → (⟨S128x8192, .f32⟩ : BufTy).Contents (Elt F)),
    TRef.nullary (.of (T := ⟨S_, .f32⟩) main_call4_call0_cst) (constant S_ .f32 0x00000000#32),
    TRef.unary (.of (T := ⟨S_, .f32⟩) main_call4_call0_cst) (.of (T := ⟨S_, .f32⟩) main_call4_call0_v0) (broadcastInDim S_ ![] bcast_S_S_),
    TRef.binary (.of (T := ⟨S128x8192, .f32⟩) main_v26) (.of (T := ⟨S_, .f32⟩) main_call4_call0_v0) (.of (T := ⟨S128x8192, .f32⟩) main_v27) (fun x v => Host.reduceWindowAdd ![1, 8192] ![1, 1] ![0, 8191] ![0, 0] x v reduceWindows_S128x8192_S128x8192_w1s1p0_0_w8192s1p8191_0 h_S_),
    unary main_v27 main_v28 (Host.log : (⟨S128x8192, .f32⟩ : BufTy).Contents (Elt F) → (⟨S128x8192, .f32⟩ : BufTy).Contents (Elt F)),
    TRef.unary (.of (T := ⟨S128x8192, .f32⟩) main_v28) (.of (T := ⟨S128x8192, .f32⟩) main_v29) (Host.reverse [1]),
    binary main_v24 main_v29 main_v30 (subf : (⟨S128x8192, .f32⟩ : BufTy).Contents (Elt F) → (⟨S128x8192, .f32⟩ : BufTy).Contents (Elt F) → (⟨S128x8192, .f32⟩ : BufTy).Contents (Elt F)),
    nullary main_cst_4 (constant S_ .f32 0x00000000#32),
    binary main_v30 main_cst_4 main_v31 ((fun x v => Host.reduceAdd x v reducesTo_S128x8192_S128_d1 h_S_) : (⟨S128x8192, .f32⟩ : BufTy).Contents (Elt F) → (⟨S_, .f32⟩ : BufTy).Contents (Elt F) → (⟨S128, .f32⟩ : BufTy).Contents (Elt F)) ]

/-- The rounds' operations from 217 on. -/
abbrev rest9 : List (HloOp τ sig (Elt F)) := round9

/-- The rounds' operations from 193 on. -/
abbrev rest8 : List (HloOp τ sig (Elt F)) := round8 ++ rest9

/-- The rounds' operations from 169 on. -/
abbrev rest7 : List (HloOp τ sig (Elt F)) := round7 ++ rest8

/-- The rounds' operations from 145 on. -/
abbrev rest6 : List (HloOp τ sig (Elt F)) := round6 ++ rest7

/-- The rounds' operations from 121 on. -/
abbrev rest5 : List (HloOp τ sig (Elt F)) := round5 ++ rest6

/-- The rounds' operations from 97 on. -/
abbrev rest4 : List (HloOp τ sig (Elt F)) := round4 ++ rest5

/-- The rounds' operations from 73 on. -/
abbrev rest3 : List (HloOp τ sig (Elt F)) := round3 ++ rest4

/-- The rounds' operations from 49 on. -/
abbrev rest2 : List (HloOp τ sig (Elt F)) := round2 ++ rest3

/-- The rounds' operations from 25 on. -/
abbrev rest1 : List (HloOp τ sig (Elt F)) := round1 ++ rest2

/-- The rounds' operations from 1 on. -/
abbrev rest0 : List (HloOp τ sig (Elt F)) := round0 ++ rest1

/-- The drawing of the noise. -/
abbrev draw : List (HloOp τ sig (Elt F)) := bounds ++ (counts ++ (rest0 ++ (unit ++ logs)))

/-- All of the reference. -/
abbrev ops : List (HloOp τ sig (Elt F)) := scoring ++ (keying ++ (draw ++ (sorting ++ (taking ++ summing))))

set_option maxRecDepth 16384 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig := by
  simp only [ops, draw, List.forall_append, List.forall_cons, List.Forall, nullary_bufs_sub, unary_bufs_sub, binary_bufs_sub, ternary_bufs_sub, reshape_bufs_sub, and_self]

set_option maxRecDepth 16384 in
theorem ops_fresh : ∀ op ∈ (ops : List (HloOp τ sig (Elt F))), op.fresh = ∅ := by
  intro _ h; (repeat (cases h with | head => rfl | tail _ h => ?_)); exact nomatch h

/-- The reference's run: every buffer ends with the operations' contents of it. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ fun _ => ops_fresh

/-! ## What the drawing keeps -/

/-- A buffer by its number. -/
abbrev numbered (n : ℕ) : Ref sig .tc := if h : n < 334 then ⟨.hbm, ⟨n, h⟩, rfl⟩ else main_arg0

set_option maxRecDepth 16384 in
theorem draw_writes : (draw : List (HloOp τ sig (Elt F))).Forall fun op => op.writes ⊆ (((List.range 267).map fun n => numbered (27 + n)).map (Proc.devRef (τ := τ) .tc)).toFinset :=
  forall_writes_sub_of_map rfl

/-- The drawing writes its own buffers alone. -/
theorem draw_keeps (V : Valuation τ sig (Elt F)) {r : Ref sig .tc} (h : r ∉ (List.range 267).map fun n => numbered (27 + n)) :
    after draw V (Proc.devRef .tc r) = V (Proc.devRef .tc r) := after_of_writes_sub draw V draw_writes h

set_option maxRecDepth 16384 in
theorem rounds_writes : (rest0 : List (HloOp τ sig (Elt F))).Forall fun op => op.writes ⊆ (((List.range 222).map fun n => numbered (50 + n)).map (Proc.devRef (τ := τ) .tc)).toFinset :=
  forall_writes_sub_of_map rfl

/-! ## What the rounds leave -/

variable [Cert.Pre_words_in_order.Facts]

theorem rest9_says (V : Valuation τ sig (Elt F)) :
    ((after rest9 V (Proc.devRef .tc main_call0_call0_v18_0) : IVec S128x8192 32), (after rest9 V (Proc.devRef .tc main_call0_call0_v18_1) : IVec S128x8192 32))
      = Cert.Pre_words_in_order.fn_threefry2x32_part9 (F := F) (V (Proc.devRef .tc main_call0_call0_v4)) (V (Proc.devRef .tc main_call0_call0_call0_v163)) (V (Proc.devRef .tc main_call0_call0_call0_v169)) (V (Proc.devRef .tc main_call0_call0_call0_v170)) := by
  simp only [rest9, round9, TRef.binary, TRef.nullary, TRef.reshape, TRef.unary, TRef.toBuf, TRef.ofBuf, cast_eq]
  after_results_simp
  rfl

theorem rest8_says (V : Valuation τ sig (Elt F)) :
    ((after rest8 V (Proc.devRef .tc main_call0_call0_v18_0) : IVec S128x8192 32), (after rest8 V (Proc.devRef .tc main_call0_call0_v18_1) : IVec S128x8192 32))
      = Cert.Pre_words_in_order.fn_threefry2x32_part8 (F := F) (V (Proc.devRef .tc main_call0_call0_v4)) (V (Proc.devRef .tc main_call0_call0_call0_v1)) (V (Proc.devRef .tc main_call0_call0_call0_v148)) (V (Proc.devRef .tc main_call0_call0_call0_v149)) (V (Proc.devRef .tc main_call0_call0_call0_v151)) := by
  rw [rest8, after_two, rest9_says]
  simp only [rest9, round8, TRef.binary, TRef.nullary, TRef.reshape, TRef.unary, TRef.toBuf, TRef.ofBuf, cast_eq]
  after_results_simp
  rfl

theorem rest7_says (V : Valuation τ sig (Elt F)) :
    ((after rest7 V (Proc.devRef .tc main_call0_call0_v18_0) : IVec S128x8192 32), (after rest7 V (Proc.devRef .tc main_call0_call0_v18_1) : IVec S128x8192 32))
      = Cert.Pre_words_in_order.fn_threefry2x32_part7 (F := F) (V (Proc.devRef .tc main_call0_call0_v4)) (V (Proc.devRef .tc main_call0_call0_v6)) (V (Proc.devRef .tc main_call0_call0_call0_v1)) (V (Proc.devRef .tc main_call0_call0_call0_v128)) (V (Proc.devRef .tc main_call0_call0_call0_v129)) (V (Proc.devRef .tc main_call0_call0_call0_v131)) (V (Proc.devRef .tc main_call0_call0_call0_c_34)) := by
  rw [rest7, after_two, rest8_says]
  simp only [rest9, round7, TRef.binary, TRef.nullary, TRef.reshape, TRef.unary, TRef.toBuf, TRef.ofBuf, cast_eq]
  after_results_simp
  rfl

theorem rest6_says (V : Valuation τ sig (Elt F)) :
    ((after rest6 V (Proc.devRef .tc main_call0_call0_v18_0) : IVec S128x8192 32), (after rest6 V (Proc.devRef .tc main_call0_call0_v18_1) : IVec S128x8192 32))
      = Cert.Pre_words_in_order.fn_threefry2x32_part6 (F := F) (V (Proc.devRef .tc main_call0_call0_v4)) (V (Proc.devRef .tc main_call0_call0_v6)) (V (Proc.devRef .tc main_call0_call0_call0_v1)) (V (Proc.devRef .tc main_call0_call0_call0_v108)) (V (Proc.devRef .tc main_call0_call0_call0_v113)) := by
  rw [rest6, after_two, rest7_says]
  simp only [rest9, round6, TRef.binary, TRef.nullary, TRef.reshape, TRef.unary, TRef.toBuf, TRef.ofBuf, cast_eq]
  after_results_simp
  rfl

theorem rest5_says (V : Valuation τ sig (Elt F)) :
    ((after rest5 V (Proc.devRef .tc main_call0_call0_v18_0) : IVec S128x8192 32), (after rest5 V (Proc.devRef .tc main_call0_call0_v18_1) : IVec S128x8192 32))
      = Cert.Pre_words_in_order.fn_threefry2x32_part5 (F := F) (V (Proc.devRef .tc main_call0_call0_v4)) (V (Proc.devRef .tc main_call0_call0_v6)) (V (Proc.devRef .tc main_call0_call0_call0_v1)) (V (Proc.devRef .tc main_call0_call0_call0_v88)) (V (Proc.devRef .tc main_call0_call0_call0_v94)) := by
  rw [rest5, after_two, rest6_says]
  simp only [rest9, round5, TRef.binary, TRef.nullary, TRef.reshape, TRef.unary, TRef.toBuf, TRef.ofBuf, cast_eq]
  after_results_simp
  rfl

theorem rest4_says (V : Valuation τ sig (Elt F)) :
    ((after rest4 V (Proc.devRef .tc main_call0_call0_v18_0) : IVec S128x8192 32), (after rest4 V (Proc.devRef .tc main_call0_call0_v18_1) : IVec S128x8192 32))
      = Cert.Pre_words_in_order.fn_threefry2x32_part4 (F := F) (V (Proc.devRef .tc main_call0_call0_v4)) (V (Proc.devRef .tc main_call0_call0_v6)) (V (Proc.devRef .tc main_call0_call0_call0_v1)) (V (Proc.devRef .tc main_call0_call0_call0_v73)) (V (Proc.devRef .tc main_call0_call0_call0_v74)) (V (Proc.devRef .tc main_call0_call0_call0_v75)) := by
  rw [rest4, after_two, rest5_says]
  simp only [rest9, round4, TRef.binary, TRef.nullary, TRef.reshape, TRef.unary, TRef.toBuf, TRef.ofBuf, cast_eq]
  after_results_simp
  rfl

theorem rest3_says (V : Valuation τ sig (Elt F)) :
    ((after rest3 V (Proc.devRef .tc main_call0_call0_v18_0) : IVec S128x8192 32), (after rest3 V (Proc.devRef .tc main_call0_call0_v18_1) : IVec S128x8192 32))
      = Cert.Pre_words_in_order.fn_threefry2x32_part3 (F := F) (V (Proc.devRef .tc main_call0_call0_v4)) (V (Proc.devRef .tc main_call0_call0_v6)) (V (Proc.devRef .tc main_call0_call0_call0_v1)) (V (Proc.devRef .tc main_call0_call0_call0_v53)) (V (Proc.devRef .tc main_call0_call0_call0_v54)) (V (Proc.devRef .tc main_call0_call0_call0_v56)) := by
  rw [rest3, after_two, rest4_says]
  simp only [rest9, round3, TRef.binary, TRef.nullary, TRef.reshape, TRef.unary, TRef.toBuf, TRef.ofBuf, cast_eq]
  after_results_simp
  rfl

theorem rest2_says (V : Valuation τ sig (Elt F)) :
    ((after rest2 V (Proc.devRef .tc main_call0_call0_v18_0) : IVec S128x8192 32), (after rest2 V (Proc.devRef .tc main_call0_call0_v18_1) : IVec S128x8192 32))
      = Cert.Pre_words_in_order.fn_threefry2x32_part2 (F := F) (V (Proc.devRef .tc main_call0_call0_v4)) (V (Proc.devRef .tc main_call0_call0_v6)) (V (Proc.devRef .tc main_call0_call0_call0_v1)) (V (Proc.devRef .tc main_call0_call0_call0_v35)) (V (Proc.devRef .tc main_call0_call0_call0_v37)) (V (Proc.devRef .tc main_call0_call0_call0_c_8)) := by
  rw [rest2, after_two, rest3_says]
  simp only [rest9, round2, TRef.binary, TRef.nullary, TRef.reshape, TRef.unary, TRef.toBuf, TRef.ofBuf, cast_eq]
  after_results_simp
  rfl

theorem rest1_says (V : Valuation τ sig (Elt F)) :
    ((after rest1 V (Proc.devRef .tc main_call0_call0_v18_0) : IVec S128x8192 32), (after rest1 V (Proc.devRef .tc main_call0_call0_v18_1) : IVec S128x8192 32))
      = Cert.Pre_words_in_order.fn_threefry2x32_part1 (F := F) (V (Proc.devRef .tc main_call0_call0_v4)) (V (Proc.devRef .tc main_call0_call0_v6)) (V (Proc.devRef .tc main_call0_call0_call0_v1)) (V (Proc.devRef .tc main_call0_call0_call0_v13)) (V (Proc.devRef .tc main_call0_call0_call0_v18)) := by
  rw [rest1, after_two, rest2_says]
  simp only [rest9, round1, TRef.binary, TRef.nullary, TRef.reshape, TRef.unary, TRef.toBuf, TRef.ofBuf, cast_eq]
  after_results_simp
  rfl

theorem rest0_says (V : Valuation τ sig (Elt F)) :
    ((after rest0 V (Proc.devRef .tc main_call0_call0_v18_0) : IVec S128x8192 32), (after rest0 V (Proc.devRef .tc main_call0_call0_v18_1) : IVec S128x8192 32))
      = Cert.Pre_words_in_order.fn_threefry2x32 (F := F) (V (Proc.devRef .tc main_call0_call0_v4)) (V (Proc.devRef .tc main_call0_call0_v6)) (V (Proc.devRef .tc main_call0_call0_v17)) (V (Proc.devRef .tc main_call0_call0_v16)) := by
  rw [rest0, after_two, rest1_says]
  simp only [rest9, round0, TRef.binary, TRef.nullary, TRef.reshape, TRef.unary, TRef.toBuf, TRef.ofBuf, cast_eq]
  after_results_simp
  rfl

/-- The noise is the precondition's program's drawing of it. -/
theorem draw_says (V : Valuation τ sig (Elt F)) :
    (after draw V (Proc.devRef .tc main_v18) : FVec F S128x8192 .f32) = Cert.Pre_words_in_order.fn_gumbel (F := F) (V (Proc.devRef .tc main_v17)) := by
  have hw := rest0_says (F := F) (after counts (after bounds V))
  have h0 := congrArg Prod.fst hw
  have h1 := congrArg Prod.snd hw
  have k1 := after_of_writes_sub (r := main_call0_call0_v1) rest0 (after counts (after bounds V)) rounds_writes (by decide)
  have k2 := after_of_writes_sub (r := main_call0_call0_v2) rest0 (after counts (after bounds V)) rounds_writes (by decide)
  dsimp only at h0 h1
  rw [draw, after_two, after_two, after_two]
  generalize after rest0 (after counts (after bounds V)) = V1 at *
  simp only [unit, logs, List.cons_append, List.nil_append, TRef.binary, TRef.nullary, TRef.reshape, TRef.unary, TRef.toBuf, TRef.ofBuf, cast_eq]
  after_results_simp
  rw [h0, h1, k1, k2]
  simp only [counts, bounds, TRef.binary, TRef.nullary, TRef.reshape, TRef.unary, TRef.toBuf, TRef.ofBuf, cast_eq]
  after_results_simp
  rfl

end Cert.ReferenceIdeal.Drawn

end
-- ==== Proof.Want.lean ====
/-
  What the reference computes, in the kernel's words. Its scores are those that the first kernel makes, and its stable sort by the negated
  perturbed scores is, where the words of these are in their order, the row-wise permutation `permOf` of the keys. Taking the scores along a
  permutation reads the columns that it names: the wrap of a negative index and the mask of an index out of range never apply, an
  entry of a permutation being below 8192. The running sums of the reversed exponentials, reversed again, are the sums of the tails of
  each row, so that the second result is `rowSum` of each row of the taken scores.
-/
module

public import proofs.«01_k».proof.Proof.Rows
public import proofs.«01_k».proof.Proof.Logits
public import proofs.«01_k».proof.Proof.Places
public import proofs.«01_k».proof.Proof.Noise
public import Idealize.ShloMosaic.Lib.IdealHost
public import Idealize.ShloMosaic.Lib.ReduceAll
public import Idealize.ShloMosaic.Lib.Pipeline.Value
public import Idealize.ShloMosaic.Lib.WordCmp
public import proofs.«01_k».proof.Proof.Tails
public import Idealize.ShloMosaic.PureOps.Ideal.Laws

@[expose] public section

noncomputable section

namespace Cert.ReferenceIdeal.Meaning

open Idealize.ShloMosaic Cert.ReferenceIdeal Cert.ReferenceIdeal.Gen
open Idealize.SL.Sem
open Cert.Tails
open scoped BigOperators
open Cert.KernelIdeal (S1x32 S1x1)
open Cert.KernelIdeal.Body (at2 at2_self at2_zero at2_one permOf scoresOf at3 wAt bAt logit score scoreOf scoreOf_at)

variable {F : FTy → Type} [FloatOps F]

/-! ## The sort -/

/-- Moving along a row changes the column. -/
theorem along_at2 (x : S128x8192.Idx) (k : Fin 8192) : Shape.Idx.along x (1 : Fin S128x8192.rank) k = at2 (x 0).val k.val := by
  funext a
  match a with
  | 0 => exact Fin.ext (at2_zero _ (x 0).isLt).symm
  | 1 => exact Fin.ext (at2_one _ k.isLt).symm

/-- The reference's order of the numbers it sorts by is theirs. -/
theorem before_iff (x y : Ideal .f32) (i j : BitVec 32) : (comparator_f32_i32_d1 (F := Ideal) (x, i) (y, j) == 1#1) = decide ((x : EReal) < y) := by
  have hc : ∀ z : Ideal .f32, Scalar.select (FloatOps.cmpf .une z z) (FloatOps.ofBits (F := Ideal) .f32 0x7FC00000#32)
      (Scalar.select (FloatOps.cmpf .oeq z (FloatOps.ofBits (F := Ideal) .f32 0x00000000#32)) (FloatOps.ofBits (F := Ideal) .f32 0x00000000#32) z) = z := fun z => by
    have h1 : FloatOps.cmpf .une z z ≠ 1#1 := fun h => (WordCmp.ofBool_decide_eq_one_iff _).1 h rfl
    refine (if_neg h1).trans ?_
    by_cases h2 : FloatOps.cmpf .oeq z (FloatOps.ofBits (F := Ideal) .f32 0x00000000#32) = 1#1
    · exact (if_pos h2).trans ((WordCmp.ofBool_decide_eq_one_iff _).1 h2).symm
    · exact if_neg h2
  have e : comparator_f32_i32_d1 (F := Ideal) (x, i) (y, j) = FloatOps.cmpfTotal .lt x y := congrArg₂ (FloatOps.cmpfTotal (F := Ideal) .lt) (hc x) (hc y)
  rw [e, beq_eq_decide]
  exact decide_eq_decide.mpr (WordCmp.ofBool_decide_eq_one_iff _)

/-- The reference's permutation of rows of numbers, the least first. -/
abbrev sorted (t : S128x8192.Idx → Ideal .f32) : S128x8192.Idx → BitVec 32 :=
  (Host.sort2 S128x8192 1 comparator_f32_i32_d1 t (iotaInDim S128x8192 32 1)).2

theorem sorted_at (t : S128x8192.Idx → Ideal .f32) (x : S128x8192.Idx) :
    sorted t x = BitVec.ofNat 32 (sortedFrom (fun k k' : Fin 8192 => decide ((t (at2 (x 0).val k.val) : EReal) < t (at2 (x 0).val k'.val))) (x 1)).val := by
  have hb : (fun k k' : Fin 8192 => comparator_f32_i32_d1 (F := Ideal) (t (Shape.Idx.along x (1 : Fin S128x8192.rank) k), iotaInDim S128x8192 32 1 (Shape.Idx.along x (1 : Fin S128x8192.rank) k))
        (t (Shape.Idx.along x (1 : Fin S128x8192.rank) k'), iotaInDim S128x8192 32 1 (Shape.Idx.along x (1 : Fin S128x8192.rank) k')) == 1#1)
      = fun k k' : Fin 8192 => decide ((t (at2 (x 0).val k.val) : EReal) < t (at2 (x 0).val k'.val)) := by
    funext k k'
    rw [along_at2, along_at2]
    exact before_iff _ _ _ _
  rw [← hb]
  show (Host.sort2 S128x8192 1 comparator_f32_i32_d1 t (iotaInDim S128x8192 32 1)).2 x = _
  unfold Host.sort2
  rw [dif_pos (show 1 < S128x8192.rank by decide)]
  show iotaInDim S128x8192 32 1 (Shape.Idx.along x (1 : Fin S128x8192.rank) _) = _
  unfold iotaInDim
  exact congrArg (fun k : Fin 8192 => BitVec.ofNat 32 k.val) (Function.update_self _ _ _)

theorem sorted_lt (t : S128x8192.Idx → Ideal .f32) (x : S128x8192.Idx) : (sorted t x).toNat < 8192 := by
  rw [sorted_at, BitVec.toNat_ofNat]
  have h := (sortedFrom (fun k k' : Fin 8192 => decide ((t (at2 (x 0).val k.val) : EReal) < t (at2 (x 0).val k'.val))) (x 1)).isLt
  omega

/-- Where keys are in the order of the numbers, it is the permutation that sorts the keys. -/
theorem sorted_eq (t : S128x8192.Idx → Ideal .f32) (kk : S128x8192.Idx → BitVec 32)
    (h : ∀ r k k', (kk (at2 r k)).toNat < (kk (at2 r k')).toNat ↔ (t (at2 r k) : EReal) < t (at2 r k')) : sorted t = permOf kk := by
  funext x
  have hx : (x 1).val < 8192 := (x 1).isLt
  have hp : permOf kk x = BitVec.ofNat 32 (sortedFrom (fun k k' : Fin 8192 => decide ((kk (at2 (x 0).val k.val)).toNat < (kk (at2 (x 0).val k'.val)).toNat)) (x 1)).val := by
    unfold permOf Cert.KernelIdeal.Body.perm
    rw [dif_pos hx]
    rfl
  rw [hp, sorted_at]
  refine congrArg (fun o : Fin 8192 → Fin 8192 → Bool => BitVec.ofNat 32 (sortedFrom o (x 1)).val) (funext fun k => funext fun k' => ?_)
  exact decide_eq_decide.mpr (h _ _ _).symm

/-! ## Taking the scores along it -/

/-- A word below 8192 is not negative, read as a signed number, and is its own natural number. -/
theorem toInt_small {b : BitVec 32} (h : b.toNat < 8192) : b.toInt = b.toNat := by
  rw [BitVec.toInt_eq_toNat_cond, if_pos (by omega)]

/-- The wrap of negative indices. -/
abbrev wrapped (p : S128x8192.Idx → BitVec 32) : S128x8192.Idx → BitVec 32 :=
  select (cmpi .slt p (broadcastInDim S128x8192 ![] bcast_S_S128x8192 (constantI S_ 32 0#32)))
    (addi p (broadcastInDim S128x8192 ![] bcast_S_S128x8192 (constantI S_ 32 8192#32))) p

theorem wrapped_eq (p : S128x8192.Idx → BitVec 32) (hp : ∀ x, (p x).toNat < 8192) : wrapped p = p := by
  funext x
  show (if IntOp.cmpi .slt (p x) 0#32 = 1#1 then _ else p x) = p x
  refine if_neg fun h => ?_
  have h' := (WordCmp.ofBool_decide_eq_one_iff _).1 h
  rw [toInt_small (hp x)] at h'
  have : (0#32 : BitVec 32).toInt = 0 := by decide
  omega

/-- The indices with an axis of size one added. -/
abbrev starts (p : S128x8192.Idx → BitVec 32) : S128x8192x1.Idx → BitVec 32 := shapeCast _ (wrapped p) shapeCasts_S128x8192_S128x8192x1

theorem starts_lt (p : S128x8192.Idx → BitVec 32) (hp : ∀ x, (p x).toNat < 8192) (y : S128x8192x1.Idx) : (starts p y).toNat < 8192 := by
  show (wrapped p _).toNat < 8192
  rw [wrapped_eq p hp]
  exact hp _

/-- The place of an index among those with the axis added. -/
def raise (x : S128x8192.Idx) : S128x8192x1.Idx := fun | 0 => x 0 | 1 => x 1 | 2 => ⟨0, Nat.one_pos⟩

theorem starts_raise (p : S128x8192.Idx → BitVec 32) (hp : ∀ x, (p x).toNat < 8192) (x : S128x8192.Idx) : starts p (raise x) = p x := by
  refine (shapeCast_apply (wrapped p) shapeCasts_S128x8192_S128x8192x1 (raise x) x ?_).trans (congrFun (wrapped_eq p hp) x)
  rw [Shape.rowMajor_val_two, Shape.rowMajor_val_three]
  show (x 0).val * 8192 + (x 1).val = ((x 0).val * 8192 + (x 1).val) * 1 + 0
  omega

/-- Every index is in range. -/
theorem mask_one (p : S128x8192.Idx → BitVec 32) (hp : ∀ x, (p x).toNat < 8192) (x : S128x8192.Idx) :
    Host.reduce IntOp.andi (andi (cmpi .sge (starts p) (broadcastInDim S128x8192x1 ![] bcast_S_S128x8192x1 (constantI S_ 32 0#32)))
      (cmpi .sle (starts p) (broadcastInDim S128x8192x1 ![0, 1, 2] bcast_S1x1x1_S128x8192x1_0_1_2 (broadcastInDim S1x1x1 ![2] bcast_S1_S1x1x1_2 (constantI S1 32 8191#32)))))
      (constantI S_ 1 1#1) reducesTo_S128x8192x1_S128x8192_d2 h_S_ x = 1#1 := by
  refine Host.reduce_andi_one _ _ _ _ _ rfl fun y => ?_
  have hlt := starts_lt p hp y
  have h1 : IntOp.cmpi .sge (starts p y) 0#32 = 1#1 := (WordCmp.ofBool_decide_eq_one_iff _).2 (by
    rw [toInt_small hlt, show (0#32 : BitVec 32).toInt = 0 by decide]; omega)
  have h2 : IntOp.cmpi .sle (starts p y) 8191#32 = 1#1 := (WordCmp.ofBool_decide_eq_one_iff _).2 (by
    rw [toInt_small hlt, show (8191#32 : BitVec 32).toInt = 8191 by decide]; omega)
  show IntOp.andi (IntOp.cmpi .sge (starts p y) 0#32) (IntOp.cmpi .sle (starts p y) 8191#32) = 1#1
  rw [h1, h2]; rfl

/-- The gather's dimension numbers. -/
abbrev grab : GatherDims S128x8192 S128x8192x1 S128x8192 := gather_S128x8192_S128x8192x1_S128x8192_n_1_0_0_1_2_11

/-- The gather reads, of the row, the column that the index names. -/
theorem gather_row (ss : S128x8192.Idx → F .f32) (ix : S128x8192x1.Idx → BitVec 32) (x : S128x8192.Idx) (h : (ix (raise x)).toNat < 8192) :
    Host.gather grab ss ix x = ss (at2 (x 0).val (ix (raise x)).toNat) := by
  unfold Host.gather
  refine congrArg ss (funext fun a => Fin.ext ?_)
  show grab.start x ix a + grab.batchCoord x a + grab.offCoord x a = _
  have h01 : a = 0 ∨ a = 1 := by
    match a with
    | ⟨0, _⟩ => exact Or.inl rfl
    | ⟨1, _⟩ => exact Or.inr rfl
  rcases h01 with rfl | rfl
  · have hm : (0 : Fin S128x8192.rank) ∈ grab.operandBatchingDims := List.mem_singleton.mpr rfl
    rw [GatherDims.start_batching _ _ _ _ hm, GatherDims.offCoord_eq_zero _ _ _ (fun h => ((GatherDims.mem_sKept _ _).mp h).2 hm)]
    unfold GatherDims.batchCoord
    rw [dif_pos hm, Nat.zero_add, Nat.add_zero]
    exact (at2_zero _ (x 0).isLt).symm
  · have hm : (1 : Fin S128x8192.rank) ∈ grab.collapsedSliceDims := List.mem_singleton.mpr rfl
    have hi : (1 : Fin S128x8192.rank) ∈ grab.startIndexMap := List.mem_singleton.mpr rfl
    have hn : (1 : Fin S128x8192.rank) ∉ grab.operandBatchingDims := fun h => absurd (List.mem_singleton.mp h) (by decide)
    rw [GatherDims.batchCoord_eq_zero _ _ _ hn, GatherDims.offCoord_eq_zero _ _ _ (fun h => ((GatherDims.mem_sKept _ _).mp h).1 hm)]
    unfold GatherDims.start
    rw [dif_pos hi, Nat.add_zero]
    have hs : grab.siIdx x ⟨List.idxOf (1 : Fin S128x8192.rank) grab.startIndexMap, List.idxOf_lt_length_iff.2 hi⟩ = raise x := by
      funext b
      refine Fin.ext ?_
      match b with
      | ⟨0, _⟩ => rfl
      | ⟨1, _⟩ => rfl
      | ⟨2, _⟩ => rfl
    refine Eq.trans (b := min (ix (raise x)).toInt.toNat 8191) (congrArg (fun y => min (ix y).toInt.toNat 8191) hs) ?_
    rw [toInt_small h, Int.toNat_natCast]
    exact (Nat.min_eq_left (by omega)).trans (at2_one _ h).symm

/-- A selection where the condition holds. -/
theorem select_on {s : Shape} {α : Type} (c : s.Idx → BitVec 1) (a b : s.Idx → α) (x : s.Idx) (h : c x = 1#1) : select c a b x = a x := if_pos h

/-- Taking the scores along the permutation reads, of each row, the columns that the permutation names. -/
theorem taken_eq (ss : S128x8192.Idx → F .f32) (p : S128x8192.Idx → BitVec 32) (hp : ∀ x, (p x).toNat < 8192) :
    select (Host.reduce IntOp.andi (andi (cmpi .sge (starts p) (broadcastInDim S128x8192x1 ![] bcast_S_S128x8192x1 (constantI S_ 32 0#32)))
        (cmpi .sle (starts p) (broadcastInDim S128x8192x1 ![0, 1, 2] bcast_S1x1x1_S128x8192x1_0_1_2 (broadcastInDim S1x1x1 ![2] bcast_S1_S1x1x1_2 (constantI S1 32 8191#32)))))
        (constantI S_ 1 1#1) reducesTo_S128x8192x1_S128x8192_d2 h_S_)
      (Host.gather grab ss (starts p))
      (broadcastInDim S128x8192 ![] bcast_S_S128x8192 (constant S_ .f32 0x7FC00000#32))
      = fun x => ss (at2 (x 0).val (p x).toNat) := by
  funext x
  refine (select_on _ _ _ x (mask_one p hp x)).trans ?_
  have e := starts_raise p hp x
  rw [gather_row ss (starts p) x (by rw [e]; exact hp x), e]

/-! ## Its scores -/

/-- The reference's scores, -/
abbrev rLogits (X : S128x8192x32.Idx → Ideal .f32) (W : S32x1.Idx → Ideal .f32) (b : S1.Idx → Ideal .f32) : S128x8192.Idx → Ideal .f32 :=
  shapeCast _ (addf (Host.dotGeneral (F := Ideal) (φ₁ := .f32) (φ₂ := .f32) dot_S128x8192x32_S32x1_S128x8192x1_2_0_01_1_n_n none X W)
    (broadcastInDim S128x8192x1 ![0, 1, 2] bcast_S1x1x1_S128x8192x1_0_1_2 (broadcastInDim S1x1x1 ![2] bcast_S1_S1x1x1_2 b))) shapeCasts_S128x8192x1_S128x8192

abbrev rMeans (v : S128x8192.Idx → Ideal .f32) : S128x1.Idx → Ideal .f32 :=
  Host.divf (F := Ideal) (φ := .f32) (broadcastInDim S128x1 ![0] bcast_S128_S128x1_0 (Host.reduceAdd (F := Ideal) (φ := .f32) v (constant S_ .f32 0x00000000#32) reducesTo_S128x8192_S128_d1 h_S_))
    (broadcastInDim S128x1 ![] bcast_S_S128x1 (constant S_ .f32 0x46000000#32))

abbrev rScores (X : S128x8192x32.Idx → Ideal .f32) (W : S32x1.Idx → Ideal .f32) (b : S1.Idx → Ideal .f32) : S128x8192.Idx → Ideal .f32 :=
  subf (F := Ideal) (φ := .f32) (rLogits X W b) (broadcastInDim S128x8192 ![0, 1] bcast_S128x1_S128x8192_0_1 (rMeans (rLogits X W b)))

/-- and the numbers that it sorts by. -/
abbrev rSortedBy (s u : S128x8192.Idx → Ideal .f32) : S128x8192.Idx → Ideal .f32 :=
  Host.negf (F := Ideal) (φ := .f32) (addf (F := Ideal) (φ := .f32) (Host.divf (F := Ideal) (φ := .f32) s (broadcastInDim S128x8192 ![] bcast_S_S128x8192 (constant S_ .f32 0x3F800000#32))) u)

theorem sortedBy_at (s u : S128x8192.Idx → Ideal .f32) (x : S128x8192.Idx) : (rSortedBy s u x : EReal) = -((s x : EReal) + u x) := by
  show -(Ideal.div (s x) (Ideal.ofBits .f32 0x3F800000#32) + (u x : EReal)) = _
  rw [Ideal.ofBits_one_f32]
  unfold Ideal.div
  rw [if_neg one_ne_zero, inv_one, mul_one]

/-- The weights in a row. -/
theorem weight_at (W : S32x1.Idx → Ideal .f32) (k : Fin 32) (y : S32x1.Idx) (hy : (y 0).val = k.val) :
    shapeCast S1x32 W Cert.KernelIdeal.Facts₀.shapeCasts_S32x1_S1x32 (wAt k) = W y := by
  refine shapeCast_apply W _ (wAt k) y ?_
  have h1 : (y 1).val < 1 := (y 1).isLt
  rw [Shape.rowMajor_val_two, Shape.rowMajor_val_two]
  show (y 0).val * 1 + (y 1).val = 0 * 32 + k.val
  omega

/-- The only place of the bias. -/
def b0 : S1.Idx := fun | 0 => ⟨0, Nat.one_pos⟩

theorem bias_at (b : S1.Idx → Ideal .f32) : shapeCast S1x1 b Cert.KernelIdeal.Facts₀.shapeCasts_S1_S1x1 bAt = b b0 := by
  refine shapeCast_apply b _ bAt b0 ?_
  rw [Shape.rowMajor_val_one, Shape.rowMajor_val_two]
  rfl

theorem rLogits_at (X : S128x8192x32.Idx → Ideal .f32) (W : S32x1.Idx → Ideal .f32) (b : S1.Idx → Ideal .f32) (x : S128x8192.Idx) :
    (rLogits X W b x : EReal) = logit X (shapeCast S1x32 W Cert.KernelIdeal.Facts₀.shapeCasts_S32x1_S1x32) (b b0) (x 0).val (x 1).val := by
  have hx0 : (x 0).val < 128 := (x 0).isLt
  have hx1 : (x 1).val < 8192 := (x 1).isLt
  refine (shapeCast_apply _ shapeCasts_S128x8192x1_S128x8192 x (raise x) ?_).trans ?_
  · rw [Shape.rowMajor_val_two, Shape.rowMajor_val_three]
    show ((x 0).val * 8192 + (x 1).val) * 1 + 0 = (x 0).val * 8192 + (x 1).val
    omega
  unfold logit
  refine congrArg₂ (fun a c : EReal => a + c) ?_ ?_
  · refine (Ideal.dotGeneral_apply dot_S128x8192x32_S32x1_S128x8192x1_2_0_01_1_n_n none _ X W (raise x)).trans ?_
    refine (Equiv.sum_comp (ValueIdx.contrEquiv1 dot_S128x8192x32_S32x1_S128x8192x1_2_0_01_1_n_n 32 rfl rfl).symm _).symm.trans (Finset.sum_congr rfl fun k _ => ?_)
    have hc := ValueIdx.contrEquiv1_symm_val dot_S128x8192x32_S32x1_S128x8192x1_2_0_01_1_n_n 32 rfl rfl k
    refine (mul_comm _ _).trans (congrArg₂ (fun a c : EReal => a * c) (weight_at W k _ hc).symm ?_)
    refine congrArg X (funext fun a => Fin.ext ?_)
    match a with
    | ⟨0, _⟩ => show (x 0).val = (x 0).val % 128; omega
    | ⟨1, _⟩ => show (x 1).val = (x 1).val % 8192; omega
    | ⟨2, _⟩ => exact hc.trans (Nat.mod_eq_of_lt k.isLt).symm
  · refine (broadcastInDim_apply _ bcast_S1x1x1_S128x8192x1_0_1_2 _ _ (fun | 0 => ⟨0, Nat.one_pos⟩ | 1 => ⟨0, Nat.one_pos⟩ | 2 => ⟨0, Nat.one_pos⟩) fun a => ?_).trans
      (broadcastInDim_apply _ bcast_S1_S1x1x1_2 b _ b0 fun a => ?_)
    · match a with
      | ⟨0, _⟩ => rfl
      | ⟨1, _⟩ => rfl
      | ⟨2, _⟩ => rfl
    · match a with
      | ⟨0, _⟩ => rfl

/-- The place of a row's number. -/
theorem kept_at (i : S128.Idx) (k : Fin 8192) (h : S128x8192.Reduces [1] S128) : h.lift i k = at2 (i 0).val k.val := by
  have hi : (i 0).val < 128 := (i 0).isLt
  funext a
  match a with
  | ⟨0, _⟩ => exact Fin.ext (Nat.mod_eq_of_lt hi).symm
  | ⟨1, _⟩ => exact Fin.ext (Nat.mod_eq_of_lt k.isLt).symm

theorem rMeans_at (v : S128x8192.Idx → Ideal .f32) (y : S128x1.Idx) :
    (rMeans v y : EReal) = Ideal.div (∑ k : Fin 8192, (v (at2 (y 0).val k.val) : EReal)) (FloatOps.ofBits (F := Ideal) .f32 0x46000000#32) := by
  have hr : S128x8192.Reduces [1] S128 := by decide
  let i : S128.Idx := fun | 0 => y 0
  refine congrArg (fun a : EReal => Ideal.div a (FloatOps.ofBits (F := Ideal) .f32 0x46000000#32)) ?_
  refine (broadcastInDim_apply _ bcast_S128_S128x1_0 _ y i fun a => ?_).trans ?_
  · match a with
    | ⟨0, _⟩ => rfl
  refine (Ideal.hostReduceAdd_single reducesTo_S128x8192_S128_d1 hr _ _ i).trans ?_
  refine (congrArg (· + _) Ideal.ofBits_zero_f32).trans ((zero_add _).trans (Finset.sum_congr rfl fun k _ => ?_))
  exact congrArg v (kept_at i k hr)

/-- The reference's scores are those that the kernel makes. -/
theorem scores_same (X : S128x8192x32.Idx → Ideal .f32) (W : S32x1.Idx → Ideal .f32) (b : S1.Idx → Ideal .f32) :
    rScores X W b = scoreOf (F := Ideal) X (shapeCast S1x32 W Cert.KernelIdeal.Facts₀.shapeCasts_S32x1_S1x32) (shapeCast S1x1 b Cert.KernelIdeal.Facts₀.shapeCasts_S1_S1x1) := by
  funext x
  have hx0 : (x 0).val < 128 := (x 0).isLt
  refine Eq.trans ?_ (scoreOf_at _ _ _ x).symm
  rw [bias_at]
  unfold score
  refine congrArg₂ (fun a c : EReal => a - c) (rLogits_at X W b x) ?_
  let y : S128x1.Idx := fun | 0 => x 0 | 1 => ⟨0, Nat.one_pos⟩
  refine (broadcastInDim_apply _ bcast_S128x1_S128x8192_0_1 _ x y fun a => ?_).trans ((rMeans_at _ y).trans ?_)
  · match a with
    | ⟨0, _⟩ => rfl
    | ⟨1, _⟩ => rfl
  refine congrArg (fun a : EReal => Ideal.div a (FloatOps.ofBits (F := Ideal) .f32 0x46000000#32)) (Finset.sum_congr rfl fun k _ => ?_)
  refine (rLogits_at X W b _).trans ?_
  rw [at2_zero _ hx0, at2_one _ k.isLt]

/-! ## Its sums -/

/-- Adding to a number the values of a function, one after the other, adds their sum. -/
theorem added_up {n : ℕ} (g : Fin n → EReal) (v : EReal) : (List.finRange n).foldl (fun r k => r + g k) v = v + ∑ k : Fin n, g k := by
  have h : ∀ (l : List (Fin n)) (v : EReal), l.foldl (fun r k => r + g k) v = v + (l.map g).sum := by
    intro l
    induction l with
    | nil => intro v; exact (add_zero v).symm
    | cons k l ih => intro v; rw [List.foldl_cons, ih, List.map_cons, List.sum_cons, add_assoc]
  rw [h, List.sum_ofFn.symm.trans (congrArg List.sum (List.ofFn_eq_map (f := g))) |>.symm]

/-- A window: one row, all columns. -/
abbrev window : Shape := ⟨2, ![1, 8192]⟩

theorem window_numel : window.numel = 8192 := by decide

/-- The place in a window of its `n`th entry. -/
theorem window_at (n : Fin window.numel) : (window.rowMajor.symm n 0).val = 0 ∧ (window.rowMajor.symm n 1).val = n.val := by
  have h0 : (window.rowMajor.symm n 0).val < 1 := (window.rowMajor.symm n 0).isLt
  have e := Shape.rowMajor_val_two (window.rowMajor.symm n)
  rw [Equiv.apply_symm_apply] at e
  have e' : n.val = (window.rowMajor.symm n 0).val * 8192 + (window.rowMajor.symm n 1).val := e
  omega

/-- The reference's running sums along each row, of `w`. -/
abbrev running (w : S128x8192.Idx → Ideal .f32) : S128x8192.Idx → Ideal .f32 :=
  Host.reduceWindowAdd (F := Ideal) (φ := .f32) ![1, 8192] ![1, 1] ![0, 8191] ![0, 0] w (broadcastInDim S_ ![] bcast_S_S_ (constant S_ .f32 0x00000000#32))
    reduceWindows_S128x8192_S128x8192_w1s1p0_0_w8192s1p8191_0 h_S_

theorem zero_start : broadcastInDim S_ ![] bcast_S_S_ (constant (F := Ideal) S_ .f32 0x00000000#32) (Shape.Idx.first h_S_) = (0 : EReal) := Ideal.ofBits_zero_f32

theorem running_at (w : S128x8192.Idx → EReal) (x : S128x8192.Idx) :
    running w x = ∑ k ∈ Finset.range 8192, if 8191 ≤ (x 1).val + k then w (at2 (x 0).val ((x 1).val + k - 8191)) else 0 := by
  have hx0 : (x 0).val < 128 := (x 0).isLt
  have hx1 : (x 1).val < 8192 := (x 1).isLt
  unfold running Host.reduceWindowAdd
  rw [Ideal.hostReduceWindowAdd_def, zero_start]
  unfold Ideal.hostReduceWindowAdd Host.reduceWindow
  refine (added_up (n := window.numel) _ 0).trans ?_
  rw [zero_add]
  refine Eq.trans (Finset.sum_congr rfl fun n _ => ?_)
    (Fin.sum_univ_eq_sum_range (fun k => if 8191 ≤ (x 1).val + k then w (at2 (x 0).val ((x 1).val + k - 8191)) else 0) window.numel)
  obtain ⟨h0, h1⟩ := window_at n
  have hn : n.val < 8192 := lt_of_lt_of_eq n.isLt window_numel
  by_cases h : 8191 ≤ (x 1).val + n.val
  · rw [if_pos h]
    refine (dif_pos fun a => ?_).trans (congrArg w (funext fun a => Fin.ext ?_))
    · match a with
      | ⟨0, _⟩ =>
        show 0 ≤ (x 0).val * 1 + (window.rowMajor.symm n 0).val ∧ (x 0).val * 1 + (window.rowMajor.symm n 0).val - 0 < 128
        omega
      | ⟨1, _⟩ =>
        show 8191 ≤ (x 1).val * 1 + (window.rowMajor.symm n 1).val ∧ (x 1).val * 1 + (window.rowMajor.symm n 1).val - 8191 < 8192
        omega
    · match a with
      | ⟨0, _⟩ =>
        show (x 0).val * 1 + (window.rowMajor.symm n 0).val - 0 = (x 0).val % 128
        omega
      | ⟨1, _⟩ =>
        show (x 1).val * 1 + (window.rowMajor.symm n 1).val - 8191 = ((x 1).val + n.val - 8191) % 8192
        omega
  · rw [if_neg h]
    refine dif_neg fun q => h ?_
    have q1 : 8191 ≤ (x 1).val * 1 + (window.rowMajor.symm n 1).val := (q 1).1
    omega

theorem reversed_at {α : Type} (v : S128x8192.Idx → α) (x : S128x8192.Idx) : Host.reverse [1] v x = v (at2 (x 0).val (8191 - (x 1).val)) := by
  have hx0 : (x 0).val < 128 := (x 0).isLt
  have hx1 : (x 1).val < 8192 := (x 1).isLt
  refine congrArg v (funext fun a => Fin.ext ?_)
  match a with
  | ⟨0, _⟩ => show (x 0).val = (x 0).val % 128; omega
  | ⟨1, _⟩ => show 8192 - ((x 1).val + 1) = (8191 - (x 1).val) % 8192; omega

theorem log_at (v : S128x8192.Idx → Ideal .f32) (x : S128x8192.Idx) : Host.log (F := Ideal) (φ := .f32) v x = Ideal.log (v x) := rfl
theorem exp_at (v : S128x8192.Idx → Ideal .f32) (x : S128x8192.Idx) : Host.exp (F := Ideal) (φ := .f32) v x = Ideal.exp (v x) := rfl

/-- The reference's logarithms, of scores `ps`: each that of the exponentials' tail. -/
theorem logs_at (ps : S128x8192.Idx → Ideal .f32) (x : S128x8192.Idx) :
    Host.reverse [1] (Host.log (F := Ideal) (φ := .f32) (running (Host.exp (F := Ideal) (φ := .f32) (Host.reverse [1] ps)))) x
      = Ideal.log (tail (fun j => Ideal.exp (ps (at2 (x 0).val j))) (x 1).val) := by
  have hx0 : (x 0).val < 128 := (x 0).isLt
  have hx1 : (x 1).val < 8192 := (x 1).isLt
  rw [reversed_at, log_at, running_at, ← tail_backwards]
  refine congrArg Ideal.log (Finset.sum_congr rfl fun k hk => ?_)
  have hk' := Finset.mem_range.1 hk
  rw [at2_zero _ hx0, at2_one _ (show 8191 - (x 1).val < 8192 by omega)]
  by_cases h : (x 1).val ≤ k
  · rw [if_pos h, if_pos (by omega)]
    rw [exp_at, reversed_at]
    refine congrArg (fun y => Ideal.exp (ps y)) ?_
    rw [at2_zero _ hx0, at2_one _ (by omega)]
    exact congrArg (at2 (x 0).val) (by omega)
  · rw [if_neg h, if_neg (by omega)]

/-- The reference's numbers, of scores `ps`. -/
theorem numbers_eq (ps : S128x8192.Idx → Ideal .f32) :
    Host.reduceAdd (F := Ideal) (φ := .f32) (subf ps (Host.reverse [1] (Host.log (F := Ideal) (φ := .f32) (running (Host.exp (F := Ideal) (φ := .f32) (Host.reverse [1] ps))))))
      (constant S_ .f32 0x00000000#32) reducesTo_S128x8192_S128_d1 h_S_ = fun i => rowSum fun j => ps (at2 (i 0).val j) := by
  funext i
  have hi : (i 0).val < 128 := (i 0).isLt
  have hr : S128x8192.Reduces [1] S128 := by decide
  refine (Ideal.hostReduceAdd_single reducesTo_S128x8192_S128_d1 hr _ _ i).trans ?_
  refine (congrArg (· + _) Ideal.ofBits_zero_f32).trans ((zero_add _).trans (Finset.sum_congr rfl fun k _ => ?_))
  refine (congrArg _ (kept_at i k hr)).trans ?_
  refine congrArg (ps (at2 (i 0).val k.val) - ·) ((logs_at ps _).trans ?_)
  rw [at2_zero _ hi, at2_one _ k.isLt]

/-! ## The run -/

open Cert.ReferenceIdeal.Drawn Idealize.ShloMosaic.StableHlo

/-- The key that the noise is drawn from. -/
abbrev key : S2.Idx → BitVec 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

theorem scoring_says (V : Valuation τ sig (Elt Ideal)) : after scoring V (Proc.devRef .tc main_v10)
    = rScores (V (Proc.devRef .tc main_arg0)) (V (Proc.devRef .tc main_arg1)) (V (Proc.devRef .tc main_arg2)) := by
  simp only [scoring]
  after_results_simp
  rfl

theorem keying_says (V : Valuation τ sig (Elt Ideal)) :
    after keying V (Proc.devRef .tc main_v17) = key ∧ after keying V (Proc.devRef .tc main_v10) = V (Proc.devRef .tc main_v10) := by
  simp only [keying]
  constructor <;> after_results_simp <;> rfl

theorem sorting_says (V : Valuation τ sig (Elt Ideal)) :
    after sorting V (Proc.devRef .tc main_v23) = sorted (rSortedBy (V (Proc.devRef .tc main_v10)) (V (Proc.devRef .tc main_v18)))
      ∧ after sorting V (Proc.devRef .tc main_v10) = V (Proc.devRef .tc main_v10) := by
  simp only [sorting, TRef.binary, TRef.nullary, TRef.reshape, TRef.ternary, TRef.unary, TRef.toBuf, TRef.ofBuf, cast_eq]
  constructor <;> after_results_simp <;> rfl

theorem taking_says (V : Valuation τ sig (Elt Ideal)) (h : ∀ x : S128x8192.Idx, ((V (Proc.devRef .tc main_v23) : S128x8192.Idx → BitVec 32) x).toNat < 8192) :
    after taking V (Proc.devRef .tc main_v24)
        = (fun x : S128x8192.Idx => (V (Proc.devRef .tc main_v10) : S128x8192.Idx → Ideal .f32) (at2 (x 0).val ((V (Proc.devRef .tc main_v23) : S128x8192.Idx → BitVec 32) x).toNat))
      ∧ after taking V (Proc.devRef .tc main_v23) = V (Proc.devRef .tc main_v23) := by
  refine ⟨Eq.trans ?_ (taken_eq (F := Ideal) _ _ h), ?_⟩ <;>
  simp only [taking, TRef.binary, TRef.nullary, TRef.reshape, TRef.ternary, TRef.unary, TRef.toBuf, TRef.ofBuf, cast_eq] <;> after_results_simp <;> rfl

theorem summing_says (V : Valuation τ sig (Elt Ideal)) :
    after summing V (Proc.devRef .tc main_v31) = (fun i : S128.Idx => rowSum fun j => (V (Proc.devRef .tc main_v24) : S128x8192.Idx → Ideal .f32) (at2 (i 0).val j))
      ∧ after summing V (Proc.devRef .tc main_v23) = V (Proc.devRef .tc main_v23) := by
  refine ⟨Eq.trans ?_ (numbers_eq _), ?_⟩ <;>
  simp only [summing, TRef.binary, TRef.nullary, TRef.reshape, TRef.ternary, TRef.unary, TRef.toBuf, TRef.ofBuf, cast_eq] <;> after_results_simp <;> rfl

/-- The arguments stay. -/
theorem args_stay (V : Valuation τ sig (Elt Ideal)) : ∀ r ∈ [main_arg0, main_arg1, main_arg2, main_arg3], after ops V (Proc.devRef .tc r) = V (Proc.devRef .tc r) := by
  intro r hr
  refine after_of_writes_sub (W := (List.range 330).map fun n => numbered (4 + n)) ops V (forall_writes_sub_of_map rfl) ?_
  revert r; decide

variable [Cert.Pre_words_in_order.Facts]

/-- The noise. -/
abbrev drawn : S128x8192.Idx → Ideal .f32 := Cert.Pre_words_in_order.fn_gumbel (F := Ideal) key

/-- The scores of a memory's arguments, -/
abbrev rScoresOf (m : (ℓ : Loc nD τ sig) → Buf (Elt Ideal) ℓ) (c : Dev nD) : S128x8192.Idx → Ideal .f32 :=
  rScores (m ((c.tc : Thread nD τ).loc main_arg0)) (m ((c.tc : Thread nD τ).loc main_arg1)) (m ((c.tc : Thread nD τ).loc main_arg2))

/-- their order, perturbed by the noise, -/
abbrev rOrder (m : (ℓ : Loc nD τ sig) → Buf (Elt Ideal) ℓ) (c : Dev nD) : S128x8192.Idx → BitVec 32 :=
  sorted (rSortedBy (rScoresOf m c) drawn)

/-- and the scores in this order. -/
def rTaken (m : (ℓ : Loc nD τ sig) → Buf (Elt Ideal) ℓ) (c : Dev nD) : S128x8192.Idx → Ideal .f32 := fun x =>
  rScoresOf m c (at2 (x 0).val (rOrder m c x).toNat)

/-- What the operations leave in the results. -/
theorem ops_say (m : (ℓ : Loc nD τ sig) → Buf (Elt Ideal) ℓ) (c : Dev nD) :
    after ops (launchContents m c) (Proc.devRef .tc main_v23) = rOrder m c
      ∧ after ops (launchContents m c) (Proc.devRef .tc main_v31) = (fun i : S128.Idx => rowSum fun j => rTaken m c (at2 (i 0).val j)) := by
  have h0 := scoring_says (launchContents m c)
  rw [ops, after_two, after_two, after_two, after_two, after_two]
  generalize after scoring (launchContents m c) = V at *
  obtain ⟨h1, h2⟩ := keying_says V
  generalize after keying V = V1 at *
  have h3 := draw_says (F := Ideal) V1
  have h4 := draw_keeps (F := Ideal) V1 (r := main_v10) (by decide)
  generalize after draw V1 = V2 at *
  obtain ⟨h5, h6⟩ := sorting_says V2
  generalize after sorting V2 = V3 at *
  have e10 : V2 (Proc.devRef .tc main_v10) = rScoresOf m c := h4.trans (h2.trans h0)
  have e18 : V2 (Proc.devRef .tc main_v18) = drawn := h3.trans (congrArg (Cert.Pre_words_in_order.fn_gumbel (F := Ideal)) h1)
  have e23 : V3 (Proc.devRef .tc main_v23) = rOrder m c := h5.trans (congrArg₂ (fun s u => sorted (rSortedBy s u)) e10 e18)
  obtain ⟨h7, h8⟩ := taking_says V3 (fun x => lt_of_eq_of_lt (congrArg (fun p : S128x8192.Idx → BitVec 32 => (p x).toNat) e23) (sorted_lt _ x))
  have e24 : after taking V3 (Proc.devRef .tc main_v24) = rTaken m c := h7.trans (congrArg₂ (fun (s : S128x8192.Idx → Ideal .f32) (p : S128x8192.Idx → BitVec 32) =>
    fun x : S128x8192.Idx => s (at2 (x 0).val (p x).toNat)) (h6.trans e10) e23)
  generalize after taking V3 = V4 at *
  obtain ⟨h9, h10⟩ := summing_says V4
  exact ⟨h10.trans (h8.trans e23), h9.trans (congrArg (fun s : S128x8192.Idx → Ideal .f32 => fun i : S128.Idx => rowSum fun j => s (at2 (i 0).val j)) e24)⟩

/-- The reference's run over the extended reals: the permutation, each row's number, and all arguments as they were. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = rOrder m c
      ∧ r.2.mem ((c.tc : Thread nD τ).loc main_v31) = (fun i => rowSum fun j => rTaken m c (at2 (i 0).val j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun _ h c => ?_) (run_ops m ρ)
  have s := fun r hr => (h c r).trans (args_stay (launchContents m c) r hr)
  exact ⟨(h c main_v23).trans (ops_say m c).1, (h c main_v31).trans (ops_say m c).2,
    s _ (by simp), s _ (by simp), s _ (by simp), s _ (by simp)⟩

end Cert.ReferenceIdeal.Meaning

end
-- ==== Proof.Same.lean ====
/-
  The program as compiled and its reading over the extended reals are one text: at machine floats they are the same program.
-/
module

public import proofs.«01_k».proof.Defs

@[expose] public section

noncomputable section

namespace Cert.Proof

open Idealize.ShloMosaic

variable [Cert.KernelIdeal.Facts] [Cert.Kernel.Facts]

set_option maxHeartbeats 4000000 in
/-- The kernels' bodies as compiled are those of the reading over the extended reals, taken at machine floats. -/
theorem bodies_same : Cert.Kernel.defs₀ (F := Bits) = Cert.KernelIdeal.defs₀ (F := Bits) := by
  funext p l a
  match p, l, a with
  | .scVector _ _, 0, _ => rfl
  | .scVector _ _, 1, _ => rfl
  | .scVector _ _, 2, _ => rfl
  | .scScalar _, 0, _ => rfl
  | .scScalar _, 1, _ => rfl
  | .scScalar _, 2, _ => rfl
  | .tc, 0, _ => rfl
  | .tc, 1, _ => rfl
  | .tc, 2, _ => rfl

theorem calls_same : Cert.Kernel.defs (F := Bits) = Cert.KernelIdeal.defs (F := Bits) :=
  congrArg (fun D => Cert.KernelIdeal.sc.defs (Pipeline.defs Cert.KernelIdeal.pcfgs D)) bodies_same

set_option maxHeartbeats 40000000 in  -- the drawing of the noise is some three hundred operations
/-- @main, -/
theorem main_same (d : Dev Cert.KernelIdeal.nD) : Cert.Kernel.main (F := Bits) d = Cert.KernelIdeal.main (F := Bits) d := rfl

/-- and what all threads run. -/
theorem threads_same : Cert.Kernel.threads (F := Bits) = Cert.KernelIdeal.threads (F := Bits) :=
  congrArg (fun p => Cert.KernelIdeal.sc.threads p) (funext main_same)

end Cert.Proof

end
-- ==== Proof.lean ====
/-
  The certificate's claim. The kernel's run, over any float values, is `Cert.KernelIdeal.Body.run_main` (Proof/Launch.lean); the
  reference's is `Cert.ReferenceIdeal.Meaning.run_reference` (Proof/Want.lean). Their scores are the same. The kernel ends with the
  permutation `permOf` (Proof/Rows.lean) of the keys that it makes of the words; the reference sorts by the negated perturbed scores, which
  is the same permutation while the words are in the order of the perturbed scores (Proof/Places.lean); the noise that the reference draws
  is the precondition's (Proof/Noise.lean). Of each row of the permuted scores the kernel makes the number that
  Proof/Sums.lean reads and the reference the one that Proof/Want.lean reads: while no score is infinity both are `rowSum` of the row (Proof/Tails.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Launch
public import proofs.«01_k».proof.Proof.Sums
public import proofs.«01_k».proof.Proof.Places
public import proofs.«01_k».proof.Proof.Want
public import proofs.«01_k».proof.Proof.Same
public import Idealize.ShloMosaic.Adequacy
public import Idealize.ShloMosaic.Init
public import Idealize.ShloMosaic.Lib.ReduceAll
public import Idealize.ShloMosaic.Lib.WordCmp
public import Idealize.ShloMosaic.Lib.Pipeline.Value

@[expose] public section

noncomputable section

namespace Cert.Proof

open Idealize.ShloMosaic Idealize.SL.Sem
open Cert.KernelIdeal.Body (run_main permOf scoresOf keysOf valsOf flat sumsOf sumsOf_at at2 at2_self placeOf key_lt_iff keyOf)
open Cert.Tails (rowSum)
open Cert.ReferenceIdeal.Meaning (run_reference rScores rScoresOf rOrder rTaken rSortedBy drawn sortedBy_at sorted sorted_eq scores_same)

/-! ## The frames -/

/-- The kernel as compiled: it terminates, leaves its arguments as they were, and every semaphore at zero. -/
theorem frame_kernel : Cert.quiescent_Kernel := fun m ρ _ => by
  rw [calls_same, threads_same]
  exact (θ_run Cert.KernelIdeal.defs _ _).mono (fun _ h => ⟨fun c => (h.1 c).2.2, h.2⟩) (run_main (F := Bits) m ρ)

/-- The same of its reading over the extended reals. -/
theorem frame_ideal : Cert.quiescent_KernelIdeal := fun m ρ _ =>
  (θ_run Cert.KernelIdeal.defs _ _).mono (fun _ h => ⟨fun c => (h.1 c).2.2, h.2⟩) (run_main (F := Ideal) m ρ)

/-! ## The precondition -/

/-- The shape relations that the precondition's operations take. -/
theorem pre_facts : Cert.Pre_words_in_order.Facts := ⟨by decide, by decide, by decide, by decide, by decide, by decide, by decide, by decide, by decide, by decide,
  by decide, by decide, by decide, by decide, by decide, by decide, by decide, by decide, by decide, by decide, by decide, by decide, by decide, by decide⟩

attribute [local instance] pre_facts

/-- The reference terminates and leaves its arguments as they were; it has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩) (run_reference m ρ)

theorem infinity_bits : FloatOps.ofBits (F := Ideal) .f32 0x7F800000#32 = (⊤ : EReal) := by simp [Ideal.ofBits, Ideal.ieee]

theorem both_bits : ∀ a b : BitVec 1, IntOp.andi a b = 1#1 → a = 1#1 ∧ b = 1#1 := by decide

open Cert.Pre_words_in_order in
/-- What the precondition says of scores, noise and words: every score is below infinity, and the words are in each row in the order of
    the scores perturbed by the noise. -/
theorem words_say (ss u : S128x8192.Idx → Ideal .f32) (v : S128x8192.Idx → BitVec 32) (h : fn_part1 (F := Ideal) v ss u = fun _ => 1#1) :
    (∀ x, (ss x : EReal) < ⊤) ∧ ∀ r j k, ((placeOf (v (at2 r j))).toInt < (placeOf (v (at2 r k))).toInt
      ↔ ((ss (at2 r j) : EReal) + u (at2 r j)) < (ss (at2 r k) : EReal) + u (at2 r k)) := by
  have : Subsingleton S_.Idx := ⟨fun _ _ => funext fun a => a.elim0⟩
  obtain ⟨h1, h2⟩ := both_bits _ _ (congrFun h fun a => a.elim0)
  constructor
  · intro x
    have h3 := Host.reduce_andi_all _ _ _ _ (fun a => a.elim0) h2 x
    have h4 : (ss x : EReal) < FloatOps.ofBits (F := Ideal) .f32 0x7F800000#32 := (WordCmp.ofBool_decide_eq_one_iff _).1 h3
    rwa [infinity_bits] at h4
  · intro r j k
    let y : S128x8192x8192.Idx := fun | 0 => at2 r j 0 | 1 => at2 r j 1 | 2 => at2 r k 1
    let ya : S128x8192x1.Idx := fun | 0 => at2 r j 0 | 1 => at2 r j 1 | 2 => ⟨0, Nat.one_pos⟩
    let yb : S128x1x8192.Idx := fun | 0 => at2 r j 0 | 1 => ⟨0, Nat.one_pos⟩ | 2 => at2 r k 1
    have ea : ∀ {α : Type} (f : S128x8192.Idx → α), broadcastInDim S128x8192x8192 ![0, 1, 2] pre_facts.bcast_S128x8192x1_S128x8192x8192_0_1_2
        (broadcastInDim S128x8192x1 ![0, 1] pre_facts.bcast_S128x8192_S128x8192x1_0_1 f) y = f (at2 r j) := fun f =>
      (broadcastInDim_apply _ _ _ y ya fun a => by
        match a with
        | ⟨0, _⟩ => rfl
        | ⟨1, _⟩ => rfl
        | ⟨2, _⟩ => rfl).trans (broadcastInDim_apply _ _ f ya (at2 r j) fun a => by
        match a with
        | ⟨0, _⟩ => rfl
        | ⟨1, _⟩ => rfl)
    have eb : ∀ {α : Type} (f : S128x8192.Idx → α), broadcastInDim S128x8192x8192 ![0, 1, 2] pre_facts.bcast_S128x1x8192_S128x8192x8192_0_1_2
        (broadcastInDim S128x1x8192 ![0, 2] pre_facts.bcast_S128x8192_S128x1x8192_0_2 f) y = f (at2 r k) := fun f =>
      (broadcastInDim_apply _ _ _ y yb fun a => by
        match a with
        | ⟨0, _⟩ => rfl
        | ⟨1, _⟩ => rfl
        | ⟨2, _⟩ => rfl).trans (broadcastInDim_apply _ _ f yb (at2 r k) fun a => by
        match a with
        | ⟨0, _⟩ => rfl
        | ⟨1, _⟩ => rfl)
    have h3 := (WordCmp.ofBool_decide_eq_one_iff _).1 (Host.reduce_andi_all _ _ _ _ (fun a => a.elim0) h1 y)
    have e1 := congrArg₂ (IntOp.cmpi .slt) (ea fun x => placeOf (v x)) (eb fun x => placeOf (v x))
    have e2 := congrArg₂ (FloatOps.cmpf (F := Ideal) (φ := .f32) .olt) (ea fun x => (ss x : EReal) + u x) (eb fun x => (ss x : EReal) + u x)
    have e3 := e1.symm.trans (h3.trans e2)
    exact (WordCmp.ofBool_decide_eq_one_iff _).symm.trans ((Eq.congr_left e3).trans (WordCmp.ofBool_decide_eq_one_iff _))

open Cert.Pre_words_in_order in
/-- So the precondition says it of the arguments' scores, the drawn noise and the words. -/
theorem pre_says (X : S128x8192x32.Idx → Ideal .f32) (W : S32x1.Idx → Ideal .f32) (b : S1.Idx → Ideal .f32) (v : S128x8192.Idx → BitVec 32)
    (h : Cert.Pre_words_in_order.fn (F := Ideal) X W b v = fun _ => 1#1) :
    (∀ x, (rScores X W b x : EReal) < ⊤) ∧ ∀ r j k, ((placeOf (v (at2 r j))).toInt < (placeOf (v (at2 r k))).toInt
      ↔ ((rScores X W b (at2 r j) : EReal) + drawn (at2 r j)) < (rScores X W b (at2 r k) : EReal) + drawn (at2 r k)) :=
  words_say (rScores X W b) drawn v h

/-! ## The results -/

/-- The kernel's numbers, of scores below infinity. -/
theorem flat_eq {ps : Cert.KernelIdeal.S128x8192.Idx → Ideal .f32} (hp : ∀ x, ps x < (⊤ : EReal)) :
    flat (F := Ideal) ps = fun i => rowSum fun j => ps (at2 (i 0).val j) := by
  funext i
  let k : Cert.KernelIdeal.S128x1.Idx := fun | 0 => i 0 | 1 => ⟨0, Nat.one_pos⟩
  refine (shapeCast_apply (sumsOf (F := Ideal) ps) _ i k ?_).trans (sumsOf_at hp k)
  rw [Shape.rowMajor_val_one, Shape.rowMajor_val_two]
  show (i 0).val * 1 + 0 = (i 0).val
  omega

/-- The reference's scores are the kernel's. -/
theorem vals_eq (m : (ℓ : Loc Cert.KernelIdeal.nD Cert.KernelIdeal.τ Cert.KernelIdeal.sig) → Buf (Elt Ideal) ℓ) (c : Dev Cert.KernelIdeal.nD) :
    rScores (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = valsOf (F := Ideal) m c := scores_same _ _ _

/-- Sorting by the negated perturbed scores is sorting the keys of words in the order of the perturbed scores. -/
theorem order_eq (ss u : Cert.KernelIdeal.S128x8192.Idx → Ideal .f32) (v : Cert.KernelIdeal.S128x8192.Idx → BitVec 32)
    (h : ∀ r j k, ((placeOf (v (at2 r j))).toInt < (placeOf (v (at2 r k))).toInt
      ↔ ((ss (at2 r j) : EReal) + u (at2 r j)) < (ss (at2 r k) : EReal) + u (at2 r k))) : sorted (rSortedBy ss u) = permOf (keyOf v) := by
  refine sorted_eq _ _ fun r k k' => ?_
  rw [sortedBy_at, sortedBy_at, EReal.neg_lt_neg_iff]
  exact (key_lt_iff _ _).trans (h r k' k)

/-- Taking the scores along the kernel's permutation. -/
theorem taken_same (ss ss' : Cert.KernelIdeal.S128x8192.Idx → Ideal .f32) (p kk : Cert.KernelIdeal.S128x8192.Idx → BitVec 32) (hs : ss = ss') (hp : p = permOf kk) :
    (fun x : Cert.KernelIdeal.S128x8192.Idx => ss (at2 (x 0).val (p x).toNat)) = scoresOf (F := Ideal) kk ss' := by
  subst hs; subst hp; rfl

theorem numbers_same (ps ps' : Cert.KernelIdeal.S128x8192.Idx → Ideal .f32) (h : ps = ps') (hp : ∀ x, ps' x < (⊤ : EReal)) :
    (fun i : Cert.KernelIdeal.S128.Idx => rowSum fun j => ps (at2 (i 0).val j)) = flat (F := Ideal) ps' := by
  subst h; exact (flat_eq hp).symm

/-- Kernel and reference end with the same permutation and the same numbers. -/
theorem same_results : Cert.algebraic_KernelIdeal_ReferenceIdeal_pre_words_in_order (hPre_words_in_order := pre_facts) := by
  intro m ρ m' ρ' hpre hargs
  have hp := fun c => pre_says _ _ _ _ (hpre c)
  have hs : ∀ c, rScoresOf m' c = valsOf (F := Ideal) m c := fun c =>
    (congr (congrArg₂ rScores (hargs c).1 (hargs c).2.1) (hargs c).2.2.1).trans (vals_eq m c)
  have hb : ∀ c x, (valsOf (F := Ideal) m c x : EReal) < ⊤ := fun c x => (congrFun (vals_eq m c) x) ▸ (hp c).1 x
  have ho : ∀ c, rOrder m' c = permOf (keysOf m c) := fun c =>
    (congrArg (fun s => sorted (rSortedBy s drawn)) ((hs c).trans (vals_eq m c).symm)).trans (order_eq _ _ _ (hp c).2)
  have ht : ∀ c, rTaken m' c = scoresOf (F := Ideal) (keysOf m c) (valsOf m c) := fun c => taken_same _ _ _ _ (hs c) (ho c)
  refine ⟨fun c => permOf (keysOf m c), fun c => flat (F := Ideal) (scoresOf (keysOf m c) (valsOf m c)),
    (θ_run Cert.KernelIdeal.defs _ _).mono (fun _ h c => h.1 c) (run_main (F := Ideal) m ρ),
    (θ_run Cert.ReferenceIdeal.defs _ _).mono (fun _ h c => ⟨(h c).1.trans (ho c), (h c).2.1.trans ?_, (h c).2.2⟩) (run_reference m' ρ')⟩
  exact numbers_same _ _ (ht c) fun x => hb c _

theorem claim : Cert.Claim := ⟨Cert.Kernel.Gen.facts, Cert.KernelIdeal.Gen.facts, Cert.ReferenceIdeal.Gen.facts, pre_facts,
  frame_kernel, frame_ideal, fun m ρ _ => frame_ideal m ρ trivial, frame_reference, fun m ρ _ => frame_reference m ρ trivial, trivial, same_results⟩

end Cert.Proof

end
